-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RmsProj (m : (ℓ : Loc Cert.RmsProj.nD Cert.RmsProj.τ Cert.RmsProj.sig) → Buf (Elt Bits) ℓ) : Prop :=
  True

def Pre_RmsProjIdeal (m : (ℓ : Loc Cert.RmsProjIdeal.nD Cert.RmsProjIdeal.τ Cert.RmsProjIdeal.sig) → Buf (Elt Ideal) ℓ) : Prop :=
  True

def Pre_RmsProjIdeal_rmsproj_finite [hPre_rmsproj_finite : Cert.Pre_rmsproj_finite.Facts] (m : (ℓ : Loc Cert.RmsProjIdeal.nD Cert.RmsProjIdeal.τ Cert.RmsProjIdeal.sig) → Buf (Elt Ideal) ℓ) : Prop :=
  ∀ c : Dev Cert.RmsProjIdeal.nD,
    (Cert.Pre_rmsproj_finite.fn (F := Ideal) (m ((c.tc : Thread Cert.RmsProjIdeal.nD Cert.RmsProjIdeal.τ).loc Cert.RmsProjIdeal.main_arg0)) (m ((c.tc : Thread Cert.RmsProjIdeal.nD Cert.RmsProjIdeal.τ).loc Cert.RmsProjIdeal.main_arg1)) (m ((c.tc : Thread Cert.RmsProjIdeal.nD Cert.RmsProjIdeal.τ).loc Cert.RmsProjIdeal.main_arg2)) (m ((c.tc : Thread Cert.RmsProjIdeal.nD Cert.RmsProjIdeal.τ).loc Cert.RmsProjIdeal.main_arg3)) (m ((c.tc : Thread Cert.RmsProjIdeal.nD Cert.RmsProjIdeal.τ).loc Cert.RmsProjIdeal.main_arg4)) (m ((c.tc : Thread Cert.RmsProjIdeal.nD Cert.RmsProjIdeal.τ).loc Cert.RmsProjIdeal.main_arg5))).1 = (fun _ => 1#1)
    ∧ (Cert.Pre_rmsproj_finite.fn (F := Ideal) (m ((c.tc : Thread Cert.RmsProjIdeal.nD Cert.RmsProjIdeal.τ).loc Cert.RmsProjIdeal.main_arg0)) (m ((c.tc : Thread Cert.RmsProjIdeal.nD Cert.RmsProjIdeal.τ).loc Cert.RmsProjIdeal.main_arg1)) (m ((c.tc : Thread Cert.RmsProjIdeal.nD Cert.RmsProjIdeal.τ).loc Cert.RmsProjIdeal.main_arg2)) (m ((c.tc : Thread Cert.RmsProjIdeal.nD Cert.RmsProjIdeal.τ).loc Cert.RmsProjIdeal.main_arg3)) (m ((c.tc : Thread Cert.RmsProjIdeal.nD Cert.RmsProjIdeal.τ).loc Cert.RmsProjIdeal.main_arg4)) (m ((c.tc : Thread Cert.RmsProjIdeal.nD Cert.RmsProjIdeal.τ).loc Cert.RmsProjIdeal.main_arg5))).2.1 = (fun _ => 1#1)
    ∧ (Cert.Pre_rmsproj_finite.fn (F := Ideal) (m ((c.tc : Thread Cert.RmsProjIdeal.nD Cert.RmsProjIdeal.τ).loc Cert.RmsProjIdeal.main_arg0)) (m ((c.tc : Thread Cert.RmsProjIdeal.nD Cert.RmsProjIdeal.τ).loc Cert.RmsProjIdeal.main_arg1)) (m ((c.tc : Thread Cert.RmsProjIdeal.nD Cert.RmsProjIdeal.τ).loc Cert.RmsProjIdeal.main_arg2)) (m ((c.tc : Thread Cert.RmsProjIdeal.nD Cert.RmsProjIdeal.τ).loc Cert.RmsProjIdeal.main_arg3)) (m ((c.tc : Thread Cert.RmsProjIdeal.nD Cert.RmsProjIdeal.τ).loc Cert.RmsProjIdeal.main_arg4)) (m ((c.tc : Thread Cert.RmsProjIdeal.nD Cert.RmsProjIdeal.τ).loc Cert.RmsProjIdeal.main_arg5))).2.2.1 = (fun _ => 1#1)
    ∧ (Cert.Pre_rmsproj_finite.fn (F := Ideal) (m ((c.tc : Thread Cert.RmsProjIdeal.nD Cert.RmsProjIdeal.τ).loc Cert.RmsProjIdeal.main_arg0)) (m ((c.tc : Thread Cert.RmsProjIdeal.nD Cert.RmsProjIdeal.τ).loc Cert.RmsProjIdeal.main_arg1)) (m ((c.tc : Thread Cert.RmsProjIdeal.nD Cert.RmsProjIdeal.τ).loc Cert.RmsProjIdeal.main_arg2)) (m ((c.tc : Thread Cert.RmsProjIdeal.nD Cert.RmsProjIdeal.τ).loc Cert.RmsProjIdeal.main_arg3)) (m ((c.tc : Thread Cert.RmsProjIdeal.nD Cert.RmsProjIdeal.τ).loc Cert.RmsProjIdeal.main_arg4)) (m ((c.tc : Thread Cert.RmsProjIdeal.nD Cert.RmsProjIdeal.τ).loc Cert.RmsProjIdeal.main_arg5))).2.2.2 = (fun _ => 1#1)

def Pre_RmsProjRefIdeal (m : (ℓ : Loc Cert.RmsProjRefIdeal.nD Cert.RmsProjRefIdeal.τ Cert.RmsProjRefIdeal.sig) → Buf (Elt Ideal) ℓ) : Prop :=
  True

def Pre_RmsProjRefIdeal_rmsproj_finite [hPre_rmsproj_finite : Cert.Pre_rmsproj_finite.Facts] (m : (ℓ : Loc Cert.RmsProjRefIdeal.nD Cert.RmsProjRefIdeal.τ Cert.RmsProjRefIdeal.sig) → Buf (Elt Ideal) ℓ) : Prop :=
  ∀ c : Dev Cert.RmsProjRefIdeal.nD,
    (Cert.Pre_rmsproj_finite.fn (F := Ideal) (m ((c.tc : Thread Cert.RmsProjRefIdeal.nD Cert.RmsProjRefIdeal.τ).loc Cert.RmsProjRefIdeal.main_arg0)) (m ((c.tc : Thread Cert.RmsProjRefIdeal.nD Cert.RmsProjRefIdeal.τ).loc Cert.RmsProjRefIdeal.main_arg1)) (m ((c.tc : Thread Cert.RmsProjRefIdeal.nD Cert.RmsProjRefIdeal.τ).loc Cert.RmsProjRefIdeal.main_arg2)) (m ((c.tc : Thread Cert.RmsProjRefIdeal.nD Cert.RmsProjRefIdeal.τ).loc Cert.RmsProjRefIdeal.main_arg3)) (m ((c.tc : Thread Cert.RmsProjRefIdeal.nD Cert.RmsProjRefIdeal.τ).loc Cert.RmsProjRefIdeal.main_arg4)) (m ((c.tc : Thread Cert.RmsProjRefIdeal.nD Cert.RmsProjRefIdeal.τ).loc Cert.RmsProjRefIdeal.main_arg5))).1 = (fun _ => 1#1)
    ∧ (Cert.Pre_rmsproj_finite.fn (F := Ideal) (m ((c.tc : Thread Cert.RmsProjRefIdeal.nD Cert.RmsProjRefIdeal.τ).loc Cert.RmsProjRefIdeal.main_arg0)) (m ((c.tc : Thread Cert.RmsProjRefIdeal.nD Cert.RmsProjRefIdeal.τ).loc Cert.RmsProjRefIdeal.main_arg1)) (m ((c.tc : Thread Cert.RmsProjRefIdeal.nD Cert.RmsProjRefIdeal.τ).loc Cert.RmsProjRefIdeal.main_arg2)) (m ((c.tc : Thread Cert.RmsProjRefIdeal.nD Cert.RmsProjRefIdeal.τ).loc Cert.RmsProjRefIdeal.main_arg3)) (m ((c.tc : Thread Cert.RmsProjRefIdeal.nD Cert.RmsProjRefIdeal.τ).loc Cert.RmsProjRefIdeal.main_arg4)) (m ((c.tc : Thread Cert.RmsProjRefIdeal.nD Cert.RmsProjRefIdeal.τ).loc Cert.RmsProjRefIdeal.main_arg5))).2.1 = (fun _ => 1#1)
    ∧ (Cert.Pre_rmsproj_finite.fn (F := Ideal) (m ((c.tc : Thread Cert.RmsProjRefIdeal.nD Cert.RmsProjRefIdeal.τ).loc Cert.RmsProjRefIdeal.main_arg0)) (m ((c.tc : Thread Cert.RmsProjRefIdeal.nD Cert.RmsProjRefIdeal.τ).loc Cert.RmsProjRefIdeal.main_arg1)) (m ((c.tc : Thread Cert.RmsProjRefIdeal.nD Cert.RmsProjRefIdeal.τ).loc Cert.RmsProjRefIdeal.main_arg2)) (m ((c.tc : Thread Cert.RmsProjRefIdeal.nD Cert.RmsProjRefIdeal.τ).loc Cert.RmsProjRefIdeal.main_arg3)) (m ((c.tc : Thread Cert.RmsProjRefIdeal.nD Cert.RmsProjRefIdeal.τ).loc Cert.RmsProjRefIdeal.main_arg4)) (m ((c.tc : Thread Cert.RmsProjRefIdeal.nD Cert.RmsProjRefIdeal.τ).loc Cert.RmsProjRefIdeal.main_arg5))).2.2.1 = (fun _ => 1#1)
    ∧ (Cert.Pre_rmsproj_finite.fn (F := Ideal) (m ((c.tc : Thread Cert.RmsProjRefIdeal.nD Cert.RmsProjRefIdeal.τ).loc Cert.RmsProjRefIdeal.main_arg0)) (m ((c.tc : Thread Cert.RmsProjRefIdeal.nD Cert.RmsProjRefIdeal.τ).loc Cert.RmsProjRefIdeal.main_arg1)) (m ((c.tc : Thread Cert.RmsProjRefIdeal.nD Cert.RmsProjRefIdeal.τ).loc Cert.RmsProjRefIdeal.main_arg2)) (m ((c.tc : Thread Cert.RmsProjRefIdeal.nD Cert.RmsProjRefIdeal.τ).loc Cert.RmsProjRefIdeal.main_arg3)) (m ((c.tc : Thread Cert.RmsProjRefIdeal.nD Cert.RmsProjRefIdeal.τ).loc Cert.RmsProjRefIdeal.main_arg4)) (m ((c.tc : Thread Cert.RmsProjRefIdeal.nD Cert.RmsProjRefIdeal.τ).loc Cert.RmsProjRefIdeal.main_arg5))).2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffnin_finite [hPre_ffnin_finite : Cert.Pre_ffnin_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffnin_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))).1 = (fun _ => 1#1)
    ∧ (Cert.Pre_ffnin_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))).2.1 = (fun _ => 1#1)
    ∧ (Cert.Pre_ffnin_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))).2.2.1 = (fun _ => 1#1)
    ∧ (Cert.Pre_ffnin_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))).2.2.2.1 = (fun _ => 1#1)
    ∧ (Cert.Pre_ffnin_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))).2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffnin_finite [hPre_ffnin_finite : Cert.Pre_ffnin_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffnin_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))).1 = (fun _ => 1#1)
    ∧ (Cert.Pre_ffnin_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))).2.1 = (fun _ => 1#1)
    ∧ (Cert.Pre_ffnin_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))).2.2.1 = (fun _ => 1#1)
    ∧ (Cert.Pre_ffnin_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))).2.2.2.1 = (fun _ => 1#1)
    ∧ (Cert.Pre_ffnin_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))).2.2.2.2 = (fun _ => 1#1)

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutIdeal_mixout_finite [hPre_mixout_finite : Cert.Pre_mixout_finite.Facts] (m : (ℓ : Loc Cert.MixoutIdeal.nD Cert.MixoutIdeal.τ Cert.MixoutIdeal.sig) → Buf (Elt Ideal) ℓ) : Prop :=
  ∀ c : Dev Cert.MixoutIdeal.nD,
    (Cert.Pre_mixout_finite.fn (F := Ideal) (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)) (m ((c.tc : Thread Cert.MixoutIdeal.nD Cert.MixoutIdeal.τ).loc Cert.MixoutIdeal.main_arg5))) = (fun _ => 1#1)

def Pre_MixoutRefIdeal (m : (ℓ : Loc Cert.MixoutRefIdeal.nD Cert.MixoutRefIdeal.τ Cert.MixoutRefIdeal.sig) → Buf (Elt Ideal) ℓ) : Prop :=
  True

def Pre_MixoutRefIdeal_mixout_finite [hPre_mixout_finite : Cert.Pre_mixout_finite.Facts] (m : (ℓ : Loc Cert.MixoutRefIdeal.nD Cert.MixoutRefIdeal.τ Cert.MixoutRefIdeal.sig) → Buf (Elt Ideal) ℓ) : Prop :=
  ∀ c : Dev Cert.MixoutRefIdeal.nD,
    (Cert.Pre_mixout_finite.fn (F := Ideal) (m ((c.tc : Thread Cert.MixoutRefIdeal.nD Cert.MixoutRefIdeal.τ).loc Cert.MixoutRefIdeal.main_arg0)) (m ((c.tc : Thread Cert.MixoutRefIdeal.nD Cert.MixoutRefIdeal.τ).loc Cert.MixoutRefIdeal.main_arg1)) (m ((c.tc : Thread Cert.MixoutRefIdeal.nD Cert.MixoutRefIdeal.τ).loc Cert.MixoutRefIdeal.main_arg2)) (m ((c.tc : Thread Cert.MixoutRefIdeal.nD Cert.MixoutRefIdeal.τ).loc Cert.MixoutRefIdeal.main_arg3)) (m ((c.tc : Thread Cert.MixoutRefIdeal.nD Cert.MixoutRefIdeal.τ).loc Cert.MixoutRefIdeal.main_arg4)) (m ((c.tc : Thread Cert.MixoutRefIdeal.nD Cert.MixoutRefIdeal.τ).loc Cert.MixoutRefIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attnfwd_finite [hPre_attnfwd_finite : Cert.Pre_attnfwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attnfwd_finite [hPre_attnfwd_finite : Cert.Pre_attnfwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffnact_finite [hPre_ffnact_finite : Cert.Pre_ffnact_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffnact_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).1 = (fun _ => 1#1)
    ∧ (Cert.Pre_ffnact_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.1 = (fun _ => 1#1)
    ∧ (Cert.Pre_ffnact_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.2.1 = (fun _ => 1#1)
    ∧ (Cert.Pre_ffnact_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.2.2.1 = (fun _ => 1#1)
    ∧ (Cert.Pre_ffnact_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))).2.2.2.2 = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffnact_finite [hPre_ffnact_finite : Cert.Pre_ffnact_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffnact_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).1 = (fun _ => 1#1)
    ∧ (Cert.Pre_ffnact_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.1 = (fun _ => 1#1)
    ∧ (Cert.Pre_ffnact_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.2.1 = (fun _ => 1#1)
    ∧ (Cert.Pre_ffnact_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.2.2.1 = (fun _ => 1#1)
    ∧ (Cert.Pre_ffnact_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))).2.2.2.2 = (fun _ => 1#1)

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_RmsProj [hRmsProj : Cert.RmsProj.Facts] : Prop :=
  ∀ (m : (ℓ : Loc Cert.RmsProj.nD Cert.RmsProj.τ Cert.RmsProj.sig) → Buf (Elt Bits) ℓ) (g : Dev Cert.RmsProj.nD → PrngReg), Pre_RmsProj m →
    θ_run (Cert.RmsProj.defs (F := Bits)) (onTc (τ := Cert.RmsProj.τ) (Cert.RmsProj.main (F := Bits))) ⟨m, fun _ => 0, g⟩ (fun r => (∀ c : Dev Cert.RmsProj.nD,
      r.2.mem ((c.tc : Thread Cert.RmsProj.nD Cert.RmsProj.τ).loc Cert.RmsProj.main_arg0) = m ((c.tc : Thread Cert.RmsProj.nD Cert.RmsProj.τ).loc Cert.RmsProj.main_arg0)
      ∧ r.2.mem ((c.tc : Thread Cert.RmsProj.nD Cert.RmsProj.τ).loc Cert.RmsProj.main_arg1) = m ((c.tc : Thread Cert.RmsProj.nD Cert.RmsProj.τ).loc Cert.RmsProj.main_arg1)
      ∧ r.2.mem ((c.tc : Thread Cert.RmsProj.nD Cert.RmsProj.τ).loc Cert.RmsProj.main_arg2) = m ((c.tc : Thread Cert.RmsProj.nD Cert.RmsProj.τ).loc Cert.RmsProj.main_arg2)
      ∧ r.2.mem ((c.tc : Thread Cert.RmsProj.nD Cert.RmsProj.τ).loc Cert.RmsProj.main_arg3) = m ((c.tc : Thread Cert.RmsProj.nD Cert.RmsProj.τ).loc Cert.RmsProj.main_arg3)
      ∧ r.2.mem ((c.tc : Thread Cert.RmsProj.nD Cert.RmsProj.τ).loc Cert.RmsProj.main_arg4) = m ((c.tc : Thread Cert.RmsProj.nD Cert.RmsProj.τ).loc Cert.RmsProj.main_arg4)
      ∧ r.2.mem ((c.tc : Thread Cert.RmsProj.nD Cert.RmsProj.τ).loc Cert.RmsProj.main_arg5) = m ((c.tc : Thread Cert.RmsProj.nD Cert.RmsProj.τ).loc Cert.RmsProj.main_arg5))
      ∧ r.2.sem = fun _ => 0)

def quiescent_RmsProjIdeal [hRmsProjIdeal : Cert.RmsProjIdeal.Facts] : Prop :=
  ∀ (m : (ℓ : Loc Cert.RmsProjIdeal.nD Cert.RmsProjIdeal.τ Cert.RmsProjIdeal.sig) → Buf (Elt Ideal) ℓ) (g : Dev Cert.RmsProjIdeal.nD → PrngReg), Pre_RmsProjIdeal m →
    θ_run (Cert.RmsProjIdeal.defs (F := Ideal)) (onTc (τ := Cert.RmsProjIdeal.τ) (Cert.RmsProjIdeal.main (F := Ideal))) ⟨m, fun _ => 0, g⟩ (fun r => (∀ c : Dev Cert.RmsProjIdeal.nD,
      r.2.mem ((c.tc : Thread Cert.RmsProjIdeal.nD Cert.RmsProjIdeal.τ).loc Cert.RmsProjIdeal.main_arg0) = m ((c.tc : Thread Cert.RmsProjIdeal.nD Cert.RmsProjIdeal.τ).loc Cert.RmsProjIdeal.main_arg0)
      ∧ r.2.mem ((c.tc : Thread Cert.RmsProjIdeal.nD Cert.RmsProjIdeal.τ).loc Cert.RmsProjIdeal.main_arg1) = m ((c.tc : Thread Cert.RmsProjIdeal.nD Cert.RmsProjIdeal.τ).loc Cert.RmsProjIdeal.main_arg1)
      ∧ r.2.mem ((c.tc : Thread Cert.RmsProjIdeal.nD Cert.RmsProjIdeal.τ).loc Cert.RmsProjIdeal.main_arg2) = m ((c.tc : Thread Cert.RmsProjIdeal.nD Cert.RmsProjIdeal.τ).loc Cert.RmsProjIdeal.main_arg2)
      ∧ r.2.mem ((c.tc : Thread Cert.RmsProjIdeal.nD Cert.RmsProjIdeal.τ).loc Cert.RmsProjIdeal.main_arg3) = m ((c.tc : Thread Cert.RmsProjIdeal.nD Cert.RmsProjIdeal.τ).loc Cert.RmsProjIdeal.main_arg3)
      ∧ r.2.mem ((c.tc : Thread Cert.RmsProjIdeal.nD Cert.RmsProjIdeal.τ).loc Cert.RmsProjIdeal.main_arg4) = m ((c.tc : Thread Cert.RmsProjIdeal.nD Cert.RmsProjIdeal.τ).loc Cert.RmsProjIdeal.main_arg4)
      ∧ r.2.mem ((c.tc : Thread Cert.RmsProjIdeal.nD Cert.RmsProjIdeal.τ).loc Cert.RmsProjIdeal.main_arg5) = m ((c.tc : Thread Cert.RmsProjIdeal.nD Cert.RmsProjIdeal.τ).loc Cert.RmsProjIdeal.main_arg5))
      ∧ r.2.sem = fun _ => 0)

def quiescent_RmsProjIdeal_pre_rmsproj_finite [hRmsProjIdeal : Cert.RmsProjIdeal.Facts] [hPre_rmsproj_finite : Cert.Pre_rmsproj_finite.Facts] : Prop :=
  ∀ (m : (ℓ : Loc Cert.RmsProjIdeal.nD Cert.RmsProjIdeal.τ Cert.RmsProjIdeal.sig) → Buf (Elt Ideal) ℓ) (g : Dev Cert.RmsProjIdeal.nD → PrngReg), Pre_RmsProjIdeal_rmsproj_finite m →
    θ_run (Cert.RmsProjIdeal.defs (F := Ideal)) (onTc (τ := Cert.RmsProjIdeal.τ) (Cert.RmsProjIdeal.main (F := Ideal))) ⟨m, fun _ => 0, g⟩ (fun r => (∀ c : Dev Cert.RmsProjIdeal.nD,
      r.2.mem ((c.tc : Thread Cert.RmsProjIdeal.nD Cert.RmsProjIdeal.τ).loc Cert.RmsProjIdeal.main_arg0) = m ((c.tc : Thread Cert.RmsProjIdeal.nD Cert.RmsProjIdeal.τ).loc Cert.RmsProjIdeal.main_arg0)
      ∧ r.2.mem ((c.tc : Thread Cert.RmsProjIdeal.nD Cert.RmsProjIdeal.τ).loc Cert.RmsProjIdeal.main_arg1) = m ((c.tc : Thread Cert.RmsProjIdeal.nD Cert.RmsProjIdeal.τ).loc Cert.RmsProjIdeal.main_arg1)
      ∧ r.2.mem ((c.tc : Thread Cert.RmsProjIdeal.nD Cert.RmsProjIdeal.τ).loc Cert.RmsProjIdeal.main_arg2) = m ((c.tc : Thread Cert.RmsProjIdeal.nD Cert.RmsProjIdeal.τ).loc Cert.RmsProjIdeal.main_arg2)
      ∧ r.2.mem ((c.tc : Thread Cert.RmsProjIdeal.nD Cert.RmsProjIdeal.τ).loc Cert.RmsProjIdeal.main_arg3) = m ((c.tc : Thread Cert.RmsProjIdeal.nD Cert.RmsProjIdeal.τ).loc Cert.RmsProjIdeal.main_arg3)
      ∧ r.2.mem ((c.tc : Thread Cert.RmsProjIdeal.nD Cert.RmsProjIdeal.τ).loc Cert.RmsProjIdeal.main_arg4) = m ((c.tc : Thread Cert.RmsProjIdeal.nD Cert.RmsProjIdeal.τ).loc Cert.RmsProjIdeal.main_arg4)
      ∧ r.2.mem ((c.tc : Thread Cert.RmsProjIdeal.nD Cert.RmsProjIdeal.τ).loc Cert.RmsProjIdeal.main_arg5) = m ((c.tc : Thread Cert.RmsProjIdeal.nD Cert.RmsProjIdeal.τ).loc Cert.RmsProjIdeal.main_arg5))
      ∧ r.2.sem = fun _ => 0)

def quiescent_RmsProjRefIdeal [hRmsProjRefIdeal : Cert.RmsProjRefIdeal.Facts] : Prop :=
  ∀ (m : (ℓ : Loc Cert.RmsProjRefIdeal.nD Cert.RmsProjRefIdeal.τ Cert.RmsProjRefIdeal.sig) → Buf (Elt Ideal) ℓ) (g : Dev Cert.RmsProjRefIdeal.nD → PrngReg), Pre_RmsProjRefIdeal m →
    θ_run (Cert.RmsProjRefIdeal.defs (F := Ideal)) (onTc (τ := Cert.RmsProjRefIdeal.τ) (Cert.RmsProjRefIdeal.main (F := Ideal))) ⟨m, fun _ => 0, g⟩ (fun r => (∀ c : Dev Cert.RmsProjRefIdeal.nD,
      r.2.mem ((c.tc : Thread Cert.RmsProjRefIdeal.nD Cert.RmsProjRefIdeal.τ).loc Cert.RmsProjRefIdeal.main_arg0) = m ((c.tc : Thread Cert.RmsProjRefIdeal.nD Cert.RmsProjRefIdeal.τ).loc Cert.RmsProjRefIdeal.main_arg0)
      ∧ r.2.mem ((c.tc : Thread Cert.RmsProjRefIdeal.nD Cert.RmsProjRefIdeal.τ).loc Cert.RmsProjRefIdeal.main_arg1) = m ((c.tc : Thread Cert.RmsProjRefIdeal.nD Cert.RmsProjRefIdeal.τ).loc Cert.RmsProjRefIdeal.main_arg1)
      ∧ r.2.mem ((c.tc : Thread Cert.RmsProjRefIdeal.nD Cert.RmsProjRefIdeal.τ).loc Cert.RmsProjRefIdeal.main_arg2) = m ((c.tc : Thread Cert.RmsProjRefIdeal.nD Cert.RmsProjRefIdeal.τ).loc Cert.RmsProjRefIdeal.main_arg2)
      ∧ r.2.mem ((c.tc : Thread Cert.RmsProjRefIdeal.nD Cert.RmsProjRefIdeal.τ).loc Cert.RmsProjRefIdeal.main_arg3) = m ((c.tc : Thread Cert.RmsProjRefIdeal.nD Cert.RmsProjRefIdeal.τ).loc Cert.RmsProjRefIdeal.main_arg3)
      ∧ r.2.mem ((c.tc : Thread Cert.RmsProjRefIdeal.nD Cert.RmsProjRefIdeal.τ).loc Cert.RmsProjRefIdeal.main_arg4) = m ((c.tc : Thread Cert.RmsProjRefIdeal.nD Cert.RmsProjRefIdeal.τ).loc Cert.RmsProjRefIdeal.main_arg4)
      ∧ r.2.mem ((c.tc : Thread Cert.RmsProjRefIdeal.nD Cert.RmsProjRefIdeal.τ).loc Cert.RmsProjRefIdeal.main_arg5) = m ((c.tc : Thread Cert.RmsProjRefIdeal.nD Cert.RmsProjRefIdeal.τ).loc Cert.RmsProjRefIdeal.main_arg5))
      ∧ r.2.sem = fun _ => 0)

def quiescent_RmsProjRefIdeal_pre_rmsproj_finite [hRmsProjRefIdeal : Cert.RmsProjRefIdeal.Facts] [hPre_rmsproj_finite : Cert.Pre_rmsproj_finite.Facts] : Prop :=
  ∀ (m : (ℓ : Loc Cert.RmsProjRefIdeal.nD Cert.RmsProjRefIdeal.τ Cert.RmsProjRefIdeal.sig) → Buf (Elt Ideal) ℓ) (g : Dev Cert.RmsProjRefIdeal.nD → PrngReg), Pre_RmsProjRefIdeal_rmsproj_finite m →
    θ_run (Cert.RmsProjRefIdeal.defs (F := Ideal)) (onTc (τ := Cert.RmsProjRefIdeal.τ) (Cert.RmsProjRefIdeal.main (F := Ideal))) ⟨m, fun _ => 0, g⟩ (fun r => (∀ c : Dev Cert.RmsProjRefIdeal.nD,
      r.2.mem ((c.tc : Thread Cert.RmsProjRefIdeal.nD Cert.RmsProjRefIdeal.τ).loc Cert.RmsProjRefIdeal.main_arg0) = m ((c.tc : Thread Cert.RmsProjRefIdeal.nD Cert.RmsProjRefIdeal.τ).loc Cert.RmsProjRefIdeal.main_arg0)
      ∧ r.2.mem ((c.tc : Thread Cert.RmsProjRefIdeal.nD Cert.RmsProjRefIdeal.τ).loc Cert.RmsProjRefIdeal.main_arg1) = m ((c.tc : Thread Cert.RmsProjRefIdeal.nD Cert.RmsProjRefIdeal.τ).loc Cert.RmsProjRefIdeal.main_arg1)
      ∧ r.2.mem ((c.tc : Thread Cert.RmsProjRefIdeal.nD Cert.RmsProjRefIdeal.τ).loc Cert.RmsProjRefIdeal.main_arg2) = m ((c.tc : Thread Cert.RmsProjRefIdeal.nD Cert.RmsProjRefIdeal.τ).loc Cert.RmsProjRefIdeal.main_arg2)
      ∧ r.2.mem ((c.tc : Thread Cert.RmsProjRefIdeal.nD Cert.RmsProjRefIdeal.τ).loc Cert.RmsProjRefIdeal.main_arg3) = m ((c.tc : Thread Cert.RmsProjRefIdeal.nD Cert.RmsProjRefIdeal.τ).loc Cert.RmsProjRefIdeal.main_arg3)
      ∧ r.2.mem ((c.tc : Thread Cert.RmsProjRefIdeal.nD Cert.RmsProjRefIdeal.τ).loc Cert.RmsProjRefIdeal.main_arg4) = m ((c.tc : Thread Cert.RmsProjRefIdeal.nD Cert.RmsProjRefIdeal.τ).loc Cert.RmsProjRefIdeal.main_arg4)
      ∧ r.2.mem ((c.tc : Thread Cert.RmsProjRefIdeal.nD Cert.RmsProjRefIdeal.τ).loc Cert.RmsProjRefIdeal.main_arg5) = m ((c.tc : Thread Cert.RmsProjRefIdeal.nD Cert.RmsProjRefIdeal.τ).loc Cert.RmsProjRefIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInIdeal_pre_ffnin_finite [hFfnInIdeal : Cert.FfnInIdeal.Facts] [hPre_ffnin_finite : Cert.Pre_ffnin_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffnin_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnInRefIdeal_pre_ffnin_finite [hFfnInRefIdeal : Cert.FfnInRefIdeal.Facts] [hPre_ffnin_finite : Cert.Pre_ffnin_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffnin_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ r.2.sem = fun _ => 0)

def quiescent_MixoutIdeal_pre_mixout_finite [hMixoutIdeal : Cert.MixoutIdeal.Facts] [hPre_mixout_finite : Cert.Pre_mixout_finite.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal_mixout_finite m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5))
      ∧ r.2.sem = fun _ => 0)

def quiescent_MixoutRefIdeal_pre_mixout_finite [hMixoutRefIdeal : Cert.MixoutRefIdeal.Facts] [hPre_mixout_finite : Cert.Pre_mixout_finite.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal_mixout_finite m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attnfwd_finite [hAttnFwdIdeal : Cert.AttnFwdIdeal.Facts] [hPre_attnfwd_finite : Cert.Pre_attnfwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attnfwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attnfwd_finite [hAttnFwdRefIdeal : Cert.AttnFwdRefIdeal.Facts] [hPre_attnfwd_finite : Cert.Pre_attnfwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attnfwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActIdeal_pre_ffnact_finite [hFfnActIdeal : Cert.FfnActIdeal.Facts] [hPre_ffnact_finite : Cert.Pre_ffnact_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffnact_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_FfnActRefIdeal_pre_ffnact_finite [hFfnActRefIdeal : Cert.FfnActRefIdeal.Facts] [hPre_ffnact_finite : Cert.Pre_ffnact_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffnact_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3)
      ∧ r.2.mem ((c.tc : Thread Cert.MlaIn.nD Cert.MlaIn.τ).loc Cert.MlaIn.main_arg4) = m ((c.tc : Thread Cert.MlaIn.nD Cert.MlaIn.τ).loc Cert.MlaIn.main_arg4)
      ∧ r.2.mem ((c.tc : Thread Cert.MlaIn.nD Cert.MlaIn.τ).loc Cert.MlaIn.main_arg5) = m ((c.tc : Thread Cert.MlaIn.nD Cert.MlaIn.τ).loc Cert.MlaIn.main_arg5)
      ∧ r.2.mem ((c.tc : Thread Cert.MlaIn.nD Cert.MlaIn.τ).loc Cert.MlaIn.main_arg6) = m ((c.tc : Thread Cert.MlaIn.nD Cert.MlaIn.τ).loc Cert.MlaIn.main_arg6)
      ∧ r.2.mem ((c.tc : Thread Cert.MlaIn.nD Cert.MlaIn.τ).loc Cert.MlaIn.main_arg7) = m ((c.tc : Thread Cert.MlaIn.nD Cert.MlaIn.τ).loc Cert.MlaIn.main_arg7)
      ∧ r.2.mem ((c.tc : Thread Cert.MlaIn.nD Cert.MlaIn.τ).loc Cert.MlaIn.main_arg8) = m ((c.tc : Thread Cert.MlaIn.nD Cert.MlaIn.τ).loc Cert.MlaIn.main_arg8)
      ∧ r.2.mem ((c.tc : Thread Cert.MlaIn.nD Cert.MlaIn.τ).loc Cert.MlaIn.main_arg9) = m ((c.tc : Thread Cert.MlaIn.nD Cert.MlaIn.τ).loc Cert.MlaIn.main_arg9)
      ∧ r.2.mem ((c.tc : Thread Cert.MlaIn.nD Cert.MlaIn.τ).loc Cert.MlaIn.main_arg10) = m ((c.tc : Thread Cert.MlaIn.nD Cert.MlaIn.τ).loc Cert.MlaIn.main_arg10)
      ∧ r.2.mem ((c.tc : Thread Cert.MlaIn.nD Cert.MlaIn.τ).loc Cert.MlaIn.main_arg11) = m ((c.tc : Thread Cert.MlaIn.nD Cert.MlaIn.τ).loc Cert.MlaIn.main_arg11)
      ∧ r.2.mem ((c.tc : Thread Cert.MlaIn.nD Cert.MlaIn.τ).loc Cert.MlaIn.main_arg12) = m ((c.tc : Thread Cert.MlaIn.nD Cert.MlaIn.τ).loc Cert.MlaIn.main_arg12)
      ∧ r.2.mem ((c.tc : Thread Cert.MlaIn.nD Cert.MlaIn.τ).loc Cert.MlaIn.main_arg13) = m ((c.tc : Thread Cert.MlaIn.nD Cert.MlaIn.τ).loc Cert.MlaIn.main_arg13))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
      ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
      ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
      ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
      ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8)
      ∧ r.2.mem ((c.tc : Thread Cert.MlaInIdeal.nD Cert.MlaInIdeal.τ).loc Cert.MlaInIdeal.main_arg9) = m ((c.tc : Thread Cert.MlaInIdeal.nD Cert.MlaInIdeal.τ).loc Cert.MlaInIdeal.main_arg9)
      ∧ r.2.mem ((c.tc : Thread Cert.MlaInIdeal.nD Cert.MlaInIdeal.τ).loc Cert.MlaInIdeal.main_arg10) = m ((c.tc : Thread Cert.MlaInIdeal.nD Cert.MlaInIdeal.τ).loc Cert.MlaInIdeal.main_arg10)
      ∧ r.2.mem ((c.tc : Thread Cert.MlaInIdeal.nD Cert.MlaInIdeal.τ).loc Cert.MlaInIdeal.main_arg11) = m ((c.tc : Thread Cert.MlaInIdeal.nD Cert.MlaInIdeal.τ).loc Cert.MlaInIdeal.main_arg11)
      ∧ r.2.mem ((c.tc : Thread Cert.MlaInIdeal.nD Cert.MlaInIdeal.τ).loc Cert.MlaInIdeal.main_arg12) = m ((c.tc : Thread Cert.MlaInIdeal.nD Cert.MlaInIdeal.τ).loc Cert.MlaInIdeal.main_arg12)
      ∧ r.2.mem ((c.tc : Thread Cert.MlaInIdeal.nD Cert.MlaInIdeal.τ).loc Cert.MlaInIdeal.main_arg13) = m ((c.tc : Thread Cert.MlaInIdeal.nD Cert.MlaInIdeal.τ).loc Cert.MlaInIdeal.main_arg13))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1)
      ∧ r.2.mem ((c.tc : Thread Cert.MlaInRefIdeal.nD Cert.MlaInRefIdeal.τ).loc Cert.MlaInRefIdeal.main_arg2) = m ((c.tc : Thread Cert.MlaInRefIdeal.nD Cert.MlaInRefIdeal.τ).loc Cert.MlaInRefIdeal.main_arg2)
      ∧ r.2.mem ((c.tc : Thread Cert.MlaInRefIdeal.nD Cert.MlaInRefIdeal.τ).loc Cert.MlaInRefIdeal.main_arg3) = m ((c.tc : Thread Cert.MlaInRefIdeal.nD Cert.MlaInRefIdeal.τ).loc Cert.MlaInRefIdeal.main_arg3)
      ∧ r.2.mem ((c.tc : Thread Cert.MlaInRefIdeal.nD Cert.MlaInRefIdeal.τ).loc Cert.MlaInRefIdeal.main_arg4) = m ((c.tc : Thread Cert.MlaInRefIdeal.nD Cert.MlaInRefIdeal.τ).loc Cert.MlaInRefIdeal.main_arg4)
      ∧ r.2.mem ((c.tc : Thread Cert.MlaInRefIdeal.nD Cert.MlaInRefIdeal.τ).loc Cert.MlaInRefIdeal.main_arg5) = m ((c.tc : Thread Cert.MlaInRefIdeal.nD Cert.MlaInRefIdeal.τ).loc Cert.MlaInRefIdeal.main_arg5)
      ∧ r.2.mem ((c.tc : Thread Cert.MlaInRefIdeal.nD Cert.MlaInRefIdeal.τ).loc Cert.MlaInRefIdeal.main_arg6) = m ((c.tc : Thread Cert.MlaInRefIdeal.nD Cert.MlaInRefIdeal.τ).loc Cert.MlaInRefIdeal.main_arg6)
      ∧ r.2.mem ((c.tc : Thread Cert.MlaInRefIdeal.nD Cert.MlaInRefIdeal.τ).loc Cert.MlaInRefIdeal.main_arg7) = m ((c.tc : Thread Cert.MlaInRefIdeal.nD Cert.MlaInRefIdeal.τ).loc Cert.MlaInRefIdeal.main_arg7)
      ∧ r.2.mem ((c.tc : Thread Cert.MlaInRefIdeal.nD Cert.MlaInRefIdeal.τ).loc Cert.MlaInRefIdeal.main_arg8) = m ((c.tc : Thread Cert.MlaInRefIdeal.nD Cert.MlaInRefIdeal.τ).loc Cert.MlaInRefIdeal.main_arg8)
      ∧ r.2.mem ((c.tc : Thread Cert.MlaInRefIdeal.nD Cert.MlaInRefIdeal.τ).loc Cert.MlaInRefIdeal.main_arg9) = m ((c.tc : Thread Cert.MlaInRefIdeal.nD Cert.MlaInRefIdeal.τ).loc Cert.MlaInRefIdeal.main_arg9)
      ∧ r.2.mem ((c.tc : Thread Cert.MlaInRefIdeal.nD Cert.MlaInRefIdeal.τ).loc Cert.MlaInRefIdeal.main_arg10) = m ((c.tc : Thread Cert.MlaInRefIdeal.nD Cert.MlaInRefIdeal.τ).loc Cert.MlaInRefIdeal.main_arg10)
      ∧ r.2.mem ((c.tc : Thread Cert.MlaInRefIdeal.nD Cert.MlaInRefIdeal.τ).loc Cert.MlaInRefIdeal.main_arg11) = m ((c.tc : Thread Cert.MlaInRefIdeal.nD Cert.MlaInRefIdeal.τ).loc Cert.MlaInRefIdeal.main_arg11)
      ∧ r.2.mem ((c.tc : Thread Cert.MlaInRefIdeal.nD Cert.MlaInRefIdeal.τ).loc Cert.MlaInRefIdeal.main_arg12) = m ((c.tc : Thread Cert.MlaInRefIdeal.nD Cert.MlaInRefIdeal.τ).loc Cert.MlaInRefIdeal.main_arg12)
      ∧ r.2.mem ((c.tc : Thread Cert.MlaInRefIdeal.nD Cert.MlaInRefIdeal.τ).loc Cert.MlaInRefIdeal.main_arg13) = m ((c.tc : Thread Cert.MlaInRefIdeal.nD Cert.MlaInRefIdeal.τ).loc Cert.MlaInRefIdeal.main_arg13))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_RmsProj_RmsProjIdeal : Prop :=
  True

def algebraic_RmsProjIdeal_RmsProjRefIdeal_pre_rmsproj_finite [hRmsProjIdeal : Cert.RmsProjIdeal.Facts] [hRmsProjRefIdeal : Cert.RmsProjRefIdeal.Facts] [hPre_rmsproj_finite : Cert.Pre_rmsproj_finite.Facts] : Prop :=
  ∀ (m : (ℓ : Loc Cert.RmsProjIdeal.nD Cert.RmsProjIdeal.τ Cert.RmsProjIdeal.sig) → Buf (Elt Ideal) ℓ) (g : Dev Cert.RmsProjIdeal.nD → PrngReg)
    (m' : (ℓ : Loc Cert.RmsProjRefIdeal.nD Cert.RmsProjRefIdeal.τ Cert.RmsProjRefIdeal.sig) → Buf (Elt Ideal) ℓ) (g' : Dev Cert.RmsProjRefIdeal.nD → PrngReg), Pre_RmsProjIdeal_rmsproj_finite m →
    (∀ c : Dev Cert.RmsProjIdeal.nD,
      m' ((c.tc : Thread Cert.RmsProjRefIdeal.nD Cert.RmsProjRefIdeal.τ).loc Cert.RmsProjRefIdeal.main_arg0) = m ((c.tc : Thread Cert.RmsProjIdeal.nD Cert.RmsProjIdeal.τ).loc Cert.RmsProjIdeal.main_arg0)
      ∧ m' ((c.tc : Thread Cert.RmsProjRefIdeal.nD Cert.RmsProjRefIdeal.τ).loc Cert.RmsProjRefIdeal.main_arg1) = m ((c.tc : Thread Cert.RmsProjIdeal.nD Cert.RmsProjIdeal.τ).loc Cert.RmsProjIdeal.main_arg1)
      ∧ m' ((c.tc : Thread Cert.RmsProjRefIdeal.nD Cert.RmsProjRefIdeal.τ).loc Cert.RmsProjRefIdeal.main_arg2) = m ((c.tc : Thread Cert.RmsProjIdeal.nD Cert.RmsProjIdeal.τ).loc Cert.RmsProjIdeal.main_arg2)
      ∧ m' ((c.tc : Thread Cert.RmsProjRefIdeal.nD Cert.RmsProjRefIdeal.τ).loc Cert.RmsProjRefIdeal.main_arg3) = m ((c.tc : Thread Cert.RmsProjIdeal.nD Cert.RmsProjIdeal.τ).loc Cert.RmsProjIdeal.main_arg3)
      ∧ m' ((c.tc : Thread Cert.RmsProjRefIdeal.nD Cert.RmsProjRefIdeal.τ).loc Cert.RmsProjRefIdeal.main_arg4) = m ((c.tc : Thread Cert.RmsProjIdeal.nD Cert.RmsProjIdeal.τ).loc Cert.RmsProjIdeal.main_arg4)
      ∧ m' ((c.tc : Thread Cert.RmsProjRefIdeal.nD Cert.RmsProjRefIdeal.τ).loc Cert.RmsProjRefIdeal.main_arg5) = m ((c.tc : Thread Cert.RmsProjIdeal.nD Cert.RmsProjIdeal.τ).loc Cert.RmsProjIdeal.main_arg5)) →
    ∃ (v0 : (c : Dev Cert.RmsProjIdeal.nD) → Buf (Elt Ideal) ((c.tc : Thread Cert.RmsProjIdeal.nD Cert.RmsProjIdeal.τ).loc Cert.RmsProjIdeal.main_v15_0)) (v1 : (c : Dev Cert.RmsProjIdeal.nD) → Buf (Elt Ideal) ((c.tc : Thread Cert.RmsProjIdeal.nD Cert.RmsProjIdeal.τ).loc Cert.RmsProjIdeal.main_v19)) (v2 : (c : Dev Cert.RmsProjIdeal.nD) → Buf (Elt Ideal) ((c.tc : Thread Cert.RmsProjIdeal.nD Cert.RmsProjIdeal.τ).loc Cert.RmsProjIdeal.main_v20)),
      θ_run (Cert.RmsProjIdeal.defs (F := Ideal)) (onTc (τ := Cert.RmsProjIdeal.τ) (Cert.RmsProjIdeal.main (F := Ideal))) ⟨m, fun _ => 0, g⟩ (fun r => ∀ c : Dev Cert.RmsProjIdeal.nD,
          r.2.mem ((c.tc : Thread Cert.RmsProjIdeal.nD Cert.RmsProjIdeal.τ).loc Cert.RmsProjIdeal.main_v15_0) = v0 c
          ∧ r.2.mem ((c.tc : Thread Cert.RmsProjIdeal.nD Cert.RmsProjIdeal.τ).loc Cert.RmsProjIdeal.main_v19) = v1 c
          ∧ r.2.mem ((c.tc : Thread Cert.RmsProjIdeal.nD Cert.RmsProjIdeal.τ).loc Cert.RmsProjIdeal.main_v20) = v2 c
          ∧ r.2.mem ((c.tc : Thread Cert.RmsProjIdeal.nD Cert.RmsProjIdeal.τ).loc Cert.RmsProjIdeal.main_arg0) = m ((c.tc : Thread Cert.RmsProjIdeal.nD Cert.RmsProjIdeal.τ).loc Cert.RmsProjIdeal.main_arg0)
          ∧ r.2.mem ((c.tc : Thread Cert.RmsProjIdeal.nD Cert.RmsProjIdeal.τ).loc Cert.RmsProjIdeal.main_arg1) = m ((c.tc : Thread Cert.RmsProjIdeal.nD Cert.RmsProjIdeal.τ).loc Cert.RmsProjIdeal.main_arg1)
          ∧ r.2.mem ((c.tc : Thread Cert.RmsProjIdeal.nD Cert.RmsProjIdeal.τ).loc Cert.RmsProjIdeal.main_arg2) = m ((c.tc : Thread Cert.RmsProjIdeal.nD Cert.RmsProjIdeal.τ).loc Cert.RmsProjIdeal.main_arg2)
          ∧ r.2.mem ((c.tc : Thread Cert.RmsProjIdeal.nD Cert.RmsProjIdeal.τ).loc Cert.RmsProjIdeal.main_arg3) = m ((c.tc : Thread Cert.RmsProjIdeal.nD Cert.RmsProjIdeal.τ).loc Cert.RmsProjIdeal.main_arg3)
          ∧ r.2.mem ((c.tc : Thread Cert.RmsProjIdeal.nD Cert.RmsProjIdeal.τ).loc Cert.RmsProjIdeal.main_arg4) = m ((c.tc : Thread Cert.RmsProjIdeal.nD Cert.RmsProjIdeal.τ).loc Cert.RmsProjIdeal.main_arg4)
          ∧ r.2.mem ((c.tc : Thread Cert.RmsProjIdeal.nD Cert.RmsProjIdeal.τ).loc Cert.RmsProjIdeal.main_arg5) = m ((c.tc : Thread Cert.RmsProjIdeal.nD Cert.RmsProjIdeal.τ).loc Cert.RmsProjIdeal.main_arg5))
      ∧ θ_run (Cert.RmsProjRefIdeal.defs (F := Ideal)) (onTc (τ := Cert.RmsProjRefIdeal.τ) (Cert.RmsProjRefIdeal.main (F := Ideal))) ⟨m', fun _ => 0, g'⟩ (fun r => ∀ c : Dev Cert.RmsProjRefIdeal.nD,
          r.2.mem ((c.tc : Thread Cert.RmsProjRefIdeal.nD Cert.RmsProjRefIdeal.τ).loc Cert.RmsProjRefIdeal.main_v41) = v0 c
          ∧ r.2.mem ((c.tc : Thread Cert.RmsProjRefIdeal.nD Cert.RmsProjRefIdeal.τ).loc Cert.RmsProjRefIdeal.main_v19) = v1 c
          ∧ r.2.mem ((c.tc : Thread Cert.RmsProjRefIdeal.nD Cert.RmsProjRefIdeal.τ).loc Cert.RmsProjRefIdeal.main_v26) = v2 c
          ∧ r.2.mem ((c.tc : Thread Cert.RmsProjRefIdeal.nD Cert.RmsProjRefIdeal.τ).loc Cert.RmsProjRefIdeal.main_arg0) = m' ((c.tc : Thread Cert.RmsProjRefIdeal.nD Cert.RmsProjRefIdeal.τ).loc Cert.RmsProjRefIdeal.main_arg0)
          ∧ r.2.mem ((c.tc : Thread Cert.RmsProjRefIdeal.nD Cert.RmsProjRefIdeal.τ).loc Cert.RmsProjRefIdeal.main_arg1) = m' ((c.tc : Thread Cert.RmsProjRefIdeal.nD Cert.RmsProjRefIdeal.τ).loc Cert.RmsProjRefIdeal.main_arg1)
          ∧ r.2.mem ((c.tc : Thread Cert.RmsProjRefIdeal.nD Cert.RmsProjRefIdeal.τ).loc Cert.RmsProjRefIdeal.main_arg2) = m' ((c.tc : Thread Cert.RmsProjRefIdeal.nD Cert.RmsProjRefIdeal.τ).loc Cert.RmsProjRefIdeal.main_arg2)
          ∧ r.2.mem ((c.tc : Thread Cert.RmsProjRefIdeal.nD Cert.RmsProjRefIdeal.τ).loc Cert.RmsProjRefIdeal.main_arg3) = m' ((c.tc : Thread Cert.RmsProjRefIdeal.nD Cert.RmsProjRefIdeal.τ).loc Cert.RmsProjRefIdeal.main_arg3)
          ∧ r.2.mem ((c.tc : Thread Cert.RmsProjRefIdeal.nD Cert.RmsProjRefIdeal.τ).loc Cert.RmsProjRefIdeal.main_arg4) = m' ((c.tc : Thread Cert.RmsProjRefIdeal.nD Cert.RmsProjRefIdeal.τ).loc Cert.RmsProjRefIdeal.main_arg4)
          ∧ r.2.mem ((c.tc : Thread Cert.RmsProjRefIdeal.nD Cert.RmsProjRefIdeal.τ).loc Cert.RmsProjRefIdeal.main_arg5) = m' ((c.tc : Thread Cert.RmsProjRefIdeal.nD Cert.RmsProjRefIdeal.τ).loc Cert.RmsProjRefIdeal.main_arg5))

def preserves_FfnIn_FfnInIdeal : Prop :=
  True

def algebraic_FfnInIdeal_FfnInRefIdeal_pre_ffnin_finite [hFfnInIdeal : Cert.FfnInIdeal.Facts] [hFfnInRefIdeal : Cert.FfnInRefIdeal.Facts] [hPre_ffnin_finite : Cert.Pre_ffnin_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffnin_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v4)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v4) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v40) = v0 c
          ∧ r.2.mem ((c.tc : Thread Cert.FfnInRefIdeal.nD Cert.FfnInRefIdeal.τ).loc Cert.FfnInRefIdeal.main_v25) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_Mixout_MixoutIdeal : Prop :=
  True

def algebraic_MixoutIdeal_MixoutRefIdeal_pre_mixout_finite [hMixoutIdeal : Cert.MixoutIdeal.Facts] [hMixoutRefIdeal : Cert.MixoutRefIdeal.Facts] [hPre_mixout_finite : Cert.Pre_mixout_finite.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal_mixout_finite m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)) →
    ∃ (v0 : (c : Dev Cert.MixoutIdeal.nD) → Buf (Elt Ideal) ((c.tc : Thread Cert.MixoutIdeal.nD Cert.MixoutIdeal.τ).loc Cert.MixoutIdeal.main_v6_0)) (v1 : (c : Dev Cert.MixoutIdeal.nD) → Buf (Elt Ideal) ((c.tc : Thread Cert.MixoutIdeal.nD Cert.MixoutIdeal.τ).loc Cert.MixoutIdeal.main_v6_1)) (v2 : (c : Dev Cert.MixoutIdeal.nD) → Buf (Elt Ideal) ((c.tc : Thread Cert.MixoutIdeal.nD Cert.MixoutIdeal.τ).loc Cert.MixoutIdeal.main_v6_2)) (v3 : (c : Dev Cert.MixoutIdeal.nD) → Buf (Elt Ideal) ((c.tc : Thread Cert.MixoutIdeal.nD Cert.MixoutIdeal.τ).loc Cert.MixoutIdeal.main_v6_3)) (v4 : (c : Dev Cert.MixoutIdeal.nD) → Buf (Elt Ideal) ((c.tc : Thread Cert.MixoutIdeal.nD Cert.MixoutIdeal.τ).loc Cert.MixoutIdeal.main_v6_4)) (v5 : (c : Dev Cert.MixoutIdeal.nD) → Buf (Elt Ideal) ((c.tc : Thread Cert.MixoutIdeal.nD Cert.MixoutIdeal.τ).loc Cert.MixoutIdeal.main_v6_5)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v6_0) = v0 c
          ∧ r.2.mem ((c.tc : Thread Cert.MixoutIdeal.nD Cert.MixoutIdeal.τ).loc Cert.MixoutIdeal.main_v6_1) = v1 c
          ∧ r.2.mem ((c.tc : Thread Cert.MixoutIdeal.nD Cert.MixoutIdeal.τ).loc Cert.MixoutIdeal.main_v6_2) = v2 c
          ∧ r.2.mem ((c.tc : Thread Cert.MixoutIdeal.nD Cert.MixoutIdeal.τ).loc Cert.MixoutIdeal.main_v6_3) = v3 c
          ∧ r.2.mem ((c.tc : Thread Cert.MixoutIdeal.nD Cert.MixoutIdeal.τ).loc Cert.MixoutIdeal.main_v6_4) = v4 c
          ∧ r.2.mem ((c.tc : Thread Cert.MixoutIdeal.nD Cert.MixoutIdeal.τ).loc Cert.MixoutIdeal.main_v6_5) = v5 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v111) = v0 c
          ∧ r.2.mem ((c.tc : Thread Cert.MixoutRefIdeal.nD Cert.MixoutRefIdeal.τ).loc Cert.MixoutRefIdeal.main_v115) = v1 c
          ∧ r.2.mem ((c.tc : Thread Cert.MixoutRefIdeal.nD Cert.MixoutRefIdeal.τ).loc Cert.MixoutRefIdeal.main_v116) = v2 c
          ∧ r.2.mem ((c.tc : Thread Cert.MixoutRefIdeal.nD Cert.MixoutRefIdeal.τ).loc Cert.MixoutRefIdeal.main_v89) = v3 c
          ∧ r.2.mem ((c.tc : Thread Cert.MixoutRefIdeal.nD Cert.MixoutRefIdeal.τ).loc Cert.MixoutRefIdeal.main_v104) = v4 c
          ∧ r.2.mem ((c.tc : Thread Cert.MixoutRefIdeal.nD Cert.MixoutRefIdeal.τ).loc Cert.MixoutRefIdeal.main_v117) = v5 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5))

def preserves_Attn_AttnIdeal : Prop :=
  IdealRules.named_const.Statement Cert.AttnIdeal.κ "ln2" .f32 0x3F317218#32 ((Real.log 2 : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v41_0)) (v1 : (c : Dev Cert.AttnIdeal.nD) → Buf (Elt Ideal) ((c.tc : Thread Cert.AttnIdeal.nD Cert.AttnIdeal.τ).loc Cert.AttnIdeal.main_v41_1)) (v2 : (c : Dev Cert.AttnIdeal.nD) → Buf (Elt Ideal) ((c.tc : Thread Cert.AttnIdeal.nD Cert.AttnIdeal.τ).loc Cert.AttnIdeal.main_v41_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v41_0) = v0 c
          ∧ r.2.mem ((c.tc : Thread Cert.AttnIdeal.nD Cert.AttnIdeal.τ).loc Cert.AttnIdeal.main_v41_1) = v1 c
          ∧ r.2.mem ((c.tc : Thread Cert.AttnIdeal.nD Cert.AttnIdeal.τ).loc Cert.AttnIdeal.main_v41_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v54) = v0 c
          ∧ r.2.mem ((c.tc : Thread Cert.AttnRefIdeal.nD Cert.AttnRefIdeal.τ).loc Cert.AttnRefIdeal.main_v56) = v1 c
          ∧ r.2.mem ((c.tc : Thread Cert.AttnRefIdeal.nD Cert.AttnRefIdeal.τ).loc Cert.AttnRefIdeal.main_v59) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnFwd_AttnFwdIdeal : Prop :=
  IdealRules.named_const.Statement Cert.AttnFwdIdeal.κ "log2e" .f32 0x3FB8AA3B#32 (((Real.log 2)⁻¹ : ℝ) : EReal)

def algebraic_AttnFwdIdeal_AttnFwdRefIdeal_pre_attnfwd_finite [hAttnFwdIdeal : Cert.AttnFwdIdeal.Facts] [hAttnFwdRefIdeal : Cert.AttnFwdRefIdeal.Facts] [hPre_attnfwd_finite : Cert.Pre_attnfwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attnfwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v13_0)) (v1 : (c : Dev Cert.AttnFwdIdeal.nD) → Buf (Elt Ideal) ((c.tc : Thread Cert.AttnFwdIdeal.nD Cert.AttnFwdIdeal.τ).loc Cert.AttnFwdIdeal.main_v13_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13_0) = v0 c
          ∧ r.2.mem ((c.tc : Thread Cert.AttnFwdIdeal.nD Cert.AttnFwdIdeal.τ).loc Cert.AttnFwdIdeal.main_v13_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v28) = v0 c
          ∧ r.2.mem ((c.tc : Thread Cert.AttnFwdRefIdeal.nD Cert.AttnFwdRefIdeal.τ).loc Cert.AttnFwdRefIdeal.main_v30) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_FfnAct_FfnActIdeal : Prop :=
  True

def algebraic_FfnActIdeal_FfnActRefIdeal_pre_ffnact_finite [hFfnActIdeal : Cert.FfnActIdeal.Facts] [hFfnActRefIdeal : Cert.FfnActRefIdeal.Facts] [hPre_ffnact_finite : Cert.Pre_ffnact_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffnact_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v4_0)) (v1 : (c : Dev Cert.FfnActIdeal.nD) → Buf (Elt Ideal) ((c.tc : Thread Cert.FfnActIdeal.nD Cert.FfnActIdeal.τ).loc Cert.FfnActIdeal.main_v4_1)) (v2 : (c : Dev Cert.FfnActIdeal.nD) → Buf (Elt Ideal) ((c.tc : Thread Cert.FfnActIdeal.nD Cert.FfnActIdeal.τ).loc Cert.FfnActIdeal.main_v4_2)) (v3 : (c : Dev Cert.FfnActIdeal.nD) → Buf (Elt Ideal) ((c.tc : Thread Cert.FfnActIdeal.nD Cert.FfnActIdeal.τ).loc Cert.FfnActIdeal.main_v4_3)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v4_0) = v0 c
          ∧ r.2.mem ((c.tc : Thread Cert.FfnActIdeal.nD Cert.FfnActIdeal.τ).loc Cert.FfnActIdeal.main_v4_1) = v1 c
          ∧ r.2.mem ((c.tc : Thread Cert.FfnActIdeal.nD Cert.FfnActIdeal.τ).loc Cert.FfnActIdeal.main_v4_2) = v2 c
          ∧ r.2.mem ((c.tc : Thread Cert.FfnActIdeal.nD Cert.FfnActIdeal.τ).loc Cert.FfnActIdeal.main_v4_3) = v3 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v30) = v0 c
          ∧ r.2.mem ((c.tc : Thread Cert.FfnActRefIdeal.nD Cert.FfnActRefIdeal.τ).loc Cert.FfnActRefIdeal.main_v35) = v1 c
          ∧ r.2.mem ((c.tc : Thread Cert.FfnActRefIdeal.nD Cert.FfnActRefIdeal.τ).loc Cert.FfnActRefIdeal.main_v37) = v2 c
          ∧ r.2.mem ((c.tc : Thread Cert.FfnActRefIdeal.nD Cert.FfnActRefIdeal.τ).loc Cert.FfnActRefIdeal.main_v39) = v3 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)
      ∧ m' ((c.tc : Thread Cert.MlaInRefIdeal.nD Cert.MlaInRefIdeal.τ).loc Cert.MlaInRefIdeal.main_arg2) = m ((c.tc : Thread Cert.MlaInIdeal.nD Cert.MlaInIdeal.τ).loc Cert.MlaInIdeal.main_arg2)
      ∧ m' ((c.tc : Thread Cert.MlaInRefIdeal.nD Cert.MlaInRefIdeal.τ).loc Cert.MlaInRefIdeal.main_arg3) = m ((c.tc : Thread Cert.MlaInIdeal.nD Cert.MlaInIdeal.τ).loc Cert.MlaInIdeal.main_arg3)
      ∧ m' ((c.tc : Thread Cert.MlaInRefIdeal.nD Cert.MlaInRefIdeal.τ).loc Cert.MlaInRefIdeal.main_arg4) = m ((c.tc : Thread Cert.MlaInIdeal.nD Cert.MlaInIdeal.τ).loc Cert.MlaInIdeal.main_arg4)
      ∧ m' ((c.tc : Thread Cert.MlaInRefIdeal.nD Cert.MlaInRefIdeal.τ).loc Cert.MlaInRefIdeal.main_arg5) = m ((c.tc : Thread Cert.MlaInIdeal.nD Cert.MlaInIdeal.τ).loc Cert.MlaInIdeal.main_arg5)
      ∧ m' ((c.tc : Thread Cert.MlaInRefIdeal.nD Cert.MlaInRefIdeal.τ).loc Cert.MlaInRefIdeal.main_arg6) = m ((c.tc : Thread Cert.MlaInIdeal.nD Cert.MlaInIdeal.τ).loc Cert.MlaInIdeal.main_arg6)
      ∧ m' ((c.tc : Thread Cert.MlaInRefIdeal.nD Cert.MlaInRefIdeal.τ).loc Cert.MlaInRefIdeal.main_arg7) = m ((c.tc : Thread Cert.MlaInIdeal.nD Cert.MlaInIdeal.τ).loc Cert.MlaInIdeal.main_arg7)
      ∧ m' ((c.tc : Thread Cert.MlaInRefIdeal.nD Cert.MlaInRefIdeal.τ).loc Cert.MlaInRefIdeal.main_arg8) = m ((c.tc : Thread Cert.MlaInIdeal.nD Cert.MlaInIdeal.τ).loc Cert.MlaInIdeal.main_arg8)
      ∧ m' ((c.tc : Thread Cert.MlaInRefIdeal.nD Cert.MlaInRefIdeal.τ).loc Cert.MlaInRefIdeal.main_arg9) = m ((c.tc : Thread Cert.MlaInIdeal.nD Cert.MlaInIdeal.τ).loc Cert.MlaInIdeal.main_arg9)
      ∧ m' ((c.tc : Thread Cert.MlaInRefIdeal.nD Cert.MlaInRefIdeal.τ).loc Cert.MlaInRefIdeal.main_arg10) = m ((c.tc : Thread Cert.MlaInIdeal.nD Cert.MlaInIdeal.τ).loc Cert.MlaInIdeal.main_arg10)
      ∧ m' ((c.tc : Thread Cert.MlaInRefIdeal.nD Cert.MlaInRefIdeal.τ).loc Cert.MlaInRefIdeal.main_arg11) = m ((c.tc : Thread Cert.MlaInIdeal.nD Cert.MlaInIdeal.τ).loc Cert.MlaInIdeal.main_arg11)
      ∧ m' ((c.tc : Thread Cert.MlaInRefIdeal.nD Cert.MlaInRefIdeal.τ).loc Cert.MlaInRefIdeal.main_arg12) = m ((c.tc : Thread Cert.MlaInIdeal.nD Cert.MlaInIdeal.τ).loc Cert.MlaInIdeal.main_arg12)
      ∧ m' ((c.tc : Thread Cert.MlaInRefIdeal.nD Cert.MlaInRefIdeal.τ).loc Cert.MlaInRefIdeal.main_arg13) = m ((c.tc : Thread Cert.MlaInIdeal.nD Cert.MlaInIdeal.τ).loc Cert.MlaInIdeal.main_arg13)) →
    ∃ (v0 : (c : Dev Cert.MlaInIdeal.nD) → Buf (Elt Ideal) ((c.tc : Thread Cert.MlaInIdeal.nD Cert.MlaInIdeal.τ).loc Cert.MlaInIdeal.main_v67_3)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v67_3) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
          ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
          ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
          ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
          ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
          ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8)
          ∧ r.2.mem ((c.tc : Thread Cert.MlaInIdeal.nD Cert.MlaInIdeal.τ).loc Cert.MlaInIdeal.main_arg9) = m ((c.tc : Thread Cert.MlaInIdeal.nD Cert.MlaInIdeal.τ).loc Cert.MlaInIdeal.main_arg9)
          ∧ r.2.mem ((c.tc : Thread Cert.MlaInIdeal.nD Cert.MlaInIdeal.τ).loc Cert.MlaInIdeal.main_arg10) = m ((c.tc : Thread Cert.MlaInIdeal.nD Cert.MlaInIdeal.τ).loc Cert.MlaInIdeal.main_arg10)
          ∧ r.2.mem ((c.tc : Thread Cert.MlaInIdeal.nD Cert.MlaInIdeal.τ).loc Cert.MlaInIdeal.main_arg11) = m ((c.tc : Thread Cert.MlaInIdeal.nD Cert.MlaInIdeal.τ).loc Cert.MlaInIdeal.main_arg11)
          ∧ r.2.mem ((c.tc : Thread Cert.MlaInIdeal.nD Cert.MlaInIdeal.τ).loc Cert.MlaInIdeal.main_arg12) = m ((c.tc : Thread Cert.MlaInIdeal.nD Cert.MlaInIdeal.τ).loc Cert.MlaInIdeal.main_arg12)
          ∧ r.2.mem ((c.tc : Thread Cert.MlaInIdeal.nD Cert.MlaInIdeal.τ).loc Cert.MlaInIdeal.main_arg13) = m ((c.tc : Thread Cert.MlaInIdeal.nD Cert.MlaInIdeal.τ).loc Cert.MlaInIdeal.main_arg13))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v32) = v0 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1)
          ∧ r.2.mem ((c.tc : Thread Cert.MlaInRefIdeal.nD Cert.MlaInRefIdeal.τ).loc Cert.MlaInRefIdeal.main_arg2) = m' ((c.tc : Thread Cert.MlaInRefIdeal.nD Cert.MlaInRefIdeal.τ).loc Cert.MlaInRefIdeal.main_arg2)
          ∧ r.2.mem ((c.tc : Thread Cert.MlaInRefIdeal.nD Cert.MlaInRefIdeal.τ).loc Cert.MlaInRefIdeal.main_arg3) = m' ((c.tc : Thread Cert.MlaInRefIdeal.nD Cert.MlaInRefIdeal.τ).loc Cert.MlaInRefIdeal.main_arg3)
          ∧ r.2.mem ((c.tc : Thread Cert.MlaInRefIdeal.nD Cert.MlaInRefIdeal.τ).loc Cert.MlaInRefIdeal.main_arg4) = m' ((c.tc : Thread Cert.MlaInRefIdeal.nD Cert.MlaInRefIdeal.τ).loc Cert.MlaInRefIdeal.main_arg4)
          ∧ r.2.mem ((c.tc : Thread Cert.MlaInRefIdeal.nD Cert.MlaInRefIdeal.τ).loc Cert.MlaInRefIdeal.main_arg5) = m' ((c.tc : Thread Cert.MlaInRefIdeal.nD Cert.MlaInRefIdeal.τ).loc Cert.MlaInRefIdeal.main_arg5)
          ∧ r.2.mem ((c.tc : Thread Cert.MlaInRefIdeal.nD Cert.MlaInRefIdeal.τ).loc Cert.MlaInRefIdeal.main_arg6) = m' ((c.tc : Thread Cert.MlaInRefIdeal.nD Cert.MlaInRefIdeal.τ).loc Cert.MlaInRefIdeal.main_arg6)
          ∧ r.2.mem ((c.tc : Thread Cert.MlaInRefIdeal.nD Cert.MlaInRefIdeal.τ).loc Cert.MlaInRefIdeal.main_arg7) = m' ((c.tc : Thread Cert.MlaInRefIdeal.nD Cert.MlaInRefIdeal.τ).loc Cert.MlaInRefIdeal.main_arg7)
          ∧ r.2.mem ((c.tc : Thread Cert.MlaInRefIdeal.nD Cert.MlaInRefIdeal.τ).loc Cert.MlaInRefIdeal.main_arg8) = m' ((c.tc : Thread Cert.MlaInRefIdeal.nD Cert.MlaInRefIdeal.τ).loc Cert.MlaInRefIdeal.main_arg8)
          ∧ r.2.mem ((c.tc : Thread Cert.MlaInRefIdeal.nD Cert.MlaInRefIdeal.τ).loc Cert.MlaInRefIdeal.main_arg9) = m' ((c.tc : Thread Cert.MlaInRefIdeal.nD Cert.MlaInRefIdeal.τ).loc Cert.MlaInRefIdeal.main_arg9)
          ∧ r.2.mem ((c.tc : Thread Cert.MlaInRefIdeal.nD Cert.MlaInRefIdeal.τ).loc Cert.MlaInRefIdeal.main_arg10) = m' ((c.tc : Thread Cert.MlaInRefIdeal.nD Cert.MlaInRefIdeal.τ).loc Cert.MlaInRefIdeal.main_arg10)
          ∧ r.2.mem ((c.tc : Thread Cert.MlaInRefIdeal.nD Cert.MlaInRefIdeal.τ).loc Cert.MlaInRefIdeal.main_arg11) = m' ((c.tc : Thread Cert.MlaInRefIdeal.nD Cert.MlaInRefIdeal.τ).loc Cert.MlaInRefIdeal.main_arg11)
          ∧ r.2.mem ((c.tc : Thread Cert.MlaInRefIdeal.nD Cert.MlaInRefIdeal.τ).loc Cert.MlaInRefIdeal.main_arg12) = m' ((c.tc : Thread Cert.MlaInRefIdeal.nD Cert.MlaInRefIdeal.τ).loc Cert.MlaInRefIdeal.main_arg12)
          ∧ r.2.mem ((c.tc : Thread Cert.MlaInRefIdeal.nD Cert.MlaInRefIdeal.τ).loc Cert.MlaInRefIdeal.main_arg13) = m' ((c.tc : Thread Cert.MlaInRefIdeal.nD Cert.MlaInRefIdeal.τ).loc Cert.MlaInRefIdeal.main_arg13))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v21) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)) →
    ∃ (v0 : (c : Dev Cert.AdamwIdeal.nD) → Buf (Elt Ideal) ((c.tc : Thread Cert.AdamwIdeal.nD Cert.AdamwIdeal.τ).loc Cert.AdamwIdeal.main_v10)) (v1 : (c : Dev Cert.AdamwIdeal.nD) → Buf (Elt Ideal) ((c.tc : Thread Cert.AdamwIdeal.nD Cert.AdamwIdeal.τ).loc Cert.AdamwIdeal.main_v11)) (v2 : (c : Dev Cert.AdamwIdeal.nD) → Buf (Elt Ideal) ((c.tc : Thread Cert.AdamwIdeal.nD Cert.AdamwIdeal.τ).loc Cert.AdamwIdeal.main_v12)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v10) = v0 c
          ∧ r.2.mem ((c.tc : Thread Cert.AdamwIdeal.nD Cert.AdamwIdeal.τ).loc Cert.AdamwIdeal.main_v11) = v1 c
          ∧ r.2.mem ((c.tc : Thread Cert.AdamwIdeal.nD Cert.AdamwIdeal.τ).loc Cert.AdamwIdeal.main_v12) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v36) = v0 c
          ∧ r.2.mem ((c.tc : Thread Cert.AdamwRefIdeal.nD Cert.AdamwRefIdeal.τ).loc Cert.AdamwRefIdeal.main_v17) = v1 c
          ∧ r.2.mem ((c.tc : Thread Cert.AdamwRefIdeal.nD Cert.AdamwRefIdeal.τ).loc Cert.AdamwRefIdeal.main_v23) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v8) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def Claim : Prop :=
  ∃ (hLoss : Cert.Loss.Facts) (hLossIdeal : Cert.LossIdeal.Facts) (hLossRefIdeal : Cert.LossRefIdeal.Facts) (hRmsProj : Cert.RmsProj.Facts) (hRmsProjIdeal : Cert.RmsProjIdeal.Facts) (hRmsProjRefIdeal : Cert.RmsProjRefIdeal.Facts) (hFfnIn : Cert.FfnIn.Facts) (hFfnInIdeal : Cert.FfnInIdeal.Facts) (hFfnInRefIdeal : Cert.FfnInRefIdeal.Facts) (hMixout : Cert.Mixout.Facts) (hMixoutIdeal : Cert.MixoutIdeal.Facts) (hMixoutRefIdeal : Cert.MixoutRefIdeal.Facts) (hAttn : Cert.Attn.Facts) (hAttnIdeal : Cert.AttnIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hFfnAct : Cert.FfnAct.Facts) (hFfnActIdeal : Cert.FfnActIdeal.Facts) (hFfnActRefIdeal : Cert.FfnActRefIdeal.Facts) (hMlaIn : Cert.MlaIn.Facts) (hMlaInIdeal : Cert.MlaInIdeal.Facts) (hMlaInRefIdeal : Cert.MlaInRefIdeal.Facts) (hFfnFwd : Cert.FfnFwd.Facts) (hFfnFwdIdeal : Cert.FfnFwdIdeal.Facts) (hFfnFwdRefIdeal : Cert.FfnFwdRefIdeal.Facts) (hAdamw : Cert.Adamw.Facts) (hAdamwIdeal : Cert.AdamwIdeal.Facts) (hAdamwRefIdeal : Cert.AdamwRefIdeal.Facts) (hWgrad : Cert.Wgrad.Facts) (hWgradIdeal : Cert.WgradIdeal.Facts) (hWgradRefIdeal : Cert.WgradRefIdeal.Facts) (hPre_rmsproj_finite : Cert.Pre_rmsproj_finite.Facts) (hPre_ffnin_finite : Cert.Pre_ffnin_finite.Facts) (hPre_mixout_finite : Cert.Pre_mixout_finite.Facts) (hPre_attn_finite : Cert.Pre_attn_finite.Facts) (hPre_attnfwd_finite : Cert.Pre_attnfwd_finite.Facts) (hPre_ffnact_finite : Cert.Pre_ffnact_finite.Facts),
    quiescent_Loss (hLoss := hLoss)
    ∧ quiescent_LossIdeal (hLossIdeal := hLossIdeal)
    ∧ quiescent_LossRefIdeal (hLossRefIdeal := hLossRefIdeal)
    ∧ quiescent_RmsProj (hRmsProj := hRmsProj)
    ∧ quiescent_RmsProjIdeal (hRmsProjIdeal := hRmsProjIdeal)
    ∧ quiescent_RmsProjIdeal_pre_rmsproj_finite (hRmsProjIdeal := hRmsProjIdeal) (hPre_rmsproj_finite := hPre_rmsproj_finite)
    ∧ quiescent_RmsProjRefIdeal (hRmsProjRefIdeal := hRmsProjRefIdeal)
    ∧ quiescent_RmsProjRefIdeal_pre_rmsproj_finite (hRmsProjRefIdeal := hRmsProjRefIdeal) (hPre_rmsproj_finite := hPre_rmsproj_finite)
    ∧ quiescent_FfnIn (hFfnIn := hFfnIn)
    ∧ quiescent_FfnInIdeal (hFfnInIdeal := hFfnInIdeal)
    ∧ quiescent_FfnInIdeal_pre_ffnin_finite (hFfnInIdeal := hFfnInIdeal) (hPre_ffnin_finite := hPre_ffnin_finite)
    ∧ quiescent_FfnInRefIdeal (hFfnInRefIdeal := hFfnInRefIdeal)
    ∧ quiescent_FfnInRefIdeal_pre_ffnin_finite (hFfnInRefIdeal := hFfnInRefIdeal) (hPre_ffnin_finite := hPre_ffnin_finite)
    ∧ quiescent_Mixout (hMixout := hMixout)
    ∧ quiescent_MixoutIdeal (hMixoutIdeal := hMixoutIdeal)
    ∧ quiescent_MixoutIdeal_pre_mixout_finite (hMixoutIdeal := hMixoutIdeal) (hPre_mixout_finite := hPre_mixout_finite)
    ∧ quiescent_MixoutRefIdeal (hMixoutRefIdeal := hMixoutRefIdeal)
    ∧ quiescent_MixoutRefIdeal_pre_mixout_finite (hMixoutRefIdeal := hMixoutRefIdeal) (hPre_mixout_finite := hPre_mixout_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnFwd (hAttnFwd := hAttnFwd)
    ∧ quiescent_AttnFwdIdeal (hAttnFwdIdeal := hAttnFwdIdeal)
    ∧ quiescent_AttnFwdIdeal_pre_attnfwd_finite (hAttnFwdIdeal := hAttnFwdIdeal) (hPre_attnfwd_finite := hPre_attnfwd_finite)
    ∧ quiescent_AttnFwdRefIdeal (hAttnFwdRefIdeal := hAttnFwdRefIdeal)
    ∧ quiescent_AttnFwdRefIdeal_pre_attnfwd_finite (hAttnFwdRefIdeal := hAttnFwdRefIdeal) (hPre_attnfwd_finite := hPre_attnfwd_finite)
    ∧ quiescent_FfnAct (hFfnAct := hFfnAct)
    ∧ quiescent_FfnActIdeal (hFfnActIdeal := hFfnActIdeal)
    ∧ quiescent_FfnActIdeal_pre_ffnact_finite (hFfnActIdeal := hFfnActIdeal) (hPre_ffnact_finite := hPre_ffnact_finite)
    ∧ quiescent_FfnActRefIdeal (hFfnActRefIdeal := hFfnActRefIdeal)
    ∧ quiescent_FfnActRefIdeal_pre_ffnact_finite (hFfnActRefIdeal := hFfnActRefIdeal) (hPre_ffnact_finite := hPre_ffnact_finite)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Wgrad (hWgrad := hWgrad)
    ∧ quiescent_WgradIdeal (hWgradIdeal := hWgradIdeal)
    ∧ quiescent_WgradRefIdeal (hWgradRefIdeal := hWgradRefIdeal)
    ∧ preserves_Loss_LossIdeal
    ∧ algebraic_LossIdeal_LossRefIdeal (hLossIdeal := hLossIdeal) (hLossRefIdeal := hLossRefIdeal)
    ∧ preserves_RmsProj_RmsProjIdeal
    ∧ algebraic_RmsProjIdeal_RmsProjRefIdeal_pre_rmsproj_finite (hRmsProjIdeal := hRmsProjIdeal) (hRmsProjRefIdeal := hRmsProjRefIdeal) (hPre_rmsproj_finite := hPre_rmsproj_finite)
    ∧ preserves_FfnIn_FfnInIdeal
    ∧ algebraic_FfnInIdeal_FfnInRefIdeal_pre_ffnin_finite (hFfnInIdeal := hFfnInIdeal) (hFfnInRefIdeal := hFfnInRefIdeal) (hPre_ffnin_finite := hPre_ffnin_finite)
    ∧ preserves_Mixout_MixoutIdeal
    ∧ algebraic_MixoutIdeal_MixoutRefIdeal_pre_mixout_finite (hMixoutIdeal := hMixoutIdeal) (hMixoutRefIdeal := hMixoutRefIdeal) (hPre_mixout_finite := hPre_mixout_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_AttnFwd_AttnFwdIdeal
    ∧ algebraic_AttnFwdIdeal_AttnFwdRefIdeal_pre_attnfwd_finite (hAttnFwdIdeal := hAttnFwdIdeal) (hAttnFwdRefIdeal := hAttnFwdRefIdeal) (hPre_attnfwd_finite := hPre_attnfwd_finite)
    ∧ preserves_FfnAct_FfnActIdeal
    ∧ algebraic_FfnActIdeal_FfnActRefIdeal_pre_ffnact_finite (hFfnActIdeal := hFfnActIdeal) (hFfnActRefIdeal := hFfnActRefIdeal) (hPre_ffnact_finite := hPre_ffnact_finite)
    ∧ preserves_MlaIn_MlaInIdeal
    ∧ algebraic_MlaInIdeal_MlaInRefIdeal (hMlaInIdeal := hMlaInIdeal) (hMlaInRefIdeal := hMlaInRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Adamw_AdamwIdeal
    ∧ algebraic_AdamwIdeal_AdamwRefIdeal (hAdamwIdeal := hAdamwIdeal) (hAdamwRefIdeal := hAdamwRefIdeal)
    ∧ preserves_Wgrad_WgradIdeal
    ∧ algebraic_WgradIdeal_WgradRefIdeal (hWgradIdeal := hWgradIdeal) (hWgradRefIdeal := hWgradRefIdeal)
-- ==== Pre_attn_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) (main_arg3 : FVec F S16384x8x64 .f32) : IVec S16384x8x96 1 × IVec S16384x8x96 1 × IVec S16384x8x64 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : FVec F S16384x8x64 .f32 := Host.absf main_arg3
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  (main_v2, main_v5, main_v8, main_v11)
-- ==== Pre_attnfwd_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) : IVec S16384x8x96 1 × IVec S16384x8x96 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  (main_v2, main_v5, main_v8)
-- ==== Pre_ffnact_finite.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024 .f32) (main_arg2 : FVec F S1024x5632 .f32) (main_arg3 : FVec F S2816x1024 .f32) (main_arg4 : FVec F S16384x1024 .f32) : IVec S16384x1024 1 × IVec S1024 1 × IVec S1024x5632 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_ffnin_finite.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bitsLt_bf16_f32 : FTy.bits .bf16 < FTy.bits .f32
  bcast_S_S16384x2816 : S_.BroadcastsInDim S16384x2816 (![] : Fin 0 → Fin S16384x2816.rank)

variable [Facts]

def fn {F : FTy → Type} [FloatOps F] (main_arg0 : FVec F S16384x1024 .f32) (main_arg1 : FVec F S1024 .f32) (main_arg2 : FVec F S1024x5632 .f32) (main_arg3 : FVec F S16384x2816 .bf16) (main_arg4 : FVec F S16384x2816 .bf16) (main_arg5 : FVec F S16384x1024 .f32) : IVec S16384x1024 1 × IVec S1024 1 × IVec S1024x5632 1 × IVec S16384x2816 1 × IVec S16384x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S16384x2816 .f32 := (extf .f32 · bitsLt_bf16_f32) main_arg3
  let main_v10 : FVec F S16384x2816 .f32 := Host.absf main_v9
  let main_cst_2 : FVec F S_ .f32 := constant S_ .f32 0x7F800000#32
  let main_v11 : FVec F S16384x2816 .f32 := broadcastInDim S16384x2816 ![] bcast_S_S16384x2816 main_cst_2
  let main_v12 : IVec S16384x2816 1 := cmpf .olt main_v10 main_v11
  let main_v13 : FVec F S16384x2816 .f32 := (extf .f32 · bitsLt_bf16_f32) main_arg4
  let main_v14 : FVec F S16384x2816 .f32 := Host.absf main_v13
  let main_cst_3 : FVec F S_ .f32 := constant S_ .f32 0x7F800000#32
  let main_v15 : FVec F S16384x2816 .f32 := broadcastInDim S16384x2816 ![] bcast_S_S16384x2816 main_cst_3
  let main_v16 : IVec S16384x2816 1 := cmpf .olt main_v14 main_v15
  (main_v2, main_v5, main_v8, main_v12, main_v16)
-- ==== Pre_mixout_finite.lean ====
abbrev S16384x1024 : Shape := ⟨2, ![16384, 1024]⟩
abbrev S16384x512 : Shape := ⟨2, ![16384, 512]⟩
abbrev S1024x1024 : Shape := ⟨2, ![1024, 1024]⟩
abbrev S4x128x128 : Shape := ⟨3, ![4, 128, 128]⟩
abbrev S512 : Shape := ⟨1, ![512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .f32) (main_arg1 : FVec F S16384x512 .f32) (main_arg2 : FVec F S16384x512 .bf16) (main_arg3 : FVec F S1024x1024 .f32) (main_arg4 : FVec F S4x128x128 .f32) (main_arg5 : FVec F S512 .f32) : IVec S16384x512 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_rmsproj_finite.lean ====
abbrev S16384x1024 : Shape := ⟨2, ![16384, 1024]⟩
abbrev S1024 : Shape := ⟨1, ![1024]⟩
abbrev S1024x1184 : Shape := ⟨2, ![1024, 1184]⟩
abbrev S16384x1184 : Shape := ⟨2, ![16384, 1184]⟩
abbrev S16384x96 : Shape := ⟨2, ![16384, 96]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1184 : S_.BroadcastsInDim S1024x1184 (![] : Fin 0 → Fin S1024x1184.rank)
  bitsLt_bf16_f32 : FTy.bits .bf16 < FTy.bits .f32
  bcast_S_S16384x1184 : S_.BroadcastsInDim S16384x1184 (![] : Fin 0 → Fin S16384x1184.rank)

variable [Facts]

def fn {F : FTy → Type} [FloatOps F] (main_arg0 : FVec F S16384x1024 .f32) (main_arg1 : FVec F S1024 .f32) (main_arg2 : FVec F S1024x1184 .f32) (main_arg3 : FVec F S16384x1184 .bf16) (main_arg4 : FVec F S16384x96 .bf16) (main_arg5 : FVec F S16384x1024 .f32) : IVec S16384x1024 1 × IVec S1024 1 × IVec S1024x1184 1 × IVec S16384x1184 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1184 .f32 := Host.absf main_arg2
  let main_cst_1 : FVec F S_ .f32 := constant S_ .f32 0x7F800000#32
  let main_v7 : FVec F S1024x1184 .f32 := broadcastInDim S1024x1184 ![] bcast_S_S1024x1184 main_cst_1
  let main_v8 : IVec S1024x1184 1 := cmpf .olt main_v6 main_v7
  let main_v9 : FVec F S16384x1184 .f32 := (extf .f32 · bitsLt_bf16_f32) main_arg3
  let main_v10 : FVec F S16384x1184 .f32 := Host.absf main_v9
  let main_cst_2 : FVec F S_ .f32 := constant S_ .f32 0x7F800000#32
  let main_v11 : FVec F S16384x1184 .f32 := broadcastInDim S16384x1184 ![] bcast_S_S16384x1184 main_cst_2
  let main_v12 : IVec S16384x1184 1 := cmpf .olt main_v10 main_v11
  (main_v2, main_v5, main_v8, main_v12)
-- ==== Loss.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== RmsProj.lean ====
abbrev S16384x1024 : Shape := ⟨2, ![16384, 1024]⟩
abbrev S1024 : Shape := ⟨1, ![1024]⟩
abbrev S1024x1184 : Shape := ⟨2, ![1024, 1184]⟩
abbrev S16384x1184 : Shape := ⟨2, ![16384, 1184]⟩
abbrev S16384x96 : Shape := ⟨2, ![16384, 96]⟩
abbrev S_ : Shape := ⟨0, ![]⟩
abbrev S1024x128 : Shape := ⟨2, ![1024, 128]⟩
abbrev S1024x640 : Shape := ⟨2, ![1024, 640]⟩
abbrev S1024x64 : Shape := ⟨2, ![1024, 64]⟩
abbrev S1024x32 : Shape := ⟨2, ![1024, 32]⟩
abbrev S1024x512 : Shape := ⟨2, ![1024, 512]⟩
abbrev S1024x1280 : Shape := ⟨2, ![1024, 1280]⟩
abbrev S16384x640 : Shape := ⟨2, ![16384, 640]⟩
abbrev S16384x64 : Shape := ⟨2, ![16384, 64]⟩
abbrev S16384x32 : Shape := ⟨2, ![16384, 32]⟩
abbrev S16384x512 : Shape := ⟨2, ![16384, 512]⟩
abbrev S16384x1280 : Shape := ⟨2, ![16384, 1280]⟩
abbrev S1x1024 : Shape := ⟨2, ![1, 1024]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 30
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1184, .f32⟩
  | .hbm, ⟨3, _⟩ => ⟨S16384x1184, .bf16⟩
  | .hbm, ⟨4, _⟩ => ⟨S16384x96, .bf16⟩
  | .hbm, ⟨5, _⟩ => ⟨S16384x1024, .f32⟩
  | .hbm, ⟨6, _⟩ => ⟨S1024x1184, .bf16⟩
  | .hbm, ⟨7, _⟩ => ⟨S_, .bf16⟩
  | .hbm, ⟨8, _⟩ => ⟨S1024x128, .bf16⟩
  | .hbm, ⟨9, _⟩ => ⟨S1024x640, .bf16⟩
  | .hbm, ⟨10, _⟩ => ⟨S1024x64, .bf16⟩
  | .hbm, ⟨11, _⟩ => ⟨S1024x32, .bf16⟩
  | .hbm, ⟨12, _⟩ => ⟨S1024x32, .bf16⟩
  | .hbm, ⟨13, _⟩ => ⟨S1024x512, .bf16⟩
  | .hbm, ⟨14, _⟩ => ⟨S1024x1280, .bf16⟩
  | .hbm, ⟨15, _⟩ => ⟨S16384x640, .bf16⟩
  | .hbm, ⟨16, _⟩ => ⟨S16384x64, .bf16⟩
  | .hbm, ⟨17, _⟩ => ⟨S16384x32, .bf16⟩
  | .hbm, ⟨18, _⟩ => ⟨S16384x32, .bf16⟩
  | .hbm, ⟨19, _⟩ => ⟨S16384x512, .bf16⟩
  | .hbm, ⟨20, _⟩ => ⟨S16384x1280, .bf16⟩
  | .hbm, ⟨21, _⟩ => ⟨S1x1024, .f32⟩
  | .hbm, ⟨22, _⟩ => ⟨S16384x1024, .f32⟩
  | .hbm, ⟨23, _⟩ => ⟨S1024x1280, .f32⟩
  | .hbm, ⟨24, _⟩ => ⟨S1x1024, .f32⟩
  | .hbm, ⟨25, _⟩ => ⟨S1024x640, .f32⟩
  | .hbm, ⟨26, _⟩ => ⟨S1024x32, .f32⟩
  | .hbm, ⟨27, _⟩ => ⟨S1024x512, .f32⟩
  | .hbm, ⟨28, _⟩ => ⟨S1024x1184, .f32⟩
  | .hbm, ⟨29, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x1280, .bf16⟩
  | .local _ .vmem, ⟨5, _⟩ => ⟨S512x1280, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1280, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsProjRefIdeal.lean ====
abbrev S16384x1024 : Shape := ⟨2, ![16384, 1024]⟩
abbrev S1024 : Shape := ⟨1, ![1024]⟩
abbrev S1024x1184 : Shape := ⟨2, ![1024, 1184]⟩
abbrev S16384x1184 : Shape := ⟨2, ![16384, 1184]⟩
abbrev S16384x96 : Shape := ⟨2, ![16384, 96]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1184x1024 : Shape := ⟨2, ![1184, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1184, .f32⟩
  | .hbm, ⟨3, _⟩ => ⟨S16384x1184, .bf16⟩
  | .hbm, ⟨4, _⟩ => ⟨S16384x96, .bf16⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1184, .f32⟩
  | .hbm, ⟨27, _⟩ => ⟨S16384x1184, .f32⟩
  | .hbm, ⟨28, _⟩ => ⟨S1184x1024, .f32⟩
  | .hbm, ⟨29, _⟩ => ⟨S1024x1184, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== FfnIn.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S1x1024 : Shape := ⟨2, ![1, 1024]⟩
abbrev S5632x1024 : Shape := ⟨2, ![5632, 1024]⟩
abbrev S512x1024 : Shape := ⟨2, ![512, 1024]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x2816, .bf16⟩
  | .hbm, ⟨4, _⟩ => ⟨S16384x2816, .bf16⟩
  | .hbm, ⟨5, _⟩ => ⟨S16384x1024, .f32⟩
  | .hbm, ⟨6, _⟩ => ⟨S1x1024, .f32⟩
  | .hbm, ⟨7, _⟩ => ⟨S1024x5632, .bf16⟩
  | .hbm, ⟨8, _⟩ => ⟨S5632x1024, .bf16⟩
  | .hbm, ⟨9, _⟩ => ⟨S16384x1024, .f32⟩
  | .hbm, ⟨10, _⟩ => ⟨S1x1024, .f32⟩
  | .hbm, ⟨11, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnInRefIdeal.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x2816, .bf16⟩
  | .hbm, ⟨4, _⟩ => ⟨S16384x2816, .bf16⟩
  | .hbm, ⟨5, _⟩ => ⟨S16384x1024, .f32⟩
  | .hbm, ⟨6, _⟩ => ⟨S16384x5632, .bf16⟩
  | .hbm, ⟨7, _⟩ => ⟨S16384x5632, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x5632, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Mixout.lean ====
abbrev S16384x1024 : Shape := ⟨2, ![16384, 1024]⟩
abbrev S16384x512 : Shape := ⟨2, ![16384, 512]⟩
abbrev S1024x1024 : Shape := ⟨2, ![1024, 1024]⟩
abbrev S4x128x128 : Shape := ⟨3, ![4, 128, 128]⟩
abbrev S512 : Shape := ⟨1, ![512]⟩
abbrev S512x16384 : Shape := ⟨2, ![512, 16384]⟩
abbrev S8x64x16x1024 : Shape := ⟨4, ![8, 64, 16, 1024]⟩
abbrev S8x16x64x1024 : Shape := ⟨4, ![8, 16, 64, 1024]⟩
abbrev S1x512 : Shape := ⟨2, ![1, 512]⟩
abbrev S8x16x8x1024 : Shape := ⟨4, ![8, 16, 8, 1024]⟩
abbrev S512x1024 : Shape := ⟨2, ![512, 1024]⟩
abbrev S64x512 : Shape := ⟨2, ![64, 512]⟩
abbrev S512x512 : Shape := ⟨2, ![512, 512]⟩
abbrev S8x1x64x512 : Shape := ⟨4, ![8, 1, 64, 512]⟩
abbrev S8x1x8x512 : Shape := ⟨4, ![8, 1, 8, 512]⟩
abbrev S640x512 : Shape := ⟨2, ![640, 512]⟩
abbrev S512x640 : Shape := ⟨2, ![512, 640]⟩
abbrev S512x1 : Shape := ⟨2, ![512, 1]⟩
abbrev S640x128 : Shape := ⟨2, ![640, 128]⟩
abbrev S640x384 : Shape := ⟨2, ![640, 384]⟩
abbrev S512x384 : Shape := ⟨2, ![512, 384]⟩
abbrev S512x128 : Shape := ⟨2, ![512, 128]⟩
abbrev S1x128x128 : Shape := ⟨3, ![1, 128, 128]⟩
abbrev S128x128 : Shape := ⟨2, ![128, 128]⟩
abbrev S8x512 : Shape := ⟨2, ![8, 512]⟩
abbrev S1x1x8x512 : Shape := ⟨4, ![1, 1, 8, 512]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .bf16⟩
  | .hbm, ⟨3, _⟩ => ⟨S1024x1024, .f32⟩
  | .hbm, ⟨4, _⟩ => ⟨S4x128x128, .f32⟩
  | .hbm, ⟨5, _⟩ => ⟨S512, .f32⟩
  | .hbm, ⟨6, _⟩ => ⟨S512x16384, .bf16⟩
  | .hbm, ⟨7, _⟩ => ⟨S8x64x16x1024, .bf16⟩
  | .hbm, ⟨8, _⟩ => ⟨S8x16x64x1024, .bf16⟩
  | .hbm, ⟨9, _⟩ => ⟨S1024x1024, .bf16⟩
  | .hbm, ⟨10, _⟩ => ⟨S4x128x128, .bf16⟩
  | .hbm, ⟨11, _⟩ => ⟨S1x512, .f32⟩
  | .hbm, ⟨12, _⟩ => ⟨S8x16x64x1024, .bf16⟩
  | .hbm, ⟨13, _⟩ => ⟨S8x16x8x1024, .f32⟩
  | .hbm, ⟨14, _⟩ => ⟨S16384x512, .f32⟩
  | .hbm, ⟨15, _⟩ => ⟨S1024x1024, .f32⟩
  | .hbm, ⟨16, _⟩ => ⟨S4x128x128, .f32⟩
  | .hbm, ⟨17, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S64x512, .f32⟩
  | .local _ .vmem, ⟨3, _⟩ => ⟨S64x512, .f32⟩
  | .local _ .vmem, ⟨4, _⟩ => ⟨S512x512, .f32⟩
  | .local _ .vmem, ⟨5, _⟩ => ⟨S512x512, .f32⟩
  | .local _ .vmem, ⟨6, _⟩ => ⟨S64x512, .f32⟩
  | .local _ .vmem, ⟨7, _⟩ => ⟨S64x512, .f32⟩
  | .local _ .vmem, ⟨8, _⟩ => ⟨S8x1x64x512, .bf16⟩
  | .local _ .vmem, ⟨9, _⟩ => ⟨S8x1x64x512, .bf16⟩
  | .local _ .vmem, ⟨10, _⟩ => ⟨S1024x1024, .bf16⟩
  | .local _ .vmem, ⟨11, _⟩ => ⟨S4x128x128, .bf16⟩
  | .local _ .vmem, ⟨12, _⟩ => ⟨S1x512, .f32⟩
  | .local _ .vmem, ⟨13, _⟩ => ⟨S8x1x64x512, .bf16⟩
  | .local _ .vmem, ⟨14, _⟩ => ⟨S8x1x64x512, .bf16⟩
  | .local _ .vmem, ⟨15, _⟩ => ⟨S8x1x8x512, .f32⟩
  | .local _ .vmem, ⟨16, _⟩ => ⟨S8x1x8x512, .f32⟩
  | .local _ .vmem, ⟨17, _⟩ => ⟨S512x512, .f32⟩
  | .local _ .vmem, ⟨18, _⟩ => ⟨S512x512, .f32⟩
  | .local _ .vmem, ⟨19, _⟩ => ⟨S1024x1024, .f32⟩
  | .local _ .vmem, ⟨20, _⟩ => ⟨S4x128x128, .f32⟩
  | .local _ .vmem, ⟨21, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixoutRefIdeal.lean ====
abbrev S16384x1024 : Shape := ⟨2, ![16384, 1024]⟩
abbrev S16384x512 : Shape := ⟨2, ![16384, 512]⟩
abbrev S1024x1024 : Shape := ⟨2, ![1024, 1024]⟩
abbrev S4x128x128 : Shape := ⟨3, ![4, 128, 128]⟩
abbrev S512 : Shape := ⟨1, ![512]⟩
abbrev S_ : Shape := ⟨0, ![]⟩
abbrev S1x512 : Shape := ⟨2, ![1, 512]⟩
abbrev S16385x512 : Shape := ⟨2, ![16385, 512]⟩
abbrev S16384 : Shape := ⟨1, ![16384]⟩
abbrev S16385x128 : Shape := ⟨2, ![16385, 128]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x1x128 : Shape := ⟨3, ![16384, 1, 128]⟩
abbrev S16384x4x128 : Shape := ⟨3, ![16384, 4, 128]⟩
abbrev S4x128x16384 : Shape := ⟨3, ![4, 128, 16384]⟩
abbrev S4x16384x128 : Shape := ⟨3, ![4, 16384, 128]⟩
abbrev S16384x8x64 : Shape := ⟨3, ![16384, 8, 64]⟩
abbrev S16384x8 : Shape := ⟨2, ![16384, 8]⟩
abbrev S512x16384 : Shape := ⟨2, ![512, 16384]⟩
abbrev S8x64x16x1024 : Shape := ⟨4, ![8, 64, 16, 1024]⟩
abbrev S8x16x64x1024 : Shape := ⟨4, ![8, 16, 64, 1024]⟩
abbrev S8x16384 : Shape := ⟨2, ![8, 16384]⟩
abbrev S8x1x16x1024 : Shape := ⟨4, ![8, 1, 16, 1024]⟩
abbrev S8x16x1x1024 : Shape := ⟨4, ![8, 16, 1, 1024]⟩
abbrev S8x16x8x1024 : Shape := ⟨4, ![8, 16, 8, 1024]⟩

abbrev nBuf : Space → Nat
  | .hbm => 374
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .bf16⟩
  | 3 => ⟨S1024x1024, .f32⟩
  | 4 => ⟨S4x128x128, .f32⟩
  | 5 => ⟨S512, .f32⟩
  | 6 => ⟨S16384x512, .f32⟩
  | 7 => ⟨S_, .f32⟩
  | 8 => ⟨S1x512, .f32⟩
  | 9 => ⟨S_, .f32⟩
  | 10 => ⟨S_, .f32⟩
  | 11 => ⟨S16384x512, .f32⟩
  | 12 => ⟨S16385x512, .f32⟩
  | 13 => ⟨S16384, .i32⟩
  | 14 => ⟨S_, .i32⟩
  | 15 => ⟨S16384, .i32⟩
  | 16 => ⟨S16384, .i32⟩
  | 17 => ⟨S_, .i32⟩
  | 18 => ⟨S_, .i32⟩
  | 19 => ⟨S_, .i32⟩
  | 20 => ⟨S16384, .i32⟩
  | 21 => ⟨S16384, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S_, .i32⟩
  | 32 => ⟨S_, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16385x128, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x128, .f32⟩
  | 59 => ⟨S16384x128, .i1⟩
  | 60 => ⟨S_, .f32⟩
  | 61 => ⟨S16384x128, .f32⟩
  | 62 => ⟨S16384x128, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x128, .f32⟩
  | 82 => ⟨S16384x128, .i1⟩
  | 83 => ⟨S_, .f32⟩
  | 84 => ⟨S16384x128, .f32⟩
  | 85 => ⟨S16384x128, .f32⟩
  | 86 => ⟨S16384x128, .f32⟩
  | 87 => ⟨S16384, .i32⟩
  | 88 => ⟨S16384, .f32⟩
  | 89 => ⟨S16384x1, .f32⟩
  | 90 => ⟨S16384x128, .f32⟩
  | 91 => ⟨S16384x128, .f32⟩
  | 92 => ⟨S_, .i32⟩
  | 93 => ⟨S16384, .i32⟩
  | 94 => ⟨S16384, .i32⟩
  | 95 => ⟨S_, .i32⟩
  | 96 => ⟨S_, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i32⟩
  | 103 => ⟨S_, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S_, .i32⟩
  | 111 => ⟨S_, .i32⟩
  | 112 => ⟨S16384, .i32⟩
  | 113 => ⟨S16384, .i32⟩
  | 114 => ⟨S_, .i32⟩
  | 115 => ⟨S16384, .i32⟩
  | 116 => ⟨S16384, .i32⟩
  | 117 => ⟨S16385x128, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S1, .i32⟩
  | 127 => ⟨S_, .i32⟩
  | _ => ⟨S16384x1024, .f32⟩

abbrev hbmTy0_1 (i : Nat) : BufTy := match i % 128 with
  | 0 => ⟨S16384x1, .i32⟩
  | 1 => ⟨S16384x1, .i1⟩
  | 2 => ⟨S1x1, .i32⟩
  | 3 => ⟨S16384x1, .i32⟩
  | 4 => ⟨S16384x1, .i1⟩
  | 5 => ⟨S16384x1, .i1⟩
  | 6 => ⟨S_, .i1⟩
  | 7 => ⟨S16384, .i1⟩
  | 8 => ⟨S16384x128, .f32⟩
  | 9 => ⟨S16384x128, .i1⟩
  | 10 => ⟨S_, .f32⟩
  | 11 => ⟨S16384x128, .f32⟩
  | 12 => ⟨S16384x128, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x128, .f32⟩
  | 32 => ⟨S16384x128, .i1⟩
  | 33 => ⟨S_, .f32⟩
  | 34 => ⟨S16384x128, .f32⟩
  | 35 => ⟨S16384x128, .f32⟩
  | 36 => ⟨S16384x128, .f32⟩
  | 37 => ⟨S16384, .i32⟩
  | 38 => ⟨S16384, .f32⟩
  | 39 => ⟨S16384x1, .f32⟩
  | 40 => ⟨S16384x128, .f32⟩
  | 41 => ⟨S16384x128, .f32⟩
  | 42 => ⟨S_, .i32⟩
  | 43 => ⟨S16384, .i32⟩
  | 44 => ⟨S16384, .i32⟩
  | 45 => ⟨S_, .i32⟩
  | 46 => ⟨S_, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S_, .i32⟩
  | 57 => ⟨S16384, .i32⟩
  | 58 => ⟨S16384, .i32⟩
  | 59 => ⟨S_, .i32⟩
  | 60 => ⟨S_, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i32⟩
  | 67 => ⟨S16385x128, .f32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S1, .i32⟩
  | 77 => ⟨S_, .i32⟩
  | 78 => ⟨S16384x1, .i32⟩
  | 79 => ⟨S16384x1, .i1⟩
  | 80 => ⟨S1x1, .i32⟩
  | 81 => ⟨S16384x1, .i32⟩
  | 82 => ⟨S16384x1, .i1⟩
  | 83 => ⟨S16384x1, .i1⟩
  | 84 => ⟨S_, .i1⟩
  | 85 => ⟨S16384, .i1⟩
  | 86 => ⟨S16384x128, .f32⟩
  | 87 => ⟨S16384x128, .i1⟩
  | 88 => ⟨S_, .f32⟩
  | 89 => ⟨S16384x128, .f32⟩
  | 90 => ⟨S16384x128, .f32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S1, .i32⟩
  | 100 => ⟨S_, .i32⟩
  | 101 => ⟨S16384x1, .i32⟩
  | 102 => ⟨S16384x1, .i1⟩
  | 103 => ⟨S1x1, .i32⟩
  | 104 => ⟨S16384x1, .i32⟩
  | 105 => ⟨S16384x1, .i1⟩
  | 106 => ⟨S16384x1, .i1⟩
  | 107 => ⟨S_, .i1⟩
  | 108 => ⟨S16384, .i1⟩
  | 109 => ⟨S16384x128, .f32⟩
  | 110 => ⟨S16384x128, .i1⟩
  | 111 => ⟨S_, .f32⟩
  | 112 => ⟨S16384x128, .f32⟩
  | 113 => ⟨S16384x128, .f32⟩
  | 114 => ⟨S16384x128, .f32⟩
  | 115 => ⟨S16384, .i32⟩
  | 116 => ⟨S16384, .f32⟩
  | 117 => ⟨S16384x1, .f32⟩
  | 118 => ⟨S16384x128, .f32⟩
  | 119 => ⟨S16384x128, .f32⟩
  | 120 => ⟨S_, .i32⟩
  | 121 => ⟨S16384, .i32⟩
  | 122 => ⟨S16384, .i32⟩
  | 123 => ⟨S_, .i32⟩
  | 124 => ⟨S_, .i32⟩
  | 125 => ⟨S_, .i32⟩
  | 126 => ⟨S16384, .i32⟩
  | 127 => ⟨S16384, .i32⟩
  | _ => ⟨S16384x1024, .f32⟩

abbrev hbmTy0_2 (i : Nat) : BufTy := match i % 128 with
  | 0 => ⟨S_, .i32⟩
  | 1 => ⟨S16384, .i32⟩
  | 2 => ⟨S16384, .i32⟩
  | 3 => ⟨S_, .i32⟩
  | 4 => ⟨S16384, .i32⟩
  | 5 => ⟨S16384, .i32⟩
  | 6 => ⟨S_, .i32⟩
  | 7 => ⟨S16384, .i32⟩
  | 8 => ⟨S16384, .i32⟩
  | 9 => ⟨S_, .i32⟩
  | 10 => ⟨S_, .i32⟩
  | 11 => ⟨S_, .i32⟩
  | 12 => ⟨S16384, .i32⟩
  | 13 => ⟨S16384, .i32⟩
  | 14 => ⟨S_, .i32⟩
  | 15 => ⟨S16384, .i32⟩
  | 16 => ⟨S16384, .i32⟩
  | 17 => ⟨S16385x128, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S1, .i32⟩
  | 27 => ⟨S_, .i32⟩
  | 28 => ⟨S16384x1, .i32⟩
  | 29 => ⟨S16384x1, .i1⟩
  | 30 => ⟨S1x1, .i32⟩
  | 31 => ⟨S16384x1, .i32⟩
  | 32 => ⟨S16384x1, .i1⟩
  | 33 => ⟨S16384x1, .i1⟩
  | 34 => ⟨S_, .i1⟩
  | 35 => ⟨S16384, .i1⟩
  | 36 => ⟨S16384x128, .f32⟩
  | 37 => ⟨S16384x128, .i1⟩
  | 38 => ⟨S_, .f32⟩
  | 39 => ⟨S16384x128, .f32⟩
  | 40 => ⟨S16384x128, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x128, .f32⟩
  | 60 => ⟨S16384x128, .i1⟩
  | 61 => ⟨S_, .f32⟩
  | 62 => ⟨S16384x128, .f32⟩
  | 63 => ⟨S16384x128, .f32⟩
  | 64 => ⟨S16384x128, .f32⟩
  | 65 => ⟨S16384, .i32⟩
  | 66 => ⟨S16384, .f32⟩
  | 67 => ⟨S16384x1, .f32⟩
  | 68 => ⟨S16384x128, .f32⟩
  | 69 => ⟨S16384x128, .f32⟩
  | 70 => ⟨S16384x1x128, .f32⟩
  | 71 => ⟨S16384x1x128, .f32⟩
  | 72 => ⟨S16384x1x128, .f32⟩
  | 73 => ⟨S16384x1x128, .f32⟩
  | 74 => ⟨S16384x4x128, .f32⟩
  | 75 => ⟨S16384x4x128, .f32⟩
  | 76 => ⟨S16384x4x128, .f32⟩
  | 77 => ⟨S4x128x16384, .f32⟩
  | 78 => ⟨S16384x4x128, .f32⟩
  | 79 => ⟨S16384x512, .f32⟩
  | 80 => ⟨S1x512, .f32⟩
  | 81 => ⟨S16384x512, .f32⟩
  | 82 => ⟨S16384x512, .f32⟩
  | 83 => ⟨S16384x1024, .f32⟩
  | 84 => ⟨S16384x1024, .f32⟩
  | 85 => ⟨S1024x1024, .f32⟩
  | 86 => ⟨S1024x1024, .f32⟩
  | 87 => ⟨S16384x1024, .f32⟩
  | 88 => ⟨S16384x512, .f32⟩
  | 89 => ⟨S16384x512, .f32⟩
  | 90 => ⟨S16384x512, .f32⟩
  | 91 => ⟨S_, .f32⟩
  | 92 => ⟨S512, .f32⟩
  | 93 => ⟨S1x512, .f32⟩
  | 94 => ⟨S16384x512, .f32⟩
  | 95 => ⟨S16384x512, .f32⟩
  | 96 => ⟨S_, .f32⟩
  | 97 => ⟨S512, .f32⟩
  | 98 => ⟨S16384x4x128, .f32⟩
  | 99 => ⟨S4x128x16384, .f32⟩
  | 100 => ⟨S4x16384x128, .f32⟩
  | 101 => ⟨S16384x4x128, .f32⟩
  | 102 => ⟨S4x128x128, .f32⟩
  | 103 => ⟨S4x128x128, .f32⟩
  | 104 => ⟨S16384x512, .f32⟩
  | 105 => ⟨S16384x8x64, .f32⟩
  | 106 => ⟨S_, .f32⟩
  | 107 => ⟨S16384x8, .f32⟩
  | 108 => ⟨S512x16384, .f32⟩
  | 109 => ⟨S8x64x16x1024, .f32⟩
  | 110 => ⟨S8x16x64x1024, .f32⟩
  | 111 => ⟨S8x16x64x1024, .bf16⟩
  | 112 => ⟨S8x16384, .f32⟩
  | 113 => ⟨S8x1x16x1024, .f32⟩
  | 114 => ⟨S8x16x1x1024, .f32⟩
  | 115 => ⟨S8x16x8x1024, .f32⟩
  | 116 => ⟨S16384x512, .f32⟩
  | 117 => ⟨S1x512, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v12 : Ref sig .tc := ⟨.hbm, 38, rfl⟩
abbrev main_v13 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_v14 : Ref sig .tc := ⟨.hbm, 59, rfl⟩
abbrev main_call3_cst : Ref sig .tc := ⟨.hbm, 60, rfl⟩
abbrev main_call3_v15 : Ref sig .tc := ⟨.hbm, 61, rfl⟩
abbrev main_v14 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_call4_cst : Ref sig .tc := ⟨.hbm, 83, rfl⟩
abbrev main_call4_v15 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_c_6 : Ref sig .tc := ⟨.hbm, 92, rfl⟩
abbrev main_v22 : Ref sig .tc := ⟨.hbm, 93, rfl⟩
abbrev main_v23 : Ref sig .tc := ⟨.hbm, 94, rfl⟩
abbrev main_c_7 : Ref sig .tc := ⟨.hbm, 95, rfl⟩
abbrev main_c_8 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v24 : Ref sig .tc := ⟨.hbm, 102, rfl⟩
abbrev main_c_9 : Ref sig .tc := ⟨.hbm, 103, rfl⟩
abbrev main_v25 : Ref sig .tc := ⟨.hbm, 104, rfl⟩
abbrev main_v26 : Ref sig .tc := ⟨.hbm, 105, rfl⟩
abbrev main_c_10 : Ref sig .tc := ⟨.hbm, 106, rfl⟩
abbrev main_v27 : Ref sig .tc := ⟨.hbm, 107, rfl⟩
abbrev main_v28 : Ref sig .tc := ⟨.hbm, 108, rfl⟩
abbrev main_c_11 : Ref sig .tc := ⟨.hbm, 109, rfl⟩
abbrev main_c_12 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_v29 : Ref sig .tc := ⟨.hbm, 116, rfl⟩
abbrev main_v30 : Ref sig .tc := ⟨.hbm, 117, rfl⟩
abbrev main_call7_c : Ref sig .tc := ⟨.hbm, 118, rfl⟩
abbrev main_call7_v0 : Ref sig .tc := ⟨.hbm, 119, rfl⟩
abbrev main_call7_v1 : Ref sig .tc := ⟨.hbm, 120, rfl⟩
abbrev main_call7_c_0 : Ref sig .tc := ⟨.hbm, 121, rfl⟩
abbrev main_call7_v2 : Ref sig .tc := ⟨.hbm, 122, rfl⟩
abbrev main_call7_v3 : Ref sig .tc := ⟨.hbm, 123, rfl⟩
abbrev main_call7_v4 : Ref sig .tc := ⟨.hbm, 124, rfl⟩
abbrev main_call7_v5 : Ref sig .tc := ⟨.hbm, 125, rfl⟩
abbrev main_call7_c_1 : Ref sig .tc := ⟨.hbm, 126, rfl⟩
abbrev main_call7_c_2 : Ref sig .tc := ⟨.hbm, 127, rfl⟩
abbrev main_call7_v6 : Ref sig .tc := ⟨.hbm, 128, rfl⟩
abbrev main_call7_v7 : Ref sig .tc := ⟨.hbm, 129, rfl⟩
abbrev main_call7_v8 : Ref sig .tc := ⟨.hbm, 130, rfl⟩
abbrev main_call7_v9 : Ref sig .tc := ⟨.hbm, 131, rfl⟩
abbrev main_call7_v10 : Ref sig .tc := ⟨.hbm, 132, rfl⟩
abbrev main_call7_v11 : Ref sig .tc := ⟨.hbm, 133, rfl⟩
abbrev main_call7_c_3 : Ref sig .tc := ⟨.hbm, 134, rfl⟩
abbrev main_call7_v12 : Ref sig .tc := ⟨.hbm, 135, rfl⟩
abbrev main_call7_v13 : Ref sig .tc := ⟨.hbm, 136, rfl⟩
abbrev main_call7_v14 : Ref sig .tc := ⟨.hbm, 137, rfl⟩
abbrev main_call7_cst : Ref sig .tc := ⟨.hbm, 138, rfl⟩
abbrev main_call7_v15 : Ref sig .tc := ⟨.hbm, 139, rfl⟩
abbrev main_v31 : Ref sig .tc := ⟨.hbm, 140, rfl⟩
abbrev main_call8_c : Ref sig .tc := ⟨.hbm, 141, rfl⟩
abbrev main_call8_v0 : Ref sig .tc := ⟨.hbm, 142, rfl⟩
abbrev main_call8_v1 : Ref sig .tc := ⟨.hbm, 143, rfl⟩
abbrev main_call8_c_0 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_call8_v5 : Ref sig .tc := ⟨.hbm, 148, rfl⟩
abbrev main_call8_c_1 : Ref sig .tc := ⟨.hbm, 149, rfl⟩
abbrev main_call8_c_2 : Ref sig .tc := ⟨.hbm, 150, rfl⟩
abbrev main_call8_v6 : Ref sig .tc := ⟨.hbm, 151, rfl⟩
abbrev main_call8_v7 : Ref sig .tc := ⟨.hbm, 152, rfl⟩
abbrev main_call8_v8 : Ref sig .tc := ⟨.hbm, 153, rfl⟩
abbrev main_call8_v9 : Ref sig .tc := ⟨.hbm, 154, rfl⟩
abbrev main_call8_v10 : Ref sig .tc := ⟨.hbm, 155, rfl⟩
abbrev main_call8_v11 : Ref sig .tc := ⟨.hbm, 156, rfl⟩
abbrev main_call8_c_3 : Ref sig .tc := ⟨.hbm, 157, rfl⟩
abbrev main_call8_v12 : Ref sig .tc := ⟨.hbm, 158, rfl⟩
abbrev main_call8_v13 : Ref sig .tc := ⟨.hbm, 159, rfl⟩
abbrev main_call8_v14 : Ref sig .tc := ⟨.hbm, 160, rfl⟩
abbrev main_call8_cst : Ref sig .tc := ⟨.hbm, 161, rfl⟩
abbrev main_call8_v15 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_v36 : Ref sig .tc := ⟨.hbm, 167, rfl⟩
abbrev main_v37 : Ref sig .tc := ⟨.hbm, 168, rfl⟩
abbrev main_v38 : Ref sig .tc := ⟨.hbm, 169, rfl⟩
abbrev main_c_13 : Ref sig .tc := ⟨.hbm, 170, rfl⟩
abbrev main_v39 : Ref sig .tc := ⟨.hbm, 171, rfl⟩
abbrev main_v40 : Ref sig .tc := ⟨.hbm, 172, rfl⟩
abbrev main_c_14 : Ref sig .tc := ⟨.hbm, 173, rfl⟩
abbrev main_c_15 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_call9_v3 : Ref sig .tc := ⟨.hbm, 178, rfl⟩
abbrev main_call9_v4 : Ref sig .tc := ⟨.hbm, 179, rfl⟩
abbrev main_v41 : Ref sig .tc := ⟨.hbm, 180, rfl⟩
abbrev main_c_16 : Ref sig .tc := ⟨.hbm, 181, rfl⟩
abbrev main_v42 : Ref sig .tc := ⟨.hbm, 182, rfl⟩
abbrev main_v43 : Ref sig .tc := ⟨.hbm, 183, rfl⟩
abbrev main_c_17 : Ref sig .tc := ⟨.hbm, 184, rfl⟩
abbrev main_v44 : Ref sig .tc := ⟨.hbm, 185, rfl⟩
abbrev main_v45 : Ref sig .tc := ⟨.hbm, 186, rfl⟩
abbrev main_c_18 : Ref sig .tc := ⟨.hbm, 187, rfl⟩
abbrev main_c_19 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_call10_v3 : Ref sig .tc := ⟨.hbm, 192, rfl⟩
abbrev main_call10_v4 : Ref sig .tc := ⟨.hbm, 193, rfl⟩
abbrev main_v46 : Ref sig .tc := ⟨.hbm, 194, rfl⟩
abbrev main_v47 : Ref sig .tc := ⟨.hbm, 195, rfl⟩
abbrev main_call11_c : Ref sig .tc := ⟨.hbm, 196, rfl⟩
abbrev main_call11_v0 : Ref sig .tc := ⟨.hbm, 197, rfl⟩
abbrev main_call11_v1 : Ref sig .tc := ⟨.hbm, 198, rfl⟩
abbrev main_call11_c_0 : Ref sig .tc := ⟨.hbm, 199, rfl⟩
abbrev main_call11_v2 : Ref sig .tc := ⟨.hbm, 200, rfl⟩
abbrev main_call11_v3 : Ref sig .tc := ⟨.hbm, 201, rfl⟩
abbrev main_call11_v4 : Ref sig .tc := ⟨.hbm, 202, rfl⟩
abbrev main_call11_v5 : Ref sig .tc := ⟨.hbm, 203, rfl⟩
abbrev main_call11_c_1 : Ref sig .tc := ⟨.hbm, 204, rfl⟩
abbrev main_call11_c_2 : Ref sig .tc := ⟨.hbm, 205, rfl⟩
abbrev main_call11_v6 : Ref sig .tc := ⟨.hbm, 206, rfl⟩
abbrev main_call11_v7 : Ref sig .tc := ⟨.hbm, 207, rfl⟩
abbrev main_call11_v8 : Ref sig .tc := ⟨.hbm, 208, rfl⟩
abbrev main_call11_v9 : Ref sig .tc := ⟨.hbm, 209, rfl⟩
abbrev main_call11_v10 : Ref sig .tc := ⟨.hbm, 210, rfl⟩
abbrev main_call11_v11 : Ref sig .tc := ⟨.hbm, 211, rfl⟩
abbrev main_call11_c_3 : Ref sig .tc := ⟨.hbm, 212, rfl⟩
abbrev main_call11_v12 : Ref sig .tc := ⟨.hbm, 213, rfl⟩
abbrev main_call11_v13 : Ref sig .tc := ⟨.hbm, 214, rfl⟩
abbrev main_call11_v14 : Ref sig .tc := ⟨.hbm, 215, rfl⟩
abbrev main_call11_cst : Ref sig .tc := ⟨.hbm, 216, rfl⟩
abbrev main_call11_v15 : Ref sig .tc := ⟨.hbm, 217, rfl⟩
abbrev main_v48 : Ref sig .tc := ⟨.hbm, 218, rfl⟩
abbrev main_call12_c : Ref sig .tc := ⟨.hbm, 219, rfl⟩
abbrev main_call12_v0 : Ref sig .tc := ⟨.hbm, 220, rfl⟩
abbrev main_call12_v1 : Ref sig .tc := ⟨.hbm, 221, rfl⟩
abbrev main_call12_c_0 : Ref sig .tc := ⟨.hbm, 222, rfl⟩
abbrev main_call12_v2 : Ref sig .tc := ⟨.hbm, 223, rfl⟩
abbrev main_call12_v3 : Ref sig .tc := ⟨.hbm, 224, rfl⟩
abbrev main_call12_v4 : Ref sig .tc := ⟨.hbm, 225, rfl⟩
abbrev main_call12_v5 : Ref sig .tc := ⟨.hbm, 226, rfl⟩
abbrev main_call12_c_1 : Ref sig .tc := ⟨.hbm, 227, rfl⟩
abbrev main_call12_c_2 : Ref sig .tc := ⟨.hbm, 228, rfl⟩
abbrev main_call12_v6 : Ref sig .tc := ⟨.hbm, 229, rfl⟩
abbrev main_call12_v7 : Ref sig .tc := ⟨.hbm, 230, rfl⟩
abbrev main_call12_v8 : Ref sig .tc := ⟨.hbm, 231, rfl⟩
abbrev main_call12_v9 : Ref sig .tc := ⟨.hbm, 232, rfl⟩
abbrev main_call12_v10 : Ref sig .tc := ⟨.hbm, 233, rfl⟩
abbrev main_call12_v11 : Ref sig .tc := ⟨.hbm, 234, rfl⟩
abbrev main_call12_c_3 : Ref sig .tc := ⟨.hbm, 235, rfl⟩
abbrev main_call12_v12 : Ref sig .tc := ⟨.hbm, 236, rfl⟩
abbrev main_call12_v13 : Ref sig .tc := ⟨.hbm, 237, rfl⟩
abbrev main_call12_v14 : Ref sig .tc := ⟨.hbm, 238, rfl⟩
abbrev main_call12_cst : Ref sig .tc := ⟨.hbm, 239, rfl⟩
abbrev main_call12_v15 : Ref sig .tc := ⟨.hbm, 240, rfl⟩
abbrev main_v49 : Ref sig .tc := ⟨.hbm, 241, rfl⟩
abbrev main_v50 : Ref sig .tc := ⟨.hbm, 242, rfl⟩
abbrev main_v51 : Ref sig .tc := ⟨.hbm, 243, rfl⟩
abbrev main_v52 : Ref sig .tc := ⟨.hbm, 244, rfl⟩
abbrev main_v53 : Ref sig .tc := ⟨.hbm, 245, rfl⟩
abbrev main_v54 : Ref sig .tc := ⟨.hbm, 246, rfl⟩
abbrev main_v55 : Ref sig .tc := ⟨.hbm, 247, rfl⟩
abbrev main_c_20 : Ref sig .tc := ⟨.hbm, 248, rfl⟩
abbrev main_v56 : Ref sig .tc := ⟨.hbm, 249, rfl⟩
abbrev main_v57 : Ref sig .tc := ⟨.hbm, 250, rfl⟩
abbrev main_c_21 : Ref sig .tc := ⟨.hbm, 251, rfl⟩
abbrev main_c_22 : Ref sig .tc := ⟨.hbm, 252, rfl⟩
abbrev main_call13_v0 : Ref sig .tc := ⟨.hbm, 253, rfl⟩
abbrev main_call13_v1 : Ref sig .tc := ⟨.hbm, 254, rfl⟩
abbrev main_call13_v2 : Ref sig .tc := ⟨.hbm, 255, rfl⟩
abbrev main_call13_v3 : Ref sig .tc := ⟨.hbm, 256, rfl⟩
abbrev main_call13_v4 : Ref sig .tc := ⟨.hbm, 257, rfl⟩
abbrev main_v58 : Ref sig .tc := ⟨.hbm, 258, rfl⟩
abbrev main_c_23 : Ref sig .tc := ⟨.hbm, 259, rfl⟩
abbrev main_v59 : Ref sig .tc := ⟨.hbm, 260, rfl⟩
abbrev main_v60 : Ref sig .tc := ⟨.hbm, 261, rfl⟩
abbrev main_c_24 : Ref sig .tc := ⟨.hbm, 262, rfl⟩
abbrev main_v61 : Ref sig .tc := ⟨.hbm, 263, rfl⟩
abbrev main_v62 : Ref sig .tc := ⟨.hbm, 264, rfl⟩
abbrev main_c_25 : Ref sig .tc := ⟨.hbm, 265, rfl⟩
abbrev main_c_26 : Ref sig .tc := ⟨.hbm, 266, rfl⟩
abbrev main_call14_v0 : Ref sig .tc := ⟨.hbm, 267, rfl⟩
abbrev main_call14_v1 : Ref sig .tc := ⟨.hbm, 268, rfl⟩
abbrev main_call14_v2 : Ref sig .tc := ⟨.hbm, 269, rfl⟩
abbrev main_call14_v3 : Ref sig .tc := ⟨.hbm, 270, rfl⟩
abbrev main_call14_v4 : Ref sig .tc := ⟨.hbm, 271, rfl⟩
abbrev main_v63 : Ref sig .tc := ⟨.hbm, 272, rfl⟩
abbrev main_v64 : Ref sig .tc := ⟨.hbm, 273, rfl⟩
abbrev main_call15_c : Ref sig .tc := ⟨.hbm, 274, rfl⟩
abbrev main_call15_v0 : Ref sig .tc := ⟨.hbm, 275, rfl⟩
abbrev main_call15_v1 : Ref sig .tc := ⟨.hbm, 276, rfl⟩
abbrev main_call15_c_0 : Ref sig .tc := ⟨.hbm, 277, rfl⟩
abbrev main_call15_v2 : Ref sig .tc := ⟨.hbm, 278, rfl⟩
abbrev main_call15_v3 : Ref sig .tc := ⟨.hbm, 279, rfl⟩
abbrev main_call15_v4 : Ref sig .tc := ⟨.hbm, 280, rfl⟩
abbrev main_call15_v5 : Ref sig .tc := ⟨.hbm, 281, rfl⟩
abbrev main_call15_c_1 : Ref sig .tc := ⟨.hbm, 282, rfl⟩
abbrev main_call15_c_2 : Ref sig .tc := ⟨.hbm, 283, rfl⟩
abbrev main_call15_v6 : Ref sig .tc := ⟨.hbm, 284, rfl⟩
abbrev main_call15_v7 : Ref sig .tc := ⟨.hbm, 285, rfl⟩
abbrev main_call15_v8 : Ref sig .tc := ⟨.hbm, 286, rfl⟩
abbrev main_call15_v9 : Ref sig .tc := ⟨.hbm, 287, rfl⟩
abbrev main_call15_v10 : Ref sig .tc := ⟨.hbm, 288, rfl⟩
abbrev main_call15_v11 : Ref sig .tc := ⟨.hbm, 289, rfl⟩
abbrev main_call15_c_3 : Ref sig .tc := ⟨.hbm, 290, rfl⟩
abbrev main_call15_v12 : Ref sig .tc := ⟨.hbm, 291, rfl⟩
abbrev main_call15_v13 : Ref sig .tc := ⟨.hbm, 292, rfl⟩
abbrev main_call15_v14 : Ref sig .tc := ⟨.hbm, 293, rfl⟩
abbrev main_call15_cst : Ref sig .tc := ⟨.hbm, 294, rfl⟩
abbrev main_call15_v15 : Ref sig .tc := ⟨.hbm, 295, rfl⟩
abbrev main_v65 : Ref sig .tc := ⟨.hbm, 296, rfl⟩
abbrev main_call16_c : Ref sig .tc := ⟨.hbm, 297, rfl⟩
abbrev main_call16_v0 : Ref sig .tc := ⟨.hbm, 298, rfl⟩
abbrev main_call16_v1 : Ref sig .tc := ⟨.hbm, 299, rfl⟩
abbrev main_call16_c_0 : Ref sig .tc := ⟨.hbm, 300, rfl⟩
abbrev main_call16_v2 : Ref sig .tc := ⟨.hbm, 301, rfl⟩
abbrev main_call16_v3 : Ref sig .tc := ⟨.hbm, 302, rfl⟩
abbrev main_call16_v4 : Ref sig .tc := ⟨.hbm, 303, rfl⟩
abbrev main_call16_v5 : Ref sig .tc := ⟨.hbm, 304, rfl⟩
abbrev main_call16_c_1 : Ref sig .tc := ⟨.hbm, 305, rfl⟩
abbrev main_call16_c_2 : Ref sig .tc := ⟨.hbm, 306, rfl⟩
abbrev main_call16_v6 : Ref sig .tc := ⟨.hbm, 307, rfl⟩
abbrev main_call16_v7 : Ref sig .tc := ⟨.hbm, 308, rfl⟩
abbrev main_call16_v8 : Ref sig .tc := ⟨.hbm, 309, rfl⟩
abbrev main_call16_v9 : Ref sig .tc := ⟨.hbm, 310, rfl⟩
abbrev main_call16_v10 : Ref sig .tc := ⟨.hbm, 311, rfl⟩
abbrev main_call16_v11 : Ref sig .tc := ⟨.hbm, 312, rfl⟩
abbrev main_call16_c_3 : Ref sig .tc := ⟨.hbm, 313, rfl⟩
abbrev main_call16_v12 : Ref sig .tc := ⟨.hbm, 314, rfl⟩
abbrev main_call16_v13 : Ref sig .tc := ⟨.hbm, 315, rfl⟩
abbrev main_call16_v14 : Ref sig .tc := ⟨.hbm, 316, rfl⟩
abbrev main_call16_cst : Ref sig .tc := ⟨.hbm, 317, rfl⟩
abbrev main_call16_v15 : Ref sig .tc := ⟨.hbm, 318, rfl⟩
abbrev main_v66 : Ref sig .tc := ⟨.hbm, 319, rfl⟩
abbrev main_v67 : Ref sig .tc := ⟨.hbm, 320, rfl⟩
abbrev main_v68 : Ref sig .tc := ⟨.hbm, 321, rfl⟩
abbrev main_v69 : Ref sig .tc := ⟨.hbm, 322, rfl⟩
abbrev main_v70 : Ref sig .tc := ⟨.hbm, 323, rfl⟩
abbrev main_v71 : Ref sig .tc := ⟨.hbm, 324, rfl⟩
abbrev main_v72 : Ref sig .tc := ⟨.hbm, 325, rfl⟩
abbrev main_v73 : Ref sig .tc := ⟨.hbm, 326, rfl⟩
abbrev main_v74 : Ref sig .tc := ⟨.hbm, 327, rfl⟩
abbrev main_v75 : Ref sig .tc := ⟨.hbm, 328, rfl⟩
abbrev main_v76 : Ref sig .tc := ⟨.hbm, 329, rfl⟩
abbrev main_v77 : Ref sig .tc := ⟨.hbm, 330, rfl⟩
abbrev main_v78 : Ref sig .tc := ⟨.hbm, 331, rfl⟩
abbrev main_v79 : Ref sig .tc := ⟨.hbm, 332, rfl⟩
abbrev main_v80 : Ref sig .tc := ⟨.hbm, 333, rfl⟩
abbrev main_v81 : Ref sig .tc := ⟨.hbm, 334, rfl⟩
abbrev main_v82 : Ref sig .tc := ⟨.hbm, 335, rfl⟩
abbrev main_v83 : Ref sig .tc := ⟨.hbm, 336, rfl⟩
abbrev main_v84 : Ref sig .tc := ⟨.hbm, 337, rfl⟩
abbrev main_v85 : Ref sig .tc := ⟨.hbm, 338, rfl⟩
abbrev main_v86 : Ref sig .tc := ⟨.hbm, 339, rfl⟩
abbrev main_v87 : Ref sig .tc := ⟨.hbm, 340, rfl⟩
abbrev main_v88 : Ref sig .tc := ⟨.hbm, 341, rfl⟩
abbrev main_v89 : Ref sig .tc := ⟨.hbm, 342, rfl⟩
abbrev main_v90 : Ref sig .tc := ⟨.hbm, 343, rfl⟩
abbrev main_v91 : Ref sig .tc := ⟨.hbm, 344, rfl⟩
abbrev main_v92 : Ref sig .tc := ⟨.hbm, 345, rfl⟩
abbrev main_v93 : Ref sig .tc := ⟨.hbm, 346, rfl⟩
abbrev main_cst_27 : Ref sig .tc := ⟨.hbm, 347, rfl⟩
abbrev main_v94 : Ref sig .tc := ⟨.hbm, 348, rfl⟩
abbrev main_v95 : Ref sig .tc := ⟨.hbm, 349, rfl⟩
abbrev main_v96 : Ref sig .tc := ⟨.hbm, 350, rfl⟩
abbrev main_v97 : Ref sig .tc := ⟨.hbm, 351, rfl⟩
abbrev main_cst_28 : Ref sig .tc := ⟨.hbm, 352, rfl⟩
abbrev main_v98 : Ref sig .tc := ⟨.hbm, 353, rfl⟩
abbrev main_v99 : Ref sig .tc := ⟨.hbm, 354, rfl⟩
abbrev main_v100 : Ref sig .tc := ⟨.hbm, 355, rfl⟩
abbrev main_v101 : Ref sig .tc := ⟨.hbm, 356, rfl⟩
abbrev main_v102 : Ref sig .tc := ⟨.hbm, 357, rfl⟩
abbrev main_v103 : Ref sig .tc := ⟨.hbm, 358, rfl⟩
abbrev main_v104 : Ref sig .tc := ⟨.hbm, 359, rfl⟩
abbrev main_v105 : Ref sig .tc := ⟨.hbm, 360, rfl⟩
abbrev main_v106 : Ref sig .tc := ⟨.hbm, 361, rfl⟩
abbrev main_cst_29 : Ref sig .tc := ⟨.hbm, 362, rfl⟩
abbrev main_v107 : Ref sig .tc := ⟨.hbm, 363, rfl⟩
abbrev main_v108 : Ref sig .tc := ⟨.hbm, 364, rfl⟩
abbrev main_v109 : Ref sig .tc := ⟨.hbm, 365, rfl⟩
abbrev main_v110 : Ref sig .tc := ⟨.hbm, 366, rfl⟩
abbrev main_v111 : Ref sig .tc := ⟨.hbm, 367, rfl⟩
abbrev main_v112 : Ref sig .tc := ⟨.hbm, 368, rfl⟩
abbrev main_v113 : Ref sig .tc := ⟨.hbm, 369, rfl⟩
abbrev main_v114 : Ref sig .tc := ⟨.hbm, 370, rfl⟩
abbrev main_v115 : Ref sig .tc := ⟨.hbm, 371, rfl⟩
abbrev main_v116 : Ref sig .tc := ⟨.hbm, 372, rfl⟩
abbrev main_v117 : Ref sig .tc := ⟨.hbm, 373, rfl⟩

abbrev nD : Nat := 1
abbrev τ : Topo := Topo.v7x

variable {F : FTy → Type} [FloatOps F]
-- ==== Attn.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x8x128 : Shape := ⟨3, ![16384, 8, 128]⟩
abbrev S16384x1024 : Shape := ⟨2, ![16384, 1024]⟩
abbrev S8x64x16x1024 : Shape := ⟨4, ![8, 64, 16, 1024]⟩
abbrev S8x16x64x1024 : Shape := ⟨4, ![8, 16, 64, 1024]⟩
abbrev S8x16x1x1024 : Shape := ⟨4, ![8, 16, 1, 1024]⟩
abbrev S8x16x8x1024 : Shape := ⟨4, ![8, 16, 8, 1024]⟩
abbrev S8x16x128x1024 : Shape := ⟨4, ![8, 16, 128, 1024]⟩
abbrev S1024x128 : Shape := ⟨2, ![1024, 128]⟩
abbrev S1x1x64x1024 : Shape := ⟨4, ![1, 1, 64, 1024]⟩
abbrev S16384x128 : Shape := ⟨2, ![16384, 128]⟩
abbrev S1x16x64x1024 : Shape := ⟨4, ![1, 16, 64, 1024]⟩
abbrev S1x16x8x1024 : Shape := ⟨4, ![1, 16, 8, 1024]⟩
abbrev S1x16x128x1024 : Shape := ⟨4, ![1, 16, 128, 1024]⟩
abbrev S128x1024 : Shape := ⟨2, ![128, 1024]⟩
abbrev S64x1024 : Shape := ⟨2, ![64, 1024]⟩
abbrev S1024x1024 : Shape := ⟨2, ![1024, 1024]⟩
abbrev S1x1x8x1024 : Shape := ⟨4, ![1, 1, 8, 1024]⟩
abbrev S8x1024 : Shape := ⟨2, ![8, 1024]⟩
abbrev S1x1024 : Shape := ⟨2, ![1, 1024]⟩
abbrev S1x1x128x1024 : Shape := ⟨4, ![1, 1, 128, 1024]⟩

abbrev nBuf : Space → Nat
  | .hbm => 56
  | .vmem => 18
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384, .f32⟩
  | .hbm, ⟨7, _⟩ => ⟨S8x16384x1, .f32⟩
  | .hbm, ⟨8, _⟩ => ⟨S8x16384x16384, .f32⟩
  | .hbm, ⟨9, _⟩ => ⟨S8x16384x16384, .f32⟩
  | .hbm, ⟨10, _⟩ => ⟨S8x16384x16384, .f32⟩
  | .hbm, ⟨11, _⟩ => ⟨S_, .f32⟩
  | .hbm, ⟨12, _⟩ => ⟨S8x16384, .f32⟩
  | .hbm, ⟨13, _⟩ => ⟨S8x16384x1, .f32⟩
  | .hbm, ⟨14, _⟩ => ⟨S8x16384x16384, .f32⟩
  | .hbm, ⟨15, _⟩ => ⟨S8x16384x16384, .f32⟩
  | .hbm, ⟨16, _⟩ => ⟨S8x64x16384, .f32⟩
  | .hbm, ⟨17, _⟩ => ⟨S16384x8x64, .f32⟩
  | .hbm, ⟨18, _⟩ => ⟨S_, .f32⟩
  | .hbm, ⟨19, _⟩ => ⟨S_, .f32⟩
  | .hbm, ⟨20, _⟩ => ⟨S8x16384x1, .f32⟩
  | .hbm, ⟨21, _⟩ => ⟨S8x16384x1, .f32⟩
  | .hbm, ⟨22, _⟩ => ⟨S8x16384x1, .f32⟩
  | .hbm, ⟨23, _⟩ => ⟨S8x16384x1, .f32⟩
  | .hbm, ⟨24, _⟩ => ⟨S8x16384, .f32⟩
  | .hbm, ⟨25, _⟩ => ⟨S16384x8x64, .f32⟩
  | .hbm, ⟨26, _⟩ => ⟨S_, .f32⟩
  | .hbm, ⟨27, _⟩ => ⟨S16384x8, .f32⟩
  | .hbm, ⟨28, _⟩ => ⟨S16384x8x96, .f32⟩
  | .hbm, ⟨29, _⟩ => ⟨S16384x8x96, .f32⟩
  | .hbm, ⟨30, _⟩ => ⟨S16384x8x96, .bf16⟩
  | .hbm, ⟨31, _⟩ => ⟨S_, .i32⟩
  | .hbm, ⟨32, _⟩ => ⟨S_, .bf16⟩
  | .hbm, ⟨33, _⟩ => ⟨S16384x8x128, .bf16⟩
  | .hbm, ⟨34, _⟩ => ⟨S16384x1024, .bf16⟩
  | .hbm, ⟨35, _⟩ => ⟨S16384x8x96, .bf16⟩
  | .hbm, ⟨36, _⟩ => ⟨S_, .i32⟩
  | .hbm, ⟨37, _⟩ => ⟨S_, .bf16⟩
  | .hbm, ⟨38, _⟩ => ⟨S16384x8x128, .bf16⟩
  | .hbm, ⟨39, _⟩ => ⟨S16384x1024, .bf16⟩
  | .hbm, ⟨40, _⟩ => ⟨S16384x8x64, .bf16⟩
  | .hbm, ⟨41, _⟩ => ⟨S8x64x16384, .bf16⟩
  | .hbm, ⟨42, _⟩ => ⟨S8x64x16x1024, .bf16⟩
  | .hbm, ⟨43, _⟩ => ⟨S8x16x64x1024, .bf16⟩
  | .hbm, ⟨44, _⟩ => ⟨S16384x8x64, .bf16⟩
  | .hbm, ⟨45, _⟩ => ⟨S8x64x16384, .bf16⟩
  | .hbm, ⟨46, _⟩ => ⟨S8x64x16x1024, .bf16⟩
  | .hbm, ⟨47, _⟩ => ⟨S8x16x64x1024, .bf16⟩
  | .hbm, ⟨48, _⟩ => ⟨S8x16x1x1024, .f32⟩
  | .hbm, ⟨49, _⟩ => ⟨S8x16x8x1024, .f32⟩
  | .hbm, ⟨50, _⟩ => ⟨S8x16384, .f32⟩
  | .hbm, ⟨51, _⟩ => ⟨S8x16x1x1024, .f32⟩
  | .hbm, ⟨52, _⟩ => ⟨S8x16x8x1024, .f32⟩
  | .hbm, ⟨53, _⟩ => ⟨S8x16x128x1024, .f32⟩
  | .hbm, ⟨54, _⟩ => ⟨S16384x1024, .f32⟩
  | .hbm, ⟨55, _⟩ => ⟨S8x16x64x1024, .f32⟩
  | .local _ .vmem, ⟨0, _⟩ => ⟨S1024x128, .bf16⟩
  | .local _ .vmem, ⟨1, _⟩ => ⟨S1024x128, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S16384x128, .bf16⟩
  | .local _ .vmem, ⟨5, _⟩ => ⟨S16384x128, .bf16⟩
  | .local _ .vmem, ⟨6, _⟩ => ⟨S1x16x64x1024, .bf16⟩
  | .local _ .vmem, ⟨7, _⟩ => ⟨S1x16x64x1024, .bf16⟩
  | .local _ .vmem, ⟨8, _⟩ => ⟨S1x16x8x1024, .f32⟩
  | .local _ .vmem, ⟨9, _⟩ => ⟨S1x16x8x1024, .f32⟩
  | .local _ .vmem, ⟨10, _⟩ => ⟨S1x16x8x1024, .f32⟩
  | .local _ .vmem, ⟨11, _⟩ => ⟨S1x16x8x1024, .f32⟩
  | .local _ .vmem, ⟨12, _⟩ => ⟨S1x16x128x1024, .f32⟩
  | .local _ .vmem, ⟨13, _⟩ => ⟨S1x16x128x1024, .f32⟩
  | .local _ .vmem, ⟨14, _⟩ => ⟨S1024x128, .f32⟩
  | .local _ .vmem, ⟨15, _⟩ => ⟨S1024x128, .f32⟩
  | .local _ .vmem, ⟨16, _⟩ => ⟨S1x1x64x1024, .f32⟩
  | .local _ .vmem, ⟨17, _⟩ => ⟨S1x1x64x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_13 : BitVec 32 := 0#32
  let c16_i32 : BitVec 32 := 16#32
  let v14 : BitVec 32 := Scalar.addi c0_i32_13 c16_i32
  let c1_i32 : BitVec 32 := 1#32
  ⟨c0_i32_13, v14, c1_i32⟩
def k0_mult1 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c1024_i32 : BitVec 32 := 1024#32
  let v20 : BitVec 32 := Scalar.muli arg11 c1024_i32
  v20
def k0_off1 (k0_t1 : Fin k0_t1_loop.trips) : Fin 2 → Nat :=
  let c0_i32_13 : BitVec 32 := 0#32
  let c1_i32 : BitVec 32 := 1#32
  let arg11 : BitVec 32 := Scf.iv c0_i32_13 c1_i32 k0_t1
  let c1024_i32 : BitVec 32 := 1024#32
  let v20 : BitVec 32 := Scalar.muli arg11 c1024_i32
  let v21 : BitVec 32 := v20
  let v22 : Index := Scalar.indexCast v21
  let c0_20 : Index := 0#32
  ![v22.toNat, 0]
def k0_off2 (k0_t1 : Fin k0_t1_loop.trips) : Fin 4 → Nat :=
  let c0_21 : Index := 0#32
  let c0_i32_13 : BitVec 32 := 0#32
  let c1_i32 : BitVec 32 := 1#32
  let arg11 : BitVec 32 := Scf.iv c0_i32_13 c1_i32 k0_t1
  let v25 : Index := Scalar.indexCast arg11
  let c0_22 : Index := 0#32
  let c0_23 : Index := 0#32
  ![0, v25.toNat, 0, 0]
def k0_off3 (k0_t1 : Fin k0_t1_loop.trips) : Fin 4 → Nat :=
  let c0_25 : Index := 0#32
  let c0_i32_13 : BitVec 32 := 0#32
  let c1_i32 : BitVec 32 := 1#32
  let arg11 : BitVec 32 := Scf.iv c0_i32_13 c1_i32 k0_t1
  let v29 : Index := Scalar.indexCast arg11
  let c0_26 : Index := 0#32
  let c0_27 : Index := 0#32
  ![0, v29.toNat, 0, 0]
def k0_off4 (k0_t1 : Fin k0_t1_loop.trips) : Fin 4 → Nat :=
  let c0_46 : Index := 0#32
  let c0_i32_13 : BitVec 32 := 0#32
  let c1_i32 : BitVec 32 := 1#32
  let arg11 : BitVec 32 := Scf.iv c0_i32_13 c1_i32 k0_t1
  let v58 : Index := Scalar.indexCast arg11
  let c0_47 : Index := 0#32
  let c0_48 : Index := 0#32
  ![0, v58.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "ln2" => some ((Real.log 2 : ℝ) : EReal)
  | _ => none
-- ==== AttnRefIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S16384x8x128 : Shape := ⟨3, ![16384, 8, 128]⟩
abbrev S8x128x16384 : Shape := ⟨3, ![8, 128, 16384]⟩
abbrev S8x128x16x1024 : Shape := ⟨4, ![8, 128, 16, 1024]⟩
abbrev S8x16x128x1024 : Shape := ⟨4, ![8, 16, 128, 1024]⟩
abbrev S16384x1024 : Shape := ⟨2, ![16384, 1024]⟩
abbrev S8x64x16x1024 : Shape := ⟨4, ![8, 64, 16, 1024]⟩
abbrev S8x16x64x1024 : Shape := ⟨4, ![8, 16, 64, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384, .f32⟩
  | .hbm, ⟨7, _⟩ => ⟨S8x16384x1, .f32⟩
  | .hbm, ⟨8, _⟩ => ⟨S8x16384x16384, .f32⟩
  | .hbm, ⟨9, _⟩ => ⟨S8x16384x16384, .i1⟩
  | .hbm, ⟨10, _⟩ => ⟨S8x16384x16384, .f32⟩
  | .hbm, ⟨11, _⟩ => ⟨S_, .f32⟩
  | .hbm, ⟨12, _⟩ => ⟨S8x16384, .f32⟩
  | .hbm, ⟨13, _⟩ => ⟨S_, .f32⟩
  | .hbm, ⟨14, _⟩ => ⟨S8x16384, .f32⟩
  | .hbm, ⟨15, _⟩ => ⟨S8x16384, .f32⟩
  | .hbm, ⟨16, _⟩ => ⟨S_, .f32⟩
  | .hbm, ⟨17, _⟩ => ⟨S8x16384, .f32⟩
  | .hbm, ⟨18, _⟩ => ⟨S8x16384, .i1⟩
  | .hbm, ⟨19, _⟩ => ⟨S_, .f32⟩
  | .hbm, ⟨20, _⟩ => ⟨S8x16384, .f32⟩
  | .hbm, ⟨21, _⟩ => ⟨S8x16384, .i1⟩
  | .hbm, ⟨22, _⟩ => ⟨S_, .f32⟩
  | .hbm, ⟨23, _⟩ => ⟨S8x16384, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x1, .f32⟩
  | .hbm, ⟨40, _⟩ => ⟨S_, .f32⟩
  | .hbm, ⟨41, _⟩ => ⟨S8x16384x1, .f32⟩
  | .hbm, ⟨42, _⟩ => ⟨S8x16384x1, .f32⟩
  | .hbm, ⟨43, _⟩ => ⟨S8x64x16384, .f32⟩
  | .hbm, ⟨44, _⟩ => ⟨S16384x8x64, .f32⟩
  | .hbm, ⟨45, _⟩ => ⟨S8x64x16384, .f32⟩
  | .hbm, ⟨46, _⟩ => ⟨S8x16384x16384, .f32⟩
  | .hbm, ⟨47, _⟩ => ⟨S8x64x16384, .f32⟩
  | .hbm, ⟨48, _⟩ => ⟨S16384x8x64, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S_, .f32⟩
  | .hbm, ⟨53, _⟩ => ⟨S8x16384, .f32⟩
  | .hbm, ⟨54, _⟩ => ⟨S8x16384x1, .f32⟩
  | .hbm, ⟨55, _⟩ => ⟨S8x16384x1, .f32⟩
  | .hbm, ⟨56, _⟩ => ⟨S8x16384x16384, .f32⟩
  | .hbm, ⟨57, _⟩ => ⟨S8x16384x16384, .f32⟩
  | .hbm, ⟨58, _⟩ => ⟨S_, .f32⟩
  | .hbm, ⟨59, _⟩ => ⟨S8x16384, .f32⟩
  | .hbm, ⟨60, _⟩ => ⟨S8x16384x16384, .f32⟩
  | .hbm, ⟨61, _⟩ => ⟨S8x16384x16384, .f32⟩
  | .hbm, ⟨62, _⟩ => ⟨S8x16384x16384, .f32⟩
  | .hbm, ⟨63, _⟩ => ⟨S8x16384x96, .f32⟩
  | .hbm, ⟨64, _⟩ => ⟨S16384x8x96, .f32⟩
  | .hbm, ⟨65, _⟩ => ⟨S8x16384x96, .f32⟩
  | .hbm, ⟨66, _⟩ => ⟨S16384x8x96, .f32⟩
  | .hbm, ⟨67, _⟩ => ⟨S_, .i32⟩
  | .hbm, ⟨68, _⟩ => ⟨S_, .f32⟩
  | .hbm, ⟨69, _⟩ => ⟨S16384x8x128, .f32⟩
  | .hbm, ⟨70, _⟩ => ⟨S8x128x16384, .f32⟩
  | .hbm, ⟨71, _⟩ => ⟨S8x128x16x1024, .f32⟩
  | .hbm, ⟨72, _⟩ => ⟨S8x16x128x1024, .f32⟩
  | .hbm, ⟨73, _⟩ => ⟨S_, .i32⟩
  | .hbm, ⟨74, _⟩ => ⟨S_, .f32⟩
  | .hbm, ⟨75, _⟩ => ⟨S16384x8x128, .f32⟩
  | .hbm, ⟨76, _⟩ => ⟨S16384x1024, .f32⟩
  | .hbm, ⟨77, _⟩ => ⟨S8x64x16384, .f32⟩
  | .hbm, ⟨78, _⟩ => ⟨S8x64x16x1024, .f32⟩
  | .hbm, ⟨79, _⟩ => ⟨S8x16x64x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_call0_v0 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_call1_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== AttnFwd.lean ====
abbrev S16384x8x96 : Shape := ⟨3, ![16384, 8, 96]⟩
abbrev S16384x8x64 : Shape := ⟨3, ![16384, 8, 64]⟩
abbrev S_ : Shape := ⟨0, ![]⟩
abbrev S16384x8x128 : Shape := ⟨3, ![16384, 8, 128]⟩
abbrev S16384x1024 : Shape := ⟨2, ![16384, 1024]⟩
abbrev S8x64x16384 : Shape := ⟨3, ![8, 64, 16384]⟩
abbrev S8x64x16x1024 : Shape := ⟨4, ![8, 64, 16, 1024]⟩
abbrev S8x16x64x1024 : Shape := ⟨4, ![8, 16, 64, 1024]⟩
abbrev S8x16x8x1024 : Shape := ⟨4, ![8, 16, 8, 1024]⟩
abbrev S1024x128 : Shape := ⟨2, ![1024, 128]⟩
abbrev S16384x128 : Shape := ⟨2, ![16384, 128]⟩
abbrev S1x16x64x1024 : Shape := ⟨4, ![1, 16, 64, 1024]⟩
abbrev S1x1x64x1024 : Shape := ⟨4, ![1, 1, 64, 1024]⟩
abbrev S1x1x8x1024 : Shape := ⟨4, ![1, 1, 8, 1024]⟩
abbrev S1x1024 : Shape := ⟨2, ![1, 1024]⟩
abbrev S64x1024 : Shape := ⟨2, ![64, 1024]⟩
abbrev S1024x1024 : Shape := ⟨2, ![1024, 1024]⟩
abbrev S1024 : Shape := ⟨1, ![1024]⟩
abbrev S8x1024 : Shape := ⟨2, ![8, 1024]⟩

abbrev nBuf : Space → Nat
  | .hbm => 23
  | .vmem => 17
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S16384x8x96, .bf16⟩
  | .hbm, ⟨8, _⟩ => ⟨S_, .i32⟩
  | .hbm, ⟨9, _⟩ => ⟨S_, .bf16⟩
  | .hbm, ⟨10, _⟩ => ⟨S16384x8x128, .bf16⟩
  | .hbm, ⟨11, _⟩ => ⟨S16384x1024, .bf16⟩
  | .hbm, ⟨12, _⟩ => ⟨S16384x8x96, .bf16⟩
  | .hbm, ⟨13, _⟩ => ⟨S_, .i32⟩
  | .hbm, ⟨14, _⟩ => ⟨S_, .bf16⟩
  | .hbm, ⟨15, _⟩ => ⟨S16384x8x128, .bf16⟩
  | .hbm, ⟨16, _⟩ => ⟨S16384x1024, .bf16⟩
  | .hbm, ⟨17, _⟩ => ⟨S16384x8x64, .bf16⟩
  | .hbm, ⟨18, _⟩ => ⟨S8x64x16384, .bf16⟩
  | .hbm, ⟨19, _⟩ => ⟨S8x64x16x1024, .bf16⟩
  | .hbm, ⟨20, _⟩ => ⟨S8x16x64x1024, .bf16⟩
  | .hbm, ⟨21, _⟩ => ⟨S8x16x64x1024, .bf16⟩
  | .hbm, ⟨22, _⟩ => ⟨S8x16x8x1024, .f32⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S1x16x64x1024, .bf16⟩
  | .local _ .vmem, ⟨5, _⟩ => ⟨S1x16x64x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x8x1024, .f32⟩
  | .local _ .vmem, ⟨9, _⟩ => ⟨S1x1x8x1024, .f32⟩
  | .local _ .vmem, ⟨10, _⟩ => ⟨S1x1024, .f32⟩
  | .local _ .vmem, ⟨11, _⟩ => ⟨S1x1024, .f32⟩
  | .local _ .vmem, ⟨12, _⟩ => ⟨S64x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop : Scf.Loop 32 :=
  let c0_i32_16 : BitVec 32 := 0#32
  let c8_i32 : BitVec 32 := 8#32
  let v26 : BitVec 32 := Scalar.addi c0_i32_16 c8_i32
  let c1_i32 : BitVec 32 := 1#32
  ⟨c0_i32_16, v26, c1_i32⟩
def k0_mult2 (k0_t1 : Fin k0_t1_loop.trips) : BitVec 32 :=
  let c2_i32 : BitVec 32 := 2#32
  let c0_i32_16 : BitVec 32 := 0#32
  let c1_i32 : BitVec 32 := 1#32
  let arg14 : BitVec 32 := Scf.iv c0_i32_16 c1_i32 k0_t1
  let v51 : BitVec 32 := Scalar.muli c2_i32 arg14
  let c1_i32_41 : BitVec 32 := 1#32
  let v52 : BitVec 32 := Scalar.addi v51 c1_i32_41
  let c15_i32 : BitVec 32 := 15#32
  let v53 : BitVec 32 := Scalar.minsi v52 c15_i32
  let c1024_i32 : BitVec 32 := 1024#32
  let v54 : BitVec 32 := Scalar.muli v53 c1024_i32
  v54
def k0_off1 (k0_t1 : Fin k0_t1_loop.trips) : Fin 2 → Nat :=
  let c2_i32 : BitVec 32 := 2#32
  let c0_i32_16 : BitVec 32 := 0#32
  let c1_i32 : BitVec 32 := 1#32
  let arg14 : BitVec 32 := Scf.iv c0_i32_16 c1_i32 k0_t1
  let v51 : BitVec 32 := Scalar.muli c2_i32 arg14
  let c1_i32_41 : BitVec 32 := 1#32
  let v52 : BitVec 32 := Scalar.addi v51 c1_i32_41
  let c15_i32 : BitVec 32 := 15#32
  let v53 : BitVec 32 := Scalar.minsi v52 c15_i32
  let c1024_i32 : BitVec 32 := 1024#32
  let v54 : BitVec 32 := Scalar.muli v53 c1024_i32
  let v55 : BitVec 32 := v54
  let v56 : Index := Scalar.indexCast v55
  let c0_42 : Index := 0#32
  ![v56.toNat, 0]
def k0_off2 (k0_t1 : Fin k0_t1_loop.trips) : Fin 4 → Nat :=
  let c0_50 : Index := 0#32
  let c2_i32 : BitVec 32 := 2#32
  let c0_i32_16 : BitVec 32 := 0#32
  let c1_i32 : BitVec 32 := 1#32
  let arg14 : BitVec 32 := Scf.iv c0_i32_16 c1_i32 k0_t1
  let v51 : BitVec 32 := Scalar.muli c2_i32 arg14
  let c1_i32_48 : BitVec 32 := 1#32
  let v64 : BitVec 32 := Scalar.subi v51 c1_i32_48
  let c0_i32_49 : BitVec 32 := 0#32
  let v65 : BitVec 32 := Scalar.maxsi v64 c0_i32_49
  let v66 : Index := Scalar.indexCast v65
  let c0_51 : Index := 0#32
  let c0_52 : Index := 0#32
  ![0, v66.toNat, 0, 0]
def k0_mult3 (k0_t1 : Fin k0_t1_loop.trips) : BitVec 32 :=
  let c2_i32_72 : BitVec 32 := 2#32
  let c0_i32_16 : BitVec 32 := 0#32
  let c1_i32 : BitVec 32 := 1#32
  let arg14 : BitVec 32 := Scf.iv c0_i32_16 c1_i32 k0_t1
  let v102 : BitVec 32 := Scalar.muli c2_i32_72 arg14
  let c1_i32_73 : BitVec 32 := 1#32
  let v103 : BitVec 32 := Scalar.addi v102 c1_i32_73
  let c1_i32_74 : BitVec 32 := 1#32
  let v104 : BitVec 32 := Scalar.addi v103 c1_i32_74
  let c15_i32_75 : BitVec 32 := 15#32
  let v105 : BitVec 32 := Scalar.minsi v104 c15_i32_75
  let c1024_i32_76 : BitVec 32 := 1024#32
  let v106 : BitVec 32 := Scalar.muli v105 c1024_i32_76
  v106
def k0_off3 (k0_t1 : Fin k0_t1_loop.trips) : Fin 2 → Nat :=
  let c2_i32_72 : BitVec 32 := 2#32
  let c0_i32_16 : BitVec 32 := 0#32
  let c1_i32 : BitVec 32 := 1#32
  let arg14 : BitVec 32 := Scf.iv c0_i32_16 c1_i32 k0_t1
  let v102 : BitVec 32 := Scalar.muli c2_i32_72 arg14
  let c1_i32_73 : BitVec 32 := 1#32
  let v103 : BitVec 32 := Scalar.addi v102 c1_i32_73
  let c1_i32_74 : BitVec 32 := 1#32
  let v104 : BitVec 32 := Scalar.addi v103 c1_i32_74
  let c15_i32_75 : BitVec 32 := 15#32
  let v105 : BitVec 32 := Scalar.minsi v104 c15_i32_75
  let c1024_i32_76 : BitVec 32 := 1024#32
  let v106 : BitVec 32 := Scalar.muli v105 c1024_i32_76
  let v107 : BitVec 32 := v106
  let v108 : Index := Scalar.indexCast v107
  let c0_77 : Index := 0#32
  ![v108.toNat, 0]
def k0_off4 (k0_t1 : Fin k0_t1_loop.trips) : Fin 4 → Nat :=
  let c0_85 : Index := 0#32
  let c2_i32_72 : BitVec 32 := 2#32
  let c0_i32_16 : BitVec 32 := 0#32
  let c1_i32 : BitVec 32 := 1#32
  let arg14 : BitVec 32 := Scf.iv c0_i32_16 c1_i32 k0_t1
  let v102 : BitVec 32 := Scalar.muli c2_i32_72 arg14
  let c1_i32_73 : BitVec 32 := 1#32
  let v103 : BitVec 32 := Scalar.addi v102 c1_i32_73
  let c1_i32_83 : BitVec 32 := 1#32
  let v116 : BitVec 32 := Scalar.subi v103 c1_i32_83
  let c0_i32_84 : BitVec 32 := 0#32
  let v117 : BitVec 32 := Scalar.maxsi v116 c0_i32_84
  let v118 : Index := Scalar.indexCast v117
  let c0_86 : Index := 0#32
  let c0_87 : Index := 0#32
  ![0, v118.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "log2e" => some (((Real.log 2)⁻¹ : ℝ) : EReal)
  | _ => none
-- ==== AttnFwdRefIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x64x16384 : Shape := ⟨3, ![8, 64, 16384]⟩
abbrev S8x64x16x1024 : Shape := ⟨4, ![8, 64, 16, 1024]⟩
abbrev S8x16x64x1024 : Shape := ⟨4, ![8, 16, 64, 1024]⟩
abbrev S8x16x1x1024 : Shape := ⟨4, ![8, 16, 1, 1024]⟩
abbrev S8x16x8x1024 : Shape := ⟨4, ![8, 16, 8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S8x16384x16384, .f32⟩
  | .hbm, ⟨4, _⟩ => ⟨S_, .f32⟩
  | .hbm, ⟨5, _⟩ => ⟨S8x16384, .f32⟩
  | .hbm, ⟨6, _⟩ => ⟨S_, .f32⟩
  | .hbm, ⟨7, _⟩ => ⟨S8x16384, .f32⟩
  | .hbm, ⟨8, _⟩ => ⟨S8x16384, .f32⟩
  | .hbm, ⟨9, _⟩ => ⟨S8x16384x1, .f32⟩
  | .hbm, ⟨10, _⟩ => ⟨S8x16384x16384, .f32⟩
  | .hbm, ⟨11, _⟩ => ⟨S8x16384x16384, .f32⟩
  | .hbm, ⟨12, _⟩ => ⟨S8x16384x16384, .f32⟩
  | .hbm, ⟨13, _⟩ => ⟨S_, .f32⟩
  | .hbm, ⟨14, _⟩ => ⟨S8x16384, .f32⟩
  | .hbm, ⟨15, _⟩ => ⟨S8x16384x1, .f32⟩
  | .hbm, ⟨16, _⟩ => ⟨S8x16384x16384, .f32⟩
  | .hbm, ⟨17, _⟩ => ⟨S8x16384x16384, .f32⟩
  | .hbm, ⟨18, _⟩ => ⟨S8x64x16384, .f32⟩
  | .hbm, ⟨19, _⟩ => ⟨S16384x8x64, .f32⟩
  | .hbm, ⟨20, _⟩ => ⟨S_, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S8x16384, .f32⟩
  | .hbm, ⟨30, _⟩ => ⟨S_, .f32⟩
  | .hbm, ⟨31, _⟩ => ⟨S_, .f32⟩
  | .hbm, ⟨32, _⟩ => ⟨S8x16384, .f32⟩
  | .hbm, ⟨33, _⟩ => ⟨S8x16384, .f32⟩
  | .hbm, ⟨34, _⟩ => ⟨S8x64x16384, .f32⟩
  | .hbm, ⟨35, _⟩ => ⟨S8x64x16x1024, .f32⟩
  | .hbm, ⟨36, _⟩ => ⟨S8x16x64x1024, .f32⟩
  | .hbm, ⟨37, _⟩ => ⟨S8x16x64x1024, .bf16⟩
  | .hbm, ⟨38, _⟩ => ⟨S8x16x1x1024, .f32⟩
  | .hbm, ⟨39, _⟩ => ⟨S8x16x8x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== FfnAct.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1024x2816, .bf16⟩
  | .hbm, ⟨9, _⟩ => ⟨S16384x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnActRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x5632, .f32⟩
  | .hbm, ⟨54, _⟩ => ⟨S_, .f32⟩
  | .hbm, ⟨55, _⟩ => ⟨S16384x5632, .f32⟩
  | .hbm, ⟨56, _⟩ => ⟨S16384x5632, .f32⟩
  | .hbm, ⟨57, _⟩ => ⟨S16384x1024, .bf16⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S_, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .bf16⟩
  | .hbm, ⟨71, _⟩ => ⟨S16384x2816, .f32⟩
  | .hbm, ⟨72, _⟩ => ⟨S16384x2816, .bf16⟩
  | .hbm, ⟨73, _⟩ => ⟨S16384x2816, .f32⟩
  | .hbm, ⟨74, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩

abbrev nD : Nat := 1
abbrev τ : Topo := Topo.v7x

variable {F : FTy → Type} [FloatOps F]
-- ==== MlaIn.lean ====
abbrev S16384x1024 : Shape := ⟨2, ![16384, 1024]⟩
abbrev S1024 : Shape := ⟨1, ![1024]⟩
abbrev S1024x1184 : Shape := ⟨2, ![1024, 1184]⟩
abbrev S384 : Shape := ⟨1, ![384]⟩
abbrev S256 : Shape := ⟨1, ![256]⟩
abbrev S384x768 : Shape := ⟨2, ![384, 768]⟩
abbrev S256x512 : Shape := ⟨2, ![256, 512]⟩
abbrev S96 : Shape := ⟨1, ![96]⟩
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩
abbrev S1024x128 : Shape := ⟨2, ![1024, 128]⟩
abbrev S1024x640 : Shape := ⟨2, ![1024, 640]⟩
abbrev S1024x64 : Shape := ⟨2, ![1024, 64]⟩
abbrev S1024x32 : Shape := ⟨2, ![1024, 32]⟩
abbrev S1024x512 : Shape := ⟨2, ![1024, 512]⟩
abbrev S1024x1280 : Shape := ⟨2, ![1024, 1280]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S256x8x64 : Shape := ⟨3, ![256, 8, 64]⟩
abbrev S256x8x128 : Shape := ⟨3, ![256, 8, 128]⟩
abbrev S256x1024 : Shape := ⟨2, ![256, 1024]⟩
abbrev S1x96 : Shape := ⟨2, ![1, 96]⟩
abbrev S1x0 : Shape := ⟨2, ![1, 0]⟩
abbrev S1x32 : Shape := ⟨2, ![1, 32]⟩
abbrev S1x128 : Shape := ⟨2, ![1, 128]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S16384x80 : Shape := ⟨2, ![16384, 80]⟩
abbrev S16384x48 : Shape := ⟨2, ![16384, 48]⟩
abbrev S1x1024 : Shape := ⟨2, ![1, 1024]⟩
abbrev S1x384 : Shape := ⟨2, ![1, 384]⟩
abbrev S1x256 : Shape := ⟨2, ![1, 256]⟩
abbrev S16384x8x128 : Shape := ⟨3, ![16384, 8, 128]⟩
abbrev S8x128x16384 : Shape := ⟨3, ![8, 128, 16384]⟩
abbrev S8x128x16x1024 : Shape := ⟨4, ![8, 128, 16, 1024]⟩
abbrev S8x16x128x1024 : Shape := ⟨4, ![8, 16, 128, 1024]⟩
abbrev S8x64x16384 : Shape := ⟨3, ![8, 64, 16384]⟩
abbrev S8x64x16x1024 : Shape := ⟨4, ![8, 64, 16, 1024]⟩
abbrev S8x16x64x1024 : Shape := ⟨4, ![8, 16, 64, 1024]⟩
abbrev S16384x1280 : Shape := ⟨2, ![16384, 1280]⟩
abbrev S256x128 : Shape := ⟨2, ![256, 128]⟩
abbrev S8x1x128x256 : Shape := ⟨4, ![8, 1, 128, 256]⟩
abbrev S8x1x64x256 : Shape := ⟨4, ![8, 1, 64, 256]⟩
abbrev S64x512 : Shape := ⟨2, ![64, 512]⟩
abbrev S256x1280 : Shape := ⟨2, ![256, 1280]⟩
abbrev S256x1 : Shape := ⟨2, ![256, 1]⟩
abbrev S256x384 : Shape := ⟨2, ![256, 384]⟩
abbrev S256x256 : Shape := ⟨2, ![256, 256]⟩
abbrev S1024x256 : Shape := ⟨2, ![1024, 256]⟩
abbrev S128 : Shape := ⟨1, ![128]⟩
abbrev S512x256 : Shape := ⟨2, ![512, 256]⟩
abbrev S384x512 : Shape := ⟨2, ![384, 512]⟩
abbrev S384x1 : Shape := ⟨2, ![384, 1]⟩
abbrev S384x128 : Shape := ⟨2, ![384, 128]⟩
abbrev S384x384 : Shape := ⟨2, ![384, 384]⟩

abbrev nBuf : Space → Nat
  | .hbm => 110
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1184, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x512, .f32⟩
  | .hbm, ⟨7, _⟩ => ⟨S256x512, .f32⟩
  | .hbm, ⟨8, _⟩ => ⟨S96, .f32⟩
  | .hbm, ⟨9, _⟩ => ⟨S96, .f32⟩
  | .hbm, ⟨10, _⟩ => ⟨S16384x8x96, .f32⟩
  | .hbm, ⟨11, _⟩ => ⟨S16384x8x96, .f32⟩
  | .hbm, ⟨12, _⟩ => ⟨S16384x8x64, .f32⟩
  | .hbm, ⟨13, _⟩ => ⟨S16384x512, .f32⟩
  | .hbm, ⟨14, _⟩ => ⟨S1024x1184, .bf16⟩
  | .hbm, ⟨15, _⟩ => ⟨S_, .bf16⟩
  | .hbm, ⟨16, _⟩ => ⟨S1024x128, .bf16⟩
  | .hbm, ⟨17, _⟩ => ⟨S1024x640, .bf16⟩
  | .hbm, ⟨18, _⟩ => ⟨S1024x64, .bf16⟩
  | .hbm, ⟨19, _⟩ => ⟨S1024x32, .bf16⟩
  | .hbm, ⟨20, _⟩ => ⟨S1024x32, .bf16⟩
  | .hbm, ⟨21, _⟩ => ⟨S1024x512, .bf16⟩
  | .hbm, ⟨22, _⟩ => ⟨S1024x1280, .bf16⟩
  | .hbm, ⟨23, _⟩ => ⟨S384x768, .bf16⟩
  | .hbm, ⟨24, _⟩ => ⟨S384x8x96, .bf16⟩
  | .hbm, ⟨25, _⟩ => ⟨S_, .bf16⟩
  | .hbm, ⟨26, _⟩ => ⟨S384x8x32, .bf16⟩
  | .hbm, ⟨27, _⟩ => ⟨S384x8x128, .bf16⟩
  | .hbm, ⟨28, _⟩ => ⟨S384x1024, .bf16⟩
  | .hbm, ⟨29, _⟩ => ⟨S256x512, .bf16⟩
  | .hbm, ⟨30, _⟩ => ⟨S256x8x64, .bf16⟩
  | .hbm, ⟨31, _⟩ => ⟨S_, .bf16⟩
  | .hbm, ⟨32, _⟩ => ⟨S256x8x64, .bf16⟩
  | .hbm, ⟨33, _⟩ => ⟨S256x8x128, .bf16⟩
  | .hbm, ⟨34, _⟩ => ⟨S256x1024, .bf16⟩
  | .hbm, ⟨35, _⟩ => ⟨S1x96, .f32⟩
  | .hbm, ⟨36, _⟩ => ⟨S_, .f32⟩
  | .hbm, ⟨37, _⟩ => ⟨S1x0, .f32⟩
  | .hbm, ⟨38, _⟩ => ⟨S_, .f32⟩
  | .hbm, ⟨39, _⟩ => ⟨S1x32, .f32⟩
  | .hbm, ⟨40, _⟩ => ⟨S1x128, .f32⟩
  | .hbm, ⟨41, _⟩ => ⟨S1x96, .f32⟩
  | .hbm, ⟨42, _⟩ => ⟨S_, .f32⟩
  | .hbm, ⟨43, _⟩ => ⟨S1x0, .f32⟩
  | .hbm, ⟨44, _⟩ => ⟨S_, .f32⟩
  | .hbm, ⟨45, _⟩ => ⟨S1x32, .f32⟩
  | .hbm, ⟨46, _⟩ => ⟨S1x128, .f32⟩
  | .hbm, ⟨47, _⟩ => ⟨S16384, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16384x1, .f32⟩
  | .hbm, ⟨63, _⟩ => ⟨S1x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S_, .f32⟩
  | .hbm, ⟨70, _⟩ => ⟨S16384x64, .f32⟩
  | .hbm, ⟨71, _⟩ => ⟨S_, .f32⟩
  | .hbm, ⟨72, _⟩ => ⟨S16384x32, .f32⟩
  | .hbm, ⟨73, _⟩ => ⟨S16384x128, .f32⟩
  | .hbm, ⟨74, _⟩ => ⟨S_, .f32⟩
  | .hbm, ⟨75, _⟩ => ⟨S16384x80, .f32⟩
  | .hbm, ⟨76, _⟩ => ⟨S_, .f32⟩
  | .hbm, ⟨77, _⟩ => ⟨S16384x32, .f32⟩
  | .hbm, ⟨78, _⟩ => ⟨S16384x128, .f32⟩
  | .hbm, ⟨79, _⟩ => ⟨S_, .f32⟩
  | .hbm, ⟨80, _⟩ => ⟨S16384x64, .f32⟩
  | .hbm, ⟨81, _⟩ => ⟨S16384x16, .f32⟩
  | .hbm, ⟨82, _⟩ => ⟨S_, .f32⟩
  | .hbm, ⟨83, _⟩ => ⟨S16384x48, .f32⟩
  | .hbm, ⟨84, _⟩ => ⟨S16384x128, .f32⟩
  | .hbm, ⟨85, _⟩ => ⟨S1x1024, .f32⟩
  | .hbm, ⟨86, _⟩ => ⟨S1x384, .f32⟩
  | .hbm, ⟨87, _⟩ => ⟨S1x256, .f32⟩
  | .hbm, ⟨88, _⟩ => ⟨S256x512, .bf16⟩
  | .hbm, ⟨89, _⟩ => ⟨S_, .i32⟩
  | .hbm, ⟨90, _⟩ => ⟨S_, .f32⟩
  | .hbm, ⟨91, _⟩ => ⟨S16384x8x128, .f32⟩
  | .hbm, ⟨92, _⟩ => ⟨S8x128x16384, .f32⟩
  | .hbm, ⟨93, _⟩ => ⟨S8x128x16x1024, .f32⟩
  | .hbm, ⟨94, _⟩ => ⟨S8x16x128x1024, .f32⟩
  | .hbm, ⟨95, _⟩ => ⟨S_, .i32⟩
  | .hbm, ⟨96, _⟩ => ⟨S_, .f32⟩
  | .hbm, ⟨97, _⟩ => ⟨S16384x8x128, .f32⟩
  | .hbm, ⟨98, _⟩ => ⟨S16384x1024, .f32⟩
  | .hbm, ⟨99, _⟩ => ⟨S8x64x16384, .f32⟩
  | .hbm, ⟨100, _⟩ => ⟨S8x64x16x1024, .f32⟩
  | .hbm, ⟨101, _⟩ => ⟨S8x16x64x1024, .f32⟩
  | .hbm, ⟨102, _⟩ => ⟨S16384x1280, .bf16⟩
  | .hbm, ⟨103, _⟩ => ⟨S384x1024, .f32⟩
  | .hbm, ⟨104, _⟩ => ⟨S256x1024, .f32⟩
  | .hbm, ⟨105, _⟩ => ⟨S256x512, .f32⟩
  | .hbm, ⟨106, _⟩ => ⟨S1x384, .f32⟩
  | .hbm, ⟨107, _⟩ => ⟨S1x256, .f32⟩
  | .hbm, ⟨108, _⟩ => ⟨S1x128, .f32⟩
  | .hbm, ⟨109, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1280, .bf16⟩
  | .local _ .vmem, ⟨4, _⟩ => ⟨S1x384, .f32⟩
  | .local _ .vmem, ⟨5, _⟩ => ⟨S1x256, .f32⟩
  | .local _ .vmem, ⟨6, _⟩ => ⟨S384x1024, .bf16⟩
  | .local _ .vmem, ⟨7, _⟩ => ⟨S256x1024, .bf16⟩
  | .local _ .vmem, ⟨8, _⟩ => ⟨S256x512, .bf16⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S8x1x128x256, .f32⟩
  | .local _ .vmem, ⟨18, _⟩ => ⟨S8x1x128x256, .f32⟩
  | .local _ .vmem, ⟨19, _⟩ => ⟨S256x1024, .f32⟩
  | .local _ .vmem, ⟨20, _⟩ => ⟨S256x1024, .f32⟩
  | .local _ .vmem, ⟨21, _⟩ => ⟨S8x1x64x256, .f32⟩
  | .local _ .vmem, ⟨22, _⟩ => ⟨S8x1x64x256, .f32⟩
  | .local _ .vmem, ⟨23, _⟩ => ⟨S64x512, .f32⟩
  | .local _ .vmem, ⟨24, _⟩ => ⟨S64x512, .f32⟩
  | .local _ .vmem, ⟨25, _⟩ => ⟨S256x512, .f32⟩
  | .local _ .vmem, ⟨26, _⟩ => ⟨S256x512, .f32⟩
  | .local _ .vmem, ⟨27, _⟩ => ⟨S64x512, .f32⟩
  | .local _ .vmem, ⟨28, _⟩ => ⟨S64x512, .f32⟩
  | .local _ .vmem, ⟨29, _⟩ => ⟨S256x1280, .bf16⟩
  | .local _ .vmem, ⟨30, _⟩ => ⟨S256x1280, .bf16⟩
  | .local _ .vmem, ⟨31, _⟩ => ⟨S384x1024, .f32⟩
  | .local _ .vmem, ⟨32, _⟩ => ⟨S256x1024, .f32⟩
  | .local _ .vmem, ⟨33, _⟩ => ⟨S256x512, .f32⟩
  | .local _ .vmem, ⟨34, _⟩ => ⟨S1x384, .f32⟩
  | .local _ .vmem, ⟨35, _⟩ => ⟨S1x256, .f32⟩
  | .local _ .vmem, ⟨36, _⟩ => ⟨S1x128, .f32⟩
  | .local _ .vmem, ⟨37, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c : Ref sig .tc := ⟨.hbm, 89, rfl⟩
abbrev main_call0_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_16 : Ref sig .tc := ⟨.hbm, 95, rfl⟩
abbrev main_call1_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67_0 : Ref sig .tc := ⟨.hbm, 102, rfl⟩
abbrev main_v67_1 : Ref sig .tc := ⟨.hbm, 103, rfl⟩
abbrev main_v67_2 : Ref sig .tc := ⟨.hbm, 104, rfl⟩
abbrev main_v67_3 : Ref sig .tc := ⟨.hbm, 105, rfl⟩
abbrev main_v67_4 : Ref sig .tc := ⟨.hbm, 106, rfl⟩
abbrev main_v67_5 : Ref sig .tc := ⟨.hbm, 107, rfl⟩
abbrev main_v67_6 : Ref sig .tc := ⟨.hbm, 108, rfl⟩
abbrev main_v67_7 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem26_0 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_16 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1280 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S384x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MlaInRefIdeal.lean ====
abbrev S16384x1024 : Shape := ⟨2, ![16384, 1024]⟩
abbrev S1024 : Shape := ⟨1, ![1024]⟩
abbrev S1024x1184 : Shape := ⟨2, ![1024, 1184]⟩
abbrev S384 : Shape := ⟨1, ![384]⟩
abbrev S256 : Shape := ⟨1, ![256]⟩
abbrev S384x768 : Shape := ⟨2, ![384, 768]⟩
abbrev S256x512 : Shape := ⟨2, ![256, 512]⟩
abbrev S96 : Shape := ⟨1, ![96]⟩
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1184 : Shape := ⟨2, ![16384, 1184]⟩
abbrev S16384x256 : Shape := ⟨2, ![16384, 256]⟩
abbrev S1x256 : Shape := ⟨2, ![1, 256]⟩
abbrev S512x256 : Shape := ⟨2, ![512, 256]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1184, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x512, .f32⟩
  | .hbm, ⟨7, _⟩ => ⟨S256x512, .f32⟩
  | .hbm, ⟨8, _⟩ => ⟨S96, .f32⟩
  | .hbm, ⟨9, _⟩ => ⟨S96, .f32⟩
  | .hbm, ⟨10, _⟩ => ⟨S16384x8x96, .f32⟩
  | .hbm, ⟨11, _⟩ => ⟨S16384x8x96, .f32⟩
  | .hbm, ⟨12, _⟩ => ⟨S16384x8x64, .f32⟩
  | .hbm, ⟨13, _⟩ => ⟨S16384x512, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1184, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x256, .f32⟩
  | .hbm, ⟨44, _⟩ => ⟨S16384x256, .f32⟩
  | .hbm, ⟨45, _⟩ => ⟨S1x256, .f32⟩
  | .hbm, ⟨46, _⟩ => ⟨S16384x256, .f32⟩
  | .hbm, ⟨47, _⟩ => ⟨S16384x256, .f32⟩
  | .hbm, ⟨48, _⟩ => ⟨S16384x512, .f32⟩
  | .hbm, ⟨49, _⟩ => ⟨S16384x8x64, .f32⟩
  | .hbm, ⟨50, _⟩ => ⟨S16384x512, .f32⟩
  | .hbm, ⟨51, _⟩ => ⟨S512x256, .f32⟩
  | .hbm, ⟨52, _⟩ => ⟨S256x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== FfnFwd.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFwdRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Adamw.lean ====
abbrev S8x1024x704 : Shape := ⟨3, ![8, 1024, 704]⟩
abbrev S4x1024x704 : Shape := ⟨3, ![4, 1024, 704]⟩
abbrev S8x1x1024x704 : Shape := ⟨4, ![8, 1, 1024, 704]⟩
abbrev S8x4x1024x704 : Shape := ⟨4, ![8, 4, 1024, 704]⟩
abbrev S8x4096x704 : Shape := ⟨3, ![8, 4096, 704]⟩
abbrev S4096x704 : Shape := ⟨2, ![4096, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 23
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S8x1x1024x704, .bf16⟩
  | .hbm, ⟨8, _⟩ => ⟨S8x1x1024x704, .bf16⟩
  | .hbm, ⟨9, _⟩ => ⟨S8x1x1024x704, .bf16⟩
  | .hbm, ⟨10, _⟩ => ⟨S8x1x1024x704, .bf16⟩
  | .hbm, ⟨11, _⟩ => ⟨S8x4x1024x704, .bf16⟩
  | .hbm, ⟨12, _⟩ => ⟨S8x4096x704, .bf16⟩
  | .hbm, ⟨13, _⟩ => ⟨S4096x704, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S4096x704, .f32⟩
  | .hbm, ⟨20, _⟩ => ⟨S4x1024x704, .f32⟩
  | .hbm, ⟨21, _⟩ => ⟨S4x1024x704, .f32⟩
  | .hbm, ⟨22, _⟩ => ⟨S4x1024x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S8x1024x704 : Shape := ⟨3, ![8, 1024, 704]⟩
abbrev S4x1024x704 : Shape := ⟨3, ![4, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S4x1024x704, .f32⟩
  | .hbm, ⟨24, _⟩ => ⟨S_, .f32⟩
  | .hbm, ⟨25, _⟩ => ⟨S4x1024x704, .f32⟩
  | .hbm, ⟨26, _⟩ => ⟨S4x1024x704, .f32⟩
  | .hbm, ⟨27, _⟩ => ⟨S_, .f32⟩
  | .hbm, ⟨28, _⟩ => ⟨S4x1024x704, .f32⟩
  | .hbm, ⟨29, _⟩ => ⟨S4x1024x704, .f32⟩
  | .hbm, ⟨30, _⟩ => ⟨S4x1024x704, .f32⟩
  | .hbm, ⟨31, _⟩ => ⟨S_, .f32⟩
  | .hbm, ⟨32, _⟩ => ⟨S4x1024x704, .f32⟩
  | .hbm, ⟨33, _⟩ => ⟨S4x1024x704, .f32⟩
  | .hbm, ⟨34, _⟩ => ⟨S4x1024x704, .f32⟩
  | .hbm, ⟨35, _⟩ => ⟨S_, .f32⟩
  | .hbm, ⟨36, _⟩ => ⟨S4x1024x704, .f32⟩
  | .hbm, ⟨37, _⟩ => ⟨S4x1024x704, .f32⟩
  | .hbm, ⟨38, _⟩ => ⟨S4x1024x704, .f32⟩
  | .hbm, ⟨39, _⟩ => ⟨S_, .f32⟩
  | .hbm, ⟨40, _⟩ => ⟨S4x1024x704, .f32⟩
  | .hbm, ⟨41, _⟩ => ⟨S4x1024x704, .f32⟩
  | .hbm, ⟨42, _⟩ => ⟨S_, .f32⟩
  | .hbm, ⟨43, _⟩ => ⟨S4x1024x704, .f32⟩
  | .hbm, ⟨44, _⟩ => ⟨S4x1024x704, .f32⟩
  | .hbm, ⟨45, _⟩ => ⟨S4x1024x704, .f32⟩
  | .hbm, ⟨46, _⟩ => ⟨S_, .f32⟩
  | .hbm, ⟨47, _⟩ => ⟨S4x1024x704, .f32⟩
  | .hbm, ⟨48, _⟩ => ⟨S4x1024x704, .f32⟩
  | .hbm, ⟨49, _⟩ => ⟨S4x1024x704, .f32⟩
  | .hbm, ⟨50, _⟩ => ⟨S_, .f32⟩
  | .hbm, ⟨51, _⟩ => ⟨S4x1024x704, .f32⟩
  | .hbm, ⟨52, _⟩ => ⟨S4x1024x704, .f32⟩
  | .hbm, ⟨53, _⟩ => ⟨S4x1024x704, .f32⟩
  | .hbm, ⟨54, _⟩ => ⟨S_, .f32⟩
  | .hbm, ⟨55, _⟩ => ⟨S4x1024x704, .f32⟩
  | .hbm, ⟨56, _⟩ => ⟨S4x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Wgrad.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x2816, .f32⟩
  | .hbm, ⟨13, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.AttnFwdLoop.lean ====
module

public import proofs.«01_k».proof.Proof.Gen.AttnFwdIdeal.Frame
public import proofs.«01_k».proof.Proof.Gen.AttnFwdIdeal.Loops
public import proofs.«01_k».proof.Proof.Gen.AttnFwdIdeal.Skeleton
public import Idealize.ShloMosaic.Lib.Pipeline.ValueKit
public import Idealize.ShloMosaic.Lib.VecWindow

@[expose] public section

set_option maxRecDepth 16384

noncomputable section

namespace Cert.AttnFwdIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnFwdIdeal Cert.AttnFwdIdeal.Gen

variable {F : FTy → Type} [FloatOps F] [Named F]

local notation "𝕄" => MT nD τ sig Unit (Elt F) ℕ (UR sig nD τ) ℕ

/-- What the seven scratch buffers hold: the running row maximum, row sum and weighted values, two buffers of scores and
    two of weights. -/
structure St (F : FTy → Type) [FloatOps F] where
  mx : Vec F S1x1024 .f32
  sm : Vec F S1x1024 .f32
  ac : Vec F S64x1024 .f32
  s0 : Vec F S1024x1024 .f32
  s1 : Vec F S1024x1024 .f32
  p0 : Vec F S1024x1024 .bf16
  p1 : Vec F S1024x1024 .bf16

/-- The block of keys at the rows `off`, and the block of values at `off`. -/
def kblk (k : Vec F S16384x128 .bf16) (off : Fin 2 → ℕ) (h : ∀ a, off a + S1024x128.size a ≤ S16384x128.size a) : Vec F S1024x128 .bf16 :=
  View.ld k (Rect.unit (s := S16384x128) off S1024x128.size h)
def vblk (v : Vec F S1x16x64x1024 .bf16) (off : Fin 4 → ℕ) (h : ∀ a, off a + S1x1x64x1024.size a ≤ S1x16x64x1024.size a) : Vec F S1x1x64x1024 .bf16 :=
  View.ld v (Rect.unit (s := S1x16x64x1024) off S1x1x64x1024.size h)

/-- The first half of a trip. -/
def half1 (q : Vec F S1024x128 .bf16) (k : Vec F S16384x128 .bf16) (v : Vec F S1x16x64x1024 .bf16) (t : Fin k0_t1_loop.trips) (s : St F) : St F where
  mx := k0_pay12 (k0_pay5 s.s0 s.mx)
  sm := k0_pay10 (k0_pay6 s.s0 s.mx) (k0_pay7 s.s0 s.mx) s.sm
  ac := k0_pay11 (k0_pay4 s.ac (vblk v (k0_off2 t) (k0_off2_inb t)) s.p1) (k0_pay6 s.s0 s.mx)
  s0 := s.s0
  s1 := k0_pay3 (k0_pay23 q) (kblk k (k0_off1 t) (k0_off1_inb t))
  p0 := k0_pay9 (k0_pay8 s.s0 s.mx)
  p1 := s.p1

/-- The second half of a trip. -/
def half2 (q : Vec F S1024x128 .bf16) (k : Vec F S16384x128 .bf16) (v : Vec F S1x16x64x1024 .bf16) (t : Fin k0_t1_loop.trips) (s : St F) : St F where
  mx := k0_pay26 (k0_pay14 s.s1 s.mx)
  sm := k0_pay18 s.s1 s.mx s.sm
  ac := k0_pay19 s.ac (vblk v (k0_off4 t) (k0_off4_inb t)) s.p0 s.s1 s.mx
  s0 := k0_pay13 (k0_pay23 q) (kblk k (k0_off3 t) (k0_off3_inb t))
  s1 := s.s1
  p0 := s.p0
  p1 := k0_pay17 s.s1 s.mx

/-- One trip of the loop. -/
def trip (q : Vec F S1024x128 .bf16) (k : Vec F S16384x128 .bf16) (v : Vec F S1x16x64x1024 .bf16) (t : Fin k0_t1_loop.trips) (s : St F) : St F :=
  half2 q k v t (half1 q k v t s)

/-- The scratch buffers holding a state. -/
def holds (c : Dev nD) (arg7 arg8 : Memref sig .tc .vmem S1x1024 .f32) (arg9 : Memref sig .tc .vmem S64x1024 .f32)
    (arg10 arg11 : Memref sig .tc .vmem S1024x1024 .f32) (arg12 arg13 : Memref sig .tc .vmem S1024x1024 .bf16) (s : St F) : sProp 𝕄 :=
  iprop(owns (c : Thread nD τ) arg7 fullShare s.mx ∗ owns (c : Thread nD τ) arg8 fullShare s.sm ∗ owns (c : Thread nD τ) arg9 fullShare s.ac
    ∗ owns (c : Thread nD τ) arg10 fullShare s.s0 ∗ owns (c : Thread nD τ) arg11 fullShare s.s1
    ∗ owns (c : Thread nD τ) arg12 fullShare s.p0 ∗ owns (c : Thread nD τ) arg13 fullShare s.p1)

set_option maxHeartbeats 2000000 in
theorem trip_run (𝒱 : Variants) (c : Dev nD) (bd : Option 𝒱.V) (E : Set ℕ) (i : grid0.Coords) (arg2 : Memref sig .tc .vmem S1024x128 .bf16) (harg2 : arg2.IsWhole) (arg3 : Memref sig .tc .vmem S16384x128 .bf16) (harg3 : arg3.IsWhole) (arg4 : Memref sig .tc .vmem S1x16x64x1024 .bf16) (harg4 : arg4.IsWhole) (arg5 : Memref sig .tc .vmem S1x1x64x1024 .bf16) (harg5 : arg5.IsWhole) (arg6 : Memref sig .tc .vmem S1x1x8x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole)
    (q : Vec F S1024x128 .bf16) (k : Vec F S16384x128 .bf16) (v : Vec F S1x16x64x1024 .bf16) (t : Fin k0_t1_loop.trips) (s : St F) :
    iprop(owns (c : Thread nD τ) arg3 fullShare k ∗ owns (c : Thread nD τ) arg4 fullShare v ∗ holds c arg7 arg8 arg9 arg10 arg11 arg12 arg13 s)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 q t PUnit.unit)
          (fun _ => iprop(owns (c : Thread nD τ) arg3 fullShare k ∗ owns (c : Thread nD τ) arg4 fullShare v ∗ holds c arg7 arg8 arg9 arg10 arg11 arg12 arg13 (trip q k v t s))) := by
  have hk : t.val < 8 := Nat.lt_of_lt_of_le t.isLt k0_t1_abs.2.1
  have e3 : ∀ off h, View.readAt (Elt F) arg3.view (Rect.unit (s := S16384x128) off S1024x128.size h).toLoadRect (harg3.unread k) = kblk k off h :=
    fun off h => funext fun y => by rw [View.readAt_apply, harg3.read_unread]; rfl
  have e4 : ∀ off h, View.readAt (Elt F) arg4.view (Rect.unit (s := S1x16x64x1024) off S1x1x64x1024.size h).toLoadRect (harg4.unread v) = vblk v off h :=
    fun off h => funext fun y => by rw [View.readAt_apply, harg4.read_unread]; rfl
  unfold k0_t1_body holds owns
  iintro ⟨⟨%f3, %hf3, H3⟩, ⟨%f4, %hf4, H4⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  obtain rfl := harg3.eq_unread hf3; obtain rfl := harg4.eq_unread hf4; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13
  sl_exec
  sl_step
  isplitl [H3]
  · iexists _; isplitr; · ipureintro; exact harg3.read_unread _
    iexact H3
  isplitl [H4]
  · iexists _; isplitr; · ipureintro; exact harg4.read_unread _
    iexact H4
  isplitl [H7]
  iexists _; isplitr; swap; iexact H7; ipureintro; rotate_left
  isplitl [H8]
  iexists _; isplitr; swap; iexact H8; ipureintro; rotate_left
  isplitl [H9]
  iexists _; isplitr; swap; iexact H9; ipureintro; rotate_left
  isplitl [H10]
  iexists _; isplitr; swap; iexact H10; ipureintro; rotate_left
  isplitl [H11]
  iexists _; isplitr; swap; iexact H11; ipureintro; rotate_left
  isplitl [H12]
  iexists _; isplitr; swap; iexact H12; ipureintro; rotate_left
  iexists _; isplitr; swap; iexact H13; ipureintro
  all_goals
    repeat (delta trip_run.sl.H11_1 trip_run.sl.H12_1 trip_run.sl.H7_1 trip_run.sl.H8_1 trip_run.sl.H9_1 trip_run.sl.arg14 trip_run.sl.cst_43 trip_run.sl.cst_55 trip_run.sl.cst_60 trip_run.sl.r trip_run.sl.v100 trip_run.sl.v101 trip_run.sl.v105 trip_run.sl.v106 trip_run.sl.v110 trip_run.sl.v111 trip_run.sl.v114 trip_run.sl.v115 trip_run.sl.v120 trip_run.sl.v121 trip_run.sl.v122 trip_run.sl.v123 trip_run.sl.v124 trip_run.sl.v125 trip_run.sl.v126 trip_run.sl.v127 trip_run.sl.v128 trip_run.sl.v129 trip_run.sl.v130 trip_run.sl.v131 trip_run.sl.v132 trip_run.sl.v133 trip_run.sl.v134 trip_run.sl.v137 trip_run.sl.v138 trip_run.sl.v139 trip_run.sl.v140 trip_run.sl.v141 trip_run.sl.v142 trip_run.sl.v144 trip_run.sl.v145 trip_run.sl.v146 trip_run.sl.v147 trip_run.sl.v150 trip_run.sl.v51 trip_run.sl.v58 trip_run.sl.v59 trip_run.sl.v62 trip_run.sl.v65 trip_run.sl.v66 trip_run.sl.v68 trip_run.sl.v70 trip_run.sl.v71 trip_run.sl.v74 trip_run.sl.v75 trip_run.sl.v76 trip_run.sl.v77 trip_run.sl.v78 trip_run.sl.v79 trip_run.sl.v80 trip_run.sl.v81 trip_run.sl.v82 trip_run.sl.v84 trip_run.sl.v85 trip_run.sl.v87 trip_run.sl.v88 trip_run.sl.v89 trip_run.sl.v90 trip_run.sl.v93 trip_run.sl.v94 trip_run.sl.v95 trip_run.sl.v98)
    repeat (first | rw [View.read_writes_full] | rw [View.readCov_full] | rw [e3] | rw [e4] | rw [View.readAt_full] | rw [harg7.read_unread] | rw [harg8.read_unread] | rw [harg9.read_unread] | rw [harg10.read_unread] | rw [harg11.read_unread] | rw [harg12.read_unread] | rw [harg13.read_unread])
    rfl

end Cert.AttnFwdIdeal.Val

end
-- ==== Proof.AttnFwdRun.lean ====
module

public import proofs.«01_k».proof.Proof.AttnFwdLoop

@[expose] public section

set_option maxRecDepth 16384

noncomputable section

namespace Cert.AttnFwdIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnFwdIdeal Cert.AttnFwdIdeal.Gen

variable {F : FTy → Type} [FloatOps F] [Named F]

local notation "𝕄" => MT nD τ sig Unit (Elt F) ℕ (UR sig nD τ) ℕ

/-- The state before the loop; the second buffer of scores and the first of weights hold anything. -/
def start (q : Vec F S1024x128 .bf16) (k : Vec F S16384x128 .bf16) (x : Vec F S1024x1024 .f32) (y : Vec F S1024x1024 .bf16) : St F where
  mx := k0_pay20
  sm := k0_pay21
  ac := k0_pay22
  s0 := k0_pay24 q (kblk k ![0, 0] inb_S16384x128_S1024x128_0_0)
  s1 := x
  p0 := y
  p1 := k0_pay25

/-- The state after `n` trips. -/
def iter (q : Vec F S1024x128 .bf16) (k : Vec F S16384x128 .bf16) (v : Vec F S1x16x64x1024 .bf16) (s : St F) : ℕ → St F
  | 0 => s
  | n + 1 => if h : n < k0_t1_loop.trips then trip q k v ⟨n, h⟩ (iter q k v s n) else iter q k v s n

theorem iter_succ (q : Vec F S1024x128 .bf16) (k : Vec F S16384x128 .bf16) (v : Vec F S1x16x64x1024 .bf16) (s : St F) (t : Fin k0_t1_loop.trips) :
    iter q k v s (t.val + 1) = trip q k v t (iter q k v s t.val) := dif_pos t.isLt

/-- What the two unwritten buffers held before the loop is never read. -/
theorem iter_start (q : Vec F S1024x128 .bf16) (k : Vec F S16384x128 .bf16) (v : Vec F S1x16x64x1024 .bf16) (x x' : Vec F S1024x1024 .f32) (y y' : Vec F S1024x1024 .bf16) :
    ∀ n, ∃ a b, iter q k v (start q k x y) n = { iter q k v (start q k x' y') n with s1 := a, p0 := b }
  | 0 => ⟨x, y, rfl⟩
  | n + 1 => by
    obtain ⟨a, b, e⟩ := iter_start q k v x x' y y' n
    by_cases h : n < k0_t1_loop.trips
    · refine ⟨(trip q k v ⟨n, h⟩ (iter q k v (start q k x y) n)).s1, (trip q k v ⟨n, h⟩ (iter q k v (start q k x y) n)).p0, ?_⟩
      rw [iter_succ q k v _ ⟨n, h⟩, iter_succ q k v _ ⟨n, h⟩, e]; rfl
    · exact ⟨a, b, by rw [iter, iter, dif_neg h, dif_neg h, e]⟩

/-- The state after the loop. -/
def final (q : Vec F S1024x128 .bf16) (k : Vec F S16384x128 .bf16) (v : Vec F S1x16x64x1024 .bf16) : St F :=
  iter q k v (start q k (k0_pay24 q (kblk k ![0, 0] inb_S16384x128_S1024x128_0_0)) k0_pay25) k0_t1_loop.trips

/-- The two results at one grid point. -/
def outO (q : Vec F S1024x128 .bf16) (k : Vec F S16384x128 .bf16) (v : Vec F S1x16x64x1024 .bf16) : Vec F S1x1x64x1024 .bf16 :=
  k0_pay1 (final q k v).ac (vblk v ![0, 15, 0, 0] inb_S1x16x64x1024_S1x1x64x1024_0_15_0_0) (final q k v).p1 (final q k v).sm
def outL (q : Vec F S1024x128 .bf16) (k : Vec F S16384x128 .bf16) (v : Vec F S1x16x64x1024 .bf16) : Vec F S1x1x8x1024 .f32 :=
  k0_pay2 (final q k v).mx (final q k v).sm

/-- The invariant of the loop: the operands unchanged, the scratch buffers at the state after `n` trips. -/
def inv (c : Dev nD) (arg3 : Memref sig .tc .vmem S16384x128 .bf16) (arg4 : Memref sig .tc .vmem S1x16x64x1024 .bf16) (arg7 arg8 : Memref sig .tc .vmem S1x1024 .f32) (arg9 : Memref sig .tc .vmem S64x1024 .f32)
    (arg10 arg11 : Memref sig .tc .vmem S1024x1024 .f32) (arg12 arg13 : Memref sig .tc .vmem S1024x1024 .bf16)
    (q : Vec F S1024x128 .bf16) (k : Vec F S16384x128 .bf16) (v : Vec F S1x16x64x1024 .bf16) (s : St F) (n : ℕ) (_ : PUnit.{1}) : sProp 𝕄 :=
  iprop(owns (c : Thread nD τ) arg3 fullShare k ∗ owns (c : Thread nD τ) arg4 fullShare v ∗ holds c arg7 arg8 arg9 arg10 arg11 arg12 arg13 (iter q k v s n))

set_option maxHeartbeats 2000000 in
theorem part_run (𝒱 : Variants) (c : Dev nD) (bd : Option 𝒱.V) (E : Set ℕ) (i : grid0.Coords) (arg2 : Memref sig .tc .vmem S1024x128 .bf16) (harg2 : arg2.IsWhole) (arg3 : Memref sig .tc .vmem S16384x128 .bf16) (harg3 : arg3.IsWhole) (arg4 : Memref sig .tc .vmem S1x16x64x1024 .bf16) (harg4 : arg4.IsWhole) (arg5 : Memref sig .tc .vmem S1x1x64x1024 .bf16) (harg5 : arg5.IsWhole) (arg6 : Memref sig .tc .vmem S1x1x8x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole)
    (q : Vec F S1024x128 .bf16) (k : Vec F S16384x128 .bf16) (v : Vec F S1x16x64x1024 .bf16) :
    iprop(owns (c : Thread nD τ) arg2 fullShare q ∗ owns (c : Thread nD τ) arg3 fullShare k ∗ owns (c : Thread nD τ) arg4 fullShare v
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d))
      ⊢ wp frame (wpE (defs₀ (F := F)) 𝒱 (c : Thread nD τ) bd) E (k0_part4 (F := F) i arg2 harg2 arg3 harg3 arg4 harg4 arg5 harg5 arg6 harg6 arg7 harg7 arg8 harg8 arg9 harg9 arg10 harg10 arg11 harg11 arg12 harg12 arg13 harg13)
          (fun _ => iprop(owns (c : Thread nD τ) arg2 fullShare q ∗ ∃ x y, inv c arg3 arg4 arg7 arg8 arg9 arg10 arg11 arg12 arg13 q k v (start q k x y) k0_t1_loop.trips PUnit.unit)) := by
  have e3 : ∀ off h, View.readAt (Elt F) arg3.view (Rect.unit (s := S16384x128) off S1024x128.size h).toLoadRect (harg3.unread k) = kblk k off h :=
    fun off h => funext fun y => by rw [View.readAt_apply, harg3.read_unread]; rfl
  simp only [k0_part4_eq_skeleton]; unfold k0_part4_skel
  unfold owns
  iintro ⟨⟨%f2, %hf2, H2⟩, ⟨%f3, %hf3, H3⟩, ⟨%f4, %hf4, H4⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩⟩
  obtain rfl := harg2.eq_unread hf2; obtain rfl := harg3.eq_unread hf3; obtain rfl := harg4.eq_unread hf4
  sl_exec
  sl_for (inv c arg3 arg4 arg7 arg8 arg9 arg10 arg11 arg12 arg13 q k v (start q k d11 d12)) $$ [H3 H4 H7 H8 H9 H10 H11 H12 H13]
  case region =>
    intro t acc
    unfold inv
    delta part_run.sl.prog.body_1
    beta_reduce
    rw [View.readAt_full, harg2.read_unread, iter_succ q k v (start q k d11 d12) t]
    exact trip_run 𝒱 c bd E i arg2 harg2 arg3 harg3 arg4 harg4 arg5 harg5 arg6 harg6 arg7 harg7 arg8 harg8 arg9 harg9 arg10 harg10 arg11 harg11 arg12 harg12 arg13 harg13 q k v t (iter q k v (start q k d11 d12) t.val)
  · unfold inv iter holds owns
    isplitl [H3]
    · iexists _; isplitr; · ipureintro; exact harg3.read_unread _
      iexact H3
    isplitl [H4]
    · iexists _; isplitr; · ipureintro; exact harg4.read_unread _
      iexact H4
    isplitl [H7]
    iexists _; isplitr; swap; iexact H7; ipureintro; rotate_left
    isplitl [H8]
    iexists _; isplitr; swap; iexact H8; ipureintro; rotate_left
    isplitl [H9]
    iexists _; isplitr; swap; iexact H9; ipureintro; rotate_left
    isplitl [H10]
    iexists _; isplitr; swap; iexact H10; ipureintro; rotate_left
    isplitl [H11]
    iexists _; isplitr; swap; iexact H11; ipureintro; exact hf11
    isplitl [H12]
    iexists _; isplitr; swap; iexact H12; ipureintro; exact hf12
    iexists _; isplitr; swap; iexact H13; ipureintro
    all_goals
      repeat (delta part_run.sl.H7_1 part_run.sl.H8_1 part_run.sl.H9_1 part_run.sl.H10_1 part_run.sl.H13_1)
      repeat (first | rw [View.read_writes_full] | rw [View.readCov_full] | rw [e3] | rw [View.readAt_full] | rw [harg2.read_unread])
      try rfl
  · iintro %acc HI
    sl_exec
    sl_step
    isplitl [H2]
    · iexists _; isplitr; · ipureintro; exact harg2.read_unread _
      iexact H2
    iexists d11; iexists d12
    iexact HI

/-- A run of a first part, then what follows it. -/
theorem after_run {𝒱 : Variants} {c : Dev nD} {bd : Option 𝒱.V} {E : Set ℕ} {p : Prog (TpuEff nD τ sig (Elt F) Λ₀ .tc) PUnit} {A : sProp 𝕄} {B : PUnit → sProp 𝕄} (Q : PUnit → sProp 𝕄)
    (h : A ⊢ wp frame (wpE (defs₀ (F := F)) 𝒱 (c : Thread nD τ) bd) E p B) :
    iprop(A ∗ (∀ a, B a -∗ Q a)) ⊢ wp frame (wpE (defs₀ (F := F)) 𝒱 (c : Thread nD τ) bd) E p Q :=
  (sep_mono_l h).trans (wp_wand_r frame (wpE (defs₀ (F := F)) 𝒱 (c : Thread nD τ) bd) E)

set_option maxHeartbeats 2000000 in
/-- The body at one grid point: the operands unchanged, the two results written, the scratch buffers at anything. -/
theorem body_run (𝒱 : Variants) (c : Dev nD) (bd : Option 𝒱.V) (E : Set ℕ) (i : grid0.Coords) (arg2 : Memref sig .tc .vmem S1024x128 .bf16) (harg2 : arg2.IsWhole) (arg3 : Memref sig .tc .vmem S16384x128 .bf16) (harg3 : arg3.IsWhole) (arg4 : Memref sig .tc .vmem S1x16x64x1024 .bf16) (harg4 : arg4.IsWhole) (arg5 : Memref sig .tc .vmem S1x1x64x1024 .bf16) (harg5 : arg5.IsWhole) (arg6 : Memref sig .tc .vmem S1x1x8x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole)
    (q : Vec F S1024x128 .bf16) (k : Vec F S16384x128 .bf16) (v : Vec F S1x16x64x1024 .bf16) (Q : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d)
        ∗ ((owns (c : Thread nD τ) arg2 fullShare q ∗ owns (c : Thread nD τ) arg3 fullShare k ∗ owns (c : Thread nD τ) arg4 fullShare v
          ∗ owns (c : Thread nD τ) arg5 fullShare (outO q k v) ∗ owns (c : Thread nD τ) arg6 fullShare (outL q k v)
          ∗ (∃ d, owns (c : Thread nD τ) arg7 fullShare d) ∗ (∃ d, owns (c : Thread nD τ) arg8 fullShare d) ∗ (∃ d, owns (c : Thread nD τ) arg9 fullShare d)
          ∗ (∃ d, owns (c : Thread nD τ) arg10 fullShare d) ∗ (∃ d, owns (c : Thread nD τ) arg11 fullShare d) ∗ (∃ d, owns (c : Thread nD τ) arg12 fullShare d)
          ∗ (∃ d, owns (c : Thread nD τ) arg13 fullShare d)) -∗ Q PUnit.unit))
      ⊢ wp frame (wpE (defs₀ (F := F)) 𝒱 (c : Thread nD τ) bd) E (cc0_attn_fwd (F := F) i arg2 harg2 arg3 harg3 arg4 harg4 arg5 harg5 arg6 harg6 arg7 harg7 arg8 harg8 arg9 harg9 arg10 harg10 arg11 harg11 arg12 harg12 arg13 harg13) Q := by
  have e4 : ∀ off h, View.readAt (Elt F) arg4.view (Rect.unit (s := S1x16x64x1024) off S1x1x64x1024.size h).toLoadRect (harg4.unread v) = vblk v off h :=
    fun off h => funext fun y => by rw [View.readAt_apply, harg4.read_unread]; rfl
  simp only [cc0_attn_fwd_eq_skeleton]; unfold cc0_attn_fwd_skel
  rw [wp_bind]
  refine BIBase.Entails.trans ?_ (after_run _ (part_run 𝒱 c bd E i arg2 harg2 arg3 harg3 arg4 harg4 arg5 harg5 arg6 harg6 arg7 harg7 arg8 harg8 arg9 harg9 arg10 harg10 arg11 harg11 arg12 harg12 arg13 harg13 q k v))
  iintro ⟨H2, H3, H4, ⟨%d5, H5⟩, ⟨%d6, H6⟩, H7, H8, H9, H10, H11, H12, H13, Hk⟩
  isplitl [H2 H3 H4 H7 H8 H9 H10 H11 H12 H13]
  · isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    iexact H13
  iintro %_ ⟨H2, %x, %y, HI⟩
  obtain ⟨a, b, e⟩ := iter_start q k v x (k0_pay24 q (kblk k ![0, 0] inb_S16384x128_S1024x128_0_0)) y k0_pay25 k0_t1_loop.trips
  have e' : iter q k v (start q k x y) k0_t1_loop.trips = { final q k v with s1 := a, p0 := b } := e
  unfold inv; rw [e']; unfold holds owns
  icases H5 with ⟨%f5, %hf5, H5⟩
  icases H6 with ⟨%f6, %hf6, H6⟩
  icases HI with ⟨H3, ⟨%f4, %hf4, H4⟩, ⟨%f7, %hf7, H7⟩, ⟨%f8, %hf8, H8⟩, ⟨%f9, %hf9, H9⟩, H10, H11, H12, ⟨%f13, %hf13, H13⟩⟩
  obtain rfl := harg4.eq_unread hf4; obtain rfl := harg7.eq_unread hf7; obtain rfl := harg8.eq_unread hf8
  obtain rfl := harg9.eq_unread hf9; obtain rfl := harg13.eq_unread hf13
  sl_exec
  sl_step
  iapply Hk
  isplitl [H2]; · iexact H2
  isplitl [H3]; · iexact H3
  isplitl [H4]
  · iexists _; isplitr; · ipureintro; exact harg4.read_unread _
    iexact H4
  isplitl [H5]
  iexists _; isplitr; swap; iexact H5; ipureintro; rotate_left
  isplitl [H6]
  iexists _; isplitr; swap; iexact H6; ipureintro; rotate_left
  isplitl [H7]; · iexists _; iexists _; isplitr; swap; iexact H7; ipureintro; rfl
  isplitl [H8]; · iexists _; iexists _; isplitr; swap; iexact H8; ipureintro; rfl
  isplitl [H9]; · iexists _; iexists _; isplitr; swap; iexact H9; ipureintro; rfl
  isplitl [H10]; · iexists _; iexact H10
  isplitl [H11]; · iexists _; iexact H11
  isplitl [H12]; · iexists _; iexact H12
  iexists _; iexists _; isplitr; swap; iexact H13; ipureintro; rfl
  all_goals
    repeat (first | rw [View.read_writes_full] | rw [View.readCov_full] | rw [e4] | rw [View.readAt_full] | rw [harg7.read_unread] | rw [harg8.read_unread] | rw [harg9.read_unread] | rw [harg13.read_unread])
    try rfl

end Cert.AttnFwdIdeal.Val

end
-- ==== Proof.AttnFwdFrame.lean ====
module

public import proofs.«01_k».proof.Proof.AttnFwdRun

@[expose] public section

set_option maxRecDepth 16384

noncomputable section

namespace Cert.AttnFwdIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnFwdIdeal Cert.AttnFwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is known of each window at each point: the operands' blocks stay, the results' blocks are the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (iblk m c 1 t) (iblk m c 2 t)
    | ⟨4, _⟩ => outL (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outO (iblk m c 0 t) (iblk m c 1 t) (iblk m c 2 t) := by dsimp only [dats]
theorem after_4 (c : Dev nD) (t : Fin cfg0.N) : (dats m 0 c).after 4 t = outL (iblk m c 0 t) (iblk m c 1 t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The resources that pass from point to point: the scratch buffers and the generator register, at anything. -/
theorem rest_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA
  rw [scopedRest0_eq]
  simp only [owns_whole]
  try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, rest_eq]
  iintro ⟨⟨⟨S0, S1, S2, S3, S4, S5, S6⟩, Hr⟩, Ho, ⟨%d0, H0⟩, ⟨%d1, H1⟩, ⟨%d2, H2⟩, ⟨%d3, H3⟩, ⟨%d4, H4⟩⟩
  iapply (body_run Variants.none c none Set.univ (grid0.coords t) _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, S0, S1, S2, S3, S4, S5, S6⟩
  isplitl [Hr S0 S1 S2 S3 S4 S5 S6]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of the whole program, the semaphores' counters zero at the end. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiet m ρ))

end Cert.AttnFwdIdeal.Val

end
-- ==== Proof.AttnFwdBits.lean ====
module

public import proofs.«01_k».proof.AttnFwd
public import proofs.«01_k».proof.Proof.Gen.AttnFwd
public import proofs.«01_k».proof.Proof.AttnFwdFrame

@[expose] public section

set_option maxRecDepth 16384

noncomputable section

namespace Cert.AttnFwd.Val

open Idealize.ShloMosaic Idealize.ShloMosaic.TcCoe Idealize.SL Idealize.SL.Sem
open Cert.AttnFwd

/-- Over machine words a named constant is its word. -/
@[reducible] def words : Named Bits where
  named _ _ {φ} b := Scalar.ofBits φ b

/-- What the frame of each program says. -/
def Says (m : (ℓ : Loc nD τ sig) → Buf (Elt Bits) ℓ) (ρ : Dev nD → PrngReg) : Prop :=
  θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

open Cert.AttnFwdIdeal in
def SaysNamed (m : (ℓ : Loc Cert.AttnFwdIdeal.nD Cert.AttnFwdIdeal.τ Cert.AttnFwdIdeal.sig) → Buf (Elt Bits) ℓ) (ρ : Dev Cert.AttnFwdIdeal.nD → PrngReg) : Prop :=
  haveI := words
  θ_run (Cert.AttnFwdIdeal.defs (F := Bits)) (onTc (τ := Cert.AttnFwdIdeal.τ) (Cert.AttnFwdIdeal.main (F := Bits))) ⟨m, fun _ => 0, ρ⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

theorem says_eq (m : (ℓ : Loc nD τ sig) → Buf (Elt Bits) ℓ) (ρ : Dev nD → PrngReg) : SaysNamed m ρ = Says m ρ := by
  sl_kernel_rfl

/-- The program before its constant is named, over machine words. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  cast (says_eq m ρ) (@Cert.AttnFwdIdeal.Val.frame Bits _ words m ρ)

end Cert.AttnFwd.Val

end
-- ==== Proof.FfnActRun.lean ====
module

public import proofs.«01_k».proof.Proof.Gen.FfnActIdeal.Skeleton
public import proofs.«01_k».proof.Proof.Gen.FfnActIdeal.Points
public import proofs.«01_k».proof.Proof.Gen.FfnActIdeal.Frame
public import Idealize.ShloMosaic.Lib.Pipeline.ValueKit
public import Idealize.ShloMosaic.Lib.VecWindow

@[expose] public section

set_option maxRecDepth 16384

noncomputable section

namespace Cert.FfnActIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnActIdeal Cert.FfnActIdeal.Gen

variable {F : FTy → Type} [FloatOps F]

local notation "𝕄" => MT nD τ sig Unit (Elt F) ℕ (UR sig nD τ) ℕ

/-- The block of the gate's result from the block `h` of the normalised rows. -/
def actO (h : Vec F S512x1024 .bf16) (wg wu : Vec F S1024x1408 .bf16) : Vec F S512x1408 .bf16 := k0_pay9 h wg wu

/-- The block of the second half's cotangent. -/
def duO (h dy : Vec F S512x1024 .bf16) (wg wd : Vec F S1024x1408 .bf16) : Vec F S512x1408 .bf16 := k0_pay11 h wg dy wd

/-- The block of the first half's cotangent. -/
def dgO (h dy : Vec F S512x1024 .bf16) (wg wu wd : Vec F S1024x1408 .bf16) : Vec F S512x1408 .bf16 :=
  k0_pay1 (k0_pay5 h wg) (k0_pay7 h wg) (k0_pay12 h wu dy wd) (k0_pay13 h wg)

set_option maxHeartbeats 1000000 in
/-- The body at the first of a row block's two points: it normalises the rows and halves the cotangent, and uses both. -/
theorem run_first (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole)
    (hc : k0_cond1 i = 1#1) (x : Vec F S512x1024 .f32) (gn : Vec F S1x1024 .f32) (wg wu wd : Vec F S1024x1408 .bf16) (dz : Vec F S512x1024 .f32) (Q : PUnit → sProp 𝕄) :
    iprop(owns (c : Thread nD τ) arg2 fullShare x ∗ owns (c : Thread nD τ) arg3 fullShare gn ∗ owns (c : Thread nD τ) arg4 fullShare wg ∗ owns (c : Thread nD τ) arg5 fullShare wu ∗ owns (c : Thread nD τ) arg6 fullShare wd ∗ owns (c : Thread nD τ) arg7 fullShare dz ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ ((owns (c : Thread nD τ) arg2 fullShare x ∗ owns (c : Thread nD τ) arg3 fullShare gn ∗ owns (c : Thread nD τ) arg4 fullShare wg ∗ owns (c : Thread nD τ) arg5 fullShare wu ∗ owns (c : Thread nD τ) arg6 fullShare wd ∗ owns (c : Thread nD τ) arg7 fullShare dz ∗ owns (c : Thread nD τ) arg8 fullShare (k0_pay2 x gn) ∗ owns (c : Thread nD τ) arg9 fullShare (actO (k0_pay2 x gn) wg wu) ∗ owns (c : Thread nD τ) arg10 fullShare (dgO (k0_pay2 x gn) (k0_pay3 dz) wg wu wd) ∗ owns (c : Thread nD τ) arg11 fullShare (duO (k0_pay2 x gn) (k0_pay3 dz) wg wd) ∗ owns (c : Thread nD τ) arg12 fullShare (k0_pay3 dz)) -∗ Q PUnit.unit))
      ⊢ wp frame (wpE (defs₀ (F := F)) Variants.none c none) E (cc0_ffn_bwd_act (F := F) i arg2 harg2 arg3 harg3 arg4 harg4 arg5 harg5 arg6 harg6 arg7 harg7 arg8 harg8 arg9 harg9 arg10 harg10 arg11 harg11 arg12 harg12) Q := by
  simp only [cc0_ffn_bwd_act_eq_skeleton]; unfold cc0_ffn_bwd_act_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  iexists _; isplitr; swap; iexact H8; ipureintro; rotate_left
  isplitl [H9]
  iexists _; isplitr; swap; iexact H9; ipureintro; rotate_left
  isplitl [H10]
  iexists _; isplitr; swap; iexact H10; ipureintro; rotate_left
  isplitl [H11]
  iexists _; isplitr; swap; iexact H11; ipureintro; rotate_left
  iexists _; isplitr; swap; iexact H12; ipureintro
  all_goals
    try delta run_first.sl.r
    try delta run_first.sl.r_1
    try delta run_first.sl.r_2
    try delta run_first.sl.r_3
    try delta run_first.sl.v3
    try delta run_first.sl.v22
    try delta run_first.sl.H8_1
    try delta run_first.sl.H12_1
    repeat (first | rw [View.read_writes_full] | rw [View.readCov_full] | rw [View.readAt_full] | rw [harg2.read_unread] | rw [harg3.read_unread] | rw [harg4.read_unread] | rw [harg5.read_unread] | rw [harg6.read_unread] | rw [harg7.read_unread] | rw [harg8.read_unread] | rw [harg12.read_unread])
    try rfl

set_option maxHeartbeats 1000000 in
/-- The body at the second of the two points: it finds the normalised rows and the halved cotangent where the first left them. -/
theorem run_second (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole)
    (hc : ¬ k0_cond1 i = 1#1) (x : Vec F S512x1024 .f32) (gn : Vec F S1x1024 .f32) (wg wu wd : Vec F S1024x1408 .bf16) (dz : Vec F S512x1024 .f32) (h dy : Vec F S512x1024 .bf16) (Q : PUnit → sProp 𝕄) :
    iprop(owns (c : Thread nD τ) arg2 fullShare x ∗ owns (c : Thread nD τ) arg3 fullShare gn ∗ owns (c : Thread nD τ) arg4 fullShare wg ∗ owns (c : Thread nD τ) arg5 fullShare wu ∗ owns (c : Thread nD τ) arg6 fullShare wd ∗ owns (c : Thread nD τ) arg7 fullShare dz ∗ owns (c : Thread nD τ) arg8 fullShare h ∗ (∃ d, owns (c : Thread nD τ) arg9 fullShare d) ∗ (∃ d, owns (c : Thread nD τ) arg10 fullShare d) ∗ (∃ d, owns (c : Thread nD τ) arg11 fullShare d) ∗ owns (c : Thread nD τ) arg12 fullShare dy
        ∗ ((owns (c : Thread nD τ) arg2 fullShare x ∗ owns (c : Thread nD τ) arg3 fullShare gn ∗ owns (c : Thread nD τ) arg4 fullShare wg ∗ owns (c : Thread nD τ) arg5 fullShare wu ∗ owns (c : Thread nD τ) arg6 fullShare wd ∗ owns (c : Thread nD τ) arg7 fullShare dz ∗ owns (c : Thread nD τ) arg8 fullShare h ∗ owns (c : Thread nD τ) arg9 fullShare (actO h wg wu) ∗ owns (c : Thread nD τ) arg10 fullShare (dgO h dy wg wu wd) ∗ owns (c : Thread nD τ) arg11 fullShare (duO h dy wg wd) ∗ owns (c : Thread nD τ) arg12 fullShare dy) -∗ Q PUnit.unit))
      ⊢ wp frame (wpE (defs₀ (F := F)) Variants.none c none) E (cc0_ffn_bwd_act (F := F) i arg2 harg2 arg3 harg3 arg4 harg4 arg5 harg5 arg6 harg6 arg7 harg7 arg8 harg8 arg9 harg9 arg10 harg10 arg11 harg11 arg12 harg12) Q := by
  simp only [cc0_ffn_bwd_act_eq_skeleton]; unfold cc0_ffn_bwd_act_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg12.eq_unread hf12
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  iexists _; isplitr; swap; iexact H8; ipureintro; rotate_left
  isplitl [H9]
  iexists _; isplitr; swap; iexact H9; ipureintro; rotate_left
  isplitl [H10]
  iexists _; isplitr; swap; iexact H10; ipureintro; rotate_left
  isplitl [H11]
  iexists _; isplitr; swap; iexact H11; ipureintro; rotate_left
  iexists _; isplitr; swap; iexact H12; ipureintro
  all_goals
    try delta run_second.sl.r
    try delta run_second.sl.r_1
    try delta run_second.sl.r_2
    try delta run_second.sl.r_3
    try delta run_second.sl.v3
    try delta run_second.sl.v22
    repeat (first | rw [View.read_writes_full] | rw [View.readCov_full] | rw [View.readAt_full] | rw [harg2.read_unread] | rw [harg3.read_unread] | rw [harg4.read_unread] | rw [harg5.read_unread] | rw [harg6.read_unread] | rw [harg7.read_unread] | rw [harg8.read_unread] | rw [harg12.read_unread])
    try rfl

end Cert.FfnActIdeal.Val

end
-- ==== Proof.FfnActFrame.lean ====
module

public import proofs.«01_k».proof.Proof.FfnActRun

@[expose] public section

set_option maxRecDepth 16384

noncomputable section

namespace Cert.FfnActIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnActIdeal Cert.FfnActIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a row block is where the body's condition holds. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The normalised rows of point `t`'s row block. -/
def H (c : Dev nD) (t : Fin cfg0.N) : Vec F S512x1024 .bf16 := k0_pay2 (iblk m c 0 t) (iblk m c 1 t)

/-- The halved cotangent of point `t`'s row block. -/
def DY (c : Dev nD) (t : Fin cfg0.N) : Vec F S512x1024 .bf16 := k0_pay3 (iblk m c 5 t)

/-- Between a row block's two points the scratch buffer holds the halved cotangent, elsewhere anything. -/
def between (c : Dev nD) (k : Fin (cfg0.N + 1)) : sProp 𝕄 :=
  if h : k.val % 2 = 1 then
    iprop(owns (c : Thread nD τ) (Memref.whole cc0_scratch0) fullShare (DY m c ⟨k.val - 1, by have := k.isLt; omega⟩) ∗ (∃ r, prngReg c r))
  else Pipeline.ΦA spec0 c

/-- What is known of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => H m c t
    | ⟨7, _⟩ => actO (H m c t) (iblk m c 2 t) (iblk m c 3 t)
    | ⟨8, _⟩ => dgO (H m c t) (DY m c t) (iblk m c 2 t) (iblk m c 3 t) (iblk m c 4 t)
    | ⟨9, _⟩ => duO (H m c t) (DY m c t) (iblk m c 2 t) (iblk m c 4 t)
  Φ k := between m c k
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = H m c t := by dsimp only [dats]
theorem after_7 (c : Dev nD) (t : Fin cfg0.N) : (dats m 0 c).after 7 t = actO (H m c t) (iblk m c 2 t) (iblk m c 3 t) := by dsimp only [dats]
theorem after_8 (c : Dev nD) (t : Fin cfg0.N) : (dats m 0 c).after 8 t = dgO (H m c t) (DY m c t) (iblk m c 2 t) (iblk m c 3 t) (iblk m c 4 t) := by dsimp only [dats]
theorem after_9 (c : Dev nD) (t : Fin cfg0.N) : (dats m 0 c).after 9 t = duO (H m c t) (DY m c t) (iblk m c 2 t) (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The point before `t`. -/
abbrev prev (t : Fin cfg0.N) : Fin cfg0.N := ⟨t.val - 1, Nat.lt_of_le_of_lt (Nat.sub_le _ _) t.isLt⟩

theorem kept_0 (c : Dev nD) (t : Fin cfg0.N) (ht : t.val % 2 = 1) : iblk m c 0 (prev t) = iblk m c 0 t := by
  have hf : (cfg0.win 0).fetch t = false := by
    rw [← Bool.not_eq_true]; intro h; have := (fetch0_0 t).mp h; omega
  rw [← before_0 m c t (fun _ => default), (dats m 0 c).before_unfetched_in 0 rfl t hf (fun _ => rfl) _]
  unfold Dat.kept
  dsimp only [dats]
  rfl

theorem kept_1 (c : Dev nD) (t : Fin cfg0.N) (ht : t.val % 2 = 1) : iblk m c 1 (prev t) = iblk m c 1 t := by
  have hf : (cfg0.win 1).fetch t = false := by
    rw [← Bool.not_eq_true]; intro h; have := (fetch0_1 t).mp h; omega
  rw [← before_1 m c t (fun _ => default), (dats m 0 c).before_unfetched_in 1 rfl t hf (fun _ => rfl) _]
  unfold Dat.kept
  dsimp only [dats]
  rfl

theorem kept_5 (c : Dev nD) (t : Fin cfg0.N) (ht : t.val % 2 = 1) : iblk m c 5 (prev t) = iblk m c 5 t := by
  have hf : (cfg0.win 5).fetch t = false := by
    rw [← Bool.not_eq_true]; intro h; have := (fetch0_5 t).mp h; omega
  rw [← before_5 m c t (fun _ => default), (dats m 0 c).before_unfetched_in 5 rfl t hf (fun _ => rfl) _]
  unfold Dat.kept
  dsimp only [dats]
  rfl

theorem H_prev (c : Dev nD) (t : Fin cfg0.N) (ht : t.val % 2 = 1) : H m c (prev t) = H m c t := by
  unfold H; rw [kept_0 m c t ht, kept_1 m c t ht]

theorem DY_prev (c : Dev nD) (t : Fin cfg0.N) (ht : t.val % 2 = 1) : DY m c (prev t) = DY m c t := by
  unfold DY; rw [kept_5 m c t ht]

/-- The body writes the first result at a row block's first point only. -/
theorem live_6 : ∀ t : Fin cfg0.N, t.val % 2 = 0 → cfg0.idle 6 (cfg0.grid.coords t) = false :=
  (by decide +kernel : ∀ t : Fin grid0.N, t.val % 2 = 0 → cfg0.idle 6 (cfg0.grid.coords t) = false)
theorem idle_6 : ∀ t : Fin cfg0.N, t.val % 2 = 1 → cfg0.idle 6 (cfg0.grid.coords t) = true :=
  (by decide +kernel : ∀ t : Fin grid0.N, t.val % 2 = 1 → cfg0.idle 6 (cfg0.grid.coords t) = true)

/-- At a row block's second point the first result's buffer holds the normalised rows. -/
theorem before_6 (c : Dev nD) (t : Fin cfg0.N) (ht : t.val % 2 = 1) (d) : (dats m 0 c).before 6 t d = H m c t := by
  have hf : (cfg0.win 6).flush (prev t) = false := by
    rw [← Bool.not_eq_true]; intro h; have h' := (flush0_6 (prev t)).mp h; have e : (prev t).val = t.val - 1 := rfl; omega
  rw [(dats m 0 c).before_of_pos 6 t (by omega) ((cfg0.win 6).fetch_out rfl t) d, hf, if_neg Bool.false_ne_true]
  unfold Dat.left
  rw [live_6 (prev t) (by have e : (prev t).val = t.val - 1 := rfl; omega)]
  exact (H_prev m c t ht)

/-- At either point the body leaves the normalised rows there. -/
theorem leaves_6 (c : Dev nD) (t : Fin cfg0.N) : (dats m 0 c).leavesExact 6 t = owns (c : Thread nD τ) (st0_6 t) fullShare (H m c t) := by
  unfold Dat.leavesExact
  by_cases h : t.val % 2 = 0
  · rw [live_6 t h, after_6]
  · rw [idle_6 t (by omega), (flush0_6 t).mpr (by omega), after_6]

/-- The resources that pass from point to point: the scratch buffer and the generator register, at anything. -/
theorem rest_eq (c : Dev nD) : (Pipeline.ΦA spec0 c : sProp 𝕄)
    = iprop(iprop((∃ d, owns (c : Thread nD τ) (Memref.whole cc0_scratch0) fullShare d)) ∗ (∃ r, prngReg c r)) := by
  unfold Pipeline.ΦA
  rw [scopedRest0_eq]
  simp only [owns_whole]
  try rfl

/-- Before a row block's first point, and after its second, the scratch buffer is at anything. -/
theorem between_even (c : Dev nD) (k : Fin (cfg0.N + 1)) (h : k.val % 2 = 0) : between m c k = Pipeline.ΦA spec0 c := by
  unfold between; rw [dif_neg (by omega)]

theorem between_after (c : Dev nD) (t : Fin cfg0.N) (h : t.val % 2 = 0) : between m c t.succ
    = iprop(owns (c : Thread nD τ) (Memref.whole cc0_scratch0) fullShare (DY m c t) ∗ (∃ r, prngReg c r)) := by
  unfold between; rw [dif_pos (by rw [Fin.val_succ]; omega)]; rfl

theorem between_before (c : Dev nD) (t : Fin cfg0.N) (h : t.val % 2 = 1) : between m c t.castSucc
    = iprop(owns (c : Thread nD τ) (Memref.whole cc0_scratch0) fullShare (DY m c t) ∗ (∃ r, prngReg c r)) := by
  unfold between; rw [dif_pos (by rw [Fin.val_castSucc]; omega)]; exact congrArg (fun z => iprop(owns (c : Thread nD τ) (Memref.whole cc0_scratch0) fullShare z ∗ (∃ r, prngReg c r))) (DY_prev m c t h)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = between m c t.succ from rfl, show (dats m 0 c).Φ t.castSucc = between m c t.castSucc from rfl,
    show (dats m 0 c).owesAt () t.succ = (dats m 0 c).owesAt () t.castSucc from rfl,
    after_0, after_1, after_2, after_3, after_4, after_5, leaves_6, after_7, after_8, after_9]
  by_cases h0 : t.val % 2 = 0
  · rw [between_even m c t.castSucc h0, between_after m c t h0, rest_eq]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c Set.univ (grid0.coords t) _ _ _ _ _ _ _ _ _ _ _ _ _ _ _ _ _ _ _ _ _ _ ((first_iff t).mpr h0) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h1 : t.val % 2 = 1 := by omega
    simp only [before_6 m c t h1]
    rw [between_even m c t.succ (by rw [Fin.val_succ]; omega), between_before m c t h1, rest_eq]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_second c Set.univ (grid0.coords t) _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (H m c t) (DY m c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hr]
    · isplitl [HS]; · iexists _; iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of the whole program, the semaphores' counters zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [show (dats m 0 c).Φ 0 = between m c 0 from rfl, between_even m c 0 rfl])
    (hout := fun c => by rw [show (dats m 0 c).Φ (Fin.last _) = between m c (Fin.last _) from rfl, between_even m c (Fin.last _) (by decide)])

theorem run_main : θ_run defs (onTc (τ := τ) (main (F := F))) (s₀ m ρ) (Pipeline.FramePost cfgs (dats m) 0 (V m)) :=
  (θ_run defs _ _).mono (fun _ h => h.1) (run_quiet m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.FfnActIdeal.Val

end
-- ==== Proof.FfnActBits.lean ====
module

public import proofs.«01_k».proof.FfnAct
public import proofs.«01_k».proof.Proof.Gen.FfnAct
public import proofs.«01_k».proof.Proof.FfnActFrame

@[expose] public section

set_option maxRecDepth 16384

noncomputable section

namespace Cert.FfnAct.Val

open Idealize.ShloMosaic Idealize.ShloMosaic.TcCoe Idealize.SL Idealize.SL.Sem
open Cert.FfnAct

/-- What the frame of each program says. -/
def Says (m : (ℓ : Loc nD τ sig) → Buf (Elt Bits) ℓ) (ρ : Dev nD → PrngReg) : Prop :=
  θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

open Cert.FfnActIdeal in
def SaysIdeal (m : (ℓ : Loc Cert.FfnActIdeal.nD Cert.FfnActIdeal.τ Cert.FfnActIdeal.sig) → Buf (Elt Bits) ℓ) (ρ : Dev Cert.FfnActIdeal.nD → PrngReg) : Prop :=
  θ_run (Cert.FfnActIdeal.defs (F := Bits)) (onTc (τ := Cert.FfnActIdeal.τ) (Cert.FfnActIdeal.main (F := Bits))) ⟨m, fun _ => 0, ρ⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

theorem says_eq (m : (ℓ : Loc nD τ sig) → Buf (Elt Bits) ℓ) (ρ : Dev nD → PrngReg) : SaysIdeal m ρ = Says m ρ := by
  sl_kernel_rfl

/-- The program over machine words. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  cast (says_eq m ρ) (Cert.FfnActIdeal.Val.frame (F := Bits) m ρ)

end Cert.FfnAct.Val

end
-- ==== Proof.MlaInRun.lean ====
module

public import proofs.«01_k».proof.Proof.Gen.MlaInIdeal.Skeleton
public import proofs.«01_k».proof.Proof.Gen.MlaInIdeal.Points
public import proofs.«01_k».proof.Proof.Gen.MlaInIdeal.Frame.Runs
public import Idealize.ShloMosaic.Lib.Pipeline.ValueKit
public import Idealize.ShloMosaic.Lib.VecWindow

@[expose] public section

set_option maxRecDepth 16384

noncomputable section

namespace Cert.MlaInIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MlaInIdeal Cert.MlaInIdeal.Gen

variable {F : FTy → Type} [FloatOps F]

local notation "𝕄" => MT nD τ sig Unit (Elt F) ℕ (UR sig nD τ) ℕ

set_option maxHeartbeats 40000000 in
/-- The body at the first point: it clears seven of its results before it adds to them. -/
noncomputable def firstRun (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1280 .bf16) (harg3 : arg3.IsWhole) (arg4 : Memref sig .tc .vmem S1x384 .f32) (harg4 : arg4.IsWhole) (arg5 : Memref sig .tc .vmem S1x256 .f32) (harg5 : arg5.IsWhole) (arg6 : Memref sig .tc .vmem S384x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S8x1x128x256 .f32) (harg14 : arg14.IsWhole) (arg15 : Memref sig .tc .vmem S256x1024 .f32) (harg15 : arg15.IsWhole) (arg16 : Memref sig .tc .vmem S8x1x64x256 .f32) (harg16 : arg16.IsWhole) (arg17 : Memref sig .tc .vmem S64x512 .f32) (harg17 : arg17.IsWhole) (arg18 : Memref sig .tc .vmem S256x512 .f32) (harg18 : arg18.IsWhole) (arg19 : Memref sig .tc .vmem S64x512 .f32) (harg19 : arg19.IsWhole) (arg20 : Memref sig .tc .vmem S256x1280 .bf16) (harg20 : arg20.IsWhole) (arg21 : Memref sig .tc .vmem S384x1024 .f32) (harg21 : arg21.IsWhole) (arg22 : Memref sig .tc .vmem S256x1024 .f32) (harg22 : arg22.IsWhole) (arg23 : Memref sig .tc .vmem S256x512 .f32) (harg23 : arg23.IsWhole) (arg24 : Memref sig .tc .vmem S1x384 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x128 .f32) (harg27 : arg27.IsWhole)
    (hc : cond0_0 i) (x0 : Vec F S256x1024 .f32) (x1 : Vec F S1x1024 .f32) (x2 : Vec F S1024x1280 .bf16) (x3 : Vec F S1x384 .f32) (x4 : Vec F S1x256 .f32) (x5 : Vec F S384x1024 .bf16) (x6 : Vec F S256x1024 .bf16) (x7 : Vec F S256x512 .bf16) (x8 : Vec F S1x128 .f32) (x9 : Vec F S1x128 .f32) (x10 : Vec F S256x128 .f32) (x11 : Vec F S256x128 .f32) (x12 : Vec F S256x128 .f32) (x13 : Vec F S8x1x128x256 .f32) (x14 : Vec F S256x1024 .f32) (x15 : Vec F S8x1x64x256 .f32) (x16 : Vec F S64x512 .f32) (x17 : Vec F S256x512 .f32) (x18 : Vec F S64x512 .f32) :
    Σ' (o19 : Vec F S256x1280 .bf16), Σ' (o20 : Vec F S384x1024 .f32), Σ' (o21 : Vec F S256x1024 .f32), Σ' (o22 : Vec F S256x512 .f32), Σ' (o23 : Vec F S1x384 .f32), Σ' (o24 : Vec F S1x256 .f32), Σ' (o25 : Vec F S1x128 .f32), { o26 : Vec F S1x128 .f32 // ∀ (E : Set ℕ) (Q : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare o19 ∗ owns (c : Thread nD τ) arg21 fullShare o20 ∗ owns (c : Thread nD τ) arg22 fullShare o21 ∗ owns (c : Thread nD τ) arg23 fullShare o22 ∗ owns (c : Thread nD τ) arg24 fullShare o23 ∗ owns (c : Thread nD τ) arg25 fullShare o24 ∗ owns (c : Thread nD τ) arg26 fullShare o25 ∗ owns (c : Thread nD τ) arg27 fullShare o26) -∗ Q PUnit.unit))
      ⊢ wp frame (wpE (defs₀ (F := F)) Variants.none c none) E (cc0_mla_in_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨?_, ?_, ?_, ?_, ?_, ?_, ?_, ?_, fun E Q => ?_⟩
  rotate_left 8
  simp only [cc0_mla_in_bwd_eq_skeleton]; unfold cc0_mla_in_bwd_skel
  simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13; obtain rfl := harg15.eq_unread hf14; obtain rfl := harg16.eq_unread hf15
  obtain rfl := harg17.eq_unread hf16; obtain rfl := harg18.eq_unread hf17; obtain rfl := harg19.eq_unread hf18
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; swap; iexact H19; ipureintro
    exact View.read_writes_full ..
  isplitl [H20]
  · iexists _; isplitr; swap; iexact H20; ipureintro
    exact View.read_writes_full ..
  isplitl [H21]
  · iexists _; isplitr; swap; iexact H21; ipureintro
    exact View.read_writes_full ..
  isplitl [H22]
  · iexists _; isplitr; swap; iexact H22; ipureintro
    exact View.read_writes_full ..
  isplitl [H23]
  · iexists _; isplitr; swap; iexact H23; ipureintro
    exact View.read_writes_full ..
  isplitl [H24]
  · iexists _; isplitr; swap; iexact H24; ipureintro
    exact View.read_writes_full ..
  isplitl [H25]
  · iexists _; isplitr; swap; iexact H25; ipureintro
    exact View.read_writes_full ..
  · iexists _; isplitr; swap; iexact H26; ipureintro
    exact View.read_writes_full ..

set_option maxHeartbeats 40000000 in
/-- The body at any other point: it adds to the running contents of seven of its results. -/
noncomputable def nextRun (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1280 .bf16) (harg3 : arg3.IsWhole) (arg4 : Memref sig .tc .vmem S1x384 .f32) (harg4 : arg4.IsWhole) (arg5 : Memref sig .tc .vmem S1x256 .f32) (harg5 : arg5.IsWhole) (arg6 : Memref sig .tc .vmem S384x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S8x1x128x256 .f32) (harg14 : arg14.IsWhole) (arg15 : Memref sig .tc .vmem S256x1024 .f32) (harg15 : arg15.IsWhole) (arg16 : Memref sig .tc .vmem S8x1x64x256 .f32) (harg16 : arg16.IsWhole) (arg17 : Memref sig .tc .vmem S64x512 .f32) (harg17 : arg17.IsWhole) (arg18 : Memref sig .tc .vmem S256x512 .f32) (harg18 : arg18.IsWhole) (arg19 : Memref sig .tc .vmem S64x512 .f32) (harg19 : arg19.IsWhole) (arg20 : Memref sig .tc .vmem S256x1280 .bf16) (harg20 : arg20.IsWhole) (arg21 : Memref sig .tc .vmem S384x1024 .f32) (harg21 : arg21.IsWhole) (arg22 : Memref sig .tc .vmem S256x1024 .f32) (harg22 : arg22.IsWhole) (arg23 : Memref sig .tc .vmem S256x512 .f32) (harg23 : arg23.IsWhole) (arg24 : Memref sig .tc .vmem S1x384 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x128 .f32) (harg27 : arg27.IsWhole)
    (hc : ¬ cond0_0 i) (x0 : Vec F S256x1024 .f32) (x1 : Vec F S1x1024 .f32) (x2 : Vec F S1024x1280 .bf16) (x3 : Vec F S1x384 .f32) (x4 : Vec F S1x256 .f32) (x5 : Vec F S384x1024 .bf16) (x6 : Vec F S256x1024 .bf16) (x7 : Vec F S256x512 .bf16) (x8 : Vec F S1x128 .f32) (x9 : Vec F S1x128 .f32) (x10 : Vec F S256x128 .f32) (x11 : Vec F S256x128 .f32) (x12 : Vec F S256x128 .f32) (x13 : Vec F S8x1x128x256 .f32) (x14 : Vec F S256x1024 .f32) (x15 : Vec F S8x1x64x256 .f32) (x16 : Vec F S64x512 .f32) (x17 : Vec F S256x512 .f32) (x18 : Vec F S64x512 .f32) (y20 : Vec F S384x1024 .f32) (y21 : Vec F S256x1024 .f32) (y22 : Vec F S256x512 .f32) (y23 : Vec F S1x384 .f32) (y24 : Vec F S1x256 .f32) (y25 : Vec F S1x128 .f32) (y26 : Vec F S1x128 .f32) :
    Σ' (o19 : Vec F S256x1280 .bf16), Σ' (o20 : Vec F S384x1024 .f32), Σ' (o21 : Vec F S256x1024 .f32), Σ' (o22 : Vec F S256x512 .f32), Σ' (o23 : Vec F S1x384 .f32), Σ' (o24 : Vec F S1x256 .f32), Σ' (o25 : Vec F S1x128 .f32), { o26 : Vec F S1x128 .f32 // ∀ (E : Set ℕ) (Q : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare y24 ∗ owns (c : Thread nD τ) arg26 fullShare y25 ∗ owns (c : Thread nD τ) arg27 fullShare y26
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare o19 ∗ owns (c : Thread nD τ) arg21 fullShare o20 ∗ owns (c : Thread nD τ) arg22 fullShare o21 ∗ owns (c : Thread nD τ) arg23 fullShare o22 ∗ owns (c : Thread nD τ) arg24 fullShare o23 ∗ owns (c : Thread nD τ) arg25 fullShare o24 ∗ owns (c : Thread nD τ) arg26 fullShare o25 ∗ owns (c : Thread nD τ) arg27 fullShare o26) -∗ Q PUnit.unit))
      ⊢ wp frame (wpE (defs₀ (F := F)) Variants.none c none) E (cc0_mla_in_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨?_, ?_, ?_, ?_, ?_, ?_, ?_, ?_, fun E Q => ?_⟩
  rotate_left 8
  simp only [cc0_mla_in_bwd_eq_skeleton]; unfold cc0_mla_in_bwd_skel
  simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13; obtain rfl := harg15.eq_unread hf14; obtain rfl := harg16.eq_unread hf15
  obtain rfl := harg17.eq_unread hf16; obtain rfl := harg18.eq_unread hf17; obtain rfl := harg19.eq_unread hf18; obtain rfl := harg21.eq_unread hf20
  obtain rfl := harg22.eq_unread hf21; obtain rfl := harg23.eq_unread hf22; obtain rfl := harg24.eq_unread hf23; obtain rfl := harg25.eq_unread hf24
  obtain rfl := harg26.eq_unread hf25; obtain rfl := harg27.eq_unread hf26
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; swap; iexact H19; ipureintro
    exact View.read_writes_full ..
  isplitl [H20]
  · iexists _; isplitr; swap; iexact H20; ipureintro
    exact View.read_writes_full ..
  isplitl [H21]
  · iexists _; isplitr; swap; iexact H21; ipureintro
    exact View.read_writes_full ..
  isplitl [H22]
  · iexists _; isplitr; swap; iexact H22; ipureintro
    exact View.read_writes_full ..
  isplitl [H23]
  · iexists _; isplitr; swap; iexact H23; ipureintro
    exact View.read_writes_full ..
  isplitl [H24]
  · iexists _; isplitr; swap; iexact H24; ipureintro
    exact View.read_writes_full ..
  isplitl [H25]
  · iexists _; isplitr; swap; iexact H25; ipureintro
    exact View.read_writes_full ..
  · iexists _; isplitr; swap; iexact H26; ipureintro
    exact View.read_writes_full ..

end Cert.MlaInIdeal.Val
-- ==== Proof.MlaInFrame.lean ====
module

public import proofs.«01_k».proof.Proof.MlaInRun

@[expose] public section

set_option maxRecDepth 16384

noncomputable section

namespace Cert.MlaInIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MlaInIdeal Cert.MlaInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight blocks that a point leaves. -/
abbrev Outs (F : FTy → Type) [FloatOps F] := Vec F S256x1280 .bf16 × Vec F S384x1024 .f32 × Vec F S256x1024 .f32 × Vec F S256x512 .f32 × Vec F S1x384 .f32 × Vec F S1x256 .f32 × Vec F S1x128 .f32 × Vec F S1x128 .f32

/-- What the first point leaves. -/
def outsFirst (c : Dev nD) (t : Fin cfg0.N) (hc : cond0_0 (grid0.coords t)) : Outs F :=
  let r := firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
  ⟨r.1, r.2.1, r.2.2.1, r.2.2.2.1, r.2.2.2.2.1, r.2.2.2.2.2.1, r.2.2.2.2.2.2.1, r.2.2.2.2.2.2.2.1⟩

/-- What any other point leaves, from what the one before it left. -/
def outsNext (c : Dev nD) (t : Fin cfg0.N) (hc : ¬ cond0_0 (grid0.coords t)) (p : Outs F) : Outs F :=
  let r := nextRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2
  ⟨r.1, r.2.1, r.2.2.1, r.2.2.2.1, r.2.2.2.2.1, r.2.2.2.2.2.1, r.2.2.2.2.2.2.1, r.2.2.2.2.2.2.2.1⟩

/-- What point `n` leaves. -/
def outsAt (c : Dev nD) : (n : ℕ) → n < cfg0.N → Outs F
  | 0, h => outsFirst m c ⟨0, h⟩ ((hcond0_0 ⟨0, h⟩).mpr rfl)
  | n + 1, h => outsNext m c ⟨n + 1, h⟩ (fun hc => by
      have h1 := (hcond0_0 ⟨n + 1, h⟩).mp hc
      have h2 : n + 1 < 64 := lt_of_lt_of_eq h N_0
      dsimp only at h1; omega) (outsAt c n (Nat.lt_of_succ_lt h))

theorem outsAt_first (c : Dev nD) (t : Fin cfg0.N) (hc : cond0_0 (grid0.coords t)) : outsAt m c t.val t.isLt = outsFirst m c t hc := by
  have h1 := (hcond0_0 t).mp hc
  have h2 : t.val < 64 := lt_of_lt_of_eq t.isLt N_0
  obtain ⟨n, hn⟩ := t
  obtain rfl : n = 0 := by dsimp only at h1 h2; omega
  rfl

theorem outsAt_next (c : Dev nD) (t : Fin cfg0.N) (hc : ¬ cond0_0 (grid0.coords t)) :
    outsAt m c t.val t.isLt = outsNext m c t hc (outsAt m c (t.val - 1) (Nat.lt_of_le_of_lt (Nat.sub_le _ _) t.isLt)) := by
  have h1 : ¬ t.val % 64 = 0 := fun h => hc ((hcond0_0 t).mpr h)
  obtain ⟨n, hn⟩ := t
  cases n with
  | zero => exact absurd rfl h1
  | succ n => rfl

/-- What is known of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt m c t.val t.isLt).1
    | ⟨20, _⟩ => (outsAt m c t.val t.isLt).2.1
    | ⟨21, _⟩ => (outsAt m c t.val t.isLt).2.2.1
    | ⟨22, _⟩ => (outsAt m c t.val t.isLt).2.2.2.1
    | ⟨23, _⟩ => (outsAt m c t.val t.isLt).2.2.2.2.1
    | ⟨24, _⟩ => (outsAt m c t.val t.isLt).2.2.2.2.2.1
    | ⟨25, _⟩ => (outsAt m c t.val t.isLt).2.2.2.2.2.2.1
    | ⟨26, _⟩ => (outsAt m c t.val t.isLt).2.2.2.2.2.2.2
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = (outsAt m c t.val t.isLt).1 := by dsimp only [dats]
theorem after_20 (c : Dev nD) (t : Fin cfg0.N) : (dats m 0 c).after 20 t = (outsAt m c t.val t.isLt).2.1 := by dsimp only [dats]
theorem after_21 (c : Dev nD) (t : Fin cfg0.N) : (dats m 0 c).after 21 t = (outsAt m c t.val t.isLt).2.2.1 := by dsimp only [dats]
theorem after_22 (c : Dev nD) (t : Fin cfg0.N) : (dats m 0 c).after 22 t = (outsAt m c t.val t.isLt).2.2.2.1 := by dsimp only [dats]
theorem after_23 (c : Dev nD) (t : Fin cfg0.N) : (dats m 0 c).after 23 t = (outsAt m c t.val t.isLt).2.2.2.2.1 := by dsimp only [dats]
theorem after_24 (c : Dev nD) (t : Fin cfg0.N) : (dats m 0 c).after 24 t = (outsAt m c t.val t.isLt).2.2.2.2.2.1 := by dsimp only [dats]
theorem after_25 (c : Dev nD) (t : Fin cfg0.N) : (dats m 0 c).after 25 t = (outsAt m c t.val t.isLt).2.2.2.2.2.2.1 := by dsimp only [dats]
theorem after_26 (c : Dev nD) (t : Fin cfg0.N) : (dats m 0 c).after 26 t = (outsAt m c t.val t.isLt).2.2.2.2.2.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_20 (c : Dev nD) (t : Fin cfg0.N) (h0 : ¬t.val % 64 = 0) (d) :
    (dats m 0 c).before 20 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 20 rfl t (by omega) (Bool.eq_false_iff.mpr fun h => by have := (flush0_20 _).mp h; dsimp only at this; omega)
    (fun _ => rfl) (fun _ _ => rfl)]
  dsimp only [dats]
theorem before_21 (c : Dev nD) (t : Fin cfg0.N) (h0 : ¬t.val % 64 = 0) (d) :
    (dats m 0 c).before 21 t d = (outsAt m c (t.val - 1) (Nat.lt_of_le_of_lt (Nat.sub_le _ _) t.isLt)).2.2.1 := by
  have hN : t.val < 64 := lt_of_lt_of_eq t.isLt (show cfg0.N = 64 from N_0)
  rw [Dat.before_out_kept _ 21 rfl t (by omega) (Bool.eq_false_iff.mpr fun h => by have := (flush0_21 _).mp h; dsimp only at this; omega)
    (fun _ => rfl) (fun _ _ => rfl)]
  dsimp only [dats]
theorem before_22 (c : Dev nD) (t : Fin cfg0.N) (h0 : ¬t.val % 64 = 0) (d) :
    (dats m 0 c).before 22 t d = (outsAt m c (t.val - 1) (Nat.lt_of_le_of_lt (Nat.sub_le _ _) t.isLt)).2.2.2.1 := by
  have hN : t.val < 64 := lt_of_lt_of_eq t.isLt (show cfg0.N = 64 from N_0)
  rw [Dat.before_out_kept _ 22 rfl t (by omega) (Bool.eq_false_iff.mpr fun h => by have := (flush0_22 _).mp h; dsimp only at this; omega)
    (fun _ => rfl) (fun _ _ => rfl)]
  dsimp only [dats]
theorem before_23 (c : Dev nD) (t : Fin cfg0.N) (h0 : ¬t.val % 64 = 0) (d) :
    (dats m 0 c).before 23 t d = (outsAt m c (t.val - 1) (Nat.lt_of_le_of_lt (Nat.sub_le _ _) t.isLt)).2.2.2.2.1 := by
  have hN : t.val < 64 := lt_of_lt_of_eq t.isLt (show cfg0.N = 64 from N_0)
  rw [Dat.before_out_kept _ 23 rfl t (by omega) (Bool.eq_false_iff.mpr fun h => by have := (flush0_23 _).mp h; dsimp only at this; omega)
    (fun _ => rfl) (fun _ _ => rfl)]
  dsimp only [dats]
theorem before_24 (c : Dev nD) (t : Fin cfg0.N) (h0 : ¬t.val % 64 = 0) (d) :
    (dats m 0 c).before 24 t d = (outsAt m c (t.val - 1) (Nat.lt_of_le_of_lt (Nat.sub_le _ _) t.isLt)).2.2.2.2.2.1 := by
  have hN : t.val < 64 := lt_of_lt_of_eq t.isLt (show cfg0.N = 64 from N_0)
  rw [Dat.before_out_kept _ 24 rfl t (by omega) (Bool.eq_false_iff.mpr fun h => by have := (flush0_24 _).mp h; dsimp only at this; omega)
    (fun _ => rfl) (fun _ _ => rfl)]
  dsimp only [dats]
theorem before_25 (c : Dev nD) (t : Fin cfg0.N) (h0 : ¬t.val % 64 = 0) (d) :
    (dats m 0 c).before 25 t d = (outsAt m c (t.val - 1) (Nat.lt_of_le_of_lt (Nat.sub_le _ _) t.isLt)).2.2.2.2.2.2.1 := by
  have hN : t.val < 64 := lt_of_lt_of_eq t.isLt (show cfg0.N = 64 from N_0)
  rw [Dat.before_out_kept _ 25 rfl t (by omega) (Bool.eq_false_iff.mpr fun h => by have := (flush0_25 _).mp h; dsimp only at this; omega)
    (fun _ => rfl) (fun _ _ => rfl)]
  dsimp only [dats]
theorem before_26 (c : Dev nD) (t : Fin cfg0.N) (h0 : ¬t.val % 64 = 0) (d) :
    (dats m 0 c).before 26 t d = (outsAt m c (t.val - 1) (Nat.lt_of_le_of_lt (Nat.sub_le _ _) t.isLt)).2.2.2.2.2.2.2 := by
  have hN : t.val < 64 := lt_of_lt_of_eq t.isLt (show cfg0.N = 64 from N_0)
  rw [Dat.before_out_kept _ 26 rfl t (by omega) (Bool.eq_false_iff.mpr fun h => by have := (flush0_26 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26]
  by_cases h0 : t.val % 64 = 0
  · have hc := (hcond0_0 t).mpr h0
    rw [outsAt_first m c t hc]; unfold outsFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((firstRun c (grid0.coords t) _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iintro ⟨H0, H1, H2, H3, H4, H5, H6, H7, H8, H9, H10, H11, H12, H13, H14, H15, H16, H17, H18, H19, H20, H21, H22, H23, H24, H25, H26⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  · have hc : ¬ cond0_0 (grid0.coords t) := fun h => h0 ((hcond0_0 t).mp h)
    simp only [before_20 m c t h0, before_21 m c t h0, before_22 m c t h0, before_23 m c t h0, before_24 m c t h0, before_25 m c t h0, before_26 m c t h0]
    rw [outsAt_next m c t hc]; unfold outsNext; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((nextRun c (grid0.coords t) _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _ _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iintro ⟨H0, H1, H2, H3, H4, H5, H6, H7, H8, H9, H10, H11, H12, H13, H14, H15, H16, H17, H18, H19, H20, H21, H22, H23, H24, H25, H26⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

theorem body_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run of the whole program, the semaphores' counters zero at the end. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m)
    (hmain := hmain m Variants.none) (hA := A_eq m) (hΦ := fun _ _ => rfl)

theorem run_main : θ_run defs (onTc (τ := τ) (main (F := F))) (s₀ m ρ)
    (Pipeline.FramePost cfgs (dats m) 0 (V m)) :=
  (θ_run defs _ _).mono (fun _ h => h.1) (run_quiet m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_quiet m ρ))

end Cert.MlaInIdeal.Val

end
-- ==== Proof.MlaInBits.lean ====
module

public import proofs.«01_k».proof.MlaIn
public import proofs.«01_k».proof.Proof.Gen.MlaIn
public import proofs.«01_k».proof.Proof.MlaInFrame

@[expose] public section

set_option maxRecDepth 16384

noncomputable section

namespace Cert.MlaIn.Val

open Idealize.ShloMosaic Idealize.ShloMosaic.TcCoe Idealize.SL Idealize.SL.Sem
open Cert.MlaIn

/-- What the frame of each program says. -/
def Says (m : (ℓ : Loc nD τ sig) → Buf (Elt Bits) ℓ) (ρ : Dev nD → PrngReg) : Prop :=
  θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

open Cert.MlaInIdeal in
def SaysIdeal (m : (ℓ : Loc Cert.MlaInIdeal.nD Cert.MlaInIdeal.τ Cert.MlaInIdeal.sig) → Buf (Elt Bits) ℓ) (ρ : Dev Cert.MlaInIdeal.nD → PrngReg) : Prop :=
  θ_run (Cert.MlaInIdeal.defs (F := Bits)) (onTc (τ := Cert.MlaInIdeal.τ) (Cert.MlaInIdeal.main (F := Bits))) ⟨m, fun _ => 0, ρ⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
      ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
      ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
      ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
      ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8)
      ∧ r.2.mem ((c.tc : Thread Cert.MlaInIdeal.nD Cert.MlaInIdeal.τ).loc Cert.MlaInIdeal.main_arg9) = m ((c.tc : Thread Cert.MlaInIdeal.nD Cert.MlaInIdeal.τ).loc Cert.MlaInIdeal.main_arg9)
      ∧ r.2.mem ((c.tc : Thread Cert.MlaInIdeal.nD Cert.MlaInIdeal.τ).loc Cert.MlaInIdeal.main_arg10) = m ((c.tc : Thread Cert.MlaInIdeal.nD Cert.MlaInIdeal.τ).loc Cert.MlaInIdeal.main_arg10)
      ∧ r.2.mem ((c.tc : Thread Cert.MlaInIdeal.nD Cert.MlaInIdeal.τ).loc Cert.MlaInIdeal.main_arg11) = m ((c.tc : Thread Cert.MlaInIdeal.nD Cert.MlaInIdeal.τ).loc Cert.MlaInIdeal.main_arg11)
      ∧ r.2.mem ((c.tc : Thread Cert.MlaInIdeal.nD Cert.MlaInIdeal.τ).loc Cert.MlaInIdeal.main_arg12) = m ((c.tc : Thread Cert.MlaInIdeal.nD Cert.MlaInIdeal.τ).loc Cert.MlaInIdeal.main_arg12)
      ∧ r.2.mem ((c.tc : Thread Cert.MlaInIdeal.nD Cert.MlaInIdeal.τ).loc Cert.MlaInIdeal.main_arg13) = m ((c.tc : Thread Cert.MlaInIdeal.nD Cert.MlaInIdeal.τ).loc Cert.MlaInIdeal.main_arg13))
      ∧ r.2.sem = fun _ => 0)

theorem says_eq (m : (ℓ : Loc nD τ sig) → Buf (Elt Bits) ℓ) (ρ : Dev nD → PrngReg) : SaysIdeal m ρ = Says m ρ := by
  sl_kernel_rfl

/-- The program over machine words. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  cast (says_eq m ρ) (Cert.MlaInIdeal.Val.frame (F := Bits) m ρ)

end Cert.MlaIn.Val

end
-- ==== Proof.LossValue.lean ====
module

public import proofs.«01_k».proof.Proof.Gen.LossIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossIdeal.Val

open Cert.LossIdeal Cert.LossIdeal.Gen

variable (m : (ℓ : Loc nD τ sig) → Buf (Elt Ideal) ℓ)

theorem idx : ∀ t : Fin cfg0.N, win0_0.index t = ![t.val, 0] ∧ win0_1.index t = ![t.val, 0] ∧ win0_3.index t = ![t.val, 0] :=
  (by decide +kernel : ∀ t : Fin grid0.N, _)

/-- What is added to the partial sums from one tile. -/
theorem pay3 (v3 v4 : FVec Ideal S1024x1024 .f32) (v6 : FVec Ideal S1x1024 .f32) (j : S1x1024.Idx) :
    k0_pay3 (F := Ideal) v3 v4 v6 j = v6 j + ∑ r : Fin 1024, (v3 (ix2 r (j 1)) - v4 (ix2 r (j 1))) * (v3 (ix2 r (j 1)) - v4 (ix2 r (j 1))) := by
  pointwise [k0_pay3, k0_pay2]

theorem pay1 (j : S1x1024.Idx) : k0_pay1 (F := Ideal) j = 0 := by pointwise [k0_pay1]

theorem pay4 (v3 v4 : FVec Ideal S1024x1024 .f32) (j : S1024x1024.Idx) :
    k0_pay4 (F := Ideal) v3 v4 j = Ideal.div (v3 j - v4 j) (Ideal.ofBits .f32 0x44800000#32) := by
  pointwise [k0_pay4, k0_pay2]

/-- The partial sums after the run: each column's sum of squared errors. -/
def PART (y t : FVec Ideal S16384x1024 .f32) : FVec Ideal S1x1024 .f32 := fun j =>
  ∑ a : Fin 16, ∑ r : Fin 1024, (y (ix2 ⟨a * 1024 + r, by omega⟩ (j 1)) - t (ix2 ⟨a * 1024 + r, by omega⟩ (j 1)))
    * (y (ix2 ⟨a * 1024 + r, by omega⟩ (j 1)) - t (ix2 ⟨a * 1024 + r, by omega⟩ (j 1)))

def DY (y t : FVec Ideal S16384x1024 .f32) : FVec Ideal S16384x1024 .f32 := fun j =>
  Ideal.div (y j - t j) (Ideal.ofBits .f32 0x44800000#32)

theorem final2 (c : Dev nD) : (dats m 0 c).arrAt 2 (cfgs 0).N
    = PART (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; rw [pay3, pay1])
    (fun t h j => by rw [outsAt0_B m c t h]; frame_out; rw [pay3])
    (le_of_eq N_0) t0_15 rfl j, zero_add]
  unfold PART
  refine Fin.sum_points_lanes_congr 1 fun t k ha hl => ?_
  blk_point [iblk, V, idx t]

theorem final3 (c : Dev nD) : (dats m 0 c).arrAt 3 (cfgs 0).N
    = DY (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 16 = 0
  · rw [outsAt0_A m c t h]; frame_out; rw [pay4]; unfold DY
    blk_point [iblk, V, idx t]
  · rw [outsAt0_B m c t h]; frame_out; rw [pay4]; unfold DY
    blk_point [iblk, V, idx t]

/-- The loss after the host's last lines: a half of the mean over the columns of the partial sums' total. -/
def LOSS (p : FVec Ideal S1x1024 .f32) : FVec Ideal S_ .f32 :=
  mulf (constant S_ .f32 0x3A000000#32) (Host.reduceAdd p (constant S_ .f32 0x00000000#32) reducesTo_S1x1024_S_d0_1 h_S_)

theorem tail (c : Dev nD) : Pipeline.afterTail₀ cfgs (dats m) 0 (V0 m) [hostOps1] c main_v2
    = LOSS (PART (m ((c : Thread nD τ).loc main_arg0)) (m ((c : Thread nD τ).loc main_arg1))) := by
  unfold Pipeline.afterTail₀ LOSS
  rw [← final2 m c, ← Pipeline.withArrays_arr (cfgs 0).spec launch0.win.arr_inj c (V0 m c) (fun w => (dats m 0 c).arrAt w (cfgs 0).N) 2]
  simp only [List.flatten_cons, List.flatten_nil, List.append_nil]
  after_results

end Cert.LossIdeal.Val

end
-- ==== Proof.LossPair.lean ====
module

public import proofs.«01_k».proof.Defs
public import proofs.«01_k».proof.Proof.LossValue
public import proofs.«01_k».proof.Proof.Gen.LossRefIdeal.Run
public import Idealize.ShloMosaic.Lib.Claim

@[expose] public section

set_option maxRecDepth 16384

noncomputable section

open Idealize.ShloMosaic Idealize.ShloMosaic.TcCoe Idealize.SL.Sem

namespace Cert.Proof

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv_2048 : Ideal.ofBits .f32 0x3A000000#32 = ((1 / 2048 : ℝ) : EReal) := by
  simp [Ideal.ofBits, Ideal.ieee, -EReal.coe_mul]; norm_num

/-- A square is not negative, infinite or not. -/
theorem sq_nonneg_ereal (x : EReal) : 0 ≤ x * x := by
  rcases le_total 0 x with h | h
  · exact EReal.mul_nonneg h h
  · have := EReal.mul_nonneg (EReal.neg_nonneg.mpr h) (EReal.neg_nonneg.mpr h)
    rwa [EReal.neg_mul, mul_comm, EReal.neg_mul, neg_neg] at this

/-- A factor moves into a sum whose terms are not negative. -/
theorem mul_sum_nonneg {ι : Type} (s : Finset ι) (f : ι → EReal) (hf : ∀ i, 0 ≤ f i) (k : EReal) :
    k * ∑ i ∈ s, f i = ∑ i ∈ s, k * f i := by
  classical
  induction s using Finset.induction_on with
  | empty => simp
  | insert a s h ih =>
    rw [Finset.sum_insert h, Finset.sum_insert h, ← ih,
      EReal.left_distrib_of_nonneg (hf a) (Finset.sum_nonneg fun i _ => hf i)]

open Cert.LossIdeal in
theorem dy_eq (y t : FVec Ideal S16384x1024 .f32) (j : S16384x1024.Idx) :
    (mulf
      (broadcastInDim LossRefIdeal.S16384x1024 ![0] LossRefIdeal.Gen.bcast_S16384_S16384x1024_0
        (Host.divf
          (broadcastInDim LossRefIdeal.S16384 ![] LossRefIdeal.Gen.bcast_S_S16384
            (mulf (constant (F := Ideal) LossRefIdeal.S_ FTy.f32 0x3F000000#32) (constant LossRefIdeal.S_ FTy.f32 0x3F800000#32)))
          (broadcastInDim LossRefIdeal.S16384 ![] LossRefIdeal.Gen.bcast_S_S16384 (constant LossRefIdeal.S_ FTy.f32 0x44800000#32))))
      (mulf (broadcastInDim LossRefIdeal.S16384x1024 ![] LossRefIdeal.Gen.bcast_S_S16384x1024 (constant LossRefIdeal.S_ FTy.f32 0x40000000#32))
        (subf y t))) j = LossIdeal.Val.DY y t j := by
  pointwise [LossIdeal.Val.DY]
  rw [lit_half, lit_two, lit_1024, Ideal.div_coe (by norm_num : (1024 : ℝ) ≠ 0), Ideal.div_coe (by norm_num : (1024 : ℝ) ≠ 0),
    ← mul_assoc, ← EReal.coe_mul, ← EReal.coe_mul, mul_comm]
  norm_num

open Cert.LossIdeal in
theorem loss_eq (y t : FVec Ideal S16384x1024 .f32) (j : S_.Idx) :
    (mulf (constant (F := Ideal) LossRefIdeal.S_ FTy.f32 0x3F000000#32)
      (Host.reduceAdd
        (Host.divf
          (Host.reduceAdd (mulf (subf y t) (subf y t)) (constant LossRefIdeal.S_ FTy.f32 0x00000000#32)
            LossRefIdeal.Gen.reducesTo_S16384x1024_S16384_d1 LossRefIdeal.Gen.h_S_)
          (broadcastInDim LossRefIdeal.S16384 ![] LossRefIdeal.Gen.bcast_S_S16384 (constant LossRefIdeal.S_ FTy.f32 0x44800000#32)))
        (constant LossRefIdeal.S_ FTy.f32 0x00000000#32) LossRefIdeal.Gen.reducesTo_S16384_S_d0 LossRefIdeal.Gen.h_S_)) j
      = LossIdeal.Val.LOSS (LossIdeal.Val.PART y t) j := by
  pointwise [LossIdeal.Val.LOSS, LossIdeal.Val.PART]
  simp only [Fin.sum_univ_one, Fin.isValue, lit_half, lit_1024, lit_inv_2048, Ideal.div_coe (by norm_num : (1024 : ℝ) ≠ 0)]
  have hq : ∀ (i : Fin 16384) (k : Fin 1024), 0 ≤ (y (ix2 i k) - t (ix2 i k)) * (y (ix2 i k) - t (ix2 i k)) :=
    fun i k => sq_nonneg_ereal _
  rw [Finset.sum_congr rfl fun i _ => mul_comm _ _]
  rw [← mul_sum_nonneg _ _ fun i => Finset.sum_nonneg fun k _ => hq i k, ← mul_assoc, ← EReal.coe_mul, Finset.sum_comm]
  rw [show (1 / 2 * (1 / 1024) : ℝ) = 1 / 2048 by norm_num]
  exact congrArg _ (Finset.sum_congr rfl fun k _ => Fin.sum_univ_tiles 16 1024 rfl _)

theorem loss_algebraic : Cert.algebraic_LossIdeal_LossRefIdeal := by
  pair_intro
  · run_from Cert.LossIdeal.Gen.run_main m g
  · hlo_run
    · rw [Cert.LossIdeal.Val.tail m c]
      funext j
      exact loss_eq _ _ j
    · rw [Cert.LossIdeal.Val.final3 m c]
      funext j
      exact dy_eq _ _ j

end Cert.Proof

end
-- ==== Proof.Finite.lean ====
module

public import Idealize.ShloMosaic.Lib.Pointwise
public import Idealize.ShloMosaic.PureOps.Ideal

@[expose] public section

noncomputable section

open Idealize.ShloMosaic

namespace Cert.Proof

/-- An array whose every absolute value is below infinity holds real numbers. -/
theorem real_of_finite {S : Shape} (b : (⟨0, ![]⟩ : Shape).BroadcastsInDim S (![] : Fin 0 → Fin S.rank)) (x : FVec Ideal S .f32)
    (h : cmpf .olt (Host.absf x) (broadcastInDim S ![] b (constant ⟨0, ![]⟩ .f32 0x7F800000#32)) = fun _ => 1#1) (i : S.Idx) :
    x i = ((x i).toReal : EReal) := by
  have h := congrFun h i
  have h' : Ideal.cmp .olt (max (x i) (-(x i))) (Ideal.ofBits .f32 0x7F800000#32) = 1#1 := h
  have e : Ideal.ofBits .f32 0x7F800000#32 = (⊤ : EReal) := by simp [Ideal.ofBits, Ideal.ieee]
  rw [e] at h'
  have lt : max (x i) (-(x i)) < ⊤ := by
    by_contra hn
    simp [Ideal.cmp, hn] at h'
  rw [max_lt_iff] at lt
  refine (EReal.coe_toReal lt.1.ne ?_).symm
  intro hb
  rw [hb] at lt
  simp at lt

end Cert.Proof

end
-- ==== Proof.NormReal.lean ====
module

public import Idealize.ShloMosaic.Lib.Pointwise
public import Idealize.ShloMosaic.PureOps.Ideal

@[expose] public section

noncomputable section

open Idealize.ShloMosaic

/-! The root mean square norm of a row of 1024 numbers and its gradient, over the real numbers. -/

namespace Cert.NormReal

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem div_real {y : ℝ} (h : y ≠ 0) (x : ℝ) : Ideal.div (x : EReal) (y : EReal) = ((x / y : ℝ) : EReal) := by
  rw [Ideal.div_coe h, ← EReal.coe_mul]; congr 1; ring

theorem lit_lanes : Ideal.ofBits .f32 0x44800000#32 = ((1024 : ℝ) : EReal) := by
  simp [Ideal.ofBits, Ideal.ieee, -EReal.coe_mul]; norm_num
theorem lit_eps : Ideal.ofBits .f32 0x358637BD#32 = ((8796093 / 8796093022208 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

section
variable (X G H : Fin 1024 → ℝ)

/-- The mean square of a row, kept away from zero. -/
def vR : ℝ := (∑ k, X k * X k) / 1024 + 8796093 / 8796093022208
/-- The factor a row is scaled by. -/
def rR : ℝ := (Real.sqrt (vR X))⁻¹
/-- The gradient at a row, from the cotangent `H` of the scaled row times `G`. -/
def dxR (l : Fin 1024) : ℝ := rR X * (H l * G l - X l * rR X * ((∑ k, H k * G k * (X k * rR X)) / 1024))

theorem vR_pos : 0 < vR X :=
  add_pos_of_nonneg_of_pos (div_nonneg (Finset.sum_nonneg fun k _ => mul_self_nonneg _) (by norm_num)) (by norm_num)

theorem rR_sq : rR X * rR X * vR X = 1 := by
  have h := vR_pos X
  have hs : Real.sqrt (vR X) ≠ 0 := (Real.sqrt_pos.mpr h).ne'
  unfold rR
  nth_rewrite 3 [← Real.mul_self_sqrt h.le]
  field_simp

theorem rR_div : rR X / vR X = rR X * rR X * rR X := by
  rw [div_eq_iff (vR_pos X).ne']
  linear_combination (-(rR X)) * rR_sq X

/-- The same gradient, with the mean square differentiated on its own. -/
theorem dx_eq (l : Fin 1024) :
    H l * G l * rR X + X l * ((∑ k, X k * (H k * G k)) * (-(1 / 2) * (rR X / vR X)) / 1024)
      + ((∑ k, X k * (H k * G k)) * (-(1 / 2) * (rR X / vR X)) / 1024) * X l = dxR X G H l := by
  unfold dxR
  have e : (∑ k, H k * G k * (X k * rR X)) = (∑ k, X k * (H k * G k)) * rR X := by
    rw [Finset.sum_mul]; exact Finset.sum_congr rfl fun k _ => by ring
  rw [e, rR_div]
  ring

variable {X G H} (x g h : Fin 1024 → EReal) (hx : ∀ k, x k = (X k : EReal)) (hg : ∀ k, g k = (G k : EReal)) (hh : ∀ k, h k = (H k : EReal))

include hx in
theorem var_at : Ideal.div (∑ k, x k * x k) (Ideal.ofBits .f32 0x44800000#32) + Ideal.ofBits .f32 0x358637BD#32 = (vR X : EReal) := by
  simp only [hx, ← EReal.coe_mul, coe_sum, lit_lanes, lit_eps]
  rw [div_real (by norm_num), ← EReal.coe_add]
  rfl

theorem rsqrt_at : Ideal.rsqrt (vR X : EReal) = (rR X : EReal) := by
  have h := vR_pos X
  rw [Ideal.rsqrt_coe, if_neg (not_lt.mpr h.le), if_neg h.ne']
  rfl

include hx in
theorem scale_at : Ideal.rsqrt (Ideal.div (∑ k, x k * x k) (Ideal.ofBits .f32 0x44800000#32) + Ideal.ofBits .f32 0x358637BD#32) = (rR X : EReal) := by
  rw [var_at x hx, rsqrt_at]

include hx hg hh in
/-- What a kernel that keeps the scale `r` of the row computes. -/
theorem dx_at (r : EReal) (hr : r = (rR X : EReal)) (l : Fin 1024) :
    r * (h l * g l - x l * r * Ideal.div (∑ k, h k * g k * (x k * r)) (Ideal.ofBits .f32 0x44800000#32)) = (dxR X G H l : EReal) := by
  simp only [hr, hx, hg, hh, ← EReal.coe_mul, coe_sum, lit_lanes]
  rw [div_real (by norm_num), ← EReal.coe_mul, ← EReal.coe_sub, ← EReal.coe_mul]
  rfl

include hx hg hh in
/-- What differentiating the mean square on its own computes, on top of `a`. -/
theorem dx_ref_at (a r v : EReal) (hr : r = (rR X : EReal)) (hv : v = (vR X : EReal)) (l : Fin 1024) :
    a + h l * g l * r
      + x l * Ideal.div ((∑ k, x k * (h k * g k)) * (Ideal.ofBits .f32 0xBF000000#32 * Ideal.div r v)) (Ideal.ofBits .f32 0x44800000#32)
      + Ideal.div ((∑ k, x k * (h k * g k)) * (Ideal.ofBits .f32 0xBF000000#32 * Ideal.div r v)) (Ideal.ofBits .f32 0x44800000#32) * x l
      = a + (dxR X G H l : EReal) := by
  simp only [hr, hv, hx, hg, hh, ← EReal.coe_mul, coe_sum, lit_lanes, lit_neg_half]
  rw [div_real (vR_pos X).ne', ← EReal.coe_mul, ← EReal.coe_mul, div_real (by norm_num), ← EReal.coe_mul, ← EReal.coe_mul, add_assoc, add_assoc, ← EReal.coe_add, ← EReal.coe_add, ← dx_eq, add_assoc]
end

section
variable {n : ℕ} (x : Fin n → Fin 1024 → EReal) (g : Fin 1024 → EReal) (h a : Fin n → Fin 1024 → EReal)

/-- A row's scale. -/
def RS (i : Fin n) : EReal :=
  Ideal.rsqrt (Ideal.div (∑ k, x i k * x i k) (Ideal.ofBits .f32 0x44800000#32) + Ideal.ofBits .f32 0x358637BD#32)
/-- The gradient at a row whose scaled values, times `g`, have the cotangent `h`, added to `a`. -/
def DX (i : Fin n) (l : Fin 1024) : EReal :=
  a i l + RS x i * (h i l * g l - x i l * RS x i * Ideal.div (∑ k, h i k * g k * (x i k * RS x i)) (Ideal.ofBits .f32 0x44800000#32))
/-- A row's part of the gradient at `g`. -/
def DG (i : Fin n) (l : Fin 1024) : EReal := h i l * (x i l * RS x i)

theorem DX_real (i : Fin n) (l : Fin 1024) {X G H : Fin 1024 → ℝ} (hx : ∀ k, x i k = (X k : EReal)) (hg : ∀ k, g k = (G k : EReal))
    (hh : ∀ k, h i k = (H k : EReal)) : DX x g h a i l = a i l + (dxR X G H l : EReal) :=
  congrArg _ (dx_at (x i) g (h i) hx hg hh _ (scale_at (x i) hx) l)
end

end Cert.NormReal

end
-- ==== Proof.RmsProjValue.lean ====
module

public import proofs.«01_k».proof.Proof.Gen.RmsProjIdeal.Frame
public import proofs.«01_k».proof.Proof.NormReal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RmsProjIdeal.Val

open Cert.RmsProjIdeal Cert.RmsProjIdeal.Gen Cert.NormReal

/-! The call's three results as functions of the five arrays it is handed: `x`, the packed projection `w`, the packed cotangent `z`,
    the gain's row and the gradient arriving beside. -/

section
variable {n : ℕ} (x : Fin n → Fin 1024 → EReal) (g : Fin 1024 → EReal) (w : Fin 1024 → Fin 1280 → EReal) (z : Fin n → Fin 1280 → EReal)

/-- The cotangent of the normed row. -/
def DH (i : Fin n) (l : Fin 1024) : EReal := ∑ j, z i j * w l j
/-- A row's part of the projection's gradient. -/
def DW (i : Fin n) (l : Fin 1024) (j : Fin 1280) : EReal := x i l * RS x i * g l * z i j
end

section
variable (x a : FVec Ideal S512x1024 .f32) (z : FVec Ideal S512x1280 .bf16) (w : FVec Ideal S1024x1280 .bf16) (g : FVec Ideal S1x1024 .f32)

theorem pay4 (i : Fin 512) : k0_pay4 (F := Ideal) x (ix2 i 0) = RS (fun i k => x (ix2 i k)) i := by
  pointwise [k0_pay4]
  rfl
theorem pay5 (i : Fin 512) (l : Fin 1024) : k0_pay5 (F := Ideal) x (ix2 i l) = x (ix2 i l) * RS (fun i k => x (ix2 i k)) i := by
  pointwise [k0_pay5]
  rw [pay4]
theorem pay7 (i : Fin 512) (l : Fin 1024) : k0_pay7 (F := Ideal) z w (ix2 i l) = DH (fun l j => w (ix2 l j)) (fun i j => z (ix2 i j)) i l := by
  pointwise [k0_pay7, k0_pay6]
  rfl
theorem pay2 (j : S1024x1280.Idx) : k0_pay2 (F := Ideal) j = 0 := by pointwise [k0_pay2]
theorem pay3 (j : S1x1024.Idx) : k0_pay3 (F := Ideal) j = 0 := by pointwise [k0_pay3]
theorem pay8 (o : FVec Ideal S1024x1280 .f32) (l : Fin 1024) (j : Fin 1280) :
    k0_pay8 (F := Ideal) x z o g (ix2 l j)
      = o (ix2 l j) + ∑ i, DW (fun i k => x (ix2 i k)) (fun l => g (ix2 0 l)) (fun i j => z (ix2 i j)) i l j := by
  pointwise [k0_pay8, k0_pay6]
  simp only [pay5]
  rfl
theorem pay9 (o : FVec Ideal S1x1024 .f32) (l : Fin 1024) :
    k0_pay9 (F := Ideal) x z w o (ix2 0 l)
      = o (ix2 0 l) + ∑ i, DG (fun i k => x (ix2 i k)) (DH (fun l j => w (ix2 l j)) (fun i j => z (ix2 i j))) i l := by
  pointwise [k0_pay9]
  simp only [pay5, pay7]
  rfl
theorem pay1 (i : Fin 512) (l : Fin 1024) :
    k0_pay1 (F := Ideal) (k0_pay4 x) (k0_pay5 x) (k0_pay7 z w) a g (ix2 i l)
      = DX (fun i k => x (ix2 i k)) (fun l => g (ix2 0 l)) (DH (fun l j => w (ix2 l j)) (fun i j => z (ix2 i j))) (fun i k => a (ix2 i k)) i l := by
  pointwise [k0_pay1]
  simp only [pay4, pay5, pay7]
  rfl
end

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, _)

/-- The array window `k` reads, as a function of its two coordinates. -/
def xA (i : Fin 16384) (l : Fin 1024) : EReal := (V m c main_arg0 : FVec Ideal S16384x1024 .f32) (ix2 i l)
def gA (l : Fin 1024) : EReal := (V m c main_v14 : FVec Ideal S1x1024 .f32) (ix2 0 l)
def wA (l : Fin 1024) (j : Fin 1280) : EReal := (V m c main_v7 : FVec Ideal S1024x1280 .bf16) (ix2 l j)
def zA (i : Fin 16384) (j : Fin 1280) : EReal := (V m c main_v13 : FVec Ideal S16384x1280 .bf16) (ix2 i j)
def aA (i : Fin 16384) (l : Fin 1024) : EReal := (V m c main_arg5 : FVec Ideal S16384x1024 .f32) (ix2 i l)

theorem lt32 (t : Fin cfg0.N) : t.val < 32 := lt_of_lt_of_eq t.isLt N_0
/-- Row `i` of tile `t`. -/
def row (t : Fin cfg0.N) (i : Fin 512) : Fin 16384 := ⟨t.val * 512 + i, by have := lt32 t; omega⟩

theorem ib0 (t : Fin cfg0.N) (i : Fin 512) (l : Fin 1024) : iblk m c 0 t (ix2 i l) = xA m c (row t i) l := by
  unfold xA row
  blk_point [iblk, idx t]
theorem ib1 (t : Fin cfg0.N) (l : Fin 1024) : iblk m c 1 t (ix2 0 l) = gA m c l := by
  unfold gA
  blk_point [iblk, idx t]
theorem ib2 (t : Fin cfg0.N) (l : Fin 1024) (j : Fin 1280) : iblk m c 2 t (ix2 l j) = wA m c l j := by
  unfold wA
  blk_point [iblk, idx t]
theorem ib3 (t : Fin cfg0.N) (i : Fin 512) (j : Fin 1280) : iblk m c 3 t (ix2 i j) = zA m c (row t i) j := by
  unfold zA row
  blk_point [iblk, idx t]
theorem ib4 (t : Fin cfg0.N) (i : Fin 512) (l : Fin 1024) : iblk m c 4 t (ix2 i l) = aA m c (row t i) l := by
  unfold aA row
  blk_point [iblk, idx t]

theorem out5 (t : Fin cfg0.N) (i : Fin 512) (l : Fin 1024) :
    (outsAt0 m c t.val t.isLt).1 (ix2 i l) = DX (xA m c) (gA m c) (DH (wA m c) (zA m c)) (aA m c) (row t i) l := by
  have hk : ∀ v : FVec Ideal S512x1024 .f32,
      v = k0_pay1 (F := Ideal) (k0_pay4 (iblk m c 0 t)) (k0_pay5 (iblk m c 0 t)) (k0_pay7 (iblk m c 3 t) (iblk m c 2 t)) (iblk m c 4 t) (iblk m c 1 t) →
      v (ix2 i l) = DX (xA m c) (gA m c) (DH (wA m c) (zA m c)) (aA m c) (row t i) l := by
    rintro v rfl
    refine (pay1 ..).trans ?_
    unfold DX DH RS
    simp only [ib0, ib1, ib2, ib3, ib4]
  by_cases h : t.val % 32 = 0
  · rw [outsAt0_A m c t h]; exact hk _ (by frame_out)
  · rw [outsAt0_B m c t h]; exact hk _ (by frame_out)

theorem DX_congr {i i' : Fin 16384} {l l' : Fin 1024} (e : i.val = i'.val) (e' : l.val = l'.val) :
    DX (xA m c) (gA m c) (DH (wA m c) (zA m c)) (aA m c) i l = DX (xA m c) (gA m c) (DH (wA m c) (zA m c)) (aA m c) i' l' := by
  cases Fin.ext e; cases Fin.ext e'; rfl

theorem final5 (i : Fin 16384) (l : Fin 1024) :
    (dats m 0 c).arrAt 5 cfg0.N (ix2 i l) = DX (xA m c) (gA m c) (DH (wA m c) (zA m c)) (aA m c) i l := by
  have key := (dats m 0 c).arrAt_eq_of_covers 5 (fun y => DX (xA m c) (gA m c) (DH (wA m c) (zA m c)) (aA m c) (y 0) (y 1)) (by decide +kernel) fun t _ y => ?_
  · exact congrFun key _
  · have e := eq_ix2 y
    rw [after0_5]
    generalize y 0 = i at e
    generalize y 1 = l at e
    subst e
    have hi : i.val < 512 := i.isLt
    have hl : l.val < 1024 := l.isLt
    blk_simp
    refine (out5 m c t i l).trans ?_
    refine DX_congr m c ?_ ?_ <;> blk_simp [idx t, row] <;> dsimp only <;> omega

theorem out6 (t : Fin cfg0.N) (hf : t.val % 32 = 31) (l : Fin 1024) (j : Fin 1280) :
    (outsAt0 m c t.val t.isLt).2.1 (ix2 l j) = ∑ i, DW (xA m c) (gA m c) (zA m c) i l j := by
  have key := Pipeline.eq_sum_fin_of_reset_step_apply_of_flush (N := cfg0.N)
    (fun k h (y : Fin 1024 × Fin 1280) => (outsAt0 m c k h).2.1 (ix2 y.1 y.2)) 32 (fun _ => 0)
    (fun t y => ∑ i, DW (xA m c) (gA m c) (zA m c) (row t i) y.1 y.2)
    (fun t h y => by
      rw [outsAt0_A m c t h]; frame_out
      refine (pay8 ..).trans ?_
      rw [pay2]; unfold DW RS; simp only [ib0, ib1, ib3])
    (fun t h y => by
      rw [outsAt0_B m c t h]; frame_out
      refine (pay8 ..).trans ?_
      unfold DW RS; simp only [ib0, ib1, ib3]) t hf (l, j)
  refine key.trans ?_
  rw [zero_add]
  dsimp only
  have ht := lt32 t
  refine (Finset.sum_congr rfl fun a _ => ?_).trans (Fin.sum_univ_tiles 32 512 rfl _).symm
  refine Finset.sum_congr rfl fun b _ => ?_
  congr 1
  refine Fin.ext ?_
  show (32 * (t.val / 32) + a.val) * 512 + b.val = _
  have : t.val / 32 = 0 := by omega
  simp [this]

theorem out7 (t : Fin cfg0.N) (hf : t.val % 32 = 31) (l : Fin 1024) :
    (outsAt0 m c t.val t.isLt).2.2 (ix2 0 l) = ∑ i, DG (xA m c) (DH (wA m c) (zA m c)) i l := by
  have key := Pipeline.eq_sum_fin_of_reset_step_apply_of_flush (N := cfg0.N)
    (fun k h (y : Fin 1024) => (outsAt0 m c k h).2.2 (ix2 0 y)) 32 (fun _ => 0)
    (fun t y => ∑ i, DG (xA m c) (DH (wA m c) (zA m c)) (row t i) y)
    (fun t h y => by
      rw [outsAt0_A m c t h]; frame_out
      refine (pay9 ..).trans ?_
      rw [pay3]; unfold DG DH RS; simp only [ib0, ib2, ib3])
    (fun t h y => by
      rw [outsAt0_B m c t h]; frame_out
      refine (pay9 ..).trans ?_
      unfold DG DH RS; simp only [ib0, ib2, ib3]) t hf l
  refine key.trans ?_
  rw [zero_add]
  have ht := lt32 t
  refine (Finset.sum_congr rfl fun a _ => ?_).trans (Fin.sum_univ_tiles 32 512 rfl _).symm
  refine Finset.sum_congr rfl fun b _ => ?_
  congr 1
  refine Fin.ext ?_
  show (32 * (t.val / 32) + a.val) * 512 + b.val = _
  have : t.val / 32 = 0 := by omega
  simp [this]

theorem final6 (l : Fin 1024) (j : Fin 1280) :
    (dats m 0 c).arrAt 6 cfg0.N (ix2 l j) = ∑ i, DW (xA m c) (gA m c) (zA m c) i l j := by
  have key := (dats m 0 c).arrAt_eq_of_after_last 6 ⟨31, lt_of_lt_of_eq (by decide) N_0.symm⟩ (by decide +kernel)
    (fun y => (∑ i, DW (xA m c) (gA m c) (zA m c) i (y 0) (y 1) : EReal)) fun y => ?_
  · exact congrFun key _
  · have e := eq_ix2 y
    rw [after0_6]
    generalize y 0 = l at e
    generalize y 1 = j at e
    subst e
    have hl : l.val < 1024 := l.isLt
    have hj : j.val < 1280 := j.isLt
    blk_simp
    exact out6 m c _ rfl l j

theorem final7 (l : Fin 1024) :
    (dats m 0 c).arrAt 7 cfg0.N (ix2 0 l) = ∑ i, DG (xA m c) (DH (wA m c) (zA m c)) i l := by
  have key := (dats m 0 c).arrAt_eq_of_after_last 7 ⟨31, lt_of_lt_of_eq (by decide) N_0.symm⟩ (by decide +kernel)
    (fun y => (∑ i, DG (xA m c) (DH (wA m c) (zA m c)) i (y 1) : EReal)) fun y => ?_
  · exact congrFun key _
  · have e := eq_ix2 y
    rw [after0_7]
    generalize y 0 = z at e
    generalize y 1 = l at e
    subst e
    obtain rfl : z = (0 : Fin 1) := Fin.ext (by have : z.val < 1 := z.isLt; show z.val = 0; omega)
    have hl : l.val < 1024 := l.isLt
    blk_simp
    exact out7 m c _ rfl l

end Cert.RmsProjIdeal.Val

end
-- ==== Proof.RmsProjHost.lean ====
module

public import proofs.«01_k».proof.Proof.RmsProjValue

@[expose] public section

set_option maxRecDepth 16384

noncomputable section

open Idealize.ShloMosaic Idealize.ShloMosaic.TcCoe Idealize.SL.Sem

namespace Cert.RmsProjIdeal.Val

open Cert.RmsProjIdeal Cert.RmsProjIdeal.Gen

/-! The columns the host packs, and the results it cuts out of the packed gradient. -/

/-- Where column `j` of the projection lies among the packed columns: 32 of them are set apart from those before and after. -/
def col (j : Fin 1184) : Fin 1280 :=
  if j.val < 640 then ⟨j.val, by omega⟩ else if j.val < 672 then ⟨j.val + 64, by omega⟩ else ⟨j.val + 96, by omega⟩

theorem col_injective : Function.Injective col := by
  intro a b h
  have h' := congrArg Fin.val h
  unfold col at h'
  refine Fin.ext ?_
  split_ifs at h' <;> simp only at h' <;> omega

/-- A sum over the packed columns whose terms vanish off the projection's columns. -/
theorem sum_cols (f : Fin 1280 → EReal) (h1 : ∀ j : Fin 1280, 640 ≤ j.val → j.val < 704 → f j = 0)
    (h2 : ∀ j : Fin 1280, 736 ≤ j.val → j.val < 768 → f j = 0) : (∑ j, f j) = ∑ j, f (col j) := by
  refine (Finset.sum_of_injOn col (fun a _ b _ h => col_injective h) (fun _ _ => Finset.mem_univ _) (fun j _ hj => ?_) fun _ _ => rfl).symm
  by_contra hf
  have n1 : ¬(640 ≤ j.val ∧ j.val < 704) := fun h => hf (h1 j h.1 h.2)
  have n2 : ¬(736 ≤ j.val ∧ j.val < 768) := fun h => hf (h2 j h.1 h.2)
  refine hj ?_
  have hj := j.isLt
  by_cases c1 : j.val < 640
  · exact ⟨⟨j.val, by omega⟩, by simp, Fin.ext (by simp [col, c1])⟩
  · by_cases c2 : j.val < 736
    · exact ⟨⟨j.val - 64, by omega⟩, by simp, Fin.ext (by
        have e1 : ¬ j.val - 64 < 640 := by omega
        have e2 : j.val - 64 < 672 := by omega
        simp only [col, e1, e2, if_true, if_false]; omega)⟩
    · exact ⟨⟨j.val - 96, by omega⟩, by simp, Fin.ext (by
        have e1 : ¬ j.val - 96 < 640 := by omega
        have e2 : ¬ j.val - 96 < 672 := by omega
        simp only [col, e1, e2, if_false]; omega)⟩

variable (m : (ℓ : Loc nD τ sig) → Buf (Elt Ideal) ℓ) (c : Dev nD)

theorem gA_at (l : Fin 1024) : gA m c l = (m ((c : Thread nD τ).loc main_arg1) : FVec Ideal S1024 .f32) (ix1 l) := by
  unfold gA
  simp only [V, V0, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

/-- The projection's columns, with zero columns put between. -/
def packW (w : FVec Ideal S1024x1184 .f32) : FVec Ideal S1024x1280 .bf16 :=
  concatenate S1024x1280 1 [
    ⟨S1024x640, extractStridedSlice S1024x640 ![0, 0] (truncf .bf16 w bitsLt_bf16_f32 : FVec Ideal S1024x1184 .bf16) slices_S1024x1184_S1024x640_0_0⟩,
    ⟨S1024x64, extractStridedSlice S1024x64 ![0, 0] (broadcastInDim S1024x128 ![] bcast_S_S1024x128 (constant S_ .bf16 0x0000#16) : FVec Ideal S1024x128 .bf16) slices_S1024x128_S1024x64_0_0⟩,
    ⟨S1024x32, extractStridedSlice S1024x32 ![0, 640] (truncf .bf16 w bitsLt_bf16_f32 : FVec Ideal S1024x1184 .bf16) slices_S1024x1184_S1024x32_0_640⟩,
    ⟨S1024x32, extractStridedSlice S1024x32 ![0, 0] (broadcastInDim S1024x128 ![] bcast_S_S1024x128 (constant S_ .bf16 0x0000#16) : FVec Ideal S1024x128 .bf16) slices_S1024x128_S1024x32_0_0⟩,
    ⟨S1024x512, extractStridedSlice S1024x512 ![0, 672] (truncf .bf16 w bitsLt_bf16_f32 : FVec Ideal S1024x1184 .bf16) slices_S1024x1184_S1024x512_0_672⟩]
    concatenates_S1024x640_S1024x64_S1024x32_S1024x32_S1024x512_S1024x1280_d1

/-- The cotangent's columns, with columns of `p` put between. -/
def packZ (z : FVec Ideal S16384x1184 .bf16) (p : FVec Ideal S16384x96 .bf16) : FVec Ideal S16384x1280 .bf16 :=
  concatenate S16384x1280 1 [
    ⟨S16384x640, extractStridedSlice S16384x640 ![0, 0] z slices_S16384x1184_S16384x640_0_0⟩,
    ⟨S16384x64, extractStridedSlice S16384x64 ![0, 0] p slices_S16384x96_S16384x64_0_0⟩,
    ⟨S16384x32, extractStridedSlice S16384x32 ![0, 640] z slices_S16384x1184_S16384x32_0_640⟩,
    ⟨S16384x32, extractStridedSlice S16384x32 ![0, 64] p slices_S16384x96_S16384x32_0_64⟩,
    ⟨S16384x512, extractStridedSlice S16384x512 ![0, 672] z slices_S16384x1184_S16384x512_0_672⟩]
    concatenates_S16384x640_S16384x64_S16384x32_S16384x32_S16384x512_S16384x1280_d1

/-- The projection's columns cut out of the packed ones. -/
def cutW (d : FVec Ideal S1024x1280 .f32) : FVec Ideal S1024x1184 .f32 :=
  concatenate S1024x1184 1 [
    ⟨S1024x640, extractStridedSlice S1024x640 ![0, 0] d slices_S1024x1280_S1024x640_0_0⟩,
    ⟨S1024x32, extractStridedSlice S1024x32 ![0, 704] d slices_S1024x1280_S1024x32_0_704⟩,
    ⟨S1024x512, extractStridedSlice S1024x512 ![0, 768] d slices_S1024x1280_S1024x512_0_768⟩]
    concatenates_S1024x640_S1024x32_S1024x512_S1024x1184_d1

theorem col_val (j : Fin 1184) : (j.val < 640 ∧ (col j).val = j.val) ∨ (640 ≤ j.val ∧ j.val < 672 ∧ (col j).val = j.val + 64)
    ∨ (672 ≤ j.val ∧ (col j).val = j.val + 96) := by
  unfold col
  split_ifs with h1 h2 <;> simp only [true_and, and_true] <;> omega

theorem packW_col (w : FVec Ideal S1024x1184 .f32) (l : Fin 1024) (j : Fin 1184) : packW w (ix2 l (col j)) = w (ix2 l j) := by
  have hj := col_val j
  pointwise [packW]
  generalize col j = k at hj
  split_ifs <;> first | (exfalso; omega) | exact congrArg (fun k => w (ix2 l k)) (Fin.ext (by dsimp only; omega))

theorem packW_zero (w : FVec Ideal S1024x1184 .f32) (l : Fin 1024) (j : Fin 1280)
    (h : (640 ≤ j.val ∧ j.val < 704) ∨ (736 ≤ j.val ∧ j.val < 768)) : packW w (ix2 l j) = 0 := by
  pointwise [packW]
  split_ifs <;> first | rfl | (exfalso; omega)

theorem packZ_col (z : FVec Ideal S16384x1184 .bf16) (p : FVec Ideal S16384x96 .bf16) (i : Fin 16384) (j : Fin 1184) :
    packZ z p (ix2 i (col j)) = z (ix2 i j) := by
  have hj := col_val j
  pointwise [packZ]
  generalize col j = k at hj
  split_ifs <;> first | (exfalso; omega) | exact congrArg (fun k => z (ix2 i k)) (Fin.ext (by dsimp only; omega))

theorem cutW_at (d : FVec Ideal S1024x1280 .f32) (l : Fin 1024) (j : Fin 1184) : cutW d (ix2 l j) = d (ix2 l (col j)) := by
  have hj := col_val j
  pointwise [cutW]
  generalize col j = k at hj
  split_ifs <;> first | (exfalso; omega) | exact congrArg (fun k => d (ix2 l k)) (Fin.ext (by dsimp only; omega))

theorem wA_eq (l : Fin 1024) (j : Fin 1280) : wA m c l j = packW (m ((c : Thread nD τ).loc main_arg2)) (ix2 l j) := by
  unfold wA
  simp only [V, V0, hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem zA_eq (i : Fin 16384) (j : Fin 1280) :
    zA m c i j = packZ (m ((c : Thread nD τ).loc main_arg3)) (m ((c : Thread nD τ).loc main_arg4)) (ix2 i j) := by
  unfold zA
  simp only [V, V0, hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem tail19 : Pipeline.afterTail₀ cfgs (dats m) 0 (V0 m) [hostOps1] c main_v19 = cutW ((dats m 0 c).arrAt 6 (cfgs 0).N) := by
  unfold Pipeline.afterTail₀ cutW
  rw [← Pipeline.withArrays_arr (cfgs 0).spec launch0.win.arr_inj c (V0 m c) (fun w => (dats m 0 c).arrAt w (cfgs 0).N) 6]
  simp only [List.flatten_cons, List.flatten_nil, List.append_nil]
  after_results
  rfl

theorem tail20 : Pipeline.afterTail₀ cfgs (dats m) 0 (V0 m) [hostOps1] c main_v20
    = shapeCast S1024 ((dats m 0 c).arrAt 7 (cfgs 0).N : FVec Ideal S1x1024 .f32) shapeCasts_S1x1024_S1024 := by
  unfold Pipeline.afterTail₀
  rw [← Pipeline.withArrays_arr (cfgs 0).spec launch0.win.arr_inj c (V0 m c) (fun w => (dats m 0 c).arrAt w (cfgs 0).N) 7]
  simp only [List.flatten_cons, List.flatten_nil, List.append_nil]
  after_results
  rfl

end Cert.RmsProjIdeal.Val

end
-- ==== Proof.RmsProjRef.lean ====
module

public import proofs.«01_k».proof.Proof.NormReal
public import proofs.«01_k».proof.Proof.Gen.RmsProjRefIdeal.Run

@[expose] public section

set_option maxRecDepth 16384

noncomputable section

open Idealize.ShloMosaic Idealize.ShloMosaic.TcCoe Idealize.SL.Sem

namespace Cert.RmsProjRefIdeal.Val

open Cert.RmsProjRefIdeal Cert.RmsProjRefIdeal.Gen

/-! The reference's arrays, one definition per stage of its mathematics. -/

section
variable (x a dh : FVec Ideal S16384x1024 .f32) (g : FVec Ideal S1024 .f32) (w : FVec Ideal S1024x1184 .f32) (z : FVec Ideal S16384x1184 .bf16)

def VAR : FVec Ideal S16384x1 .f32 :=
  addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))
def SCL : FVec Ideal S16384x1 .f32 := Host.rsqrt (VAR x)
def XH : FVec Ideal S16384x1024 .f32 := mulf x (broadcastInDim S16384x1024 ![0, 1] bcast_S16384x1_S16384x1024_0_1 (SCL x))
def GB : FVec Ideal S16384x1024 .f32 :=
  broadcastInDim S16384x1024 ![0, 1] bcast_S1x1024_S16384x1024_0_1 (broadcastInDim S1x1024 ![1] bcast_S1024_S1x1024_1 g)
def DH : FVec Ideal S16384x1024 .f32 :=
  Host.dotGeneral dot_S16384x1184_S1024x1184_S16384x1024_1_1_0_0_n_n none (extf .f32 z bitsLt_bf16_f32 : FVec Ideal S16384x1184 .f32) w
/-- The part of a row's gradient that comes through its mean square. -/
def CO : FVec Ideal S16384x1024 .f32 :=
  broadcastInDim S16384x1024 ![0] bcast_S16384_S16384x1024_0
    (Host.reduceAdd
      (Host.divf
        (mulf (shapeCast _ (Host.reduceAdd (mulf x (mulf dh (GB g))) (constant S_ .f32 0x00000000#32) reducesTo_S16384x1024_S16384_d1 h_S_) shapeCasts_S16384_S16384x1)
          (mulf (broadcastInDim S16384x1 ![] bcast_S_S16384x1 (constant S_ .f32 0xBF000000#32)) (Host.divf (SCL x) (VAR x))))
        (broadcastInDim S16384x1 ![] bcast_S_S16384x1 (constant S_ .f32 0x44800000#32)))
      (constant S_ .f32 0x00000000#32) reducesTo_S16384x1_S16384_d1 h_S_)
def OUT : FVec Ideal S16384x1024 .f32 :=
  addf (addf (addf a (mulf (mulf dh (GB g)) (broadcastInDim S16384x1024 ![0, 1] bcast_S16384x1_S16384x1024_0_1 (SCL x)))) (mulf x (CO x dh g)))
    (mulf (CO x dh g) x)
def GW : FVec Ideal S1024x1184 .f32 :=
  transpose S1024x1184 [1, 0] (Host.dotGeneral dot_S16384x1184_S16384x1024_S1184x1024_0_0_1_1_n_n none
    (extf .f32 z bitsLt_bf16_f32 : FVec Ideal S16384x1184 .f32) (mulf (XH x) (GB g))) transposes_S1184x1024_S1024x1184_1_0
def GG : FVec Ideal S1024 .f32 :=
  Host.reduceAdd (shapeCast S1x1024 (Host.reduceAdd (mulf (XH x) dh) (constant S_ .f32 0x00000000#32) reducesTo_S16384x1024_S1024_d0 h_S_) shapeCasts_S1024_S1x1024)
    (constant S_ .f32 0x00000000#32) reducesTo_S1x1024_S1024_d0 h_S_

theorem VAR_at (i : Fin 16384) : VAR x (ix2 i 0)
    = Ideal.div (∑ k, x (ix2 i k) * x (ix2 i k)) (Ideal.ofBits .f32 0x44800000#32) + Ideal.ofBits .f32 0x358637BD#32 := by
  pointwise [VAR]
theorem SCL_at (i : Fin 16384) : SCL x (ix2 i 0) = Ideal.rsqrt (VAR x (ix2 i 0)) := by
  pointwise [SCL]
theorem XH_at (i : Fin 16384) (l : Fin 1024) : XH x (ix2 i l) = x (ix2 i l) * SCL x (ix2 i 0) := by
  pointwise [XH]
theorem GB_at (i : Fin 16384) (l : Fin 1024) : GB g (ix2 i l) = g (ix1 l) := by
  pointwise [GB]
theorem DH_at (i : Fin 16384) (l : Fin 1024) : DH w z (ix2 i l) = ∑ j, z (ix2 i j) * w (ix2 l j) := by
  pointwise [DH]
theorem CO_at (i : Fin 16384) (l : Fin 1024) : CO x dh g (ix2 i l)
    = Ideal.div ((∑ k, x (ix2 i k) * (dh (ix2 i k) * g (ix1 k)))
        * (Ideal.ofBits .f32 0xBF000000#32 * Ideal.div (SCL x (ix2 i 0)) (VAR x (ix2 i 0)))) (Ideal.ofBits .f32 0x44800000#32) := by
  pointwise [CO]
  simp only [Fin.sum_univ_one, GB_at]
theorem OUT_at (i : Fin 16384) (l : Fin 1024) : OUT x a dh g (ix2 i l)
    = a (ix2 i l) + dh (ix2 i l) * g (ix1 l) * SCL x (ix2 i 0) + x (ix2 i l) * CO x dh g (ix2 i l) + CO x dh g (ix2 i l) * x (ix2 i l) := by
  pointwise [OUT]
  simp only [GB_at]
theorem OUT_real (i : Fin 16384) (l : Fin 1024) {X G H : Fin 1024 → ℝ} (hx : ∀ k, x (ix2 i k) = (X k : EReal)) (hg : ∀ k, g (ix1 k) = (G k : EReal))
    (hh : ∀ k, dh (ix2 i k) = (H k : EReal)) : OUT x a dh g (ix2 i l) = a (ix2 i l) + (NormReal.dxR X G H l : EReal) := by
  have hv : VAR x (ix2 i 0) = (NormReal.vR X : EReal) := (VAR_at x i).trans (NormReal.var_at (fun k => x (ix2 i k)) hx)
  have hr : SCL x (ix2 i 0) = (NormReal.rR X : EReal) := by rw [SCL_at, hv]; exact NormReal.rsqrt_at
  rw [OUT_at, CO_at]
  exact NormReal.dx_ref_at (fun k => x (ix2 i k)) (fun k => g (ix1 k)) (fun k => dh (ix2 i k)) hx hg hh _ _ _ hr hv l
theorem RS_eq (i : Fin 16384) : NormReal.RS (fun i k => x (ix2 i k)) i = SCL x (ix2 i 0) := by
  rw [SCL_at, VAR_at]
  rfl
theorem GW_at (l : Fin 1024) (j : Fin 1184) : GW x g z (ix2 l j)
    = ∑ i, z (ix2 i j) * (x (ix2 i l) * SCL x (ix2 i 0) * g (ix1 l)) := by
  pointwise [GW]
  simp only [GB_at, XH_at]
theorem GG_at (l : Fin 1024) : GG x dh (ix1 l) = ∑ i, x (ix2 i l) * SCL x (ix2 i 0) * dh (ix2 i l) := by
  pointwise [GG]
  simp only [Fin.sum_univ_one, XH_at]
end

section
variable (m : (ℓ : Loc nD τ sig) → Buf (Elt Ideal) ℓ) (c : Dev nD)

theorem out_eq : Value.res_main_v41 m c
    = OUT (m ((c.tc : Thread nD τ).loc main_arg0)) (m ((c.tc : Thread nD τ).loc main_arg5))
        (DH (m ((c.tc : Thread nD τ).loc main_arg2)) (m ((c.tc : Thread nD τ).loc main_arg3))) (m ((c.tc : Thread nD τ).loc main_arg1)) := rfl
end

end Cert.RmsProjRefIdeal.Val

end
-- ==== Proof.RmsProjPair.lean ====
module

public import proofs.«01_k».proof.Defs
public import proofs.«01_k».proof.Proof.Finite
public import proofs.«01_k».proof.Proof.RmsProjHost
public import proofs.«01_k».proof.Proof.RmsProjRef
public import proofs.«01_k».proof.Proof.Gen.Pre_rmsproj_finite
public import Idealize.ShloMosaic.Lib.Claim

@[expose] public section

set_option maxRecDepth 16384

noncomputable section

open Idealize.ShloMosaic Idealize.ShloMosaic.TcCoe Idealize.SL.Sem

namespace Cert.Proof.RmsProj

open Cert.RmsProjIdeal.Val (col)

theorem row_at (v : FVec Ideal Cert.RmsProjIdeal.S1x1024 .f32) (l : Fin 1024) :
    shapeCast Cert.RmsProjIdeal.S1024 v Cert.RmsProjIdeal.Gen.shapeCasts_S1x1024_S1024 (ix1 l) = v (ix2 0 l) := by pointwise

section
variable (m : (ℓ : Loc Cert.RmsProjIdeal.nD Cert.RmsProjIdeal.τ Cert.RmsProjIdeal.sig) → Buf (Elt Ideal) ℓ) (c : Dev Cert.RmsProjIdeal.nD)
  (x a : FVec Ideal Cert.RmsProjRefIdeal.S16384x1024 .f32) (g : FVec Ideal Cert.RmsProjRefIdeal.S1024 .f32)
  (w : FVec Ideal Cert.RmsProjRefIdeal.S1024x1184 .f32) (z : FVec Ideal Cert.RmsProjRefIdeal.S16384x1184 .bf16)
  (hx : x = m (c.tc.loc Cert.RmsProjIdeal.main_arg0)) (hg : g = m (c.tc.loc Cert.RmsProjIdeal.main_arg1))
  (hw : w = m (c.tc.loc Cert.RmsProjIdeal.main_arg2)) (hz : z = m (c.tc.loc Cert.RmsProjIdeal.main_arg3))
  (ha : a = m (c.tc.loc Cert.RmsProjIdeal.main_arg5))

include hx in
theorem xA_at (i : Fin 16384) (l : Fin 1024) : Cert.RmsProjIdeal.Val.xA m c i l = x (ix2 i l) := by rw [hx]; rfl
include ha in
theorem aA_at (i : Fin 16384) (l : Fin 1024) : Cert.RmsProjIdeal.Val.aA m c i l = a (ix2 i l) := by rw [ha]; rfl
include hg in
theorem gA_at (l : Fin 1024) : Cert.RmsProjIdeal.Val.gA m c l = g (ix1 l) := by rw [hg]; exact Cert.RmsProjIdeal.Val.gA_at m c l
include hz in
theorem zA_col (i : Fin 16384) (j : Fin 1184) : Cert.RmsProjIdeal.Val.zA m c i (col j) = z (ix2 i j) := by
  rw [hz, Cert.RmsProjIdeal.Val.zA_eq]; exact Cert.RmsProjIdeal.Val.packZ_col ..
include hw in
theorem wA_col (l : Fin 1024) (j : Fin 1184) : Cert.RmsProjIdeal.Val.wA m c l (col j) = w (ix2 l j) := by
  rw [hw, Cert.RmsProjIdeal.Val.wA_eq]; exact Cert.RmsProjIdeal.Val.packW_col ..

include hw hz in
theorem DH_at (i : Fin 16384) (l : Fin 1024) :
    Cert.RmsProjIdeal.Val.DH (Cert.RmsProjIdeal.Val.wA m c) (Cert.RmsProjIdeal.Val.zA m c) i l = Cert.RmsProjRefIdeal.Val.DH w z (ix2 i l) := by
  rw [Cert.RmsProjRefIdeal.Val.DH_at]
  unfold Cert.RmsProjIdeal.Val.DH
  have h0 := fun (j : Fin 1280) h => (Cert.RmsProjIdeal.Val.wA_eq m c l j).trans (Cert.RmsProjIdeal.Val.packW_zero _ l j h)
  rw [Cert.RmsProjIdeal.Val.sum_cols _ (fun j h1 h2 => by rw [h0 j (.inl ⟨h1, h2⟩), mul_zero])
    (fun j h1 h2 => by rw [h0 j (.inr ⟨h1, h2⟩), mul_zero])]
  simp only [zA_col m c z hz, wA_col m c w hw]

include hx in
theorem RS_at (i : Fin 16384) : NormReal.RS (Cert.RmsProjIdeal.Val.xA m c) i = Cert.RmsProjRefIdeal.Val.SCL x (ix2 i 0) := by
  rw [Cert.RmsProjRefIdeal.Val.SCL_at, Cert.RmsProjRefIdeal.Val.VAR_at]
  unfold NormReal.RS
  simp only [xA_at m c x hx]

include hx hg hz in
theorem gw_eq (l : Fin 1024) (j : Fin 1184) :
    Cert.RmsProjRefIdeal.Val.GW x g z (ix2 l j) = Cert.RmsProjIdeal.Val.cutW ((Cert.RmsProjIdeal.Gen.dats m 0 c).arrAt 6 Cert.RmsProjIdeal.cfg0.N) (ix2 l j) := by
  rw [Cert.RmsProjRefIdeal.Val.GW_at, Cert.RmsProjIdeal.Val.cutW_at, Cert.RmsProjIdeal.Val.final6]
  unfold Cert.RmsProjIdeal.Val.DW
  simp only [xA_at m c x hx, RS_at m c x hx, gA_at m c g hg, zA_col m c z hz]
  exact Finset.sum_congr rfl fun i _ => mul_comm _ _

include hx hw hz in
theorem gg_eq (l : Fin 1024) :
    Cert.RmsProjRefIdeal.Val.GG x (Cert.RmsProjRefIdeal.Val.DH w z) (ix1 l) = (Cert.RmsProjIdeal.Gen.dats m 0 c).arrAt 7 Cert.RmsProjIdeal.cfg0.N (ix2 0 l) := by
  rw [Cert.RmsProjRefIdeal.Val.GG_at, Cert.RmsProjIdeal.Val.final7]
  unfold NormReal.DG
  simp only [xA_at m c x hx, RS_at m c x hx, DH_at m c w z hw hz]
  exact Finset.sum_congr rfl fun i _ => mul_comm _ _

variable (X : Fin 16384 → Fin 1024 → ℝ) (G : Fin 1024 → ℝ) (W : Fin 1024 → Fin 1184 → ℝ) (Z : Fin 16384 → Fin 1184 → ℝ)
  (fx : ∀ i l, x (ix2 i l) = (X i l : EReal)) (fg : ∀ l, g (ix1 l) = (G l : EReal)) (fw : ∀ l j, w (ix2 l j) = (W l j : EReal))
  (fz : ∀ i j, z (ix2 i j) = (Z i j : EReal))

include hx hg hw hz ha fx fg fw fz in
theorem gx_eq (i : Fin 16384) (l : Fin 1024) :
    Cert.RmsProjRefIdeal.Val.OUT x a (Cert.RmsProjRefIdeal.Val.DH w z) g (ix2 i l)
      = (Cert.RmsProjIdeal.Gen.dats m 0 c).arrAt 5 Cert.RmsProjIdeal.cfg0.N (ix2 i l) := by
  have hd : ∀ k, Cert.RmsProjRefIdeal.Val.DH w z (ix2 i k) = ((∑ j, Z i j * W k j : ℝ) : EReal) := fun k => by
    rw [Cert.RmsProjRefIdeal.Val.DH_at]
    simp only [fz, fw, ← EReal.coe_mul, NormReal.coe_sum]
  rw [Cert.RmsProjIdeal.Val.final5, NormReal.DX_real _ _ _ _ i l (fun k => (xA_at m c x hx i k).trans (fx i k)) (fun k => (gA_at m c g hg k).trans (fg k))
    (fun k => (DH_at m c w z hw hz i k).trans (hd k)), aA_at m c a ha]
  exact Cert.RmsProjRefIdeal.Val.OUT_real x a _ g i l (fx i) fg hd
end

end Cert.Proof.RmsProj

namespace Cert.Proof

theorem rmsProj_algebraic : Cert.algebraic_RmsProjIdeal_RmsProjRefIdeal_pre_rmsproj_finite := by
  intro m g m' g' hpre hagree
  refine ⟨fun c => (Cert.RmsProjIdeal.Gen.dats m 0 c).arrAt 5 Cert.RmsProjIdeal.cfg0.N,
    fun c => Cert.RmsProjIdeal.Val.cutW ((Cert.RmsProjIdeal.Gen.dats m 0 c).arrAt 6 Cert.RmsProjIdeal.cfg0.N),
    fun c => shapeCast Cert.RmsProjIdeal.S1024 ((Cert.RmsProjIdeal.Gen.dats m 0 c).arrAt 7 Cert.RmsProjIdeal.cfg0.N : FVec Ideal Cert.RmsProjIdeal.S1x1024 .f32)
      Cert.RmsProjIdeal.Gen.shapeCasts_S1x1024_S1024, ?_, ?_⟩
  · refine (θ_run _ _ _).mono (fun r hr c => ?_) (θ_run_and (Cert.RmsProjIdeal.Gen.run_main m g) (Cert.RmsProjIdeal.Gen.unchanged m g))
    obtain ⟨hF, hU⟩ := hr
    exact ⟨(hF c).1 5, ((hF c).2 _ (by decide +kernel)).trans (Cert.RmsProjIdeal.Val.tail19 m c), ((hF c).2 _ (by decide +kernel)).trans (Cert.RmsProjIdeal.Val.tail20 m c), hU c⟩
  · refine (θ_run _ _ _).mono (fun r hr c => ?_) (Cert.RmsProjRefIdeal.Value.run m' g')
    obtain ⟨e0, e1, e2, ea⟩ := hr c
    obtain ⟨f0, f1, f2, f3⟩ := hpre c
    obtain ⟨g0, g1, g2, g3, g4, g5⟩ := hagree c
    have hx := fun (i : Fin 16384) (l : Fin 1024) => (congrFun g0 (ix2 i l)).trans (real_of_finite _ _ f0 (ix2 i l))
    have hg := fun (l : Fin 1024) => (congrFun g1 (ix1 l)).trans (real_of_finite _ _ f1 (ix1 l))
    have hw := fun (l : Fin 1024) (j : Fin 1184) => (congrFun g2 (ix2 l j)).trans (real_of_finite _ _ f2 (ix2 l j))
    have hz := fun (i : Fin 16384) (j : Fin 1184) => (congrFun g3 (ix2 i j)).trans (real_of_finite _ _ f3 (ix2 i j))
    clear hr
    refine ⟨e0.trans ?_, e1.trans ?_, e2.trans ?_, ea⟩
    · rw [Cert.RmsProjRefIdeal.Val.out_eq]
      refine funext fun y => ?_
      rw [eq_ix2 y]
      exact RmsProj.gx_eq m c _ _ _ _ _ g0 g1 g2 g3 g5 _ _ _ _ hx hg hw hz ..
    · refine funext fun y => ?_
      rw [eq_ix2 y]
      exact RmsProj.gw_eq m c _ _ _ g0 g1 g3 ..
    · refine funext fun y => ?_
      rw [eq_ix1 y]
      exact (RmsProj.gg_eq m c _ _ _ g0 g2 g3 (y 0)).trans (RmsProj.row_at _ _).symm

end Cert.Proof

end
-- ==== Proof.FfnInValue.lean ====
module

public import proofs.«01_k».proof.Proof.Gen.FfnInIdeal.Frame
public import proofs.«01_k».proof.Proof.NormReal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnInIdeal.Val

open Cert.FfnInIdeal Cert.FfnInIdeal.Gen Cert.NormReal

/-! The call's two results as functions of the six arrays it is handed. -/

/-- The cotangent of the normed row: through the gate's columns and through the other ones. -/
def DH {n : ℕ} (w : Fin 5632 → Fin 1024 → EReal) (p q : Fin n → Fin 2816 → EReal) (i : Fin n) (l : Fin 1024) : EReal :=
  (∑ j : Fin 2816, p i j * w ⟨j.val, by omega⟩ l) + ∑ j : Fin 2816, q i j * w ⟨2816 + j.val, by omega⟩ l

section
variable (x a : FVec Ideal S512x1024 .f32) (p q : FVec Ideal S512x2816 .bf16) (w w' : FVec Ideal S2816x1024 .bf16) (g : FVec Ideal S1x1024 .f32)

/-- The same of the two halves of the weights apart. -/
def DP (i : Fin 512) (l : Fin 1024) : EReal := (∑ j, p (ix2 i j) * w (ix2 j l)) + ∑ j, q (ix2 i j) * w' (ix2 j l)

theorem pay4 (i : Fin 512) : k0_pay4 (F := Ideal) x (ix2 i 0) = RS (fun i k => x (ix2 i k)) i := by
  pointwise [k0_pay4]
  rfl
theorem pay5 (i : Fin 512) (l : Fin 1024) : k0_pay5 (F := Ideal) x (ix2 i l) = x (ix2 i l) * RS (fun i k => x (ix2 i k)) i := by
  pointwise [k0_pay5]
  rw [pay4]
theorem pay3 (i : Fin 512) (l : Fin 1024) : k0_pay3 (F := Ideal) p w q w' (ix2 i l) = DP p q w w' i l := by
  pointwise [k0_pay3]
  rfl
theorem pay2 (j : S1x1024.Idx) : k0_pay2 (F := Ideal) j = 0 := by pointwise [k0_pay2]
theorem pay6 (o : FVec Ideal S1x1024 .f32) (l : Fin 1024) :
    k0_pay6 (F := Ideal) p w q w' x o (ix2 0 l) = o (ix2 0 l) + ∑ i, DG (fun i k => x (ix2 i k)) (DP p q w w') i l := by
  pointwise [k0_pay6]
  simp only [pay5, pay3]
  rfl
theorem pay1 (i : Fin 512) (l : Fin 1024) :
    k0_pay1 (F := Ideal) (k0_pay3 p w q w') (k0_pay4 x) (k0_pay5 x) a g (ix2 i l)
      = DX (fun i k => x (ix2 i k)) (fun l => g (ix2 0 l)) (DP p q w w') (fun i k => a (ix2 i k)) i l := by
  pointwise [k0_pay1]
  simp only [pay4, pay5, pay3]
  rfl
end

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![0, 0] :=
  (by decide +kernel : ∀ t : Fin grid0.N, _)

/-- The arrays the windows read, as functions of their two coordinates. -/
def xA (i : Fin 16384) (l : Fin 1024) : EReal := (V m c main_arg0 : FVec Ideal S16384x1024 .f32) (ix2 i l)
def gA (l : Fin 1024) : EReal := (V m c main_v0 : FVec Ideal S1x1024 .f32) (ix2 0 l)
def wA (j : Fin 5632) (l : Fin 1024) : EReal := (V m c main_v2 : FVec Ideal S5632x1024 .bf16) (ix2 j l)
def pA (i : Fin 16384) (j : Fin 2816) : EReal := (V m c main_arg3 : FVec Ideal S16384x2816 .bf16) (ix2 i j)
def qA (i : Fin 16384) (j : Fin 2816) : EReal := (V m c main_arg4 : FVec Ideal S16384x2816 .bf16) (ix2 i j)
def aA (i : Fin 16384) (l : Fin 1024) : EReal := (V m c main_arg5 : FVec Ideal S16384x1024 .f32) (ix2 i l)

theorem lt32 (t : Fin cfg0.N) : t.val < 32 := lt_of_lt_of_eq t.isLt N_0
/-- Row `i` of tile `t`. -/
def row (t : Fin cfg0.N) (i : Fin 512) : Fin 16384 := ⟨t.val * 512 + i, by have := lt32 t; omega⟩

theorem ib0 (t : Fin cfg0.N) (i : Fin 512) (l : Fin 1024) : iblk m c 0 t (ix2 i l) = xA m c (row t i) l := by
  unfold xA row
  blk_point [iblk, idx t]
theorem ib1 (t : Fin cfg0.N) (l : Fin 1024) : iblk m c 1 t (ix2 0 l) = gA m c l := by
  unfold gA
  blk_point [iblk, idx t]
theorem ib2 (t : Fin cfg0.N) (j : Fin 5632) (l : Fin 1024) : iblk m c 2 t (ix2 j l) = wA m c j l := by
  unfold wA
  blk_point [iblk, idx t]
theorem ib3 (t : Fin cfg0.N) (i : Fin 512) (j : Fin 2816) : iblk m c 3 t (ix2 i j) = pA m c (row t i) j := by
  unfold pA row
  blk_point [iblk, idx t]
theorem ib4 (t : Fin cfg0.N) (i : Fin 512) (j : Fin 2816) : iblk m c 4 t (ix2 i j) = qA m c (row t i) j := by
  unfold qA row
  blk_point [iblk, idx t]
theorem ib5 (t : Fin cfg0.N) (i : Fin 512) (l : Fin 1024) : iblk m c 5 t (ix2 i l) = aA m c (row t i) l := by
  unfold aA row
  blk_point [iblk, idx t]

/-- The two halves of the weights. -/
theorem half0 (t : Fin cfg0.N) (j : Fin 2816) (l : Fin 1024) :
    (View.ld (iblk m c 2 t) (Rect.unit ![0, 0] ![2816, 1024] inb_S5632x1024_S2816x1024_0_0) : FVec Ideal S2816x1024 .bf16) (ix2 j l)
      = wA m c ⟨j.val, by omega⟩ l := by
  refine Eq.trans (congrArg (iblk m c 2 t) ?_) (ib2 m c t ⟨j.val, by omega⟩ l)
  refine funext fun k => Fin.ext ?_
  fin_cases k <;> simp <;> rfl
theorem half1 (t : Fin cfg0.N) (j : Fin 2816) (l : Fin 1024) :
    (View.ld (iblk m c 2 t) (Rect.unit ![2816, 0] ![2816, 1024] inb_S5632x1024_S2816x1024_2816_0) : FVec Ideal S2816x1024 .bf16) (ix2 j l)
      = wA m c ⟨2816 + j.val, by omega⟩ l := by
  refine Eq.trans (congrArg (iblk m c 2 t) ?_) (ib2 m c t ⟨2816 + j.val, by omega⟩ l)
  refine funext fun k => Fin.ext ?_
  fin_cases k <;> simp <;> rfl

theorem DP_at (t : Fin cfg0.N) (i : Fin 512) (l : Fin 1024) :
    DP (iblk m c 3 t) (iblk m c 4 t) (View.ld (iblk m c 2 t : FVec Ideal S5632x1024 .bf16) (Rect.unit (s := S5632x1024) ![0, 0] ![2816, 1024] inb_S5632x1024_S2816x1024_0_0))
      (View.ld (iblk m c 2 t : FVec Ideal S5632x1024 .bf16) (Rect.unit (s := S5632x1024) ![2816, 0] ![2816, 1024] inb_S5632x1024_S2816x1024_2816_0)) i l
      = DH (wA m c) (pA m c) (qA m c) (row t i) l := by
  unfold DP DH
  simp only [half0, half1, ib2, ib3, ib4]

theorem out6 (t : Fin cfg0.N) (i : Fin 512) (l : Fin 1024) :
    (outsAt0 m c t.val t.isLt).1 (ix2 i l) = DX (xA m c) (gA m c) (DH (wA m c) (pA m c) (qA m c)) (aA m c) (row t i) l := by
  have e : DX (fun i k => iblk m c 0 t (ix2 i k)) (fun l => iblk m c 1 t (ix2 0 l)) (DP (iblk m c 3 t) (iblk m c 4 t) (View.ld (iblk m c 2 t : FVec Ideal S5632x1024 .bf16) (Rect.unit (s := S5632x1024) ![0, 0] ![2816, 1024] inb_S5632x1024_S2816x1024_0_0))
      (View.ld (iblk m c 2 t : FVec Ideal S5632x1024 .bf16) (Rect.unit (s := S5632x1024) ![2816, 0] ![2816, 1024] inb_S5632x1024_S2816x1024_2816_0))) (fun i k => iblk m c 5 t (ix2 i k)) i l
      = DX (xA m c) (gA m c) (DH (wA m c) (pA m c) (qA m c)) (aA m c) (row t i) l := by
    unfold DX RS
    simp only [ib0, ib1, ib5, DP_at]
  by_cases h : t.val % 32 = 0
  · rw [outsAt0_A m c t h]; frame_out; exact (pay1 ..).trans e
  · rw [outsAt0_B m c t h]; frame_out; exact (pay1 ..).trans e

theorem DG_at (t : Fin cfg0.N) (z : EReal) (y : Fin 1024) :
    z + ∑ i, DG (fun i k => iblk m c 0 t (ix2 i k)) (DP (iblk m c 3 t) (iblk m c 4 t) (View.ld (iblk m c 2 t : FVec Ideal S5632x1024 .bf16) (Rect.unit (s := S5632x1024) ![0, 0] ![2816, 1024] inb_S5632x1024_S2816x1024_0_0))
      (View.ld (iblk m c 2 t : FVec Ideal S5632x1024 .bf16) (Rect.unit (s := S5632x1024) ![2816, 0] ![2816, 1024] inb_S5632x1024_S2816x1024_2816_0))) i y
      = z + ∑ i, DG (xA m c) (DH (wA m c) (pA m c) (qA m c)) (row t i) y := by
  unfold DG RS
  simp only [ib0, DP_at]

theorem out7 (t : Fin cfg0.N) (hf : t.val % 32 = 31) (l : Fin 1024) :
    (outsAt0 m c t.val t.isLt).2 (ix2 0 l) = ∑ i, DG (xA m c) (DH (wA m c) (pA m c) (qA m c)) i l := by
  have key := Pipeline.eq_sum_fin_of_reset_step_apply_of_flush (N := cfg0.N)
    (fun k h (y : Fin 1024) => (outsAt0 m c k h).2 (ix2 0 y)) 32 (fun _ => 0)
    (fun t y => ∑ i, DG (xA m c) (DH (wA m c) (pA m c) (qA m c)) (row t i) y)
    (fun t h y => by
      rw [outsAt0_A m c t h]; frame_out
      refine (pay6 ..).trans ?_
      rw [pay2]; exact DG_at m c t _ y)
    (fun t h y => by
      rw [outsAt0_B m c t h]; frame_out
      exact (pay6 ..).trans (DG_at m c t _ y)) t hf l
  refine key.trans ?_
  rw [zero_add]
  have ht := lt32 t
  refine (Finset.sum_congr rfl fun a _ => ?_).trans (Fin.sum_univ_tiles 32 512 rfl _).symm
  refine Finset.sum_congr rfl fun b _ => ?_
  congr 1
  refine Fin.ext ?_
  show (32 * (t.val / 32) + a.val) * 512 + b.val = _
  have : t.val / 32 = 0 := by omega
  simp [this]

theorem DX_congr {i i' : Fin 16384} {l l' : Fin 1024} (e : i.val = i'.val) (e' : l.val = l'.val) :
    DX (xA m c) (gA m c) (DH (wA m c) (pA m c) (qA m c)) (aA m c) i l = DX (xA m c) (gA m c) (DH (wA m c) (pA m c) (qA m c)) (aA m c) i' l' := by
  cases Fin.ext e; cases Fin.ext e'; rfl

theorem final6 (i : Fin 16384) (l : Fin 1024) :
    (dats m 0 c).arrAt 6 cfg0.N (ix2 i l) = DX (xA m c) (gA m c) (DH (wA m c) (pA m c) (qA m c)) (aA m c) i l := by
  have key := (dats m 0 c).arrAt_eq_of_covers 6 (fun y => DX (xA m c) (gA m c) (DH (wA m c) (pA m c) (qA m c)) (aA m c) (y 0) (y 1)) (by decide +kernel) fun t _ y => ?_
  · exact congrFun key _
  · have e := eq_ix2 y
    rw [after0_6]
    generalize y 0 = i at e
    generalize y 1 = l at e
    subst e
    have hi : i.val < 512 := i.isLt
    have hl : l.val < 1024 := l.isLt
    blk_simp
    refine (out6 m c t i l).trans ?_
    refine DX_congr m c ?_ ?_ <;> blk_simp [idx t, row] <;> dsimp only <;> omega

theorem final7 (l : Fin 1024) :
    (dats m 0 c).arrAt 7 cfg0.N (ix2 0 l) = ∑ i, DG (xA m c) (DH (wA m c) (pA m c) (qA m c)) i l := by
  have key := (dats m 0 c).arrAt_eq_of_after_last 7 ⟨31, lt_of_lt_of_eq (by decide) N_0.symm⟩ (by decide +kernel)
    (fun y => (∑ i, DG (xA m c) (DH (wA m c) (pA m c) (qA m c)) i (y 1) : EReal)) fun y => ?_
  · exact congrFun key _
  · have e := eq_ix2 y
    rw [after0_7]
    generalize y 0 = z at e
    generalize y 1 = l at e
    subst e
    obtain rfl : z = (0 : Fin 1) := Fin.ext (by have : z.val < 1 := z.isLt; show z.val = 0; omega)
    have hl : l.val < 1024 := l.isLt
    blk_simp
    exact out7 m c _ rfl l

theorem gA_at (l : Fin 1024) : gA m c l = (m ((c : Thread nD τ).loc main_arg1) : FVec Ideal S1024 .f32) (ix1 l) := by
  unfold gA
  simp only [V, V0, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

theorem wA_at (j : Fin 5632) (l : Fin 1024) : wA m c j l = (m ((c : Thread nD τ).loc main_arg2) : FVec Ideal S1024x5632 .f32) (ix2 l j) := by
  unfold wA
  simp only [V, V0, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

theorem tail4 : Pipeline.afterTail₀ cfgs (dats m) 0 (V0 m) [hostOps1] c main_v4
    = shapeCast S1024 ((dats m 0 c).arrAt 7 (cfgs 0).N : FVec Ideal S1x1024 .f32) shapeCasts_S1x1024_S1024 := by
  unfold Pipeline.afterTail₀
  rw [← Pipeline.withArrays_arr (cfgs 0).spec launch0.win.arr_inj c (V0 m c) (fun w => (dats m 0 c).arrAt w (cfgs 0).N) 7]
  simp only [List.flatten_cons, List.flatten_nil, List.append_nil]
  after_results
  rfl

end Cert.FfnInIdeal.Val

end
-- ==== Proof.FfnInPair.lean ====
module

public import proofs.«01_k».proof.Defs
public import proofs.«01_k».proof.Proof.Finite
public import proofs.«01_k».proof.Proof.FfnInValue
public import proofs.«01_k».proof.Proof.RmsProjRef
public import proofs.«01_k».proof.Proof.Gen.FfnInRefIdeal.Run
public import proofs.«01_k».proof.Proof.Gen.Pre_ffnin_finite
public import Idealize.ShloMosaic.Lib.Claim

@[expose] public section

set_option maxRecDepth 16384

noncomputable section

open Idealize.ShloMosaic Idealize.ShloMosaic.TcCoe Idealize.SL.Sem

namespace Cert.FfnInRefIdeal.Val

open Cert.FfnInRefIdeal Cert.FfnInRefIdeal.Gen
open Cert.RmsProjRefIdeal.Val (OUT GG)

section
variable (w : FVec Ideal S1024x5632 .f32) (p q : FVec Ideal S16384x2816 .bf16)

/-- The two gradients side by side. -/
def CAT : FVec Ideal S16384x5632 .f32 :=
  extf .f32 (concatenate S16384x5632 1 [⟨S16384x2816, p⟩, ⟨S16384x2816, q⟩] concatenates_S16384x2816_S16384x2816_S16384x5632_d1 : FVec Ideal S16384x5632 .bf16) bitsLt_bf16_f32
/-- The gradient of the normed rows. -/
def DH : FVec Ideal S16384x1024 .f32 :=
  Host.dotGeneral dot_S16384x5632_S1024x5632_S16384x1024_1_1_0_0_n_n none (CAT p q) w

theorem CAT_left (i : Fin 16384) (j : Fin 2816) : CAT p q (ix2 i (⟨j.val, by omega⟩ : Fin 5632)) = p (ix2 i j) := by
  pointwise [CAT]
theorem CAT_right (i : Fin 16384) (j : Fin 2816) : CAT p q (ix2 i (⟨2816 + j.val, by omega⟩ : Fin 5632)) = q (ix2 i j) := by
  pointwise [CAT]
theorem DH_dot (i : Fin 16384) (l : Fin 1024) : DH w p q (ix2 i l) = ∑ j, CAT p q (ix2 i j) * w (ix2 l j) := by
  pointwise [DH]
theorem DH_at (i : Fin 16384) (l : Fin 1024) : DH w p q (ix2 i l)
    = (∑ j : Fin 2816, p (ix2 i j) * w (ix2 l ⟨j.val, by omega⟩)) + ∑ j : Fin 2816, q (ix2 i j) * w (ix2 l ⟨2816 + j.val, by omega⟩) := by
  rw [DH_dot]
  refine (Fin.sum_univ_add (a := 2816) (b := 2816) (fun j => CAT p q (ix2 i j) * w (ix2 l j))).trans ?_
  refine congrArg₂ (· + ·) (Finset.sum_congr rfl fun j _ => ?_) (Finset.sum_congr rfl fun j _ => ?_)
  · exact congrArg (· * _) (CAT_left p q i j)
  · exact congrArg (· * _) (CAT_right p q i j)
end

variable (m : (ℓ : Loc nD τ sig) → Buf (Elt Ideal) ℓ) (c : Dev nD)

theorem out_eq : Value.res_main_v40 m c
    = OUT (m ((c.tc : Thread nD τ).loc main_arg0)) (m ((c.tc : Thread nD τ).loc main_arg5))
        (DH (m ((c.tc : Thread nD τ).loc main_arg2)) (m ((c.tc : Thread nD τ).loc main_arg3)) (m ((c.tc : Thread nD τ).loc main_arg4)))
        (m ((c.tc : Thread nD τ).loc main_arg1)) := rfl

end Cert.FfnInRefIdeal.Val

namespace Cert.Proof.FfnIn

open Cert.RmsProjRefIdeal.Val (OUT GG)
open Cert.FfnInIdeal.Val (xA gA wA pA qA aA)

theorem row_at (v : FVec Ideal Cert.FfnInIdeal.S1x1024 .f32) (l : Fin 1024) :
    shapeCast Cert.FfnInIdeal.S1024 v Cert.FfnInIdeal.Gen.shapeCasts_S1x1024_S1024 (ix1 l) = v (ix2 0 l) := by pointwise

section
variable (m : (ℓ : Loc Cert.FfnInIdeal.nD Cert.FfnInIdeal.τ Cert.FfnInIdeal.sig) → Buf (Elt Ideal) ℓ) (c : Dev Cert.FfnInIdeal.nD)
  (x a : FVec Ideal Cert.FfnInRefIdeal.S16384x1024 .f32) (g : FVec Ideal Cert.FfnInRefIdeal.S1024 .f32)
  (w : FVec Ideal Cert.FfnInRefIdeal.S1024x5632 .f32) (p q : FVec Ideal Cert.FfnInRefIdeal.S16384x2816 .bf16)
  (hx : x = m (c.tc.loc Cert.FfnInIdeal.main_arg0)) (hg : g = m (c.tc.loc Cert.FfnInIdeal.main_arg1))
  (hw : w = m (c.tc.loc Cert.FfnInIdeal.main_arg2)) (hp : p = m (c.tc.loc Cert.FfnInIdeal.main_arg3))
  (hq : q = m (c.tc.loc Cert.FfnInIdeal.main_arg4)) (ha : a = m (c.tc.loc Cert.FfnInIdeal.main_arg5))

include hx in
theorem xA_at (i : Fin 16384) (l : Fin 1024) : xA m c i l = x (ix2 i l) := by rw [hx]; rfl
include ha in
theorem aA_at (i : Fin 16384) (l : Fin 1024) : aA m c i l = a (ix2 i l) := by rw [ha]; rfl
include hp in
theorem pA_at (i : Fin 16384) (j : Fin 2816) : pA m c i j = p (ix2 i j) := by rw [hp]; rfl
include hq in
theorem qA_at (i : Fin 16384) (j : Fin 2816) : qA m c i j = q (ix2 i j) := by rw [hq]; rfl
include hg in
theorem gA_at (l : Fin 1024) : gA m c l = g (ix1 l) := by rw [hg]; exact Cert.FfnInIdeal.Val.gA_at m c l
include hw in
theorem wA_at (j : Fin 5632) (l : Fin 1024) : wA m c j l = w (ix2 l j) := by rw [hw]; exact Cert.FfnInIdeal.Val.wA_at m c j l

include hw hp hq in
theorem DH_at (i : Fin 16384) (l : Fin 1024) :
    Cert.FfnInIdeal.Val.DH (wA m c) (pA m c) (qA m c) i l = Cert.FfnInRefIdeal.Val.DH w p q (ix2 i l) := by
  rw [Cert.FfnInRefIdeal.Val.DH_at]
  unfold Cert.FfnInIdeal.Val.DH
  simp only [pA_at m c p hp, qA_at m c q hq, wA_at m c w hw]

include hx in
theorem RS_at (i : Fin 16384) : NormReal.RS (xA m c) i = Cert.RmsProjRefIdeal.Val.SCL x (ix2 i 0) := by
  rw [Cert.RmsProjRefIdeal.Val.SCL_at, Cert.RmsProjRefIdeal.Val.VAR_at]
  unfold NormReal.RS
  simp only [xA_at m c x hx]

include hx hw hp hq in
theorem gg_eq (l : Fin 1024) :
    GG x (Cert.FfnInRefIdeal.Val.DH w p q) (ix1 l) = (Cert.FfnInIdeal.Gen.dats m 0 c).arrAt 7 Cert.FfnInIdeal.cfg0.N (ix2 0 l) := by
  rw [Cert.RmsProjRefIdeal.Val.GG_at, Cert.FfnInIdeal.Val.final7]
  unfold NormReal.DG
  simp only [xA_at m c x hx, RS_at m c x hx, DH_at m c w p q hw hp hq]
  exact Finset.sum_congr rfl fun i _ => mul_comm _ _

variable (X : Fin 16384 → Fin 1024 → ℝ) (G : Fin 1024 → ℝ) (W : Fin 1024 → Fin 5632 → ℝ) (P Q : Fin 16384 → Fin 2816 → ℝ)
  (fx : ∀ i l, x (ix2 i l) = (X i l : EReal)) (fg : ∀ l, g (ix1 l) = (G l : EReal)) (fw : ∀ l j, w (ix2 l j) = (W l j : EReal))
  (fp : ∀ i j, p (ix2 i j) = (P i j : EReal)) (fq : ∀ i j, q (ix2 i j) = (Q i j : EReal))

include hx hg hw hp hq ha fx fg fw fp fq in
theorem gx_eq (i : Fin 16384) (l : Fin 1024) :
    OUT x a (Cert.FfnInRefIdeal.Val.DH w p q) g (ix2 i l)
      = (Cert.FfnInIdeal.Gen.dats m 0 c).arrAt 6 Cert.FfnInIdeal.cfg0.N (ix2 i l) := by
  have hd : ∀ k, Cert.FfnInRefIdeal.Val.DH w p q (ix2 i k)
      = (((∑ j : Fin 2816, P i j * W k ⟨j.val, by omega⟩) + ∑ j : Fin 2816, Q i j * W k ⟨2816 + j.val, by omega⟩ : ℝ) : EReal) := fun k => by
    rw [Cert.FfnInRefIdeal.Val.DH_at, EReal.coe_add]
    simp only [fp, fq, fw, ← EReal.coe_mul, NormReal.coe_sum]
  rw [Cert.FfnInIdeal.Val.final6, NormReal.DX_real _ _ _ _ i l (fun k => (xA_at m c x hx i k).trans (fx i k)) (fun k => (gA_at m c g hg k).trans (fg k))
    (fun k => (DH_at m c w p q hw hp hq i k).trans (hd k)), aA_at m c a ha]
  exact Cert.RmsProjRefIdeal.Val.OUT_real x a _ g i l (fx i) fg hd
end

end Cert.Proof.FfnIn

namespace Cert.Proof

theorem ffnIn_algebraic : Cert.algebraic_FfnInIdeal_FfnInRefIdeal_pre_ffnin_finite := by
  intro m g m' g' hpre hagree
  refine ⟨fun c => (Cert.FfnInIdeal.Gen.dats m 0 c).arrAt 6 Cert.FfnInIdeal.cfg0.N,
    fun c => shapeCast Cert.FfnInIdeal.S1024 ((Cert.FfnInIdeal.Gen.dats m 0 c).arrAt 7 Cert.FfnInIdeal.cfg0.N : FVec Ideal Cert.FfnInIdeal.S1x1024 .f32)
      Cert.FfnInIdeal.Gen.shapeCasts_S1x1024_S1024, ?_, ?_⟩
  · refine (θ_run _ _ _).mono (fun r hr c => ?_) (θ_run_and (Cert.FfnInIdeal.Gen.run_main m g) (Cert.FfnInIdeal.Gen.unchanged m g))
    obtain ⟨hF, hU⟩ := hr
    exact ⟨(hF c).1 6, ((hF c).2 _ (by decide +kernel)).trans (Cert.FfnInIdeal.Val.tail4 m c), hU c⟩
  · refine (θ_run _ _ _).mono (fun r hr c => ?_) (Cert.FfnInRefIdeal.Value.run m' g')
    obtain ⟨e0, e1, ea⟩ := hr c
    obtain ⟨f0, f1, f2, f3, f4⟩ := hpre c
    obtain ⟨g0, g1, g2, g3, g4, g5⟩ := hagree c
    have hx := fun (i : Fin 16384) (l : Fin 1024) => (congrFun g0 (ix2 i l)).trans (real_of_finite _ _ f0 (ix2 i l))
    have hg := fun (l : Fin 1024) => (congrFun g1 (ix1 l)).trans (real_of_finite _ _ f1 (ix1 l))
    have hw := fun (l : Fin 1024) (j : Fin 5632) => (congrFun g2 (ix2 l j)).trans (real_of_finite _ _ f2 (ix2 l j))
    have hp := fun (i : Fin 16384) (j : Fin 2816) => (congrFun g3 (ix2 i j)).trans (real_of_finite _ _ f3 (ix2 i j))
    have hq := fun (i : Fin 16384) (j : Fin 2816) => (congrFun g4 (ix2 i j)).trans (real_of_finite _ _ f4 (ix2 i j))
    clear hr
    refine ⟨e0.trans ?_, e1.trans ?_, ea⟩
    · rw [Cert.FfnInRefIdeal.Val.out_eq]
      refine funext fun y => ?_
      rw [eq_ix2 y]
      exact FfnIn.gx_eq m c _ _ _ _ _ _ g0 g1 g2 g3 g4 g5 _ _ _ _ _ hx hg hw hp hq ..
    · refine funext fun y => ?_
      rw [eq_ix1 y]
      exact (FfnIn.gg_eq m c _ _ _ _ g0 g2 g3 g4 (y 0)).trans (FfnIn.row_at _ _).symm

end Cert.Proof

end
-- ==== Proof.MixoutPool.lean ====
module

public import Idealize.ShloMosaic.Lib.Pointwise
public import Idealize.ShloMosaic.PureOps.Ideal
public import Idealize.ShloMosaic.Lib.Pipeline.ValueKit
public import proofs.«01_k».proof.Proof.NormReal

@[expose] public section

noncomputable section

open Idealize.ShloMosaic

namespace Cert.MixPool

/-! Means over a sliding window of the sequence: the words that bound a window, and the two ways of summing it. -/

/-- The 32-bit word of an integer. -/
abbrev word (n : ℤ) : BitVec 32 := BitVec.ofInt 32 n

theorem word_nat (n : ℕ) : BitVec.ofNat 32 n = word n := (BitVec.ofInt_natCast 32 n).symm
theorem toInt_word (n : ℤ) (h : -2147483648 ≤ n) (h' : n < 2147483648) : (word n).toInt = n :=
  BitVec.toInt_ofInt_eq_self (by decide) (by omega) (by omega)
theorem add_word (a b : ℤ) : IntOp.addi (word a) (word b) = word (a + b) := (BitVec.ofInt_add ..).symm
theorem sub_word (a b : ℤ) : IntOp.subi (word a) (word b) = word (a - b) := by
  show word a - word b = _
  rw [BitVec.sub_eq_add_neg, ← BitVec.ofInt_neg, ← BitVec.ofInt_add]
  rfl
theorem slt_word (a b : ℤ) (ha : -2147483648 ≤ a) (ha' : a < 2147483648) (hb : -2147483648 ≤ b) (hb' : b < 2147483648) :
    (word a).slt (word b) = decide (a < b) := by
  rw [BitVec.slt, toInt_word a ha ha', toInt_word b hb hb']
theorem sle_word (a b : ℤ) (ha : -2147483648 ≤ a) (ha' : a < 2147483648) (hb : -2147483648 ≤ b) (hb' : b < 2147483648) :
    (word a).sle (word b) = decide (a ≤ b) := by
  rw [BitVec.sle, toInt_word a ha ha', toInt_word b hb hb']
theorem max_word (a b : ℤ) (ha : -2147483648 ≤ a) (ha' : a < 2147483648) (hb : -2147483648 ≤ b) (hb' : b < 2147483648) :
    IntOp.maxsi (word a) (word b) = word (max a b) := by
  unfold IntOp.maxsi
  rw [slt_word b a hb hb' ha ha']
  by_cases h : b < a
  · simp [h, max_eq_left h.le]
  · simp [h, max_eq_right (not_lt.mp h)]
theorem min_word (a b : ℤ) (ha : -2147483648 ≤ a) (ha' : a < 2147483648) (hb : -2147483648 ≤ b) (hb' : b < 2147483648) :
    IntOp.minsi (word a) (word b) = word (min a b) := by
  unfold IntOp.minsi
  rw [slt_word a b ha ha' hb hb']
  by_cases h : a < b
  · simp [h, min_eq_left h.le]
  · simp [h, min_eq_right (not_lt.mp h)]

/-- The bit of a proposition. -/
def bit (p : Prop) [Decidable p] : BitVec 1 := if p then 1#1 else 0#1

theorem ge_word (a b : ℤ) (ha : -2147483648 ≤ a) (ha' : a < 2147483648) (hb : -2147483648 ≤ b) (hb' : b < 2147483648) :
    IntOp.cmpi .sge (word a) (word b) = bit (b ≤ a) := by
  unfold IntOp.cmpi bit
  simp only [sle_word b a hb hb' ha ha']
  by_cases h : b ≤ a <;> simp [h]
theorem le_word (a b : ℤ) (ha : -2147483648 ≤ a) (ha' : a < 2147483648) (hb : -2147483648 ≤ b) (hb' : b < 2147483648) :
    IntOp.cmpi .sle (word a) (word b) = bit (a ≤ b) := by
  unfold IntOp.cmpi bit
  simp only [sle_word a b ha ha' hb hb']
  by_cases h : a ≤ b <;> simp [h]
theorem lt_word (a b : ℤ) (ha : -2147483648 ≤ a) (ha' : a < 2147483648) (hb : -2147483648 ≤ b) (hb' : b < 2147483648) :
    IntOp.cmpi .slt (word a) (word b) = bit (a < b) := by
  unfold IntOp.cmpi bit
  simp only [slt_word a b ha ha' hb hb']
  by_cases h : a < b <;> simp [h]
theorem and_bit (p q : Prop) [Decidable p] [Decidable q] : IntOp.andi (bit p) (bit q) = bit (p ∧ q) := by
  unfold bit IntOp.andi
  by_cases h : p <;> by_cases h' : q <;> simp [h, h']

/-- The sum of the first `k` numbers of a sequence, and of those of the window of half width `L` about `s`. -/
def upTo (z : Fin 16384 → ℝ) (k : ℕ) : ℝ := ∑ t : Fin 16384, if t.val < k then z t else 0
def winSum (L : ℕ) (z : Fin 16384 → ℝ) (s : ℕ) : ℝ := ∑ t : Fin 16384, if s ≤ t.val + L ∧ t.val < s + L then z t else 0
/-- How many positions the window holds. -/
def cntZ (L : ℕ) (s : ℕ) : ℤ := min ((s : ℤ) + L) 16384 - max ((s : ℤ) - L) 0
/-- The window's mean less the number in its middle. -/
def mixR (L : ℕ) (z : Fin 16384 → ℝ) (s : Fin 16384) : ℝ := winSum L z s / (cntZ L s : ℝ) - z s

theorem cnt_pos (L : ℕ) (hL : 0 < L) (s : Fin 16384) : 0 < cntZ L s.val := by
  have := s.isLt
  unfold cntZ
  omega

theorem upTo_sub (L : ℕ) (z : Fin 16384 → ℝ) (s : ℕ) (hs : s < 16384) :
    upTo z (min ((s : ℤ) + L) 16384).toNat - upTo z (max ((s : ℤ) - L) 0).toNat = winSum L z s := by
  unfold upTo winSum
  rw [← Finset.sum_sub_distrib]
  refine Finset.sum_congr rfl fun t _ => ?_
  have ht := t.isLt
  have e1 : (t.val < (min ((s : ℤ) + L) 16384).toNat) ↔ t.val < s + L := by omega
  have e2 : (t.val < (max ((s : ℤ) - L) 0).toNat) ↔ ¬ s ≤ t.val + L := by omega
  simp only [e1, e2]
  by_cases h1 : t.val < s + L <;> by_cases h2 : s ≤ t.val + L <;> simp [h1, h2]
  omega

/-- A banded sum over a tile and its two margins is the window's sum. -/
theorem band_sum (L : ℕ) (hL : L ≤ 8) (z : Fin 16384 → ℝ) (b : ℕ) (hb : b < 32) (s : ℕ) (hs : 512 * b ≤ s) (hs' : s < 512 * b + 512)
    (e : Fin 640 → ℝ) (he : ∀ (k : Fin 640) (t : Fin 16384), t.val + 64 = k.val + 512 * b → e k = z t) :
    (∑ k : Fin 640, if ((s : ℤ) - L ≤ (k.val : ℤ) + (512 * b - 64) ∧ (k.val : ℤ) + (512 * b - 64) < s + L)
        ∧ (0 ≤ (k.val : ℤ) + (512 * b - 64) ∧ (k.val : ℤ) + (512 * b - 64) < 16384) then e k else 0) = winSum L z s := by
  have step : ∀ k : Fin 640, (if ((s : ℤ) - L ≤ (k.val : ℤ) + (512 * b - 64) ∧ (k.val : ℤ) + (512 * b - 64) < s + L)
        ∧ (0 ≤ (k.val : ℤ) + (512 * b - 64) ∧ (k.val : ℤ) + (512 * b - 64) < 16384) then e k else 0)
      = ∑ t : Fin 16384, if t.val + 64 = k.val + 512 * b then (if s ≤ t.val + L ∧ t.val < s + L then z t else 0) else 0 := by
    intro k
    by_cases h : 64 ≤ k.val + 512 * b ∧ k.val + 512 * b < 16384 + 64
    · rw [Finset.sum_eq_single (⟨k.val + 512 * b - 64, by omega⟩ : Fin 16384)]
      · rw [if_pos (show (k.val + 512 * b - 64) + 64 = k.val + 512 * b by omega), he k ⟨k.val + 512 * b - 64, by omega⟩ (by show (k.val + 512 * b - 64) + 64 = _; omega)]
        refine if_congr ?_ rfl rfl
        dsimp only
        omega
      · intro t _ ht
        refine if_neg fun h' => ht (Fin.ext ?_)
        show t.val = k.val + 512 * b - 64
        omega
      · intro h'
        exact absurd (Finset.mem_univ _) h'
    · rw [if_neg (by omega)]
      refine (Finset.sum_eq_zero fun t _ => if_neg ?_).symm
      have := t.isLt
      omega
  rw [Finset.sum_congr rfl fun k _ => step k, Finset.sum_comm]
  unfold winSum
  refine Finset.sum_congr rfl fun t _ => ?_
  have ht := t.isLt
  by_cases h : s ≤ t.val + L ∧ t.val < s + L
  · rw [Finset.sum_eq_single (⟨t.val + 64 - 512 * b, by omega⟩ : Fin 640)]
    · rw [if_pos (show t.val + 64 = (t.val + 64 - 512 * b) + 512 * b by omega)]
    · intro k _ hk
      refine if_neg fun h' => hk (Fin.ext ?_)
      show k.val = t.val + 64 - 512 * b
      omega
    · intro h'
      exact absurd (Finset.mem_univ _) h'
  · simp only [if_neg h, ite_self, Finset.sum_const_zero]

/-! The reference's way: differences of running sums, taken at computed rows. -/

theorem foldl_add {M : Type} [AddCommMonoid M] {α : Type} (l : List α) (g : α → M) (r : M) :
    l.foldl (fun r n => r + g n) r = r + (l.map g).sum := by
  induction l generalizing r with
  | nil => simp
  | cons x l ih => rw [List.foldl_cons, ih, List.map_cons, List.sum_cons, add_assoc]

/-- Running sums down the rows. -/
theorem cumsum_at {N P C : ℕ} (hP : P + 1 = N) (x : (⟨2, ![N, C]⟩ : Shape).Idx → EReal) (init : (⟨0, ![]⟩ : Shape).Idx → EReal)
    (h : (⟨2, ![N, C]⟩ : Shape).ReduceWindows ![N, 1] ![1, 1] ![P, 0] ![0, 0] ⟨2, ![N, C]⟩)
    (hu : 0 < (⟨0, ![]⟩ : Shape).numel) (hi : init (Shape.Idx.first hu) = 0) (s : Fin N) (c : Fin C) :
    (Host.reduceWindowAdd (F := Ideal) (φ := .f32) ![N, 1] ![1, 1] ![P, 0] ![0, 0] x init h hu : FVec Ideal _ .f32) (ix2 s c)
      = ∑ t : Fin N, if t.val < s.val + 1 then x (ix2 t c) else 0 := by
  show Host.reduceWindow (· + ·) ![N, 1] ![1, 1] ![P, 0] ![0, 0] x (fun _ : (⟨0, ![]⟩ : Shape).Idx => init (Shape.Idx.first hu)) h hu (ix2 s c) = _
  unfold Host.reduceWindow
  rw [hi]
  dsimp only
  rw [foldl_add, zero_add, ← Fin.sum_univ_def]
  have hs := s.isLt
  let w := (Shape.rowMajor (⟨2, ![N, 1]⟩ : Shape)).symm
  let G : (⟨2, ![N, 1]⟩ : Shape).Idx → EReal := fun w => ∑ t : Fin N, if t.val + P = s.val + (w 0).val then x (ix2 t c) else 0
  refine (Finset.sum_congr rfl (g := fun n => G ((Shape.rowMajor (⟨2, ![N, 1]⟩ : Shape)).symm n)) fun n _ => ?_).trans ?_
  · have hq : (w n 0).val < N := (w n 0).isLt
    have hw : (w n 1).val = 0 := Nat.lt_one_iff.mp (w n 1).isLt
    show _ = ∑ t : Fin N, if t.val + P = s.val + (w n 0).val then x (ix2 t c) else 0
    by_cases hle : P ≤ s.val + (w n 0).val
    · rw [dif_pos, Finset.sum_eq_single (⟨s.val + (w n 0).val - P, by omega⟩ : Fin N)]
      · rw [if_pos (show s.val + (w n 0).val - P + P = s.val + (w n 0).val by omega)]
        refine congrArg x (funext fun a => Fin.ext ?_)
        fin_cases a
        · show s.val * 1 + (w n 0).val - P = s.val + (w n 0).val - P
          omega
        · show c.val * 1 + (w n 1).val - 0 = c.val
          omega
      · intro t _ ht
        refine if_neg fun h' => ht (Fin.ext ?_)
        show t.val = s.val + (w n 0).val - P
        omega
      · intro h'
        exact absurd (Finset.mem_univ _) h'
      · intro a
        fin_cases a
        · show P ≤ s.val * 1 + (w n 0).val ∧ s.val * 1 + (w n 0).val - P < N
          omega
        · show 0 ≤ c.val * 1 + (w n 1).val ∧ c.val * 1 + (w n 1).val - 0 < C
          have := c.isLt
          omega
    · rw [dif_neg]
      · refine (Finset.sum_eq_zero fun t _ => if_neg ?_).symm
        omega
      · intro hin
        have h0 : P ≤ s.val * 1 + (w n 0).val := (hin 0).1
        omega
  refine (Equiv.sum_comp (Shape.rowMajor (⟨2, ![N, 1]⟩ : Shape)).symm G).trans ?_
  rw [sum_idx2]
  simp only [Fin.sum_univ_one]
  show (∑ q : Fin N, ∑ t : Fin N, if t.val + P = s.val + q.val then x (ix2 t c) else 0) = _
  rw [Finset.sum_comm]
  refine Finset.sum_congr rfl fun t _ => ?_
  have ht := t.isLt
  by_cases hlt : t.val < s.val + 1
  · rw [if_pos hlt, Finset.sum_eq_single (⟨t.val + P - s.val, by omega⟩ : Fin N)]
    · rw [if_pos (show t.val + P = s.val + (t.val + P - s.val) by omega)]
    · intro q _ hq
      refine if_neg fun h' => hq (Fin.ext ?_)
      show q.val = t.val + P - s.val
      omega
    · intro h'
      exact absurd (Finset.mem_univ _) h'
  · rw [if_neg hlt]
    refine Finset.sum_eq_zero fun q _ => if_neg ?_
    have := q.isLt
    omega

/-- Rows of a table at an array of row numbers: the dimension numbers. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The row read is the numbered one, held inside the table. -/
theorem rows_at {N C B w : ℕ} (hN : 0 < N) (wf : GatherDims.WF ⟨2, ![N, C]⟩ ⟨2, ![B, 1]⟩ ⟨2, ![B, C]⟩ [1] [0] [] [0] [] 1 ![1, C])
    (x : (⟨2, ![N, C]⟩ : Shape).Idx → EReal) (idx : IVec ⟨2, ![B, 1]⟩ w) (s : Fin B) (l : Fin C) :
    Host.gather (rowDims N C B wf) x idx (ix2 s l) = x (ix2 ⟨min (idx (ix2 s 0)).toInt.toNat (N - 1), by omega⟩ l) := by
  unfold Host.gather
  refine congrArg x (funext fun a => Fin.ext ?_)
  show (rowDims N C B wf).start (ix2 s l) idx a + (rowDims N C B wf).batchCoord (ix2 s l) a + (rowDims N C B wf).offCoord (ix2 s l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 s l) ⟨List.idxOf (0 : Fin 2) (rowDims N C B wf).startIndexMap,
        List.idxOf_lt_length_iff.2 (List.mem_singleton.mpr rfl)⟩ = ix2 s 0 := by
      funext b
      refine Fin.ext ?_
      fin_cases b
      · rfl
      · rfl
    refine (congrArg (fun j => min (idx j).toInt.toNat (N - 1)) hsi).trans ?_
    rfl
  · unfold GatherDims.start
    rw [dif_neg (show (1 : Fin 2) ∉ (rowDims N C B wf).startIndexMap from fun h => Fin.zero_ne_one (List.mem_singleton.mp h).symm)]
    unfold GatherDims.offCoord
    rw [dif_pos (show (1 : Fin 2) ∈ (rowDims N C B wf).sKept from (GatherDims.mem_sKept _ _).mpr ⟨fun h => Fin.zero_ne_one (List.mem_singleton.mp h).symm, List.not_mem_nil⟩)]
    simp only [Nat.zero_add]
    rfl

theorem foldl_and {α : Type} (l : List α) (g : α → BitVec 1) (h : ∀ n, g n = 1#1) : l.foldl (fun r n => IntOp.andi r (g n)) 1#1 = 1#1 := by
  induction l with
  | nil => rfl
  | cons x l ih => rw [List.foldl_cons, h x]; exact ih

/-- A conjunction of bits that all hold holds. -/
theorem all_at {S t u : Shape} {axes : List (Fin S.rank)} (x : S.Idx → BitVec 1) (init : u.Idx → BitVec 1) (h : S.ReducesTo axes t) (hu : 0 < u.numel)
    (hx : ∀ i, x i = 1#1) (hi : ∀ i, init i = 1#1) (j : t.Idx) : Host.reduce IntOp.andi x init h hu j = 1#1 := by
  unfold Host.reduce
  rw [hi]
  exact foldl_and _ _ fun n => hx _

end Cert.MixPool

end
-- ==== Proof.MixoutSpec.lean ====
module

public import proofs.«01_k».proof.Proof.MixoutPool

@[expose] public section

noncomputable section

open Idealize.ShloMosaic

namespace Cert.MixPool

/-- The 512 pooled columns are four groups of 128. -/
def lane (b : Fin 4) (j : Fin 128) : Fin 512 := ⟨b.val * 128 + j.val, by omega⟩
def grp (c : Fin 512) : Fin 4 := ⟨c.val / 128, by omega⟩
def off (c : Fin 512) : Fin 128 := ⟨c.val % 128, by omega⟩
/-- The columns of the attention's part and of the pooled part among all 1024. -/
def loC (c : Fin 512) : Fin 1024 := ⟨c.val, by omega⟩
def hiC (c : Fin 512) : Fin 1024 := ⟨512 + c.val, by omega⟩
/-- A head's 64 columns. -/
def headC (h : Fin 8) (v : Fin 64) : Fin 512 := ⟨h.val * 64 + v.val, by omega⟩
/-- Tokens as sixteen rows of 1024. -/
def tokB (b : Fin 16) (r : Fin 1024) : Fin 16384 := ⟨b.val * 1024 + r.val, by omega⟩

theorem grp_lane (b : Fin 4) (j : Fin 128) : grp (lane b j) = b := Fin.ext (by show (b.val * 128 + j.val) / 128 = b.val; omega)
theorem off_lane (b : Fin 4) (j : Fin 128) : off (lane b j) = j := Fin.ext (by show (b.val * 128 + j.val) % 128 = j.val; omega)
theorem lane_eq (c : Fin 512) : lane (grp c) (off c) = c := Fin.ext (by show c.val / 128 * 128 + c.val % 128 = c.val; omega)

variable (g : Fin 16384 → Fin 1024 → EReal) (z a : Fin 16384 → Fin 512 → EReal) (wo : Fin 1024 → Fin 1024 → EReal)
  (wp : Fin 4 → Fin 128 → Fin 128 → EReal) (ps : Fin 512 → EReal)

/-- The pooled signal: group `b` takes windows of half width `2 ^ b`. -/
def mixed (s : Fin 16384) (b : Fin 4) (i : Fin 128) : EReal := ((mixR (2 ^ b.val) (fun t => (z t (lane b i)).toReal) s : ℝ) : EReal)
/-- The cotangents of the attention's columns and of the pooled columns. -/
def dAttn (s : Fin 16384) (c : Fin 512) : EReal := ∑ l : Fin 1024, g s l * wo (loC c) l
def dPool (s : Fin 16384) (c : Fin 512) : EReal := ∑ l : Fin 1024, g s l * wo (hiC c) l
/-- The pooled part's projection, and its cotangent. -/
def proj (s : Fin 16384) (c : Fin 512) : EReal := ∑ i : Fin 128, mixed z s (grp c) i * wp (grp c) i (off c)
def dProj (s : Fin 16384) (c : Fin 512) : EReal := dPool g wo s c * ps c
/-- The results. -/
def delta (h : Fin 8) (s : Fin 16384) : EReal := ∑ v : Fin 64, dAttn g wo s (headC h v) * a s (headC h v)
def dMixed (s : Fin 16384) (c : Fin 512) : EReal := ∑ j : Fin 128, dProj g wo ps s (lane (grp c) j) * wp (grp c) (off c) j
def dOutLo (c : Fin 512) (l : Fin 1024) : EReal := ∑ s : Fin 16384, a s c * g s l
def dOutHi (c : Fin 512) (l : Fin 1024) : EReal := ∑ s : Fin 16384, (proj z wp s c * ps c) * g s l
def dWpool (b : Fin 4) (i j : Fin 128) : EReal := ∑ s : Fin 16384, mixed z s b i * dProj g wo ps s (lane b j)
def dScale (c : Fin 512) : EReal := ∑ s : Fin 16384, dPool g wo s c * proj z wp s c

end Cert.MixPool

end
-- ==== Proof.MixoutMix.lean ====
module

public import proofs.«01_k».proof.Proof.Gen.MixoutIdeal.Frame
public import proofs.«01_k».proof.Proof.MixoutSpec
public import proofs.«01_k».proof.Proof.NormReal
public import Idealize.ShloMosaic.Lib.Pipeline.ValueKit

@[expose] public section

set_option maxRecDepth 16384

noncomputable section

open Idealize.ShloMosaic Idealize.ShloMosaic.TcCoe Idealize.SL.Sem

namespace Cert.MixoutIdeal.Val

open Cert.MixoutIdeal Cert.MixoutIdeal.Gen Cert.MixPool

/-! The pooled signal of one tile: a banded product of zeros and ones with the tile and its two margins, over the number of
    positions in the window, less the tile. -/

/-- One group of 128 columns, of a band, the tile with margins, the counts and the tile. -/
def poolK (mask : IVec S512x640 1) (x : FVec Ideal S640x128 .f32) (n : IVec S512x1 32) (x0 : FVec Ideal S512x128 .f32) : FVec Ideal S512x128 .f32 :=
  let d := matmul dot_S512x640_S640x384_S512x384_1_0_0_1_n_n none
    (truncf .bf16 (select mask (broadcast S512x640 (Scalar.ofBits (F := Ideal) .f32 0x3F800000#32)) (broadcast S512x640 (Scalar.ofBits (F := Ideal) .f32 0x00000000#32))) bitsLt_bf16_f32)
    (concatenate S640x384 1 [⟨S640x128, truncf .bf16 x bitsLt_bf16_f32⟩,
      ⟨S640x128, truncf .bf16 (subf x (extf .f32 (truncf .bf16 x bitsLt_bf16_f32) bitsLt_bf16_f32)) bitsLt_bf16_f32⟩,
      ⟨S640x128, truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32⟩]
      concatenates_S640x128_S640x128_S640x128_S640x384_d1) (constant S512x384 .f32 0x00000000#32)
  subf (divf (addf (addf (extractStridedSlice S512x128 ![0, 0] d slices_S512x384_o0_0_S512x128) (extractStridedSlice S512x128 ![0, 128] d slices_S512x384_o0_128_S512x128))
    (extractStridedSlice S512x128 ![0, 256] d slices_S512x384_o0_256_S512x128)) (broadcastTo S512x128 (sitofp .f32 n) broadcasts_S512x1_S512x128)) x0

/-- The band of a window, and the number of its positions. -/
def band (s t : IVec S512x640 32) (inside : IVec S512x640 1) (l r : BitVec 32) : IVec S512x640 1 :=
  andi (andi (cmpi .sge t (subi s (broadcast S512x640 l))) (cmpi .sle t (addi s (broadcast S512x640 r)))) inside
def count (v : IVec S512x1 32) (l r : BitVec 32) : IVec S512x1 32 :=
  subi (minsi (addi (addi v (broadcast S512x1 r)) (broadcast S512x1 1#32)) (broadcast S512x1 16384#32)) (maxsi (subi v (broadcast S512x1 l)) (broadcast S512x1 0#32))

theorem div_real {y : ℝ} (h : y ≠ 0) (x : ℝ) : Ideal.div (x : EReal) (y : EReal) = ((x / y : ℝ) : EReal) := by
  rw [Ideal.div_coe h, ← EReal.coe_mul, mul_one_div]
theorem sitofp_at (b : BitVec 32) : FloatOps.sitofp (F := Ideal) FTy.f32 b = ((b.toInt : ℝ) : EReal) := rfl

theorem sel_bit (p : Prop) [Decidable p] (e : ℝ) : Scalar.select (bit p) (e : EReal) 0 = ((if p then e else 0 : ℝ) : EReal) := by
  unfold bit Scalar.select
  by_cases h : p <;> simp [h]
theorem sel_zero (b : BitVec 1) : Scalar.select b (0 : EReal) 0 = 0 := by
  unfold Scalar.select
  split <;> rfl
theorem sub_self' (e : ℝ) : (e : EReal) - (e : EReal) = 0 := by
  rw [← EReal.coe_sub, sub_self, EReal.coe_zero]

theorem poolK_at (mask : IVec S512x640 1) (x : FVec Ideal S640x128 .f32) (n : IVec S512x1 32) (x0 : FVec Ideal S512x128 .f32) (r : Fin 512) (l : Fin 128)
    (e : Fin 640 → ℝ) (p : Fin 640 → Prop) [DecidablePred p] (hm : ∀ k, mask (ix2 r k) = bit (p k)) (hx : ∀ k, x (ix2 k l) = (e k : EReal))
    (N : ℤ) (hN : 0 < N) (hN' : N < 2147483648) (hn : n (ix2 r 0) = word N) (z : ℝ) (h0 : x0 (ix2 r l) = (z : EReal)) :
    poolK mask x n x0 (ix2 r l) = (((∑ k, if p k then e k else 0) / (N : ℝ) - z : ℝ) : EReal) := by
  pointwise [poolK]
  have hx2 : ∀ k, x (ix2 k ⟨256 + l.val - 128 - 128, by omega⟩) = (e k : EReal) := fun k =>
    (congrArg (fun i => x (ix2 k i)) (Fin.ext (by show 256 + l.val - 128 - 128 = l.val; omega))).trans (hx k)
  simp only [hm, hx, hn, h0, dif_neg (show ¬ 256 + l.val < 128 by omega), dif_neg (show ¬ 256 + l.val - 128 < 128 by omega), hx2, sub_self',
    sel_zero, sel_bit, Finset.sum_const_zero, add_zero, sub_zero]
  rw [Cert.NormReal.coe_sum, sitofp_at, toInt_word _ (by omega) hN', div_real (by exact_mod_cast hN.ne'), EReal.coe_sub]

section
variable (x1 : FVec Ideal S64x512 .f32) (x2 : FVec Ideal S512x512 .f32) (x3 : FVec Ideal S64x512 .f32) (i : grid0.Coords)

theorem group0 : k0_pay16 x2 (k0_pay11 x1 x2 x3) (k0_pay12 i) (k0_pay13 i) (k0_pay14 i) (k0_pay15 i)
    = poolK (band (k0_pay12 i) (k0_pay13 i) (k0_pay15 i) 1#32 0#32) (extractStridedSlice S640x128 ![0, 0] (k0_pay11 x1 x2 x3) slices_S640x512_o0_0_S640x128)
      (count (k0_pay14 i) 1#32 0#32) (extractStridedSlice S512x128 ![0, 0] x2 slices_S512x512_o0_0_S512x128) := rfl
theorem group1 : k0_pay19 x2 (k0_pay11 x1 x2 x3) (k0_pay13 i) (k0_pay14 i) (k0_pay15 i) (k0_pay17 (k0_pay12 i) (k0_pay13 i)) (k0_pay18 (k0_pay12 i))
    = poolK (band (k0_pay12 i) (k0_pay13 i) (k0_pay15 i) 2#32 1#32) (extractStridedSlice S640x128 ![0, 128] (k0_pay11 x1 x2 x3) slices_S640x512_o0_128_S640x128)
      (count (k0_pay14 i) 2#32 1#32) (extractStridedSlice S512x128 ![0, 128] x2 slices_S512x512_o0_128_S512x128) := rfl
theorem group2 : k0_pay23 x2 (k0_pay11 x1 x2 x3) (k0_pay14 i) (k0_pay20 (k0_pay12 i) (k0_pay13 i) (k0_pay15 i)) (k0_pay21 (F := Ideal)) (k0_pay22 (F := Ideal))
    = poolK (band (k0_pay12 i) (k0_pay13 i) (k0_pay15 i) 4#32 3#32) (extractStridedSlice S640x128 ![0, 256] (k0_pay11 x1 x2 x3) slices_S640x512_o0_256_S640x128)
      (count (k0_pay14 i) 4#32 3#32) (extractStridedSlice S512x128 ![0, 256] x2 slices_S512x512_o0_256_S512x128) := rfl

/-- All four groups beside one another. -/
abbrev mixK : FVec Ideal S512x512 .bf16 :=
  k0_pay29 x2 (k0_pay14 i) (k0_pay16 x2 (k0_pay11 x1 x2 x3) (k0_pay12 i) (k0_pay13 i) (k0_pay14 i) (k0_pay15 i))
    (k0_pay19 x2 (k0_pay11 x1 x2 x3) (k0_pay13 i) (k0_pay14 i) (k0_pay15 i) (k0_pay17 (k0_pay12 i) (k0_pay13 i)) (k0_pay18 (k0_pay12 i)))
    (k0_pay23 x2 (k0_pay11 x1 x2 x3) (k0_pay14 i) (k0_pay20 (k0_pay12 i) (k0_pay13 i) (k0_pay15 i)) k0_pay21 k0_pay22)
    (k0_pay24 (k0_pay12 i) (k0_pay13 i) (k0_pay15 i)) (k0_pay26 (k0_pay11 x1 x2 x3)) (k0_pay27 (k0_pay11 x1 x2 x3)) (k0_pay28 (k0_pay11 x1 x2 x3))

theorem groups : mixK x1 x2 x3 i = truncf .bf16 (concatenate S512x512 1
    [⟨S512x128, k0_pay16 x2 (k0_pay11 x1 x2 x3) (k0_pay12 i) (k0_pay13 i) (k0_pay14 i) (k0_pay15 i)⟩,
     ⟨S512x128, k0_pay19 x2 (k0_pay11 x1 x2 x3) (k0_pay13 i) (k0_pay14 i) (k0_pay15 i) (k0_pay17 (k0_pay12 i) (k0_pay13 i)) (k0_pay18 (k0_pay12 i))⟩,
     ⟨S512x128, k0_pay23 x2 (k0_pay11 x1 x2 x3) (k0_pay14 i) (k0_pay20 (k0_pay12 i) (k0_pay13 i) (k0_pay15 i)) k0_pay21 k0_pay22⟩,
     ⟨S512x128, poolK (band (k0_pay12 i) (k0_pay13 i) (k0_pay15 i) 8#32 7#32) (extractStridedSlice S640x128 ![0, 384] (k0_pay11 x1 x2 x3) slices_S640x512_o0_384_S640x128)
      (count (k0_pay14 i) 8#32 7#32) (extractStridedSlice S512x128 ![0, 384] x2 slices_S512x512_o0_384_S512x128)⟩]
    concatenates_S512x128_S512x128_S512x128_S512x128_S512x512_d1) bitsLt_bf16_f32 := rfl

variable (b : ℕ) (hb : b < 32) (hi : (i 0).val = b)
include hb hi

theorem base : Scalar.muli (BitVec.ofNat 32 (i 0).val) 512#32 = word (512 * b) := by
  rw [hi, word_nat]
  show word b * word 512 = _
  rw [← BitVec.ofInt_mul]
  exact congrArg word (by ring)
theorem s_at (r : Fin 512) (k : Fin 640) : k0_pay12 i (ix2 r k) = word (r.val + 512 * b) := by
  have e := base i b hb hi
  pointwise [k0_pay12]
  rw [e, word_nat, add_word]
theorem t_at (r : Fin 512) (k : Fin 640) : k0_pay13 i (ix2 r k) = word (k.val + (512 * b - 64)) := by
  have e := base i b hb hi
  pointwise [k0_pay13]
  rw [e]
  show IntOp.addi (BitVec.ofNat 32 k.val) (IntOp.subi (word (512 * b)) (word 64)) = _
  rw [sub_word, word_nat, add_word]
theorem v_at (r : Fin 512) : k0_pay14 i (ix2 r 0) = word (r.val + 512 * b) := by
  have e := base i b hb hi
  pointwise [k0_pay14]
  rw [e, word_nat, add_word]
theorem in_at (r : Fin 512) (k : Fin 640) :
    k0_pay15 i (ix2 r k) = bit (0 ≤ (k.val : ℤ) + (512 * b - 64) ∧ (k.val : ℤ) + (512 * b - 64) < 16384) := by
  have e := t_at i b hb hi r k
  pointwise [k0_pay15]
  rw [e]
  show IntOp.andi (IntOp.cmpi .sge (word _) (word 0)) (IntOp.cmpi .slt (word _) (word 16384)) = _
  rw [ge_word _ _ (by omega) (by omega) (by omega) (by omega), lt_word _ _ (by omega) (by omega) (by omega) (by omega), and_bit]

theorem band_at (L : ℕ) (hL : 0 < L) (hL' : L ≤ 8) (l u : BitVec 32) (el : l = word L) (eu : u = word (L - 1)) (r : Fin 512) (k : Fin 640) :
    band (k0_pay12 i) (k0_pay13 i) (k0_pay15 i) l u (ix2 r k)
      = bit ((((r.val + 512 * b : ℕ) : ℤ) - L ≤ (k.val : ℤ) + (512 * b - 64) ∧ (k.val : ℤ) + (512 * b - 64) < ((r.val + 512 * b : ℕ) : ℤ) + L)
        ∧ (0 ≤ (k.val : ℤ) + (512 * b - 64) ∧ (k.val : ℤ) + (512 * b - 64) < 16384)) := by
  have e1 := s_at i b hb hi r k
  have e2 := t_at i b hb hi r k
  have e3 := in_at i b hb hi r k
  pointwise [band]
  rw [e1, e2, e3, el, eu, sub_word, add_word, ge_word _ _ (by omega) (by omega) (by omega) (by omega), le_word _ _ (by omega) (by omega) (by omega) (by omega), and_bit, and_bit]
  refine if_congr ?_ rfl rfl
  push_cast
  omega
theorem count_at (L : ℕ) (hL : 0 < L) (hL' : L ≤ 8) (l u : BitVec 32) (el : l = word L) (eu : u = word (L - 1)) (r : Fin 512) :
    count (k0_pay14 i) l u (ix2 r 0) = word (cntZ L (r.val + 512 * b)) := by
  have e := v_at i b hb hi r
  pointwise [count]
  rw [e, el, eu]
  show IntOp.subi (IntOp.minsi (IntOp.addi (IntOp.addi (word _) (word _)) (word 1)) (word 16384)) (IntOp.maxsi (IntOp.subi (word _) (word _)) (word 0)) = _
  rw [add_word, add_word, sub_word, min_word _ _ (by omega) (by omega) (by omega) (by omega), max_word _ _ (by omega) (by omega) (by omega) (by omega), sub_word]
  refine congrArg word ?_
  unfold cntZ
  push_cast
  omega

variable (z : Fin 16384 → Fin 512 → EReal) (hz : ∀ s c, z s c = ((z s c).toReal : EReal))
  (hE : ∀ k c, k0_pay11 (F := Ideal) x1 x2 x3 (ix2 k c) = ((k0_pay11 (F := Ideal) x1 x2 x3 (ix2 k c) : EReal).toReal : EReal))
  (hE' : ∀ (k : Fin 640) c (t : Fin 16384), t.val + 64 = k.val + 512 * b → k0_pay11 (F := Ideal) x1 x2 x3 (ix2 k c) = z t c)
  (h2 : ∀ (r : Fin 512) c (t : Fin 16384), t.val = r.val + 512 * b → x2 (ix2 r c) = z t c)
include hz hE hE' h2

theorem group_at (L : ℕ) (hL : 0 < L) (hL' : L ≤ 8) (l u : BitVec 32) (el : l = word L) (eu : u = word (L - 1))
    (x : FVec Ideal S640x128 .f32) (x0 : FVec Ideal S512x128 .f32) (r : Fin 512) (j : Fin 128) (c : Fin 512)
    (hx : ∀ k, x (ix2 k j) = k0_pay11 (F := Ideal) x1 x2 x3 (ix2 k c)) (hx0 : x0 (ix2 r j) = x2 (ix2 r c)) (s : Fin 16384) (hs : s.val = r.val + 512 * b) :
    poolK (band (k0_pay12 i) (k0_pay13 i) (k0_pay15 i) l u) x (count (k0_pay14 i) l u) x0 (ix2 r j) = ((mixR L (fun t => (z t c).toReal) s : ℝ) : EReal) := by
  have hr := r.isLt
  have hc := cnt_pos L hL s
  rw [hs] at hc
  refine (poolK_at _ x _ x0 r j (fun k => (k0_pay11 (F := Ideal) x1 x2 x3 (ix2 k c) : EReal).toReal) _ (band_at i b hb hi L hL hL' l u el eu r)
    (fun k => (hx k).trans (hE k c)) (cntZ L (r.val + 512 * b)) hc (by unfold cntZ; omega) (count_at i b hb hi L hL hL' l u el eu r) (z s c).toReal
    (hx0.trans ((h2 r c s hs).trans (hz s c)))).trans ?_
  rw [band_sum L hL' (fun t => (z t c).toReal) b hb (r.val + 512 * b) (by omega) (by omega) _ fun k t h => congrArg EReal.toReal (hE' k c t h)]
  unfold mixR
  rw [hs]

theorem mixK0 (r : Fin 512) (j : Fin 128) (s : Fin 16384) (hs : s.val = r.val + 512 * b) :
    mixK x1 x2 x3 i (ix2 r (⟨j.val, by omega⟩ : Fin 512)) = ((mixR 1 (fun t => (z t ⟨j.val, by omega⟩).toReal) s : ℝ) : EReal) := by
  refine Eq.trans ?_ (group_at x1 x2 x3 i b hb hi z hz hE hE' h2 1 (by omega) (by omega) 1#32 0#32 rfl rfl
    (extractStridedSlice S640x128 ![0, 0] (k0_pay11 x1 x2 x3) slices_S640x512_o0_0_S640x128) (extractStridedSlice S512x128 ![0, 0] x2 slices_S512x512_o0_0_S512x128)
    r j ⟨j.val, by omega⟩ (fun k => by pointwise) (by pointwise) s hs)
  rw [groups, ← group0]
  pointwise
theorem mixK1 (r : Fin 512) (j : Fin 128) (s : Fin 16384) (hs : s.val = r.val + 512 * b) :
    mixK x1 x2 x3 i (ix2 r (⟨128 + j.val, by omega⟩ : Fin 512)) = ((mixR 2 (fun t => (z t ⟨128 + j.val, by omega⟩).toReal) s : ℝ) : EReal) := by
  refine Eq.trans ?_ (group_at x1 x2 x3 i b hb hi z hz hE hE' h2 2 (by omega) (by omega) 2#32 1#32 rfl rfl
    (extractStridedSlice S640x128 ![0, 128] (k0_pay11 x1 x2 x3) slices_S640x512_o0_128_S640x128) (extractStridedSlice S512x128 ![0, 128] x2 slices_S512x512_o0_128_S512x128)
    r j ⟨128 + j.val, by omega⟩ (fun k => by pointwise) (by pointwise) s hs)
  rw [groups, ← group1]
  pointwise
theorem mixK2 (r : Fin 512) (j : Fin 128) (s : Fin 16384) (hs : s.val = r.val + 512 * b) :
    mixK x1 x2 x3 i (ix2 r (⟨256 + j.val, by omega⟩ : Fin 512)) = ((mixR 4 (fun t => (z t ⟨256 + j.val, by omega⟩).toReal) s : ℝ) : EReal) := by
  refine Eq.trans ?_ (group_at x1 x2 x3 i b hb hi z hz hE hE' h2 4 (by omega) (by omega) 4#32 3#32 rfl rfl
    (extractStridedSlice S640x128 ![0, 256] (k0_pay11 x1 x2 x3) slices_S640x512_o0_256_S640x128) (extractStridedSlice S512x128 ![0, 256] x2 slices_S512x512_o0_256_S512x128)
    r j ⟨256 + j.val, by omega⟩ (fun k => by pointwise) (by pointwise) s hs)
  rw [groups, ← group2]
  pointwise
  rw [dif_neg (show ¬ 256 + j.val < 128 by omega), dif_neg (show ¬ 256 + j.val - 128 < 128 by omega), dif_pos (show 256 + j.val - 128 - 128 < 128 by omega)]
  congr 1
  refine congrArg (ix2 r) (Fin.ext ?_)
  show 256 + j.val - 128 - 128 = j.val
  omega
theorem mixK3 (r : Fin 512) (j : Fin 128) (s : Fin 16384) (hs : s.val = r.val + 512 * b) :
    mixK x1 x2 x3 i (ix2 r (⟨384 + j.val, by omega⟩ : Fin 512)) = ((mixR 8 (fun t => (z t ⟨384 + j.val, by omega⟩).toReal) s : ℝ) : EReal) := by
  refine Eq.trans ?_ (group_at x1 x2 x3 i b hb hi z hz hE hE' h2 8 (by omega) (by omega) 8#32 7#32 rfl rfl
    (extractStridedSlice S640x128 ![0, 384] (k0_pay11 x1 x2 x3) slices_S640x512_o0_384_S640x128) (extractStridedSlice S512x128 ![0, 384] x2 slices_S512x512_o0_384_S512x128)
    r j ⟨384 + j.val, by omega⟩ (fun k => by pointwise) (by pointwise) s hs)
  rw [groups]
  pointwise
  rw [dif_neg (show ¬ 384 + j.val < 128 by omega), dif_neg (show ¬ 384 + j.val - 128 < 128 by omega), dif_neg (show ¬ 384 + j.val - 128 - 128 < 128 by omega)]
  congr 1
  refine congrArg (ix2 r) (Fin.ext ?_)
  show 384 + j.val - 128 - 128 - 128 = j.val
  omega
theorem mixK_at (r : Fin 512) (g : Fin 4) (j : Fin 128) (s : Fin 16384) (hs : s.val = r.val + 512 * b) :
    mixK x1 x2 x3 i (ix2 r (lane g j)) = mixed z s g j := by
  unfold mixed
  fin_cases g
  · rw [show lane (⟨0, by omega⟩ : Fin 4) j = ⟨j.val, by omega⟩ from Fin.ext (by show 0 * 128 + j.val = j.val; omega)]
    exact mixK0 x1 x2 x3 i b hb hi z hz hE hE' h2 r j s hs
  · rw [show lane (⟨1, by omega⟩ : Fin 4) j = ⟨128 + j.val, by omega⟩ from Fin.ext (by show 1 * 128 + j.val = 128 + j.val; omega)]
    exact mixK1 x1 x2 x3 i b hb hi z hz hE hE' h2 r j s hs
  · rw [show lane (⟨2, by omega⟩ : Fin 4) j = ⟨256 + j.val, by omega⟩ from Fin.ext (by show 2 * 128 + j.val = 256 + j.val; omega)]
    exact mixK2 x1 x2 x3 i b hb hi z hz hE hE' h2 r j s hs
  · rw [show lane (⟨3, by omega⟩ : Fin 4) j = ⟨384 + j.val, by omega⟩ from Fin.ext (by show 3 * 128 + j.val = 384 + j.val; omega)]
    exact mixK3 x1 x2 x3 i b hb hi z hz hE hE' h2 r j s hs
theorem mixK_at' (r c : Fin 512) (s : Fin 16384) (hs : s.val = r.val + 512 * b) : mixK x1 x2 x3 i (ix2 r c) = mixed z s (grp c) (off c) :=
  (congrArg (fun c => mixK x1 x2 x3 i (ix2 r c)) (lane_eq c).symm).trans (mixK_at x1 x2 x3 i b hb hi z hz hE hE' h2 r _ _ s hs)

end

end Cert.MixoutIdeal.Val

end
-- ==== Proof.MixoutPay.lean ====
module

public import proofs.«01_k».proof.Proof.MixoutMix

@[expose] public section

set_option maxRecDepth 16384

noncomputable section

open Idealize.ShloMosaic Idealize.ShloMosaic.TcCoe Idealize.SL.Sem

namespace Cert.MixoutIdeal.Val

open Cert.MixoutIdeal Cert.MixoutIdeal.Gen Cert.MixPool

/-! What one tile computes, of the blocks it reads. -/

/-- A fill of the whole buffer below stores that cover an index does not show there. -/
theorem canon_append {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      obtain ⟨q, hq, hy⟩ := h
      rcases List.mem_cons.mp hq with rfl | hq
      · exact absurd hy hm
      · exact canon_append L' L y ⟨q, hq, hy⟩

/-- One group's square of a stack of four, one half of the rows of a square. -/
theorem ldP {e : EltTy} (Z : S4x128x128.Idx → Elt Ideal e) (b : Fin 4) (inb) (i j : Fin 128) :
    View.ld (Val := Elt Ideal) Z (Rect.unit (s := S4x128x128) ![b.val, 0, 0] ![1, 128, 128] inb) (ix3 (0 : Fin 1) i j) = Z (ix3 b i j) := by
  refine View.ld_unit_apply_of Z _ _ inb _ _ fun a => ?_
  fin_cases a <;> simp <;> rfl
theorem ldH {e : EltTy} (Z : S1024x1024.Idx → Elt Ideal e) (o : ℕ) (inb) (i : Fin 512) (k l : Fin 1024) (hk : k.val = o + i.val) :
    View.ld (Val := Elt Ideal) Z (Rect.unit (s := S1024x1024) ![o, 0] ![512, 1024] inb) (ix2 i l) = Z (ix2 k l) := by
  refine View.ld_unit_apply_of Z _ _ inb _ _ fun a => ?_
  fin_cases a
  · exact hk
  · simp

theorem sq_idx (x : S1x128x128.Idx) (i j : Fin 128) (h0 : (x 0).val < 1) (h1 : i.val = (x 1).val) (h2 : j.val = (x 2).val) : x = ix3 (0 : Fin 1) i j := by
  have e := eq_ix3 x
  generalize x 0 = a at *
  generalize x 1 = b at *
  generalize x 2 = d at *
  rw [e]
  obtain rfl : a = (0 : Fin 1) := Fin.ext (by show a.val = 0; omega)
  obtain rfl : i = b := Fin.ext h1
  obtain rfl : j = d := Fin.ext h2
  rfl
theorem row_idx (x : S1x1x8x512.Idx) (q : Fin 8) (r : Fin 512) (h0 : (x 0).val < 1) (h1 : (x 1).val < 1) (h2 : q.val = (x 2).val) (h3 : r.val = (x 3).val) :
    x = ix4 (0 : Fin 1) (0 : Fin 1) q r := by
  have e := eq_ix4 x
  generalize x 0 = a at *
  generalize x 1 = b at *
  generalize x 2 = d at *
  generalize x 3 = f at *
  rw [e]
  obtain rfl : a = (0 : Fin 1) := Fin.ext (by show a.val = 0; omega)
  obtain rfl : b = (0 : Fin 1) := Fin.ext (by show b.val = 0; omega)
  obtain rfl : q = d := Fin.ext h2
  obtain rfl : r = f := Fin.ext h3
  rfl
theorem half_idx (x : S512x1024.Idx) (c : Fin 512) (l : Fin 1024) (h0 : c.val = (x 0).val) (h1 : l.val = (x 1).val) : x = ix2 c l := by
  have e := eq_ix2 x
  generalize x 0 = a at *
  generalize x 1 = b at *
  rw [e]
  obtain rfl : c = a := Fin.ext h0
  obtain rfl : l = b := Fin.ext h1
  rfl

theorem lane0 (j : Fin 128) : lane 0 j = ⟨j.val, by omega⟩ := Fin.ext (by show 0 * 128 + j.val = j.val; omega)
theorem lane1 (j : Fin 128) : lane 1 j = ⟨128 + j.val, by omega⟩ := Fin.ext (by show 1 * 128 + j.val = 128 + j.val; omega)
theorem lane2 (j : Fin 128) : lane 2 j = ⟨256 + j.val, by omega⟩ := Fin.ext (by show 2 * 128 + j.val = 256 + j.val; omega)
theorem lane3 (j : Fin 128) : lane 3 j = ⟨384 + j.val, by omega⟩ := Fin.ext (by show 3 * 128 + j.val = 384 + j.val; omega)

section
variable (g : FVec Ideal S512x1024 .f32) (w : FVec Ideal S512x1024 .bf16)

theorem dat_at (c r : Fin 512) : k0_pay9 (F := Ideal) g w (ix2 c r) = ∑ l : Fin 1024, g (ix2 r l) * w (ix2 c l) := by
  have e : (∑ l : Fin 1024, g (ix2 r l) * w (ix2 c l)) = ∑ l : Fin 1024, w (ix2 c l) * g (ix2 r l) := Finset.sum_congr rfl fun l _ => mul_comm _ _
  rw [e]
  pointwise [k0_pay9, k0_pay7]
theorem dpo_at (r c : Fin 512) : k0_pay10 (F := Ideal) g w (ix2 r c) = ∑ l : Fin 1024, g (ix2 r l) * w (ix2 c l) := by
  pointwise [k0_pay10, k0_pay7]
theorem dot_at (y : FVec Ideal S512x512 .f32) (h : Fin 8) (v : Fin 64) (r : Fin 512) : k0_pay50 (F := Ideal) y (ix4 h 0 v r) = y (ix2 (headC h v) r) := by
  unfold headC
  pointwise [k0_pay50]
theorem att_at (a : FVec Ideal S8x1x64x512 .bf16) (h : Fin 8) (v : Fin 64) (r : Fin 512) : k0_pay8 (F := Ideal) a (ix2 (headC h v) r) = a (ix4 h 0 v r) := by
  unfold headC
  pointwise [k0_pay8]
end

section
variable (a y : FVec Ideal S512x512 .f32) (b : FVec Ideal S512x512 .bf16)

theorem prod_at (c r : Fin 512) : k0_pay51 (F := Ideal) b y (ix2 c r) = y (ix2 c r) * b (ix2 c r) := by
  pointwise [k0_pay51]
theorem head0 (q : Fin 8) (r : Fin 512) : k0_pay53 (F := Ideal) (k0_pay52 b y) (ix4 0 0 q r) = ∑ v : Fin 64, k0_pay51 (F := Ideal) b y (ix2 (headC 0 v) r) := by
  unfold headC
  pointwise [k0_pay53, k0_pay52]
theorem head1 (q : Fin 8) (r : Fin 512) : k0_pay54 (F := Ideal) a (ix4 0 0 q r) = ∑ v : Fin 64, a (ix2 (headC 1 v) r) := by
  unfold headC
  pointwise [k0_pay54]
theorem head2 (q : Fin 8) (r : Fin 512) : k0_pay55 (F := Ideal) a (ix4 0 0 q r) = ∑ v : Fin 64, a (ix2 (headC 2 v) r) := by
  unfold headC
  pointwise [k0_pay55]
theorem head3 (q : Fin 8) (r : Fin 512) : k0_pay56 (F := Ideal) a (ix4 0 0 q r) = ∑ v : Fin 64, a (ix2 (headC 3 v) r) := by
  unfold headC
  pointwise [k0_pay56]
theorem head4 (q : Fin 8) (r : Fin 512) : k0_pay57 (F := Ideal) a (ix4 0 0 q r) = ∑ v : Fin 64, a (ix2 (headC 4 v) r) := by
  unfold headC
  pointwise [k0_pay57]
theorem head5 (q : Fin 8) (r : Fin 512) : k0_pay1 (F := Ideal) a (ix4 0 0 q r) = ∑ v : Fin 64, a (ix2 (headC 5 v) r) := by
  unfold headC
  pointwise [k0_pay1]
theorem head6 (q : Fin 8) (r : Fin 512) : k0_pay2 (F := Ideal) a (ix4 0 0 q r) = ∑ v : Fin 64, a (ix2 (headC 6 v) r) := by
  unfold headC
  pointwise [k0_pay2]
theorem head7 (q : Fin 8) (r : Fin 512) : k0_pay3 (F := Ideal) a (ix4 0 0 q r) = ∑ v : Fin 64, a (ix2 (headC 7 v) r) := by
  unfold headC
  pointwise [k0_pay3]
end

section
variable (v15 : FVec Ideal S512x512 .f32) (v28 : IVec S512x1 32) (v76 v119 v162 : FVec Ideal S512x128 .f32) (v174 : FVec Ideal S512x640 .bf16)
  (v176 : FVec Ideal S640x128 .bf16) (v178 : FVec Ideal S640x128 .f32) (v179 : FVec Ideal S640x128 .bf16)
variable (p : FVec Ideal S1x128x128 .bf16)

theorem pay30 (r : Fin 512) (j : Fin 128) : k0_pay30 (F := Ideal) v15 v28 v76 v119 v162 v174 v176 v178 v179 p (ix2 r j)
    = ∑ i : Fin 128, k0_pay29 (F := Ideal) v15 v28 v76 v119 v162 v174 v176 v178 v179 (ix2 r (lane 0 i)) * p (ix3 0 i j) := by
  simp only [lane0]
  pointwise [k0_pay30]
theorem pay31 (r : Fin 512) (j : Fin 128) : k0_pay31 (F := Ideal) v15 v28 v76 v119 v162 v174 v176 v178 v179 p (ix2 r j)
    = ∑ i : Fin 128, k0_pay29 (F := Ideal) v15 v28 v76 v119 v162 v174 v176 v178 v179 (ix2 r (lane 1 i)) * p (ix3 0 i j) := by
  simp only [lane1]
  pointwise [k0_pay31]
theorem pay32 (r : Fin 512) (j : Fin 128) : k0_pay32 (F := Ideal) v15 v28 v76 v119 v162 v174 v176 v178 v179 p (ix2 r j)
    = ∑ i : Fin 128, k0_pay29 (F := Ideal) v15 v28 v76 v119 v162 v174 v176 v178 v179 (ix2 r (lane 2 i)) * p (ix3 0 i j) := by
  simp only [lane2]
  pointwise [k0_pay32]
theorem pay33 (r : Fin 512) (j : Fin 128) : k0_pay33 (F := Ideal) v15 v28 v76 v119 v162 v174 v176 v178 v179 (ix2 r j)
    = k0_pay29 (F := Ideal) v15 v28 v76 v119 v162 v174 v176 v178 v179 (ix2 r (lane 3 j)) := by
  simp only [lane3]
  pointwise [k0_pay33]
end

section
variable (y0 y1 y2 : FVec Ideal S512x128 .f32) (s : FVec Ideal S512x128 .bf16) (p : FVec Ideal S1x128x128 .bf16)

theorem pay34_0 (r : Fin 512) (j : Fin 128) : k0_pay34 (F := Ideal) y0 y1 y2 s p (ix2 r (lane 0 j)) = y0 (ix2 r j) := by
  rw [lane0]
  pointwise [k0_pay34]
theorem pay34_1 (r : Fin 512) (j : Fin 128) : k0_pay34 (F := Ideal) y0 y1 y2 s p (ix2 r (lane 1 j)) = y1 (ix2 r j) := by
  rw [lane1]
  pointwise [k0_pay34]
theorem pay34_2 (r : Fin 512) (j : Fin 128) : k0_pay34 (F := Ideal) y0 y1 y2 s p (ix2 r (lane 2 j)) = y2 (ix2 r j) := by
  rw [lane2]
  pointwise [k0_pay34]
  rw [dif_neg (show ¬ 256 + j.val < 128 by omega), dif_neg (show ¬ 256 + j.val - 128 < 128 by omega), dif_pos (show 256 + j.val - 128 - 128 < 128 by omega)]
  congr 1
  refine congrArg (ix2 r) (Fin.ext ?_)
  show 256 + j.val - 128 - 128 = j.val
  omega
theorem pay34_3 (r : Fin 512) (j : Fin 128) : k0_pay34 (F := Ideal) y0 y1 y2 s p (ix2 r (lane 3 j)) = ∑ i : Fin 128, s (ix2 r i) * p (ix3 0 i j) := by
  rw [lane3]
  pointwise [k0_pay34]
  rw [dif_neg (show ¬ 384 + j.val < 128 by omega), dif_neg (show ¬ 384 + j.val - 128 < 128 by omega), dif_neg (show ¬ 384 + j.val - 128 - 128 < 128 by omega)]
  refine Finset.sum_congr rfl fun i _ => ?_
  congr 1
  refine congrArg p (congrArg (ix3 0 i) (Fin.ext ?_))
  show 384 + j.val - 128 - 128 - 128 = j.val
  omega
theorem pay36 (g : FVec Ideal S512x1024 .f32) (ps : FVec Ideal S1x512 .f32) (o : FVec Ideal S512x1024 .f32) (c : Fin 512) (l : Fin 1024) :
    k0_pay36 (F := Ideal) (k0_pay7 g) y0 y1 y2 s p ps o (ix2 c l) = o (ix2 c l) + ∑ r : Fin 512, (k0_pay34 (F := Ideal) y0 y1 y2 s p (ix2 r c) * ps (ix2 0 c)) * g (ix2 r l) := by
  pointwise [k0_pay36, k0_pay7]
theorem pay35 (g : FVec Ideal S512x1024 .f32) (a : FVec Ideal S512x512 .bf16) (o : FVec Ideal S512x1024 .f32) (c : Fin 512) (l : Fin 1024) :
    k0_pay35 (F := Ideal) (k0_pay7 g) a o (ix2 c l) = o (ix2 c l) + ∑ r : Fin 512, a (ix2 c r) * g (ix2 r l) := by
  pointwise [k0_pay35, k0_pay7]
theorem pay37 (d : FVec Ideal S512x512 .f32) (o : FVec Ideal S1x512 .f32) (c : Fin 512) :
    k0_pay37 (F := Ideal) d y0 y1 y2 s p o (ix2 0 c) = o (ix2 0 c) + ∑ r : Fin 512, d (ix2 r c) * k0_pay34 (F := Ideal) y0 y1 y2 s p (ix2 r c) := by
  pointwise [k0_pay37]
theorem pay38 (d : FVec Ideal S512x512 .f32) (ps : FVec Ideal S1x512 .f32) (r c : Fin 512) :
    k0_pay38 (F := Ideal) d ps (ix2 r c) = d (ix2 r c) * ps (ix2 0 c) := by
  pointwise [k0_pay38]
theorem pay4 (k : S1024x1024.Idx) : k0_pay4 (F := Ideal) k = 0 := by pointwise [k0_pay4]
theorem pay5 (k : S4x128x128.Idx) : k0_pay5 (F := Ideal) k = 0 := by pointwise [k0_pay5]
theorem pay6 (k : S1x512.Idx) : k0_pay6 (F := Ideal) k = 0 := by pointwise [k0_pay6]
end

section
variable (D : FVec Ideal S512x512 .bf16) (d : FVec Ideal S512x512 .f32) (ps : FVec Ideal S1x512 .f32) (M : FVec Ideal S512x512 .bf16)
  (p : FVec Ideal S1x128x128 .bf16) (x0 x1 x2 : FVec Ideal S512x128 .f32) (o : FVec Ideal S1x128x128 .f32)

theorem pay40 (r : Fin 512) (i : Fin 128) : k0_pay40 (F := Ideal) (k0_pay39 d ps) p (ix2 r i) = ∑ j : Fin 128, k0_pay38 (F := Ideal) d ps (ix2 r (lane 0 j)) * p (ix3 0 i j) := by
  simp only [lane0]
  pointwise [k0_pay40, k0_pay39]
theorem pay42 (r : Fin 512) (i : Fin 128) : k0_pay42 (F := Ideal) D p (ix2 r i) = ∑ j : Fin 128, D (ix2 r (lane 1 j)) * p (ix3 0 i j) := by
  simp only [lane1]
  pointwise [k0_pay42]
theorem pay44 (r : Fin 512) (i : Fin 128) : k0_pay44 (F := Ideal) D p (ix2 r i) = ∑ j : Fin 128, D (ix2 r (lane 2 j)) * p (ix3 0 i j) := by
  simp only [lane2]
  pointwise [k0_pay44]
theorem pay49_0 (r : Fin 512) (i : Fin 128) : k0_pay49 (F := Ideal) D x0 x1 x2 p (ix2 r (lane 0 i)) = x0 (ix2 r i) := by
  rw [lane0]
  pointwise [k0_pay49]
theorem pay49_1 (r : Fin 512) (i : Fin 128) : k0_pay49 (F := Ideal) D x0 x1 x2 p (ix2 r (lane 1 i)) = x1 (ix2 r i) := by
  rw [lane1]
  pointwise [k0_pay49]
theorem pay49_2 (r : Fin 512) (i : Fin 128) : k0_pay49 (F := Ideal) D x0 x1 x2 p (ix2 r (lane 2 i)) = x2 (ix2 r i) := by
  rw [lane2]
  pointwise [k0_pay49]
  rw [dif_neg (show ¬ 256 + i.val < 128 by omega), dif_neg (show ¬ 256 + i.val - 128 < 128 by omega), dif_pos (show 256 + i.val - 128 - 128 < 128 by omega)]
  congr 1
  refine congrArg (ix2 r) (Fin.ext ?_)
  show 256 + i.val - 128 - 128 = i.val
  omega
theorem pay49_3 (r : Fin 512) (i : Fin 128) : k0_pay49 (F := Ideal) D x0 x1 x2 p (ix2 r (lane 3 i)) = ∑ j : Fin 128, D (ix2 r (lane 3 j)) * p (ix3 0 i j) := by
  simp only [lane3]
  pointwise [k0_pay49]
  rw [dif_neg (show ¬ 384 + i.val < 128 by omega), dif_neg (show ¬ 384 + i.val - 128 < 128 by omega), dif_neg (show ¬ 384 + i.val - 128 - 128 < 128 by omega)]
  refine Finset.sum_congr rfl fun j _ => ?_
  congr 1
  refine congrArg p (congrArg (fun i => ix3 0 i j) (Fin.ext ?_))
  show 384 + i.val - 128 - 128 - 128 = i.val
  omega
theorem pay41 (i j : Fin 128) : k0_pay41 (F := Ideal) M D o (ix3 0 i j) = o (ix3 0 i j) + ∑ r : Fin 512, M (ix2 r (lane 0 i)) * D (ix2 r (lane 0 j)) := by
  simp only [lane0]
  pointwise [k0_pay41]
theorem pay43 (i j : Fin 128) : k0_pay43 (F := Ideal) M D o (ix3 0 i j) = o (ix3 0 i j) + ∑ r : Fin 512, M (ix2 r (lane 1 i)) * D (ix2 r (lane 1 j)) := by
  simp only [lane1]
  pointwise [k0_pay43]
theorem pay47 (i j : Fin 128) : k0_pay47 (F := Ideal) D (k0_pay45 o) (k0_pay46 M) (ix3 0 i j) = o (ix3 0 i j) + ∑ r : Fin 512, M (ix2 r (lane 2 i)) * D (ix2 r (lane 2 j)) := by
  simp only [lane2]
  pointwise [k0_pay47, k0_pay45, k0_pay46]
theorem pay48 (i j : Fin 128) : k0_pay48 (F := Ideal) M D o (ix3 0 i j) = o (ix3 0 i j) + ∑ r : Fin 512, M (ix2 r (lane 3 i)) * D (ix2 r (lane 3 j)) := by
  simp only [lane3]
  pointwise [k0_pay48]
end

section
variable (M D : FVec Ideal S512x512 .bf16) (P : FVec Ideal S4x128x128 .bf16)

/-- A signal times its group's square, and a cotangent times the square the other way. -/
def YK (r c : Fin 512) : EReal := ∑ i : Fin 128, M (ix2 r (lane (grp c) i)) * P (ix3 (grp c) i (off c))
def XK (r c : Fin 512) : EReal := ∑ j : Fin 128, D (ix2 r (lane (grp c) j)) * P (ix3 (grp c) (off c) j)

variable (inb0 : ∀ a, (![0, 0, 0] : Fin 3 → ℕ) a + (![1, 128, 128] : Fin 3 → ℕ) a ≤ S4x128x128.size a)
  (inb1 : ∀ a, (![1, 0, 0] : Fin 3 → ℕ) a + (![1, 128, 128] : Fin 3 → ℕ) a ≤ S4x128x128.size a)
  (inb2 : ∀ a, (![2, 0, 0] : Fin 3 → ℕ) a + (![1, 128, 128] : Fin 3 → ℕ) a ≤ S4x128x128.size a)
  (inb3 : ∀ a, (![3, 0, 0] : Fin 3 → ℕ) a + (![1, 128, 128] : Fin 3 → ℕ) a ≤ S4x128x128.size a)

theorem y_lane (v15 : FVec Ideal S512x512 .f32) (v28 : IVec S512x1 32) (v76 v119 v162 : FVec Ideal S512x128 .f32) (v174 : FVec Ideal S512x640 .bf16)
    (v176 : FVec Ideal S640x128 .bf16) (v178 : FVec Ideal S640x128 .f32) (v179 : FVec Ideal S640x128 .bf16) (r : Fin 512) (b : Fin 4) (j : Fin 128) :
    k0_pay34 (F := Ideal) (k0_pay30 v15 v28 v76 v119 v162 v174 v176 v178 v179 (View.ld P (Rect.unit (s := S4x128x128) ![0, 0, 0] ![1, 128, 128] inb0)))
      (k0_pay31 v15 v28 v76 v119 v162 v174 v176 v178 v179 (View.ld P (Rect.unit (s := S4x128x128) ![1, 0, 0] ![1, 128, 128] inb1)))
      (k0_pay32 v15 v28 v76 v119 v162 v174 v176 v178 v179 (View.ld P (Rect.unit (s := S4x128x128) ![2, 0, 0] ![1, 128, 128] inb2)))
      (k0_pay33 v15 v28 v76 v119 v162 v174 v176 v178 v179) (View.ld P (Rect.unit (s := S4x128x128) ![3, 0, 0] ![1, 128, 128] inb3)) (ix2 r (lane b j))
      = YK (k0_pay29 v15 v28 v76 v119 v162 v174 v176 v178 v179) P r (lane b j) := by
  unfold YK
  rw [grp_lane, off_lane]
  match b with
  | 0 => exact (pay34_0 ..).trans ((pay30 ..).trans (Finset.sum_congr rfl fun i _ => congrArg (_ * ·) (ldP (e := .bf16) P 0 inb0 i j)))
  | 1 => exact (pay34_1 ..).trans ((pay31 ..).trans (Finset.sum_congr rfl fun i _ => congrArg (_ * ·) (ldP (e := .bf16) P 1 inb1 i j)))
  | 2 => exact (pay34_2 ..).trans ((pay32 ..).trans (Finset.sum_congr rfl fun i _ => congrArg (_ * ·) (ldP (e := .bf16) P 2 inb2 i j)))
  | 3 => exact (pay34_3 ..).trans (Finset.sum_congr rfl fun i _ => congrArg₂ (· * ·) (pay33 ..) (ldP (e := .bf16) P 3 inb3 i j))

theorem y_at (v15 : FVec Ideal S512x512 .f32) (v28 : IVec S512x1 32) (v76 v119 v162 : FVec Ideal S512x128 .f32) (v174 : FVec Ideal S512x640 .bf16)
    (v176 : FVec Ideal S640x128 .bf16) (v178 : FVec Ideal S640x128 .f32) (v179 : FVec Ideal S640x128 .bf16) (r c : Fin 512) :
    k0_pay34 (F := Ideal) (k0_pay30 v15 v28 v76 v119 v162 v174 v176 v178 v179 (View.ld P (Rect.unit (s := S4x128x128) ![0, 0, 0] ![1, 128, 128] inb0)))
      (k0_pay31 v15 v28 v76 v119 v162 v174 v176 v178 v179 (View.ld P (Rect.unit (s := S4x128x128) ![1, 0, 0] ![1, 128, 128] inb1)))
      (k0_pay32 v15 v28 v76 v119 v162 v174 v176 v178 v179 (View.ld P (Rect.unit (s := S4x128x128) ![2, 0, 0] ![1, 128, 128] inb2)))
      (k0_pay33 v15 v28 v76 v119 v162 v174 v176 v178 v179) (View.ld P (Rect.unit (s := S4x128x128) ![3, 0, 0] ![1, 128, 128] inb3)) (ix2 r c)
      = YK (k0_pay29 v15 v28 v76 v119 v162 v174 v176 v178 v179) P r c := by
  have e := y_lane P inb0 inb1 inb2 inb3 v15 v28 v76 v119 v162 v174 v176 v178 v179 r (grp c) (off c)
  rwa [lane_eq] at e

theorem x_lane (d : FVec Ideal S512x512 .f32) (ps : FVec Ideal S1x512 .f32) (r : Fin 512) (b : Fin 4) (i : Fin 128) :
    k0_pay49 (F := Ideal) (k0_pay38 d ps) (k0_pay40 (k0_pay39 d ps) (View.ld P (Rect.unit (s := S4x128x128) ![0, 0, 0] ![1, 128, 128] inb0)))
      (k0_pay42 (k0_pay38 d ps) (View.ld P (Rect.unit (s := S4x128x128) ![1, 0, 0] ![1, 128, 128] inb1)))
      (k0_pay44 (k0_pay38 d ps) (View.ld P (Rect.unit (s := S4x128x128) ![2, 0, 0] ![1, 128, 128] inb2)))
      (View.ld P (Rect.unit (s := S4x128x128) ![3, 0, 0] ![1, 128, 128] inb3)) (ix2 r (lane b i)) = XK (k0_pay38 d ps) P r (lane b i) := by
  unfold XK
  rw [grp_lane, off_lane]
  match b with
  | 0 => exact (pay49_0 ..).trans ((pay40 ..).trans (Finset.sum_congr rfl fun j _ => congrArg (_ * ·) (ldP (e := .bf16) P 0 inb0 i j)))
  | 1 => exact (pay49_1 ..).trans ((pay42 ..).trans (Finset.sum_congr rfl fun j _ => congrArg (_ * ·) (ldP (e := .bf16) P 1 inb1 i j)))
  | 2 => exact (pay49_2 ..).trans ((pay44 ..).trans (Finset.sum_congr rfl fun j _ => congrArg (_ * ·) (ldP (e := .bf16) P 2 inb2 i j)))
  | 3 => exact (pay49_3 ..).trans (Finset.sum_congr rfl fun j _ => congrArg (_ * ·) (ldP (e := .bf16) P 3 inb3 i j))

theorem x_at (d : FVec Ideal S512x512 .f32) (ps : FVec Ideal S1x512 .f32) (r c : Fin 512) :
    k0_pay49 (F := Ideal) (k0_pay38 d ps) (k0_pay40 (k0_pay39 d ps) (View.ld P (Rect.unit (s := S4x128x128) ![0, 0, 0] ![1, 128, 128] inb0)))
      (k0_pay42 (k0_pay38 d ps) (View.ld P (Rect.unit (s := S4x128x128) ![1, 0, 0] ![1, 128, 128] inb1)))
      (k0_pay44 (k0_pay38 d ps) (View.ld P (Rect.unit (s := S4x128x128) ![2, 0, 0] ![1, 128, 128] inb2)))
      (View.ld P (Rect.unit (s := S4x128x128) ![3, 0, 0] ![1, 128, 128] inb3)) (ix2 r c) = XK (k0_pay38 d ps) P r c := by
  have e := x_lane P inb0 inb1 inb2 inb3 d ps r (grp c) (off c)
  rwa [lane_eq] at e

/-- The four squares added to, one store each. -/
theorem wp_pieces (Z : FVec Ideal S4x128x128 .f32) (b : Fin 4) (i j : Fin 128) :
    View.canon (Val := Elt Ideal) (s := S4x128x128) (e := .f32)
      [⟨Rect.unit (s := S4x128x128) ![3, 0, 0] ![1, 128, 128] inb_S4x128x128_S1x128x128_3_0_0, k0_pay48 (F := Ideal) M D (View.ld Z (Rect.unit (s := S4x128x128) ![3, 0, 0] ![1, 128, 128] inb_S4x128x128_S1x128x128_3_0_0))⟩,
       ⟨Rect.unit (s := S4x128x128) ![2, 0, 0] ![1, 128, 128] inb_S4x128x128_S1x128x128_2_0_0, k0_pay47 (F := Ideal) D (k0_pay45 (View.ld Z (Rect.unit (s := S4x128x128) ![2, 0, 0] ![1, 128, 128] inb_S4x128x128_S1x128x128_2_0_0))) (k0_pay46 M)⟩,
       ⟨Rect.unit (s := S4x128x128) ![1, 0, 0] ![1, 128, 128] inb_S4x128x128_S1x128x128_1_0_0, k0_pay43 (F := Ideal) M D (View.ld Z (Rect.unit (s := S4x128x128) ![1, 0, 0] ![1, 128, 128] inb_S4x128x128_S1x128x128_1_0_0))⟩,
       ⟨Rect.unit (s := S4x128x128) ![0, 0, 0] ![1, 128, 128] inb_S4x128x128_S1x128x128_0_0_0, k0_pay41 (F := Ideal) M D (View.ld Z (Rect.unit (s := S4x128x128) ![0, 0, 0] ![1, 128, 128] inb_S4x128x128_S1x128x128_0_0_0))⟩] (ix3 b i j)
      = Z (ix3 b i j) + ∑ r : Fin 512, M (ix2 r (lane b i)) * D (ix2 r (lane b j)) := by
  canon_tiles x h
  · obtain rfl : b = 3 := Fin.ext (by have e : b.val = 3 + (x 0).val := h0; show b.val = 3; omega)
    rw [sq_idx x i j x0_lt h1 h2]
    exact (pay48 ..).trans (congrArg (· + _) (ldP (e := .f32) Z 3 _ i j))
  · obtain rfl : b = 2 := Fin.ext (by have e : b.val = 2 + (x 0).val := h0; show b.val = 2; omega)
    rw [sq_idx x i j x0_lt h1 h2]
    exact (pay47 ..).trans (congrArg (· + _) (ldP (e := .f32) Z 2 _ i j))
  · obtain rfl : b = 1 := Fin.ext (by have e : b.val = 1 + (x 0).val := h0; show b.val = 1; omega)
    rw [sq_idx x i j x0_lt h1 h2]
    exact (pay43 ..).trans (congrArg (· + _) (ldP (e := .f32) Z 1 _ i j))
  · obtain rfl : b = 0 := Fin.ext (by have e : b.val = (x 0).val := h0; show b.val = 0; omega)
    rw [sq_idx x i j x0_lt h1 h2]
    exact (pay41 ..).trans (congrArg (· + _) (ldP (e := .f32) Z 0 _ i j))

end

/-- Two halves of the rows, one store each. -/
theorem halves (X Y : FVec Ideal S512x1024 .f32) (c : Fin 512) (l : Fin 1024) :
    View.canon (Val := Elt Ideal) (s := S1024x1024) (e := .f32)
      [⟨Rect.unit (s := S1024x1024) ![512, 0] ![512, 1024] inb_S1024x1024_S512x1024_512_0, X⟩, ⟨Rect.unit (s := S1024x1024) ![0, 0] ![512, 1024] inb_S1024x1024_S512x1024_0_0, Y⟩] (ix2 (hiC c) l) = X (ix2 c l) := by
  canon_tiles x h
  · have e : 512 + c.val = 512 + (x 0).val := h0
    rw [half_idx x c l (by omega) h1]
  · have e : 512 + c.val = (x 0).val := h0
    omega
theorem halves' (X Y : FVec Ideal S512x1024 .f32) (c : Fin 512) (l : Fin 1024) :
    View.canon (Val := Elt Ideal) (s := S1024x1024) (e := .f32)
      [⟨Rect.unit (s := S1024x1024) ![512, 0] ![512, 1024] inb_S1024x1024_S512x1024_512_0, X⟩, ⟨Rect.unit (s := S1024x1024) ![0, 0] ![512, 1024] inb_S1024x1024_S512x1024_0_0, Y⟩] (ix2 (loC c) l) = Y (ix2 c l) := by
  canon_tiles x h
  · have e : c.val = 512 + (x 0).val := h0
    omega
  · rw [half_idx x c l h0 h1]

/-- The eight heads, one store each. -/
theorem heads (b : FVec Ideal S512x512 .bf16) (y : FVec Ideal S512x512 .f32) (h q : Fin 8) (r : Fin 512) :
    View.canon (Val := Elt Ideal) (s := S8x1x8x512) (e := .f32)
      [⟨Rect.unit (s := S8x1x8x512) ![7, 0, 0, 0] ![1, 1, 8, 512] inb_S8x1x8x512_S1x1x8x512_7_0_0_0, k0_pay3 (F := Ideal) (k0_pay51 b y)⟩,
       ⟨Rect.unit (s := S8x1x8x512) ![6, 0, 0, 0] ![1, 1, 8, 512] inb_S8x1x8x512_S1x1x8x512_6_0_0_0, k0_pay2 (F := Ideal) (k0_pay51 b y)⟩,
       ⟨Rect.unit (s := S8x1x8x512) ![5, 0, 0, 0] ![1, 1, 8, 512] inb_S8x1x8x512_S1x1x8x512_5_0_0_0, k0_pay1 (F := Ideal) (k0_pay51 b y)⟩,
       ⟨Rect.unit (s := S8x1x8x512) ![4, 0, 0, 0] ![1, 1, 8, 512] inb_S8x1x8x512_S1x1x8x512_4_0_0_0, k0_pay57 (F := Ideal) (k0_pay51 b y)⟩,
       ⟨Rect.unit (s := S8x1x8x512) ![3, 0, 0, 0] ![1, 1, 8, 512] inb_S8x1x8x512_S1x1x8x512_3_0_0_0, k0_pay56 (F := Ideal) (k0_pay51 b y)⟩,
       ⟨Rect.unit (s := S8x1x8x512) ![2, 0, 0, 0] ![1, 1, 8, 512] inb_S8x1x8x512_S1x1x8x512_2_0_0_0, k0_pay55 (F := Ideal) (k0_pay51 b y)⟩,
       ⟨Rect.unit (s := S8x1x8x512) ![1, 0, 0, 0] ![1, 1, 8, 512] inb_S8x1x8x512_S1x1x8x512_1_0_0_0, k0_pay54 (F := Ideal) (k0_pay51 b y)⟩,
       ⟨Rect.unit (s := S8x1x8x512) ![0, 0, 0, 0] ![1, 1, 8, 512] inb_S8x1x8x512_S1x1x8x512_0_0_0_0, k0_pay53 (F := Ideal) (k0_pay52 b y)⟩] (ix4 h 0 q r)
      = ∑ v : Fin 64, k0_pay51 (F := Ideal) b y (ix2 (headC h v) r) := by
  canon_tiles x e
  · obtain rfl : h = 7 := Fin.ext (by have e : h.val = 7 + (x 0).val := e0; show h.val = 7; omega)
    rw [row_idx x q r x0_lt x1_lt e2 e3]
    exact head7 ..
  · obtain rfl : h = 6 := Fin.ext (by have e : h.val = 6 + (x 0).val := e0; show h.val = 6; omega)
    rw [row_idx x q r x0_lt x1_lt e2 e3]
    exact head6 ..
  · obtain rfl : h = 5 := Fin.ext (by have e : h.val = 5 + (x 0).val := e0; show h.val = 5; omega)
    rw [row_idx x q r x0_lt x1_lt e2 e3]
    exact head5 ..
  · obtain rfl : h = 4 := Fin.ext (by have e : h.val = 4 + (x 0).val := e0; show h.val = 4; omega)
    rw [row_idx x q r x0_lt x1_lt e2 e3]
    exact head4 ..
  · obtain rfl : h = 3 := Fin.ext (by have e : h.val = 3 + (x 0).val := e0; show h.val = 3; omega)
    rw [row_idx x q r x0_lt x1_lt e2 e3]
    exact head3 ..
  · obtain rfl : h = 2 := Fin.ext (by have e : h.val = 2 + (x 0).val := e0; show h.val = 2; omega)
    rw [row_idx x q r x0_lt x1_lt e2 e3]
    exact head2 ..
  · obtain rfl : h = 1 := Fin.ext (by have e : h.val = 1 + (x 0).val := e0; show h.val = 1; omega)
    rw [row_idx x q r x0_lt x1_lt e2 e3]
    exact head1 ..
  · obtain rfl : h = 0 := Fin.ext (by have e : h.val = (x 0).val := e0; show h.val = 0; omega)
    rw [row_idx x q r x0_lt x1_lt e2 e3]
    exact head0 ..

end Cert.MixoutIdeal.Val

end
-- ==== Proof.MixoutValue.lean ====
module

public import proofs.«01_k».proof.Proof.MixoutPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixoutIdeal.Val

open Cert.MixoutIdeal Cert.MixoutIdeal.Gen Cert.MixPool

/-! The call's six results as functions of the arrays it is handed. -/

variable (m : (ℓ : Loc nD τ sig) → Buf (Elt Ideal) ℓ) (c : Dev nD)

theorem idx : ∀ t : Fin cfg0.N, win0_0.index t = ![t.val, 0] ∧ win0_1.index t = ![t.val * 8 - 1, 0] ∧ win0_2.index t = ![t.val, 0]
    ∧ win0_3.index t = ![min ((t.val + 1) * 8) 255, 0] ∧ win0_4.index t = ![0, t.val / 2, 0, t.val % 2] ∧ win0_5.index t = ![0, 0]
    ∧ win0_6.index t = ![0, 0, 0] ∧ win0_7.index t = ![0, 0] ∧ win0_8.index t = ![0, t.val / 2, 0, t.val % 2] ∧ win0_9.index t = ![0, t.val / 2, 0, t.val % 2]
    ∧ win0_10.index t = ![t.val, 0] ∧ win0_11.index t = ![0, 0] ∧ win0_12.index t = ![0, 0, 0] ∧ win0_13.index t = ![0, 0] :=
  (by decide +kernel : ∀ t : Fin grid0.N, _)
theorem co : ∀ t : Fin cfg0.N, (grid0.coords t 0).val = t.val := (by decide +kernel : ∀ t : Fin grid0.N, _)

theorem lt32 (t : Fin cfg0.N) : t.val < 32 := lt_of_lt_of_eq t.isLt N_0
/-- Row `i` of tile `t`. -/
def row (t : Fin cfg0.N) (i : Fin 512) : Fin 16384 := ⟨t.val * 512 + i, by have := lt32 t; omega⟩

/-- The arrays the windows read, as functions of tokens and columns. -/
def gA (s : Fin 16384) (l : Fin 1024) : EReal := (V m c main_arg0 : FVec Ideal S16384x1024 .f32) (ix2 s l)
def zA (s : Fin 16384) (k : Fin 512) : EReal := (V m c main_arg1 : FVec Ideal S16384x512 .f32) (ix2 s k)
def oA (h : Fin 8) (b : Fin 16) (v : Fin 64) (r : Fin 1024) : EReal := (V m c main_v2 : FVec Ideal S8x16x64x1024 .bf16) (ix4 h b v r)
def aA (s : Fin 16384) (k : Fin 512) : EReal :=
  oA m c ⟨k.val / 64, by omega⟩ ⟨s.val / 1024, by omega⟩ ⟨k.val % 64, by omega⟩ ⟨s.val % 1024, by omega⟩
def wA (k l : Fin 1024) : EReal := (V m c main_v3 : FVec Ideal S1024x1024 .bf16) (ix2 k l)
def pA (b : Fin 4) (i j : Fin 128) : EReal := (V m c main_v4 : FVec Ideal S4x128x128 .bf16) (ix3 b i j)
def sA (k : Fin 512) : EReal := (V m c main_v5 : FVec Ideal S1x512 .f32) (ix2 0 k)

theorem ib0 (t : Fin cfg0.N) (i : Fin 512) (l : Fin 1024) : iblk m c 0 t (ix2 i l) = gA m c (row t i) l := by
  unfold gA row
  blk_point [iblk, idx t]
theorem ib1 (t : Fin cfg0.N) (i : Fin 64) (l : Fin 512) : iblk m c 1 t (ix2 i l) = zA m c ⟨(t.val * 8 - 1) * 64 + i.val, by have := lt32 t; omega⟩ l := by
  unfold zA
  blk_point [iblk, idx t]
theorem ib2 (t : Fin cfg0.N) (i l : Fin 512) : iblk m c 2 t (ix2 i l) = zA m c (row t i) l := by
  unfold zA row
  blk_point [iblk, idx t]
theorem ib3 (t : Fin cfg0.N) (i : Fin 64) (l : Fin 512) : iblk m c 3 t (ix2 i l) = zA m c ⟨min ((t.val + 1) * 8) 255 * 64 + i.val, by have := lt32 t; omega⟩ l := by
  unfold zA
  blk_point [iblk, idx t]
theorem ib4 (t : Fin cfg0.N) (h : Fin 8) (v : Fin 64) (r : Fin 512) : iblk m c 4 t (ix4 h 0 v r) = oA m c h ⟨t.val / 2, by have := lt32 t; omega⟩ v ⟨t.val % 2 * 512 + r.val, by omega⟩ := by
  unfold oA
  blk_point [iblk, idx t]
theorem ib5 (t : Fin cfg0.N) (k l : Fin 1024) : iblk m c 5 t (ix2 k l) = wA m c k l := by
  unfold wA
  blk_point [iblk, idx t]
theorem ib6 (t : Fin cfg0.N) (b : Fin 4) (i j : Fin 128) : iblk m c 6 t (ix3 b i j) = pA m c b i j := by
  unfold pA
  blk_point [iblk, idx t]
theorem ib7 (t : Fin cfg0.N) (k : Fin 512) : iblk m c 7 t (ix2 0 k) = sA m c k := by
  unfold sA
  blk_point [iblk, idx t]

theorem E_at (t : Fin cfg0.N) (k : Fin 640) (l : Fin 512) :
    ∃ s, k0_pay11 (F := Ideal) (iblk m c 1 t) (iblk m c 2 t) (iblk m c 3 t) (ix2 k l) = zA m c s l
      ∧ ∀ s' : Fin 16384, s'.val + 64 = k.val + 512 * t.val → s' = s := by
  have ht := lt32 t
  rcases Nat.lt_or_ge k.val 64 with h | h
  · refine ⟨⟨(t.val * 8 - 1) * 64 + k.val, by omega⟩, ?_, fun s' e => Fin.ext (by show s'.val = (t.val * 8 - 1) * 64 + k.val; omega)⟩
    refine Eq.trans ?_ (ib1 m c t ⟨k.val, h⟩ l)
    pointwise [k0_pay11]
    rw [dif_pos h]
  · rcases Nat.lt_or_ge k.val 576 with h' | h'
    · refine ⟨row t ⟨k.val - 64, by omega⟩, ?_, fun s' e => Fin.ext (by show s'.val = t.val * 512 + (k.val - 64); omega)⟩
      refine Eq.trans ?_ (ib2 m c t ⟨k.val - 64, by omega⟩ l)
      pointwise [k0_pay11]
      rw [dif_neg (show ¬ k.val < 64 by omega), dif_pos (show k.val - 64 < 512 by omega)]
    · refine ⟨⟨min ((t.val + 1) * 8) 255 * 64 + (k.val - 576), by omega⟩, ?_, fun s' e => Fin.ext (by show s'.val = min ((t.val + 1) * 8) 255 * 64 + (k.val - 576); omega)⟩
      refine Eq.trans ?_ (ib3 m c t ⟨k.val - 576, by omega⟩ l)
      pointwise [k0_pay11]
      rw [dif_neg (show ¬ k.val < 64 by omega), dif_neg (show ¬ k.val - 64 < 512 by omega)]
      exact congrArg (fun q : Fin 64 => iblk m c 3 t (ix2 q l)) (Fin.ext (by show k.val - 64 - 512 = k.val - 576; omega))

section
variable (hz : ∀ s k, zA m c s k = ((zA m c s k).toReal : EReal))
include hz

theorem mix_at (t : Fin cfg0.N) (r k : Fin 512) :
    mixK (iblk m c 1 t) (iblk m c 2 t) (iblk m c 3 t) (grid0.coords t) (ix2 r k) = mixed (zA m c) (row t r) (grp k) (off k) := by
  refine mixK_at' (iblk m c 1 t) (iblk m c 2 t) (iblk m c 3 t) (grid0.coords t) t.val (lt32 t) (co t) (zA m c) hz ?_ ?_ ?_ r k (row t r) ?_
  · intro k l
    obtain ⟨s, e, -⟩ := E_at m c t k l
    rw [e]; exact hz s l
  · intro k l s e
    obtain ⟨s', e', h⟩ := E_at m c t k l
    rw [e', h s e]
  · intro r l s e
    rw [ib2]
    exact congrArg (fun s => zA m c s l) (Fin.ext (by show t.val * 512 + r.val = s.val; omega))
  · show t.val * 512 + r.val = r.val + 512 * t.val; omega
theorem YK_at (t : Fin cfg0.N) (r k : Fin 512) :
    YK (mixK (iblk m c 1 t) (iblk m c 2 t) (iblk m c 3 t) (grid0.coords t)) (iblk m c 6 t) r k = proj (zA m c) (pA m c) (row t r) k := by
  unfold YK proj
  refine Finset.sum_congr rfl fun i _ => ?_
  rw [mix_at m c hz, ib6, grp_lane, off_lane]
end

theorem d_at (t : Fin cfg0.N) (r k : Fin 512) :
    k0_pay10 (F := Ideal) (iblk m c 0 t) (View.ld (iblk m c 5 t) (Rect.unit (s := S1024x1024) ![512, 0] ![512, 1024] inb_S1024x1024_S512x1024_512_0)) (ix2 r k)
      = dPool (gA m c) (wA m c) (row t r) k := by
  refine (dpo_at ..).trans ?_
  unfold dPool
  exact Finset.sum_congr rfl fun l _ => congrArg₂ (· * ·) (ib0 m c t r l) ((ldH (e := .bf16) (iblk m c 5 t) 512 _ k (hiC k) l rfl).trans (ib5 m c t (hiC k) l))
theorem a_at (t : Fin cfg0.N) (k r : Fin 512) :
    k0_pay9 (F := Ideal) (iblk m c 0 t) (View.ld (iblk m c 5 t) (Rect.unit (s := S1024x1024) ![0, 0] ![512, 1024] inb_S1024x1024_S512x1024_0_0)) (ix2 k r)
      = dAttn (gA m c) (wA m c) (row t r) k := by
  refine (dat_at ..).trans ?_
  unfold dAttn
  exact Finset.sum_congr rfl fun l _ => congrArg₂ (· * ·) (ib0 m c t r l) ((ldH (e := .bf16) (iblk m c 5 t) 0 _ k (loC k) l (Nat.zero_add _).symm).trans (ib5 m c t (loC k) l))
theorem D_at (t : Fin cfg0.N) (r k : Fin 512) :
    k0_pay38 (F := Ideal) (k0_pay10 (iblk m c 0 t) (View.ld (iblk m c 5 t) (Rect.unit (s := S1024x1024) ![512, 0] ![512, 1024] inb_S1024x1024_S512x1024_512_0))) (iblk m c 7 t) (ix2 r k)
      = dProj (gA m c) (wA m c) (sA m c) (row t r) k :=
  (pay38 ..).trans (congrArg₂ (· * ·) (d_at m c t r k) (ib7 m c t k))
theorem o_at (t : Fin cfg0.N) (h : Fin 8) (v : Fin 64) (r : Fin 512) :
    k0_pay8 (F := Ideal) (iblk m c 4 t) (ix2 (headC h v) r) = aA m c (row t r) (headC h v) := by
  refine (att_at ..).trans ((ib4 ..).trans ?_)
  have ht := lt32 t
  unfold aA
  congr 1 <;> refine Fin.ext ?_
  · show h.val = (h.val * 64 + v.val) / 64; omega
  · show t.val / 2 = (t.val * 512 + r.val) / 1024; omega
  · show v.val = (h.val * 64 + v.val) % 64; omega
  · show t.val % 2 * 512 + r.val = (t.val * 512 + r.val) % 1024; omega
theorem head_eq (k : Fin 512) : headC ⟨k.val / 64, by omega⟩ ⟨k.val % 64, by omega⟩ = k := Fin.ext (by show k.val / 64 * 64 + k.val % 64 = k.val; omega)
theorem o_at' (t : Fin cfg0.N) (k r : Fin 512) : k0_pay8 (F := Ideal) (iblk m c 4 t) (ix2 k r) = aA m c (row t r) k := by
  have e := o_at m c t ⟨k.val / 64, by omega⟩ ⟨k.val % 64, by omega⟩ r
  rwa [head_eq] at e

/-! The results of one tile. -/

theorem out8 (t : Fin cfg0.N) (h : Fin 8) (v : Fin 64) (r : Fin 512) :
    (outsAt0 m c t.val t.isLt).1 (ix4 h 0 v r) = dAttn (gA m c) (wA m c) (row t r) (headC h v) := by
  by_cases ht : t.val % 32 = 0
  · rw [outsAt0_A m c t ht]; frame_out; exact (dot_at ..).trans (a_at ..)
  · rw [outsAt0_B m c t ht]; frame_out; exact (dot_at ..).trans (a_at ..)

theorem out9 (t : Fin cfg0.N) (h q : Fin 8) (r : Fin 512) :
    (outsAt0 m c t.val t.isLt).2.1 (ix4 h 0 q r) = delta (gA m c) (aA m c) (wA m c) h (row t r) := by
  have e : (∑ v : Fin 64, k0_pay51 (F := Ideal) (k0_pay8 (iblk m c 4 t)) (k0_pay9 (iblk m c 0 t)
      (View.ld (iblk m c 5 t) (Rect.unit (s := S1024x1024) ![0, 0] ![512, 1024] inb_S1024x1024_S512x1024_0_0))) (ix2 (headC h v) r))
      = delta (gA m c) (aA m c) (wA m c) h (row t r) := by
    unfold delta
    exact Finset.sum_congr rfl fun v _ => (prod_at ..).trans (congrArg₂ (· * ·) (a_at ..) (o_at ..))
  by_cases ht : t.val % 32 = 0
  · rw [outsAt0_A m c t ht]; frame_out; exact (heads ..).trans e
  · rw [outsAt0_B m c t ht]; frame_out; exact (heads ..).trans e

theorem out10 (t : Fin cfg0.N) (r k : Fin 512) :
    (outsAt0 m c t.val t.isLt).2.2.1 (ix2 r k) = dMixed (gA m c) (wA m c) (pA m c) (sA m c) (row t r) k := by
  have e : XK (k0_pay38 (F := Ideal) (k0_pay10 (iblk m c 0 t) (View.ld (iblk m c 5 t) (Rect.unit (s := S1024x1024) ![512, 0] ![512, 1024] inb_S1024x1024_S512x1024_512_0))) (iblk m c 7 t))
      (iblk m c 6 t) r k = dMixed (gA m c) (wA m c) (pA m c) (sA m c) (row t r) k := by
    unfold XK dMixed
    exact Finset.sum_congr rfl fun j _ => congrArg₂ (· * ·) (D_at ..) (ib6 ..)
  by_cases ht : t.val % 32 = 0
  · rw [outsAt0_A m c t ht]; frame_out; exact (x_at ..).trans e
  · rw [outsAt0_B m c t ht]; frame_out; exact (x_at ..).trans e

/-- A sum over the tiles and their rows is one over the tokens. -/
theorem all_rows (t : Fin cfg0.N) (f : Fin 16384 → EReal) (h : ∀ a : Fin 32, 32 * (t.val / 32) + a.val < cfg0.N) :
    (∑ a : Fin 32, ∑ r, f (row ⟨32 * (t.val / 32) + a.val, h a⟩ r)) = ∑ s, f s := by
  have ht := lt32 t
  refine (Finset.sum_congr rfl fun a _ => ?_).trans (Fin.sum_univ_tiles 32 512 rfl f).symm
  refine Finset.sum_congr rfl fun b _ => congrArg f (Fin.ext ?_)
  show (32 * (t.val / 32) + a.val) * 512 + b.val = _
  have h0 : t.val / 32 = 0 := by omega
  simp [h0]

section
variable (hz : ∀ s k, zA m c s k = ((zA m c s k).toReal : EReal))
include hz

theorem hi_term (t : Fin cfg0.N) (k : Fin 512) (l : Fin 1024) (y0 y1 y2 : FVec Ideal S512x128 .f32) (s : FVec Ideal S512x128 .bf16) (p : FVec Ideal S1x128x128 .bf16)
    (hy : ∀ r, k0_pay34 (F := Ideal) y0 y1 y2 s p (ix2 r k) = YK (mixK (iblk m c 1 t) (iblk m c 2 t) (iblk m c 3 t) (grid0.coords t)) (iblk m c 6 t) r k)
    (o : FVec Ideal S512x1024 .f32) (z : EReal) (ho : o (ix2 k l) = z) :
    k0_pay36 (F := Ideal) (k0_pay7 (iblk m c 0 t)) y0 y1 y2 s p (iblk m c 7 t) o (ix2 k l) = z + ∑ r : Fin 512, (proj (zA m c) (pA m c) (row t r) k * sA m c k) * gA m c (row t r) l :=
  (pay36 ..).trans (congrArg₂ (· + ·) ho (Finset.sum_congr rfl fun r _ => congrArg₂ (· * ·) (congrArg₂ (· * ·)
    ((hy r).trans (YK_at m c hz t r k)) (ib7 m c t k)) (ib0 m c t r l)))

theorem sc_term (t : Fin cfg0.N) (k : Fin 512) (y0 y1 y2 : FVec Ideal S512x128 .f32) (s : FVec Ideal S512x128 .bf16) (p : FVec Ideal S1x128x128 .bf16)
    (hy : ∀ r, k0_pay34 (F := Ideal) y0 y1 y2 s p (ix2 r k) = YK (mixK (iblk m c 1 t) (iblk m c 2 t) (iblk m c 3 t) (grid0.coords t)) (iblk m c 6 t) r k)
    (o : FVec Ideal S1x512 .f32) (z : EReal) (ho : o (ix2 0 k) = z) :
    k0_pay37 (F := Ideal) (k0_pay10 (iblk m c 0 t) (View.ld (iblk m c 5 t) (Rect.unit (s := S1024x1024) ![512, 0] ![512, 1024] inb_S1024x1024_S512x1024_512_0))) y0 y1 y2 s p o (ix2 0 k)
      = z + ∑ r : Fin 512, dPool (gA m c) (wA m c) (row t r) k * proj (zA m c) (pA m c) (row t r) k :=
  (pay37 ..).trans (congrArg₂ (· + ·) ho (Finset.sum_congr rfl fun r _ => congrArg₂ (· * ·) (d_at m c t r k) ((hy r).trans (YK_at m c hz t r k))))

theorem out11hi (t : Fin cfg0.N) (hf : t.val % 32 = 31) (k : Fin 512) (l : Fin 1024) :
    (outsAt0 m c t.val t.isLt).2.2.2.1 (ix2 (hiC k) l) = dOutHi (gA m c) (zA m c) (pA m c) (sA m c) k l := by
  have key := Pipeline.eq_sum_fin_of_reset_step_apply_of_flush (N := cfg0.N)
    (fun n h (y : Fin 512 × Fin 1024) => (outsAt0 m c n h).2.2.2.1 (ix2 (hiC y.1) y.2)) 32 (fun _ => 0)
    (fun t y => ∑ r : Fin 512, (proj (zA m c) (pA m c) (row t r) y.1 * sA m c y.1) * gA m c (row t r) y.2)
    (fun t h y => by
      rw [outsAt0_A m c t h]; frame_out
      simp (disch := decide) only [↓View.readCov_skip, View.readCov_fill]
      refine (canon_append _ [_, _] _ (View.cover_of_tiled_head _ _ _ (by rfl) _)).trans ((halves ..).trans ?_)
      exact hi_term m c hz t y.1 y.2 _ _ _ _ _ (fun r => y_at ..) _ 0 (pay4 _))
    (fun t h y => by
      rw [outsAt0_B m c t h]; frame_out
      refine (halves ..).trans ?_
      exact hi_term m c hz t y.1 y.2 _ _ _ _ _ (fun r => y_at ..) _ _ (ldH (e := .f32) _ 512 _ y.1 (hiC y.1) y.2 rfl)) t hf (k, l)
  refine key.trans ?_
  rw [zero_add]
  exact all_rows t (fun s => (proj (zA m c) (pA m c) s k * sA m c k) * gA m c s l) _

theorem out13 (t : Fin cfg0.N) (hf : t.val % 32 = 31) (k : Fin 512) :
    (outsAt0 m c t.val t.isLt).2.2.2.2.2 (ix2 0 k) = dScale (gA m c) (zA m c) (wA m c) (pA m c) k := by
  have key := Pipeline.eq_sum_fin_of_reset_step_apply_of_flush (N := cfg0.N)
    (fun n h (k : Fin 512) => (outsAt0 m c n h).2.2.2.2.2 (ix2 0 k)) 32 (fun _ => 0)
    (fun t k => ∑ r : Fin 512, dPool (gA m c) (wA m c) (row t r) k * proj (zA m c) (pA m c) (row t r) k)
    (fun t h k => by
      rw [outsAt0_A m c t h]; frame_out
      exact sc_term m c hz t k _ _ _ _ _ (fun r => y_at ..) _ 0 (pay6 _))
    (fun t h k => by
      rw [outsAt0_B m c t h]; frame_out
      exact sc_term m c hz t k _ _ _ _ _ (fun r => y_at ..) _ _ rfl) t hf k
  refine key.trans ?_
  rw [zero_add]
  exact all_rows t (fun s => dPool (gA m c) (wA m c) s k * proj (zA m c) (pA m c) s k) _

theorem wp_term (t : Fin cfg0.N) (b : Fin 4) (i j : Fin 128) (z z' : EReal) (hz' : z = z') :
    z + ∑ r : Fin 512, mixK (iblk m c 1 t) (iblk m c 2 t) (iblk m c 3 t) (grid0.coords t) (ix2 r (lane b i))
        * k0_pay38 (F := Ideal) (k0_pay10 (iblk m c 0 t) (View.ld (iblk m c 5 t) (Rect.unit (s := S1024x1024) ![512, 0] ![512, 1024] inb_S1024x1024_S512x1024_512_0))) (iblk m c 7 t) (ix2 r (lane b j))
      = z' + ∑ r : Fin 512, mixed (zA m c) (row t r) b i * dProj (gA m c) (wA m c) (sA m c) (row t r) (lane b j) := by
  refine congrArg₂ (· + ·) hz' (Finset.sum_congr rfl fun r _ => congrArg₂ (· * ·) ((mix_at m c hz t r (lane b i)).trans ?_) (D_at m c t r (lane b j)))
  rw [grp_lane, off_lane]

theorem out12 (t : Fin cfg0.N) (hf : t.val % 32 = 31) (b : Fin 4) (i j : Fin 128) :
    (outsAt0 m c t.val t.isLt).2.2.2.2.1 (ix3 b i j) = dWpool (gA m c) (zA m c) (wA m c) (sA m c) b i j := by
  have key := Pipeline.eq_sum_fin_of_reset_step_apply_of_flush (N := cfg0.N)
    (fun n h (y : Fin 4 × Fin 128 × Fin 128) => (outsAt0 m c n h).2.2.2.2.1 (ix3 y.1 y.2.1 y.2.2)) 32 (fun _ => 0)
    (fun t y => ∑ r : Fin 512, mixed (zA m c) (row t r) y.1 y.2.1 * dProj (gA m c) (wA m c) (sA m c) (row t r) (lane y.1 y.2.2))
    (fun t h y => by
      rw [outsAt0_A m c t h]; frame_out
      simp (disch := decide) only [↓View.readCov_skip, View.readCov_fill]
      refine (canon_append _ [_, _, _, _] _ (View.cover_of_tiled_head _ _ _ (by rfl) _)).trans ((wp_pieces ..).trans ?_)
      exact wp_term m c hz t y.1 y.2.1 y.2.2 _ 0 (pay5 _))
    (fun t h y => by
      rw [outsAt0_B m c t h]; frame_out
      refine (wp_pieces ..).trans ?_
      exact wp_term m c hz t y.1 y.2.1 y.2.2 _ _ rfl) t hf (b, i, j)
  refine key.trans ?_
  rw [zero_add]
  exact all_rows t (fun s => mixed (zA m c) s b i * dProj (gA m c) (wA m c) (sA m c) s (lane b j)) _
end

theorem lo_term (t : Fin cfg0.N) (k : Fin 512) (l : Fin 1024) (o : FVec Ideal S512x1024 .f32) (z : EReal) (ho : o (ix2 k l) = z) :
    k0_pay35 (F := Ideal) (k0_pay7 (iblk m c 0 t)) (k0_pay8 (iblk m c 4 t)) o (ix2 k l) = z + ∑ r : Fin 512, aA m c (row t r) k * gA m c (row t r) l :=
  (pay35 ..).trans (congrArg₂ (· + ·) ho (Finset.sum_congr rfl fun r _ => congrArg₂ (· * ·) (o_at' m c t k r) (ib0 m c t r l)))

theorem out11lo (t : Fin cfg0.N) (hf : t.val % 32 = 31) (k : Fin 512) (l : Fin 1024) :
    (outsAt0 m c t.val t.isLt).2.2.2.1 (ix2 (loC k) l) = dOutLo (gA m c) (aA m c) k l := by
  have key := Pipeline.eq_sum_fin_of_reset_step_apply_of_flush (N := cfg0.N)
    (fun n h (y : Fin 512 × Fin 1024) => (outsAt0 m c n h).2.2.2.1 (ix2 (loC y.1) y.2)) 32 (fun _ => 0)
    (fun t y => ∑ r : Fin 512, aA m c (row t r) y.1 * gA m c (row t r) y.2)
    (fun t h y => by
      rw [outsAt0_A m c t h]; frame_out
      simp (disch := decide) only [↓View.readCov_skip, View.readCov_fill]
      refine (canon_append _ [_, _] _ (View.cover_of_tiled_head _ _ _ (by rfl) _)).trans ((halves' ..).trans ?_)
      exact lo_term m c t y.1 y.2 _ 0 (pay4 _))
    (fun t h y => by
      rw [outsAt0_B m c t h]; frame_out
      refine (halves' ..).trans ?_
      exact lo_term m c t y.1 y.2 _ _ (ldH (e := .f32) _ 0 _ y.1 (loC y.1) y.2 (Nat.zero_add _).symm)) t hf (k, l)
  refine key.trans ?_
  rw [zero_add]
  exact all_rows t (fun s => aA m c s k * gA m c s l) _

/-! The results of the whole call. -/

theorem final8 (h : Fin 8) (b : Fin 16) (v : Fin 64) (r : Fin 1024) :
    (dats m 0 c).arrAt 8 cfg0.N (ix4 h b v r) = dAttn (gA m c) (wA m c) (tokB b r) (headC h v) := by
  have key := (dats m 0 c).arrAt_eq_of_covers 8 (fun y => dAttn (gA m c) (wA m c) (tokB (y 1) (y 3)) (headC (y 0) (y 2))) (by decide +kernel) fun t _ y => ?_
  · exact congrFun key _
  · have e := eq_ix4 y
    rw [after0_8]
    generalize y 0 = h at e
    generalize y 1 = z at e
    generalize y 2 = v at e
    generalize y 3 = r at e
    subst e
    obtain rfl : z = (0 : Fin 1) := Fin.ext (by have : z.val < 1 := z.isLt; show z.val = 0; omega)
    have hh : h.val < 8 := h.isLt
    have hv : v.val < 64 := v.isLt
    have hr : r.val < 512 := r.isLt
    have ht := lt32 t
    blk_simp
    refine (out8 m c t h v r).trans ?_
    refine congrArg₂ (dAttn (gA m c) (wA m c)) (Fin.ext ?_) (Fin.ext ?_) <;> blk_simp [idx t, row, tokB, headC] <;> dsimp only <;> omega

theorem final9 (h : Fin 8) (b : Fin 16) (q : Fin 8) (r : Fin 1024) :
    (dats m 0 c).arrAt 9 cfg0.N (ix4 h b q r) = delta (gA m c) (aA m c) (wA m c) h (tokB b r) := by
  have key := (dats m 0 c).arrAt_eq_of_covers 9 (fun y => delta (gA m c) (aA m c) (wA m c) (y 0) (tokB (y 1) (y 3))) (by decide +kernel) fun t _ y => ?_
  · exact congrFun key _
  · have e := eq_ix4 y
    rw [after0_9]
    generalize y 0 = h at e
    generalize y 1 = z at e
    generalize y 2 = v at e
    generalize y 3 = r at e
    subst e
    obtain rfl : z = (0 : Fin 1) := Fin.ext (by have : z.val < 1 := z.isLt; show z.val = 0; omega)
    have hh : h.val < 8 := h.isLt
    have hv : v.val < 8 := v.isLt
    have hr : r.val < 512 := r.isLt
    have ht := lt32 t
    blk_simp
    refine (out9 m c t h v r).trans ?_
    refine congrArg₂ (delta (gA m c) (aA m c) (wA m c)) (Fin.ext ?_) (Fin.ext ?_) <;> blk_simp [idx t, row, tokB] <;> dsimp only <;> omega

theorem final10 (s : Fin 16384) (k : Fin 512) :
    (dats m 0 c).arrAt 10 cfg0.N (ix2 s k) = dMixed (gA m c) (wA m c) (pA m c) (sA m c) s k := by
  have key := (dats m 0 c).arrAt_eq_of_covers 10 (fun y => dMixed (gA m c) (wA m c) (pA m c) (sA m c) (y 0) (y 1)) (by decide +kernel) fun t _ y => ?_
  · exact congrFun key _
  · have e := eq_ix2 y
    rw [after0_10]
    generalize y 0 = r at e
    generalize y 1 = k at e
    subst e
    have hr : r.val < 512 := r.isLt
    have hk : k.val < 512 := k.isLt
    blk_simp
    refine (out10 m c t r k).trans ?_
    refine congrArg₂ (dMixed (gA m c) (wA m c) (pA m c) (sA m c)) (Fin.ext ?_) (Fin.ext ?_) <;> blk_simp [idx t, row] <;> dsimp only <;> omega

/-- The output matrix's gradient, both halves of its rows. -/
def dOut (k l : Fin 1024) : EReal :=
  if h : k.val < 512 then dOutLo (gA m c) (aA m c) ⟨k.val, h⟩ l else dOutHi (gA m c) (zA m c) (pA m c) (sA m c) ⟨k.val - 512, by omega⟩ l

section
variable (hz : ∀ s k, zA m c s k = ((zA m c s k).toReal : EReal))
include hz

theorem out11 (t : Fin cfg0.N) (hf : t.val % 32 = 31) (k l : Fin 1024) : (outsAt0 m c t.val t.isLt).2.2.2.1 (ix2 k l) = dOut m c k l := by
  unfold dOut
  split
  · next h =>
    rw [← out11lo m c t hf]
    rfl
  · next h =>
    rw [← out11hi m c hz t hf]
    exact congrArg (fun k => (outsAt0 m c t.val t.isLt).2.2.2.1 (ix2 k l)) (Fin.ext (by show k.val = 512 + (k.val - 512); omega))

theorem final11 (k l : Fin 1024) : (dats m 0 c).arrAt 11 cfg0.N (ix2 k l) = dOut m c k l := by
  have key := (dats m 0 c).arrAt_eq_of_after_last 11 ⟨31, lt_of_lt_of_eq (by decide) N_0.symm⟩ (by decide +kernel)
    (fun y => (dOut m c (y 0) (y 1) : EReal)) fun y => ?_
  · exact congrFun key _
  · have e := eq_ix2 y
    rw [after0_11]
    have q := out11 m c hz ⟨31, lt_of_lt_of_eq (by decide) N_0.symm⟩ rfl
    generalize outsAt0 m c (⟨31, lt_of_lt_of_eq (by decide) N_0.symm⟩ : Fin cfg0.N).val _ = O at q ⊢
    generalize y 0 = k at e
    generalize y 1 = l at e
    subst e
    have hk : k.val < 1024 := k.isLt
    have hl : l.val < 1024 := l.isLt
    blk_simp
    exact q k l
theorem final12 (b : Fin 4) (i j : Fin 128) : (dats m 0 c).arrAt 12 cfg0.N (ix3 b i j) = dWpool (gA m c) (zA m c) (wA m c) (sA m c) b i j := by
  have key := (dats m 0 c).arrAt_eq_of_after_last 12 ⟨31, lt_of_lt_of_eq (by decide) N_0.symm⟩ (by decide +kernel)
    (fun y => (dWpool (gA m c) (zA m c) (wA m c) (sA m c) (y 0) (y 1) (y 2) : EReal)) fun y => ?_
  · exact congrFun key _
  · have e := eq_ix3 y
    rw [after0_12]
    have q := out12 m c hz ⟨31, lt_of_lt_of_eq (by decide) N_0.symm⟩ rfl
    generalize outsAt0 m c (⟨31, lt_of_lt_of_eq (by decide) N_0.symm⟩ : Fin cfg0.N).val _ = O at q ⊢
    generalize y 0 = b at e
    generalize y 1 = i at e
    generalize y 2 = j at e
    subst e
    have hb : b.val < 4 := b.isLt
    have hi : i.val < 128 := i.isLt
    have hj : j.val < 128 := j.isLt
    blk_simp
    exact q b i j
theorem final13 (k : Fin 512) : (dats m 0 c).arrAt 13 cfg0.N (ix2 0 k) = dScale (gA m c) (zA m c) (wA m c) (pA m c) k := by
  have key := (dats m 0 c).arrAt_eq_of_after_last 13 ⟨31, lt_of_lt_of_eq (by decide) N_0.symm⟩ (by decide +kernel)
    (fun y => (dScale (gA m c) (zA m c) (wA m c) (pA m c) (y 1) : EReal)) fun y => ?_
  · exact congrFun key _
  · have e := eq_ix2 y
    rw [after0_13]
    have q := out13 m c hz ⟨31, lt_of_lt_of_eq (by decide) N_0.symm⟩ rfl
    generalize outsAt0 m c (⟨31, lt_of_lt_of_eq (by decide) N_0.symm⟩ : Fin cfg0.N).val _ = O at q ⊢
    generalize y 0 = z at e
    generalize y 1 = k at e
    subst e
    obtain rfl : z = (0 : Fin 1) := Fin.ext (by have : z.val < 1 := z.isLt; show z.val = 0; omega)
    have hk : k.val < 512 := k.isLt
    blk_simp
    exact q k
end

/-! The arrays handed over, of the arguments. -/

theorem oA_at (h : Fin 8) (b : Fin 16) (v : Fin 64) (r : Fin 1024) :
    oA m c h b v r = (m ((c : Thread nD τ).loc main_arg2) : FVec Ideal S16384x512 .bf16) (ix2 (tokB b r) (headC h v)) := by
  unfold oA tokB headC
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
theorem aA_at (s : Fin 16384) (k : Fin 512) : aA m c s k = (m ((c : Thread nD τ).loc main_arg2) : FVec Ideal S16384x512 .bf16) (ix2 s k) := by
  unfold aA
  rw [oA_at, head_eq]
  exact congrArg (fun s => (m ((c : Thread nD τ).loc main_arg2) : FVec Ideal S16384x512 .bf16) (ix2 s k))
    (Fin.ext (by show s.val / 1024 * 1024 + s.val % 1024 = s.val; omega))
theorem wA_at (k l : Fin 1024) : wA m c k l = (m ((c : Thread nD τ).loc main_arg3) : FVec Ideal S1024x1024 .f32) (ix2 k l) := by
  unfold wA
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
theorem pA_at (b : Fin 4) (i j : Fin 128) : pA m c b i j = (m ((c : Thread nD τ).loc main_arg4) : FVec Ideal S4x128x128 .f32) (ix3 b i j) := by
  unfold pA
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
theorem sA_at (k : Fin 512) : sA m c k = (m ((c : Thread nD τ).loc main_arg5) : FVec Ideal S512 .f32) (ix1 k) := by
  unfold sA
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

end Cert.MixoutIdeal.Val

end
-- ==== Proof.MixoutRef.lean ====
module

public import proofs.«01_k».proof.Proof.Gen.MixoutRefIdeal.Run
public import proofs.«01_k».proof.Proof.MixoutSpec

@[expose] public section

set_option maxRecDepth 16384

noncomputable section

open Idealize.ShloMosaic Idealize.ShloMosaic.TcCoe Idealize.SL.Sem

namespace Cert.MixoutRefIdeal.Val

open Cert.MixoutRefIdeal Cert.MixoutRefIdeal.Gen Cert.MixoutRefIdeal.Value Cert.MixPool

variable (U : Valuation τ sig (Elt Ideal))

/-- The pooled signal, its columns as sequences of real numbers. -/
def zE (s : Fin 16384) (c : Fin 512) : EReal := (U (Proc.devRef .tc main_arg1) : FVec Ideal S16384x512 .f32) (ix2 s c)
def zR (c : Fin 512) (s : Fin 16384) : ℝ := (zE U s c).toReal

theorem coe_cond_sum {N : ℕ} (p : Fin N → Prop) [DecidablePred p] (f : Fin N → ℝ) :
    (∑ t : Fin N, if p t then ((f t : ℝ) : EReal) else 0) = ((∑ t : Fin N, if p t then f t else 0 : ℝ) : EReal) := by
  refine (Finset.sum_congr rfl fun t _ => ?_).trans (Cert.NormReal.coe_sum Finset.univ fun t => if p t then f t else 0)
  by_cases h : p t <;> simp [h]

section
variable (hz : ∀ s c, zE U s c = ((zR U c s : ℝ) : EReal))
include hz

theorem run0 (c : Fin 512) : res_main_v3 U (ix2 ⟨0, by omega⟩ c) = ((upTo (zR U c) 0 : ℝ) : EReal) := by
  have e : upTo (zR U c) 0 = 0 := by simp [upTo]
  rw [e, EReal.coe_zero]
  pointwise [res_main_v3]
theorem run1 (s : Fin 16384) (c : Fin 512) : res_main_v3 U (ix2 ⟨1 + s.val, by omega⟩ c) = ((upTo (zR U c) (1 + s.val) : ℝ) : EReal) := by
  have e := cumsum_at (N := 16384) (P := 16383) rfl (fun i => (U (Proc.devRef .tc main_arg1) : FVec Ideal S16384x512 .f32) i) (broadcastInDim S_ ![] bcast_S_S_ (constant (F := Ideal) S_ .f32 0x00000000#32))
    reduceWindows_S16384x512_S16384x512_w16384s1p16383_0_w1s1p0_0 h_S_ (by pointwise) s c
  pointwise [res_main_v3]
  refine e.trans ?_
  rw [Nat.add_comm 1 s.val]
  unfold upTo
  rw [← coe_cond_sum]
  exact Finset.sum_congr rfl fun t _ => if_congr Iff.rfl (hz t c) rfl
theorem run_at (k : Fin 16385) (c : Fin 512) : res_main_v3 U (ix2 k c) = ((upTo (zR U c) k.val : ℝ) : EReal) := by
  obtain ⟨k, hk⟩ := k
  rcases Nat.eq_zero_or_pos k with rfl | h
  · exact run0 U hz c
  · obtain ⟨s, rfl⟩ : ∃ s, k = 1 + s := ⟨k - 1, by omega⟩
    exact run1 U hz ⟨s, by omega⟩ c
end

/-- Row numbers made non-negative, and the rows of a table at them. -/
def rowNo (v : IVec S16384 32) : IVec S16384x1 32 :=
  broadcastInDim S16384x1 ![0] bcast_S16384_S16384x1_0 (select (cmpi .slt v (broadcastInDim S16384 ![] bcast_S_S16384 (constantI S_ 32 0#32))) (addi v (broadcastInDim S16384 ![] bcast_S_S16384 (constantI S_ 32 16385#32))) v)
def rowsOf (x : FVec Ideal S16385x128 .f32) (i : IVec S16384x1 32) : FVec Ideal S16384x128 .f32 :=
  select (broadcastInDim S16384x128 ![0] bcast_S16384_S16384x128_0 (Host.reduce IntOp.andi (andi (cmpi .sge i (broadcastInDim S16384x1 ![] bcast_S_S16384x1 (constantI S_ 32 0#32))) (cmpi .sle i (broadcastInDim S16384x1 ![0, 1] bcast_S1x1_S16384x1_0_1 (broadcastInDim S1x1 ![1] bcast_S1_S1x1_1 (constantI S1 32 16384#32))))) (constantI S_ 1 1#1) reducesTo_S16384x1_S16384_d1 h_S_)) (Host.gather gather_S16385x128_S16384x1_S16384x128_1_0_n_n_0_1_1128 x i) (broadcastInDim S16384x128 ![] bcast_S_S16384x128 (constant S_ .f32 0x7FC00000#32))
/-- One group: the difference of two running sums over the number of positions between them. -/
def groupOf (x : FVec Ideal S16385x128 .f32) (hi lo : IVec S16384 32) : FVec Ideal S16384x1x128 .f32 :=
  broadcastInDim S16384x1x128 ![0, 2] bcast_S16384x128_S16384x1x128_0_2 (Host.divf (subf (rowsOf x (rowNo hi)) (rowsOf x (rowNo lo))) (broadcastInDim S16384x128 ![0, 1] bcast_S16384x1_S16384x128_0_1 (broadcastInDim S16384x1 ![0] bcast_S16384_S16384x1_0 (sitofp .f32 (subi hi lo)))))

theorem groups : res_main_v77 U = concatenate S16384x4x128 1 [⟨S16384x1x128, groupOf (res_main_v13 U) (res_main_v12 U) (res_main_v7 U)⟩,
    ⟨S16384x1x128, groupOf (res_main_v30 U) (res_main_v29 U) (res_main_v24 U)⟩, ⟨S16384x1x128, groupOf (res_main_v47 U) (res_main_v46 U) (res_main_v41 U)⟩,
    ⟨S16384x1x128, groupOf (res_main_v64 U) (res_main_v63 U) (res_main_v58 U)⟩] concatenates_S16384x1x128_S16384x1x128_S16384x1x128_S16384x1x128_S16384x4x128_d1 := rfl

theorem rowNo_at (v : IVec S16384 32) (s : Fin 16384) (n : ℤ) (h : 0 ≤ n) (h' : n ≤ 16384) (e : v (ix1 s) = word n) (z : Fin 1) :
    rowNo v (ix2 s z) = word n := by
  have e0 : IntOp.cmpi .slt (word n) (0#32) = 0#1 := by
    refine (lt_word n 0 (by omega) (by omega) (by omega) (by omega)).trans ?_
    simp [bit, h]
  pointwise [rowNo]
  rw [e]
  rw [e0]
  rfl

set_option maxRecDepth 1000000 in
theorem rowsOf_at (x : FVec Ideal S16385x128 .f32) (i : IVec S16384x1 32) (n : Fin 16384 → ℤ) (h : ∀ s, 0 ≤ n s) (h' : ∀ s, n s ≤ 16384)
    (e : ∀ s z, i (ix2 s z) = word (n s)) (s : Fin 16384) (l : Fin 128) :
    rowsOf x i (ix2 s l) = x (ix2 ⟨(n s).toNat, by have := h' s; omega⟩ l) := by
  have hb : ∀ j, Host.reduce IntOp.andi (andi (cmpi .sge i (broadcastInDim S16384x1 ![] bcast_S_S16384x1 (constantI S_ 32 0#32))) (cmpi .sle i (broadcastInDim S16384x1 ![0, 1] bcast_S1x1_S16384x1_0_1 (broadcastInDim S1x1 ![1] bcast_S1_S1x1_1 (constantI S1 32 16384#32))))) (constantI S_ 1 1#1) reducesTo_S16384x1_S16384_d1 h_S_ j = 1#1 := by
    refine all_at _ _ _ _ (fun j => ?_) (fun _ => rfl)
    have ej : i j = word (n (j 0)) := (congrArg i (eq_ix2 j)).trans (e _ _)
    have h1 : 0 ≤ n (j 0) := h _
    have h2 : n (j 0) ≤ 16384 := h' _
    generalize n (j 0) = k at ej h1 h2
    show IntOp.andi (IntOp.cmpi .sge (i j) (word 0)) (IntOp.cmpi .sle (i j) (word 16384)) = 1#1
    rw [ej, ge_word _ _ (by omega) (by omega) (by omega) (by omega), le_word _ _ (by omega) (by omega) (by omega) (by omega), and_bit]
    exact if_pos ⟨h1, h2⟩
  have hg := rows_at (N := 16385) (by omega) gather_S16385x128_S16384x1_S16384x128_1_0_n_n_0_1_1128.wf x i s l
  unfold rowsOf
  refine Eq.trans (if_pos (hb _)) ?_
  refine Eq.trans hg ?_
  refine congrArg (fun k => x (ix2 k l)) (Fin.ext ?_)
  show min (i (ix2 s 0)).toInt.toNat (16385 - 1) = (n s).toNat
  have h1 := h s
  have h2 := h' s
  rw [e, toInt_word _ (by omega) (by omega)]
  omega

section
variable (hz : ∀ s c, zE U s c = ((zR U c s : ℝ) : EReal))

theorem div_real {y : ℝ} (h : y ≠ 0) (x : ℝ) : Ideal.div (x : EReal) (y : EReal) = ((x / y : ℝ) : EReal) := by
  rw [Ideal.div_coe h, ← EReal.coe_mul, mul_one_div]

theorem sitofp_at (b : BitVec 32) : FloatOps.sitofp (F := Ideal) FTy.f32 b = ((b.toInt : ℝ) : EReal) := rfl

theorem groupOf_at (z : Fin 16384 → ℝ) (L : ℕ) (hL : 0 < L) (hL' : L ≤ 8) (x : FVec Ideal S16385x128 .f32) (hi lo : IVec S16384 32) (l : Fin 128)
    (e : ∀ k, x (ix2 k l) = ((upTo z k.val : ℝ) : EReal))
    (ehi : ∀ s : Fin 16384, hi (ix1 s) = word (min ((s.val : ℤ) + L) 16384)) (elo : ∀ s : Fin 16384, lo (ix1 s) = word (max ((s.val : ℤ) - L) 0))
    (s : Fin 16384) (u : Fin 1) : groupOf x hi lo (ix3 s u l) = ((winSum L z s / (cntZ L s : ℝ) : ℝ) : EReal) := by
  have hs := s.isLt
  have e1 := rowsOf_at x (rowNo hi) (fun s => min ((s.val : ℤ) + L) 16384) (fun s => by omega) (fun s => by omega)
    (fun s z => rowNo_at hi s _ (by omega) (by omega) (ehi s) z) s l
  have e2 := rowsOf_at x (rowNo lo) (fun s => max ((s.val : ℤ) - L) 0) (fun s => by omega) (fun s => by have := s.isLt; omega)
    (fun s z => rowNo_at lo s _ (by omega) (by have := s.isLt; omega) (elo s) z) s l
  have e3 : IntOp.subi (hi (ix1 s)) (lo (ix1 s)) = word (cntZ L s) := by
    rw [ehi, elo, sub_word]
    rfl
  have hc := cnt_pos L hL s
  have hc' : cntZ L s.val < 2147483648 := by unfold cntZ; omega
  pointwise [groupOf]
  rw [e1, e2, e3, e, e, sitofp_at, toInt_word _ (by omega) hc', ← EReal.coe_sub, div_real (by exact_mod_cast hc.ne')]
  dsimp only
  rw [upTo_sub L z s.val hs]

theorem loAt (v : IVec S16384 32) (k : ℤ) (hk : 0 ≤ k) (hk' : k ≤ 8) (s : Fin 16384) (e : v (ix1 s) = word s.val) :
    IntOp.minsi (word 16384) (IntOp.maxsi (word 0) (IntOp.subi (v (ix1 s)) (word k))) = word (max ((s.val : ℤ) - k) 0) := by
  have hs := s.isLt
  rw [e, sub_word, max_word _ _ (by omega) (by omega) (by omega) (by omega), min_word _ _ (by omega) (by omega) (by omega) (by omega)]
  exact congrArg word (by omega)
theorem hiAt (v : IVec S16384 32) (k : ℤ) (hk : 0 ≤ k) (hk' : k ≤ 8) (s : Fin 16384) (e : v (ix1 s) = word s.val) :
    IntOp.minsi (word 16384) (IntOp.maxsi (word 0) (IntOp.addi (IntOp.addi (v (ix1 s)) (word k)) (word 1))) = word (min ((s.val : ℤ) + (k + 1)) 16384) := by
  have hs := s.isLt
  rw [e, add_word, add_word, max_word _ _ (by omega) (by omega) (by omega) (by omega), min_word _ _ (by omega) (by omega) (by omega) (by omega)]
  exact congrArg word (by omega)
theorem pos_at (s : Fin 16384) : res_main_v4 U (ix1 s) = word s.val := (word_nat _).symm ▸ rfl

include hz

theorem g0 (s : Fin 16384) (u : Fin 1) (l : Fin 128) (c : Fin 512) (hc : c.val = 0 + l.val) :
    groupOf (res_main_v13 U) (res_main_v12 U) (res_main_v7 U) (ix3 s u l) = ((winSum 1 (zR U c) s / (cntZ 1 s : ℝ) : ℝ) : EReal) := by
  refine groupOf_at _ 1 (by omega) (by omega) _ _ _ l (fun k => Eq.trans ?_ (run_at U hz k c))
    (fun s => (hiAt (res_main_v4 U) 0 (by omega) (by omega) s (pos_at U s)).trans (congrArg word (by omega)))
    (fun s => loAt (res_main_v4 U) 1 (by omega) (by omega) s (pos_at U s)) s u
  have ec : c = (⟨l.val, by omega⟩ : Fin 512) := Fin.ext (hc.trans (Nat.zero_add _))
  rw [ec]
  pointwise [res_main_v13]
theorem g1 (s : Fin 16384) (u : Fin 1) (l : Fin 128) (c : Fin 512) (hc : c.val = 128 + l.val) :
    groupOf (res_main_v30 U) (res_main_v29 U) (res_main_v24 U) (ix3 s u l) = ((winSum 2 (zR U c) s / (cntZ 2 s : ℝ) : ℝ) : EReal) := by
  refine groupOf_at _ 2 (by omega) (by omega) _ _ _ l (fun k => Eq.trans ?_ (run_at U hz k c))
    (fun s => (hiAt (res_main_v4 U) 1 (by omega) (by omega) s (pos_at U s)).trans (congrArg word (by omega)))
    (fun s => loAt (res_main_v4 U) 2 (by omega) (by omega) s (pos_at U s)) s u
  have ec : c = (⟨128 + l.val, by omega⟩ : Fin 512) := Fin.ext hc
  rw [ec]
  pointwise [res_main_v30]
theorem g2 (s : Fin 16384) (u : Fin 1) (l : Fin 128) (c : Fin 512) (hc : c.val = 256 + l.val) :
    groupOf (res_main_v47 U) (res_main_v46 U) (res_main_v41 U) (ix3 s u l) = ((winSum 4 (zR U c) s / (cntZ 4 s : ℝ) : ℝ) : EReal) := by
  refine groupOf_at _ 4 (by omega) (by omega) _ _ _ l (fun k => Eq.trans ?_ (run_at U hz k c))
    (fun s => (hiAt (res_main_v4 U) 3 (by omega) (by omega) s (pos_at U s)).trans (congrArg word (by omega)))
    (fun s => loAt (res_main_v4 U) 4 (by omega) (by omega) s (pos_at U s)) s u
  have ec : c = (⟨256 + l.val, by omega⟩ : Fin 512) := Fin.ext hc
  rw [ec]
  pointwise [res_main_v47]
theorem g3 (s : Fin 16384) (u : Fin 1) (l : Fin 128) (c : Fin 512) (hc : c.val = 384 + l.val) :
    groupOf (res_main_v64 U) (res_main_v63 U) (res_main_v58 U) (ix3 s u l) = ((winSum 8 (zR U c) s / (cntZ 8 s : ℝ) : ℝ) : EReal) := by
  refine groupOf_at _ 8 (by omega) (by omega) _ _ _ l (fun k => Eq.trans ?_ (run_at U hz k c))
    (fun s => (hiAt (res_main_v4 U) 7 (by omega) (by omega) s (pos_at U s)).trans (congrArg word (by omega)))
    (fun s => loAt (res_main_v4 U) 8 (by omega) (by omega) s (pos_at U s)) s u
  have ec : c = (⟨384 + l.val, by omega⟩ : Fin 512) := Fin.ext hc
  rw [ec]
  pointwise [res_main_v64]
theorem mix0 (s : Fin 16384) (l : Fin 128) : res_main_v79 U (ix3 s (⟨0, by omega⟩ : Fin 4) l) = mixed (zE U) s ⟨0, by omega⟩ l := by
  have e1 := g0 U hz s 0 l (lane ⟨0, by omega⟩ l) rfl
  have e2 := hz s (lane ⟨0, by omega⟩ l)
  unfold mixed mixR
  rw [EReal.coe_sub]
  refine Eq.trans ?_ (congrArg₂ (fun x y : EReal => x - y) e1 e2)
  unfold zE lane
  pointwise [res_main_v79, groups]
theorem mix1 (s : Fin 16384) (l : Fin 128) : res_main_v79 U (ix3 s (⟨1, by omega⟩ : Fin 4) l) = mixed (zE U) s ⟨1, by omega⟩ l := by
  have e1 := g1 U hz s 0 l (lane ⟨1, by omega⟩ l) rfl
  have e2 := hz s (lane ⟨1, by omega⟩ l)
  unfold mixed mixR
  rw [EReal.coe_sub]
  refine Eq.trans ?_ (congrArg₂ (fun x y : EReal => x - y) e1 e2)
  unfold zE lane
  pointwise [res_main_v79, groups]
theorem mix2 (s : Fin 16384) (l : Fin 128) : res_main_v79 U (ix3 s (⟨2, by omega⟩ : Fin 4) l) = mixed (zE U) s ⟨2, by omega⟩ l := by
  have e1 := g2 U hz s 0 l (lane ⟨2, by omega⟩ l) rfl
  have e2 := hz s (lane ⟨2, by omega⟩ l)
  unfold mixed mixR
  rw [EReal.coe_sub]
  refine Eq.trans ?_ (congrArg₂ (fun x y : EReal => x - y) e1 e2)
  unfold zE lane
  pointwise [res_main_v79, groups]
theorem mix3 (s : Fin 16384) (l : Fin 128) : res_main_v79 U (ix3 s (⟨3, by omega⟩ : Fin 4) l) = mixed (zE U) s ⟨3, by omega⟩ l := by
  have e1 := g3 U hz s 0 l (lane ⟨3, by omega⟩ l) rfl
  have e2 := hz s (lane ⟨3, by omega⟩ l)
  unfold mixed mixR
  rw [EReal.coe_sub]
  refine Eq.trans ?_ (congrArg₂ (fun x y : EReal => x - y) e1 e2)
  unfold zE lane
  pointwise [res_main_v79, groups]
theorem mix_at (s : Fin 16384) (b : Fin 4) (l : Fin 128) : res_main_v79 U (ix3 s b l) = mixed (zE U) s b l := by
  fin_cases b
  · exact mix0 U hz s l
  · exact mix1 U hz s l
  · exact mix2 U hz s l
  · exact mix3 U hz s l

end

/-! The results, at an index. -/

def gE (s : Fin 16384) (l : Fin 1024) : EReal := (U (Proc.devRef .tc main_arg0) : FVec Ideal S16384x1024 .f32) (ix2 s l)
def aE (s : Fin 16384) (c : Fin 512) : EReal := (U (Proc.devRef .tc main_arg2) : FVec Ideal S16384x512 .bf16) (ix2 s c)
def wE (k l : Fin 1024) : EReal := (U (Proc.devRef .tc main_arg3) : FVec Ideal S1024x1024 .f32) (ix2 k l)
def pE (b : Fin 4) (i j : Fin 128) : EReal := (U (Proc.devRef .tc main_arg4) : FVec Ideal S4x128x128 .f32) (ix3 b i j)
def sE (c : Fin 512) : EReal := (U (Proc.devRef .tc main_arg5) : FVec Ideal S512 .f32) (ix1 c)

/-- A product of extended reals. -/
abbrev mulE (x y : EReal) : EReal := x * y

theorem a_at (s : Fin 16384) (c : Fin 512) : res_main_v0 U (ix2 s c) = aE U s c := by
  unfold aE
  pointwise [res_main_v0]
theorem dat_at (s : Fin 16384) (c : Fin 512) : res_main_v91 U (ix2 s c) = dAttn (gE U) (wE U) s c := by
  unfold dAttn gE wE loC
  pointwise [res_main_v91, res_main_v90]
theorem db_at (s : Fin 16384) (c : Fin 512) : res_main_v92 U (ix2 s c) = dPool (gE U) (wE U) s c := by
  unfold dPool gE wE hiC
  pointwise [res_main_v92, res_main_v90]
theorem ps_at (c : Fin 512) : res_main_v83 U (ix2 0 c) = sE U c := by
  unfold sE
  pointwise [res_main_v83]
theorem dy_at (b : Fin 4) (j : Fin 128) (s : Fin 16384) : res_main_v100 U (ix3 b j s) = dProj (gE U) (wE U) (sE U) s (lane b j) := by
  have e1 := db_at U s (lane b j)
  have e2 := ps_at U (lane b j)
  unfold dProj
  refine Eq.trans ?_ (congrArg₂ (fun x y : EReal => x * y) e1 e2)
  unfold lane
  pointwise [res_main_v100]

theorem r8 (h : Fin 8) (b : Fin 16) (v : Fin 64) (r : Fin 1024) :
    truncf .bf16 (transpose S8x16x64x1024 [0, 2, 1, 3] (shapeCast _ (transpose S512x16384 [1, 0] (res_main_v91 U) transposes_S16384x512_S512x16384_1_0) shapeCasts_S512x16384_S8x64x16x1024) transposes_S8x64x16x1024_S8x16x64x1024_0_2_1_3) bitsLt_bf16_f32 (ix4 h b v r)
      = dAttn (gE U) (wE U) (tokB b r) (headC h v) := by
  refine Eq.trans ?_ (dat_at U _ _)
  unfold tokB headC
  pointwise

theorem r9 (h : Fin 8) (b : Fin 16) (v : Fin 8) (r : Fin 1024) :
    broadcastInDim S8x16x8x1024 ![0, 1, 2, 3] bcast_S8x16x1x1024_S8x16x8x1024_0_1_2_3 (transpose S8x16x1x1024 [0, 2, 1, 3] (shapeCast _ (transpose S8x16384 [1, 0] (Host.reduceAdd (shapeCast _ (mulf (res_main_v91 U) (res_main_v0 U)) shapeCasts_S16384x512_S16384x8x64) (constant S_ .f32 0x00000000#32) reducesTo_S16384x8x64_S16384x8_d2 h_S_) transposes_S16384x8_S8x16384_1_0) shapeCasts_S8x16384_S8x1x16x1024) transposes_S8x1x16x1024_S8x16x1x1024_0_2_1_3) (ix4 h b v r)
      = delta (gE U) (aE U) (wE U) h (tokB b r) := by
  have e : delta (gE U) (aE U) (wE U) h (tokB b r) = (∑ v : Fin 64, mulE (res_main_v91 U (ix2 (tokB b r) (headC h v))) (res_main_v0 U (ix2 (tokB b r) (headC h v))) : EReal) := by
    unfold delta
    simp only [dat_at, a_at]
  rw [e]
  unfold tokB headC
  pointwise [mulE]

theorem r10 (s : Fin 16384) (b : Fin 4) (i : Fin 128) :
    shapeCast S16384x512 (transpose S16384x4x128 [1, 0, 2] (Host.dotGeneral (φ₁ := .f32) (φ₂ := .f32) dot_S4x128x16384_S4x128x128_S4x16384x128_1_2_2_1_0_0 none (res_main_v100 U) (U (Proc.devRef .tc main_arg4))) transposes_S4x16384x128_S16384x4x128_1_0_2) shapeCasts_S16384x4x128_S16384x512 (ix2 s (lane b i))
      = dMixed (gE U) (wE U) (pE U) (sE U) s (lane b i) := by
  have e : dMixed (gE U) (wE U) (pE U) (sE U) s (lane b i) = (∑ j : Fin 128, mulE (res_main_v100 U (ix3 b j s)) ((U (Proc.devRef .tc main_arg4) : FVec Ideal S4x128x128 .f32) (ix3 b i j)) : EReal) := by
    unfold dMixed
    simp only [dy_at, grp_lane, off_lane]
    rfl
  rw [e]
  unfold lane
  pointwise [mulE]

section
variable (hz : ∀ s c, zE U s c = ((zR U c s : ℝ) : EReal))
include hz

theorem y_at (s : Fin 16384) (b : Fin 4) (j : Fin 128) : res_main_v82 U (ix2 s (lane b j)) = proj (zE U) (pE U) s (lane b j) := by
  have e : proj (zE U) (pE U) s (lane b j) = (∑ i : Fin 128, mulE ((U (Proc.devRef .tc main_arg4) : FVec Ideal S4x128x128 .f32) (ix3 b i j)) (res_main_v79 U (ix3 s b i)) : EReal) := by
    unfold proj
    simp only [mix_at U hz, grp_lane, off_lane]
    exact Finset.sum_congr rfl fun i _ => mul_comm _ _
  rw [e]
  unfold lane
  pointwise [res_main_v82, mulE]
theorem y_at' (s : Fin 16384) (c : Fin 512) : res_main_v82 U (ix2 s c) = proj (zE U) (pE U) s c := by
  rw [← lane_eq c]
  exact y_at U hz s _ _

theorem r11lo (c : Fin 512) (l : Fin 1024) :
    transpose S1024x1024 [1, 0] (Host.dotGeneral (φ₁ := .f32) (φ₂ := .f32) dot_S16384x1024_S16384x1024_S1024x1024_0_0_1_1_n_n none (U (Proc.devRef .tc main_arg0) : FVec Ideal S16384x1024 .f32) (res_main_v86 U)) transposes_S1024x1024_S1024x1024_1_0 (ix2 (⟨c.val, by omega⟩ : Fin 1024) l)
      = dOutLo (gE U) (aE U) c l := by
  have e : dOutLo (gE U) (aE U) c l = (∑ s : Fin 16384, mulE ((U (Proc.devRef .tc main_arg0) : FVec Ideal S16384x1024 .f32) (ix2 s l)) (res_main_v0 U (ix2 s c)) : EReal) := by
    unfold dOutLo
    simp only [a_at]
    exact Finset.sum_congr rfl fun i _ => mul_comm _ _
  rw [e]
  pointwise [res_main_v86, mulE]
theorem r11hi (c : Fin 512) (l : Fin 1024) :
    transpose S1024x1024 [1, 0] (Host.dotGeneral (φ₁ := .f32) (φ₂ := .f32) dot_S16384x1024_S16384x1024_S1024x1024_0_0_1_1_n_n none (U (Proc.devRef .tc main_arg0) : FVec Ideal S16384x1024 .f32) (res_main_v86 U)) transposes_S1024x1024_S1024x1024_1_0 (ix2 (⟨512 + c.val, by omega⟩ : Fin 1024) l)
      = dOutHi (gE U) (zE U) (pE U) (sE U) c l := by
  have e : dOutHi (gE U) (zE U) (pE U) (sE U) c l = (∑ s : Fin 16384, mulE ((U (Proc.devRef .tc main_arg0) : FVec Ideal S16384x1024 .f32) (ix2 s l)) (mulE (res_main_v82 U (ix2 s c)) (res_main_v83 U (ix2 0 c))) : EReal) := by
    unfold dOutHi
    simp only [y_at' U hz, ps_at]
    exact Finset.sum_congr rfl fun i _ => mul_comm _ _
  rw [e]
  pointwise [res_main_v86, mulE]

theorem r12 (b : Fin 4) (i j : Fin 128) :
    transpose S4x128x128 [0, 2, 1] (Host.dotGeneral (φ₁ := .f32) (φ₂ := .f32) dot_S4x128x16384_S16384x4x128_S4x128x128_2_0_1_2_0_1 none (res_main_v100 U) (res_main_v79 U)) transposes_S4x128x128_S4x128x128_0_2_1 (ix3 b i j)
      = dWpool (gE U) (zE U) (wE U) (sE U) b i j := by
  have e : dWpool (gE U) (zE U) (wE U) (sE U) b i j = (∑ s : Fin 16384, mulE (res_main_v100 U (ix3 b j s)) (res_main_v79 U (ix3 s b i)) : EReal) := by
    unfold dWpool
    simp only [mix_at U hz, dy_at]
    exact Finset.sum_congr rfl fun i _ => mul_comm _ _
  rw [e]
  pointwise [mulE]

theorem r13 (c : Fin 512) :
    broadcastInDim S1x512 ![1] bcast_S512_S1x512_1 (Host.reduceAdd (shapeCast _ (Host.reduceAdd (mulf (res_main_v82 U) (res_main_v92 U)) (constant S_ .f32 0x00000000#32) reducesTo_S16384x512_S512_d0 h_S_) shapeCasts_S512_S1x512) (constant S_ .f32 0x00000000#32) reducesTo_S1x512_S512_d0 h_S_) (ix2 0 c)
      = dScale (gE U) (zE U) (wE U) (pE U) c := by
  have e : dScale (gE U) (zE U) (wE U) (pE U) c = (∑ s : Fin 16384, mulE (res_main_v82 U (ix2 s c)) (res_main_v92 U (ix2 s c)) : EReal) := by
    unfold dScale
    simp only [y_at' U hz, db_at]
    exact Finset.sum_congr rfl fun i _ => mul_comm _ _
  rw [e]
  pointwise [mulE]
  exact Fin.sum_univ_one _

end

end Cert.MixoutRefIdeal.Val

end
-- ==== Proof.MixoutPair.lean ====
module

public import proofs.«01_k».proof.Defs
public import proofs.«01_k».proof.Proof.Finite
public import proofs.«01_k».proof.Proof.MixoutValue
public import proofs.«01_k».proof.Proof.MixoutRef
public import proofs.«01_k».proof.Proof.Gen.MixoutRefIdeal.Run
public import proofs.«01_k».proof.Proof.Gen.Pre_mixout_finite
public import Idealize.ShloMosaic.Lib.Claim

@[expose] public section

set_option maxRecDepth 16384

noncomputable section

open Idealize.ShloMosaic Idealize.ShloMosaic.TcCoe Idealize.SL.Sem Idealize.ShloMosaic.StableHlo

/-! The backward call of the mixing branch and the plain gradient give equal results. -/

namespace Cert.Proof.Mixout

open Cert.MixPool
open Cert.MixoutIdeal.Val (gA zA aA wA pA sA)
open Cert.MixoutRefIdeal.Val (gE zE aE wE pE sE)

section
variable (m : (ℓ : Loc Cert.MixoutIdeal.nD Cert.MixoutIdeal.τ Cert.MixoutIdeal.sig) → Buf (Elt Ideal) ℓ) (c : Dev Cert.MixoutIdeal.nD)
  (m' : (ℓ : Loc Cert.MixoutRefIdeal.nD Cert.MixoutRefIdeal.τ Cert.MixoutRefIdeal.sig) → Buf (Elt Ideal) ℓ)

theorem g_eq (h : m' (c.tc.loc Cert.MixoutRefIdeal.main_arg0) = m (c.tc.loc Cert.MixoutIdeal.main_arg0)) : gE (launchContents m' c) = gA m c :=
  funext fun s => funext fun l => congrFun h (ix2 s l)
theorem z_eq (h : m' (c.tc.loc Cert.MixoutRefIdeal.main_arg1) = m (c.tc.loc Cert.MixoutIdeal.main_arg1)) : zE (launchContents m' c) = zA m c :=
  funext fun s => funext fun l => congrFun h (ix2 s l)
theorem a_eq (h : m' (c.tc.loc Cert.MixoutRefIdeal.main_arg2) = m (c.tc.loc Cert.MixoutIdeal.main_arg2)) : aE (launchContents m' c) = aA m c :=
  funext fun s => funext fun l => (congrFun h (ix2 s l)).trans (Cert.MixoutIdeal.Val.aA_at m c s l).symm
theorem w_eq (h : m' (c.tc.loc Cert.MixoutRefIdeal.main_arg3) = m (c.tc.loc Cert.MixoutIdeal.main_arg3)) : wE (launchContents m' c) = wA m c :=
  funext fun s => funext fun l => (congrFun h (ix2 s l)).trans (Cert.MixoutIdeal.Val.wA_at m c s l).symm
theorem p_eq (h : m' (c.tc.loc Cert.MixoutRefIdeal.main_arg4) = m (c.tc.loc Cert.MixoutIdeal.main_arg4)) : pE (launchContents m' c) = pA m c :=
  funext fun b => funext fun i => funext fun j => (congrFun h (ix3 b i j)).trans (Cert.MixoutIdeal.Val.pA_at m c b i j).symm
theorem s_eq (h : m' (c.tc.loc Cert.MixoutRefIdeal.main_arg5) = m (c.tc.loc Cert.MixoutIdeal.main_arg5)) : sE (launchContents m' c) = sA m c :=
  funext fun k => (congrFun h (ix1 k)).trans (Cert.MixoutIdeal.Val.sA_at m c k).symm
end

end Cert.Proof.Mixout

namespace Cert.Proof

open Cert.MixPool

theorem mixout_algebraic : Cert.algebraic_MixoutIdeal_MixoutRefIdeal_pre_mixout_finite := by
  intro m g m' g' hpre hagree
  refine ⟨fun c => (Cert.MixoutIdeal.Gen.dats m 0 c).arrAt 8 Cert.MixoutIdeal.cfg0.N,
    fun c => (Cert.MixoutIdeal.Gen.dats m 0 c).arrAt 9 Cert.MixoutIdeal.cfg0.N,
    fun c => (Cert.MixoutIdeal.Gen.dats m 0 c).arrAt 10 Cert.MixoutIdeal.cfg0.N,
    fun c => (Cert.MixoutIdeal.Gen.dats m 0 c).arrAt 11 Cert.MixoutIdeal.cfg0.N,
    fun c => (Cert.MixoutIdeal.Gen.dats m 0 c).arrAt 12 Cert.MixoutIdeal.cfg0.N,
    fun c => (Cert.MixoutIdeal.Gen.dats m 0 c).arrAt 13 Cert.MixoutIdeal.cfg0.N, ?_, ?_⟩
  · refine (θ_run _ _ _).mono (fun r hr c => ?_) (θ_run_and (Cert.MixoutIdeal.Gen.run_main m g) (Cert.MixoutIdeal.Gen.unchanged m g))
    obtain ⟨hF, hU⟩ := hr
    exact ⟨(hF c).1 8, (hF c).1 9, (hF c).1 10, (hF c).1 11, (hF c).1 12, (hF c).1 13, hU c⟩
  · refine (θ_run _ _ _).mono (fun r hr c => ?_) (Cert.MixoutRefIdeal.Value.run m' g')
    obtain ⟨e0, e1, e2, e3, e4, e5, ea⟩ := hr c
    have f := hpre c
    obtain ⟨g0, g1, g2, g3, g4, g5⟩ := hagree c
    have hz : ∀ s k, Cert.MixoutRefIdeal.Val.zE (launchContents m' c) s k = ((Cert.MixoutRefIdeal.Val.zR (launchContents m' c) k s : ℝ) : EReal) := fun s k => by
      unfold Cert.MixoutRefIdeal.Val.zR
      rw [Mixout.z_eq m c m' g1]
      exact real_of_finite _ _ f (ix2 s k)
    have hz' : ∀ s k, Cert.MixoutIdeal.Val.zA m c s k = ((Cert.MixoutIdeal.Val.zA m c s k).toReal : EReal) := fun s k => real_of_finite _ _ f (ix2 s k)
    have hg := Mixout.g_eq m c m' g0
    have hzz := Mixout.z_eq m c m' g1
    have ha := Mixout.a_eq m c m' g2
    have hw := Mixout.w_eq m c m' g3
    have hp := Mixout.p_eq m c m' g4
    have hs := Mixout.s_eq m c m' g5
    clear hr f
    refine ⟨e0.trans ?_, e1.trans ?_, e2.trans ?_, e3.trans ?_, e4.trans ?_, e5.trans ?_, ea⟩
    · refine funext fun y => ?_
      rw [eq_ix4 y]
      refine (Cert.MixoutRefIdeal.Val.r8 (launchContents m' c) (y 0) (y 1) (y 2) (y 3)).trans ?_
      rw [hg, hw]
      exact (Cert.MixoutIdeal.Val.final8 m c (y 0) (y 1) (y 2) (y 3)).symm
    · refine funext fun y => ?_
      rw [eq_ix4 y]
      refine (Cert.MixoutRefIdeal.Val.r9 (launchContents m' c) (y 0) (y 1) (y 2) (y 3)).trans ?_
      rw [hg, ha, hw]
      exact (Cert.MixoutIdeal.Val.final9 m c (y 0) (y 1) (y 2) (y 3)).symm
    · refine funext fun y => ?_
      rw [eq_ix2 y]
      generalize y 0 = s
      generalize y 1 = k
      have e := lane_eq (k : Fin 512)
      refine Eq.trans ?_ (Cert.MixoutIdeal.Val.final10 m c s k).symm
      rw [← hg, ← hw, ← hp, ← hs]
      clear hg hw hp hs hzz ha
      rw [← e]
      exact Cert.MixoutRefIdeal.Val.r10 (launchContents m' c) s (grp k) (off k)
    · refine funext fun y => ?_
      rw [eq_ix2 y]
      generalize y 0 = k
      generalize y 1 = l
      have hk : k.val < 1024 := k.isLt
      refine Eq.trans ?_ (Cert.MixoutIdeal.Val.final11 m c hz' k l).symm
      unfold Cert.MixoutIdeal.Val.dOut
      split
      · next h =>
        rw [← hg, ← ha]
        exact Cert.MixoutRefIdeal.Val.r11lo (launchContents m' c) hz ⟨k.val, h⟩ l
      · next h =>
        rw [← hg, ← hzz, ← hp, ← hs]
        have e : (k : Fin 1024) = (⟨512 + (k.val - 512), by omega⟩ : Fin 1024) := Fin.ext (by show k.val = 512 + (k.val - 512); omega)
        refine Eq.trans ?_ (Cert.MixoutRefIdeal.Val.r11hi (launchContents m' c) hz ⟨k.val - 512, by omega⟩ l)
        exact congrArg (fun k : Fin 1024 => transpose Cert.MixoutRefIdeal.S1024x1024 [1, 0] _ _ (ix2 k l)) e
    · refine funext fun y => ?_
      rw [eq_ix3 y]
      refine (Cert.MixoutRefIdeal.Val.r12 (launchContents m' c) hz (y 0) (y 1) (y 2)).trans ?_
      rw [hg, hzz, hw, hs]
      exact (Cert.MixoutIdeal.Val.final12 m c hz' (y 0) (y 1) (y 2)).symm
    · refine funext fun y => ?_
      rw [eq_ix2 y]
      generalize y 0 = z
      generalize y 1 = k
      obtain rfl : z = (0 : Fin 1) := Fin.ext (by have : z.val < 1 := z.isLt; show z.val = 0; omega)
      refine (Cert.MixoutRefIdeal.Val.r13 (launchContents m' c) hz k).trans ?_
      rw [hg, hzz, hw, hp]
      exact (Cert.MixoutIdeal.Val.final13 m c hz' k).symm

end Cert.Proof

end
-- ==== Proof.AttnLoop.lean ====
module

public import proofs.«01_k».proof.Proof.Gen.AttnIdeal.Frame
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.AttnIdeal.Val

open Cert.AttnIdeal Cert.AttnIdeal.Gen

theorem pay3 (j : S1024x128.Idx) : k0_pay3 (F := Ideal) j = 0 := by pointwise [k0_pay3]
theorem pay4 (j : S1x1x64x1024.Idx) : k0_pay4 (F := Ideal) j = 0 := by pointwise [k0_pay4]
theorem pay5 (j : S1x16x128x1024.Idx) : k0_pay5 (F := Ideal) j = 0 := by pointwise [k0_pay5]

theorem pay6 (v24 : FVec Ideal S1024x128 .bf16) (v45 : FVec Ideal S1024x1024 .bf16) (v53 : FVec Ideal S1024x128 .f32) (j : S1024x128.Idx) :
    k0_pay6 (F := Ideal) v24 v45 v53 j = v53 j + ∑ r : Fin 1024, v45 (ix2 (j 0) r) * v24 (ix2 r (j 1)) := by
  pointwise [k0_pay6]

theorem pay7 (v0 : FVec Ideal S1024x128 .bf16) (v45 : FVec Ideal S1024x1024 .bf16) (v59 : FVec Ideal S1x1x128x1024 .f32) (j : S1x1x128x1024.Idx) :
    k0_pay7 (F := Ideal) v0 v45 v59 j = v59 j + ∑ a : Fin 1024, v0 (ix2 a (j 2)) * v45 (ix2 a (j 3)) := by
  pointwise [k0_pay7, k0_pay1]

theorem pay8 (v15 : FVec Ideal S1024x128 .f32) (j : S1024x128.Idx) :
    k0_pay8 (F := Ideal) v15 j = v15 j * ((Real.log 2 : ℝ) : EReal) := by
  pointwise [k0_pay8]
  rfl

theorem pay11 (v0 v23 : FVec Ideal S1024x128 .bf16) (v30 : FVec Ideal S1x1x8x1024 .f32) (j : S1024x1024.Idx) :
    k0_pay11 (F := Ideal) (k0_pay1 v0) v23 v30 j
      = Ideal.exp2 ((∑ d : Fin 128, v0 (ix2 (j 0) d) * v23 (ix2 (j 1) d)) - v30 (ix4 0 0 0 (j 1))) := by
  pointwise [k0_pay11, k0_pay1, k0_pay9]
  rfl

theorem pay12 (v0 v23 : FVec Ideal S1024x128 .bf16) (v5 v26 : FVec Ideal S1x1x64x1024 .bf16) (v30 v39 : FVec Ideal S1x1x8x1024 .f32)
    (j : S1024x1024.Idx) :
    k0_pay12 (F := Ideal) (k0_pay1 v0) (k0_pay2 v5) v23 v26 v30 v39 j
      = k0_pay11 (F := Ideal) (k0_pay1 v0) v23 v30 j * ((∑ d : Fin 64, v5 (ix4 0 0 d (j 0)) * v26 (ix4 0 0 d (j 1))) - v39 (ix4 0 0 0 (j 1))) := by
  pointwise [k0_pay12, k0_pay2, k0_pay10]

theorem pay13 (v0 v23 : FVec Ideal S1024x128 .bf16) (v26 : FVec Ideal S1x1x64x1024 .bf16) (v30 : FVec Ideal S1x1x8x1024 .f32)
    (v46 : FVec Ideal S1x1x64x1024 .f32) (j : S1x1x64x1024.Idx) :
    k0_pay13 (F := Ideal) (k0_pay1 v0) v23 v26 v30 v46 j
      = v46 j + ∑ r : Fin 1024, v26 (ix4 0 0 (j 2) r) * k0_pay11 (F := Ideal) (k0_pay1 v0) v23 v30 (ix2 (j 3) r) := by
  pointwise [k0_pay13, k0_pay10]

theorem off1 : ∀ k : Fin k0_t1_loop.trips, k0_off1 k = ![k.val * 1024, 0] := by decide +kernel
theorem off2 : ∀ k : Fin k0_t1_loop.trips, k0_off2 k = ![0, k.val, 0, 0] := by decide +kernel
theorem off3 : ∀ k : Fin k0_t1_loop.trips, k0_off3 k = ![0, k.val, 0, 0] := by decide +kernel
theorem off4 : ∀ k : Fin k0_t1_loop.trips, k0_off4 k = ![0, k.val, 0, 0] := by decide +kernel
theorem trips_eq : k0_t1_loop.trips = 16 := by decide +kernel

/-! ## What the counted loop leaves -/

section
variable (q : FVec Ideal S16384x128 .bf16) (kb : FVec Ideal S1024x128 .bf16) (vb : FVec Ideal S1x1x64x1024 .bf16)
  (dO : FVec Ideal S1x16x64x1024 .bf16) (ls de : FVec Ideal S1x16x8x1024 .f32)

theorem inb2 (n : ℕ) (hn : n < 16) (a : Fin 2) : (![n * 1024, 0] : Fin 2 → ℕ) a + S1024x128.size a ≤ S16384x128.size a := by
  fin_cases a
  · show n * 1024 + 1024 ≤ 16384; omega
  · show 0 + 128 ≤ 128; omega
theorem inb4 (u v n : ℕ) (hn : n < 16) (a : Fin 4) :
    (![0, n, 0, 0] : Fin 4 → ℕ) a + (![1, 1, u, v] : Fin 4 → ℕ) a ≤ (![1, 16, u, v] : Fin 4 → ℕ) a := by
  fin_cases a
  · show 0 + 1 ≤ 1; omega
  · show n + 1 ≤ 16; omega
  · show 0 + u ≤ u; omega
  · show 0 + v ≤ v; omega

/-- A trip's block of queries, of output gradients, of row data. -/
def qw (n : ℕ) (hn : n < 16) : FVec Ideal S1024x128 .bf16 :=
  VecWindow.window q ![n * 1024, 0] S1024x128.size (inb2 n hn)
def dw (n : ℕ) (hn : n < 16) : FVec Ideal S1x1x64x1024 .bf16 :=
  VecWindow.window dO ![0, n, 0, 0] S1x1x64x1024.size (inb4 _ _ n hn)
def rw8 (x : FVec Ideal S1x16x8x1024 .f32) (n : ℕ) (hn : n < 16) : FVec Ideal S1x1x8x1024 .f32 :=
  VecWindow.window x ![0, n, 0, 0] S1x1x8x1024.size (inb4 _ _ n hn)

theorem qw_at (n : ℕ) (hn : n < 16) (r : Fin 1024) (d : Fin 128) : qw q n hn (ix2 r d) = q (ix2 ⟨n * 1024 + r, by omega⟩ d) :=
  congrArg q (funext fun a => Fin.ext (by fin_cases a <;> [exact (show n * 1024 + 1 * r.val = n * 1024 + r.val by omega); exact (show 0 + 1 * d.val = d.val by omega)]))
theorem dw_at (n : ℕ) (hn : n < 16) (d : Fin 64) (r : Fin 1024) : dw dO n hn (ix4 0 0 d r) = dO (ix4 0 ⟨n, hn⟩ d r) :=
  congrArg dO (funext fun a => Fin.ext (by fin_cases a <;> [rfl; rfl; exact (show 0 + 1 * d.val = d.val by omega); exact (show 0 + 1 * r.val = r.val by omega)]))
theorem rw8_at (x : FVec Ideal S1x16x8x1024 .f32) (n : ℕ) (hn : n < 16) (d : Fin 8) (r : Fin 1024) : rw8 x n hn (ix4 0 0 d r) = x (ix4 0 ⟨n, hn⟩ d r) :=
  congrArg x (funext fun a => Fin.ext (by fin_cases a <;> [rfl; rfl; exact (show 0 + 1 * d.val = d.val by omega); exact (show 0 + 1 * r.val = r.val by omega)]))

/-- The probability of key `a` for query `n * 1024 + r`, from the row's log-sum. -/
def PT (n : Fin 16) (a r : Fin 1024) : EReal :=
  Ideal.exp2 ((∑ d : Fin 128, kb (ix2 a d) * q (ix2 ⟨n * 1024 + r, by omega⟩ d)) - ls (ix4 0 n 0 r))
/-- The gradient of the score of key `a` for query `n * 1024 + r`. -/
def DS (n : Fin 16) (a r : Fin 1024) : EReal :=
  PT q kb ls n a r * ((∑ d : Fin 64, vb (ix4 0 0 d a) * dO (ix4 0 n d r)) - de (ix4 0 n 0 r))

def DST (n : ℕ) (hn : n < 16) : FVec Ideal S1024x1024 .bf16 :=
  k0_pay12 (F := Ideal) (k0_pay1 kb) (k0_pay2 vb) (qw q n hn) (dw dO n hn) (rw8 ls n hn) (rw8 de n hn)

theorem PT_eq (n : ℕ) (hn : n < 16) (a r : Fin 1024) :
    k0_pay11 (F := Ideal) (k0_pay1 kb) (qw q n hn) (rw8 ls n hn) (ix2 a r) = PT q kb ls ⟨n, hn⟩ a r := by
  refine (pay11 _ _ _ _).trans ?_
  show Ideal.exp2 ((∑ d : Fin 128, kb (ix2 a d) * qw q n hn (ix2 r d)) - rw8 ls n hn (ix4 0 0 0 r)) = _
  simp only [qw_at, rw8_at]
  rfl

theorem DST_eq (n : ℕ) (hn : n < 16) (a r : Fin 1024) : DST q kb vb dO ls de n hn (ix2 a r) = DS q kb vb dO ls de ⟨n, hn⟩ a r := by
  refine (pay12 _ _ _ _ _ _ _).trans ?_
  show k0_pay11 (F := Ideal) (k0_pay1 kb) (qw q n hn) (rw8 ls n hn) (ix2 a r)
    * ((∑ d : Fin 64, vb (ix4 0 0 d a) * dw dO n hn (ix4 0 0 d r)) - rw8 de n hn (ix4 0 0 0 r)) = _
  rw [PT_eq]
  simp only [dw_at, rw8_at]
  rfl
end

section
variable (𝒱 : Variants) (c : Dev nD) (bd : Option 𝒱.V) (i : grid0.Coords)
  (arg2 : Memref sig .tc .vmem S1024x128 .bf16) (harg2 : arg2.IsWhole) (arg3 : Memref sig .tc .vmem S1x1x64x1024 .bf16) (harg3 : arg3.IsWhole)
  (arg4 : Memref sig .tc .vmem S16384x128 .bf16) (harg4 : arg4.IsWhole) (arg5 : Memref sig .tc .vmem S1x16x64x1024 .bf16) (harg5 : arg5.IsWhole)
  (arg6 : Memref sig .tc .vmem S1x16x8x1024 .f32) (harg6 : arg6.IsWhole) (arg7 : Memref sig .tc .vmem S1x16x8x1024 .f32) (harg7 : arg7.IsWhole)
  (arg8 : Memref sig .tc .vmem S1x16x128x1024 .f32) (harg8 : arg8.IsWhole) (arg9 : Memref sig .tc .vmem S1024x128 .f32) (harg9 : arg9.IsWhole)
  (arg10 : Memref sig .tc .vmem S1x1x64x1024 .f32) (harg10 : arg10.IsWhole)
  (q : FVec Ideal S16384x128 .bf16) (kb : FVec Ideal S1024x128 .bf16) (vb : FVec Ideal S1x1x64x1024 .bf16)
  (dO : FVec Ideal S1x16x64x1024 .bf16) (ls de : FVec Ideal S1x16x8x1024 .f32)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (h4 : arg4.view.read (Elt Ideal) X4 = q) (h5 : arg5.view.read (Elt Ideal) X5 = dO)
  (h6 : arg6.view.read (Elt Ideal) X6 = ls) (h7 : arg7.view.read (Elt Ideal) X7 = de)

/-- The trip's index as a number below sixteen. -/
theorem lt16 (k : Fin k0_t1_loop.trips) : k.val < 16 := trips_eq ▸ k.isLt

include h4 h5 h6 h7 in
/-- What one trip stores: its row of the queries' gradient, and the two accumulators whole. -/
theorem trip_eq (k : Fin k0_t1_loop.trips) (f8 : BufTy.Contents (Elt Ideal) arg8.view.ty) (f9 : BufTy.Contents (Elt Ideal) arg9.view.ty)
    (f10 : BufTy.Contents (Elt Ideal) arg10.view.ty) :
    tripL_k0_t1 (F := Ideal) 𝒱 c bd i arg2 harg2 arg3 harg3 arg4 harg4 arg5 harg5 arg6 harg6 arg7 harg7 arg8 harg8 arg9 harg9 arg10 harg10
        kb vb X4 X5 X6 X7 k f8 f9 f10
      = ([⟨Rect.unit (s := S1x16x128x1024) (k0_off4 k) S1x1x128x1024.size (k0_off4_inb k),
            k0_pay7 kb (DST q kb vb dO ls de k (lt16 k))
              (arg8.view.readAt (Elt Ideal) (Rect.unit (s := S1x16x128x1024) (k0_off4 k) S1x1x128x1024.size (k0_off4_inb k)).toLoadRect f8)⟩],
         [⟨Rect.unit (s := S1024x128) ![0, 0] S1024x128.size inb_S1024x128_S1024x128_0_0,
            k0_pay6 (k0_pay9 (qw q k (lt16 k))) (DST q kb vb dO ls de k (lt16 k)) (arg9.view.read (Elt Ideal) f9)⟩],
         [⟨Rect.unit (s := S1x1x64x1024) ![0, 0, 0, 0] S1x1x64x1024.size inb_S1x1x64x1024_S1x1x64x1024_0_0_0_0,
            k0_pay13 (k0_pay1 kb) (qw q k (lt16 k)) (dw dO k (lt16 k)) (rw8 ls k (lt16 k)) (arg10.view.read (Elt Ideal) f10)⟩]) := by
  have e4 : arg4.view.readAt (Elt Ideal) (Rect.unit (s := S16384x128) (k0_off1 k) S1024x128.size (k0_off1_inb k)).toLoadRect X4 = qw q k (lt16 k) := by
    rw [View.readAt_unit _ _ _ (off1 k) (inb2 k (lt16 k)), h4]; rfl
  have e5 : arg5.view.readAt (Elt Ideal) (Rect.unit (s := S1x16x64x1024) (k0_off2 k) S1x1x64x1024.size (k0_off2_inb k)).toLoadRect X5 = dw dO k (lt16 k) := by
    rw [View.readAt_unit _ _ _ (off2 k) (inb4 _ _ k (lt16 k)), h5]; rfl
  have e6 : arg6.view.readAt (Elt Ideal) (Rect.unit (s := S1x16x8x1024) (k0_off3 k) S1x1x8x1024.size (k0_off3_inb k)).toLoadRect X6 = rw8 ls k (lt16 k) := by
    rw [View.readAt_unit _ _ _ (off3 k) (inb4 _ _ k (lt16 k)), h6]; rfl
  have e7 : arg7.view.readAt (Elt Ideal) (Rect.unit (s := S1x16x8x1024) (k0_off3 k) S1x1x8x1024.size (k0_off3_inb k)).toLoadRect X7 = rw8 de k (lt16 k) := by
    rw [View.readAt_unit _ _ _ (off3 k) (inb4 _ _ k (lt16 k)), h7]; rfl
  have e9 : arg9.view.readAt (Elt Ideal) (Rect.unit (s := S1024x128) ![0, 0] S1024x128.size inb_S1024x128_S1024x128_0_0).toLoadRect f9 = arg9.view.read (Elt Ideal) f9 :=
    View.readAt_full _ _ _
  have e10 : arg10.view.readAt (Elt Ideal) (Rect.unit (s := S1x1x64x1024) ![0, 0, 0, 0] S1x1x64x1024.size inb_S1x1x64x1024_S1x1x64x1024_0_0_0_0).toLoadRect f10 = arg10.view.read (Elt Ideal) f10 :=
    View.readAt_full _ _ _
  unfold DST
  rw [← e4, ← e5, ← e6, ← e7, ← e9, ← e10]
  unfold tripL_k0_t1 trip_k0_t1
  dsimp only
  rfl
theorem pay9 (v : FVec Ideal S1024x128 .bf16) (j : S1024x128.Idx) : k0_pay9 (F := Ideal) v j = v j := by pointwise [k0_pay9]

/-- What trip `n` adds to the keys' gradient, to the values' gradient, and to its row of the queries' gradient. -/
def INK (n : Fin 16) (a : Fin 1024) (d : Fin 128) : EReal := ∑ r : Fin 1024, DS q kb vb dO ls de n a r * q (ix2 ⟨n * 1024 + r, by omega⟩ d)
def INV (n : Fin 16) (d : Fin 64) (a : Fin 1024) : EReal := ∑ r : Fin 1024, dO (ix4 0 n d r) * PT q kb ls n a r
def INQ (n : Fin 16) (d : Fin 128) (r : Fin 1024) : EReal := ∑ a : Fin 1024, kb (ix2 a d) * DS q kb vb dO ls de n a r

variable (G8 : BufTy.Contents (Elt Ideal) arg8.view.ty) (G9 : BufTy.Contents (Elt Ideal) arg9.view.ty) (G10 : BufTy.Contents (Elt Ideal) arg10.view.ty)

local notation "PB" => pb_k0_t1 (F := Ideal) 𝒱 c bd i arg2 harg2 arg3 harg3 arg4 harg4 arg5 harg5 arg6 harg6 arg7 harg7 arg8 harg8 arg9 harg9 arg10 harg10 kb vb X4 X5 X6 X7 G8 G9 G10

include h4 h5 h6 h7 in
theorem loop9 (n : ℕ) (hn : n ≤ 16) (a : Fin 1024) (d : Fin 128) :
    arg9.view.read (Elt Ideal) (arg9.view.writes (Elt Ideal) G9 (PB n).2.1) (ix2 a d)
      = arg9.view.read (Elt Ideal) G9 (ix2 a d) + ∑ k : Fin n, INK q kb vb dO ls de ⟨k, by omega⟩ a d := by
  induction n with
  | zero => simp [pb_k0_t1]
  | succ n ih =>
    have hk : n < k0_t1_loop.trips := by rw [trips_eq]; omega
    rw [pb_k0_t1_succ (F := Ideal) 𝒱 c bd i arg2 harg2 arg3 harg3 arg4 harg4 arg5 harg5 arg6 harg6 arg7 harg7 arg8 harg8 arg9 harg9 arg10 harg10 kb vb X4 X5 X6 X7 G8 G9 G10 ⟨n, hk⟩,
      trip_eq (h4 := h4) (h5 := h5) (h6 := h6) (h7 := h7)]
    dsimp only [List.cons_append, List.nil_append]
    rw [View.read_writes_full]
    refine (pay6 _ _ _ _).trans ?_
    rw [Fin.sum_univ_castSucc (n := n), ← add_assoc, ih (by omega)]
    refine congrArg₂ (· + ·) rfl (Finset.sum_congr rfl fun r _ => ?_)
    exact congrArg₂ (· * ·) (DST_eq _ _ _ _ _ _ n (by omega) a r) ((pay9 _ _).trans (qw_at q n (by omega) r d))

include h4 h5 h6 h7 in
theorem loop10 (n : ℕ) (hn : n ≤ 16) (d : Fin 64) (a : Fin 1024) :
    arg10.view.read (Elt Ideal) (arg10.view.writes (Elt Ideal) G10 (PB n).2.2) (ix4 0 0 d a)
      = arg10.view.read (Elt Ideal) G10 (ix4 0 0 d a) + ∑ k : Fin n, INV q kb dO ls ⟨k, by omega⟩ d a := by
  induction n with
  | zero => simp [pb_k0_t1]
  | succ n ih =>
    have hk : n < k0_t1_loop.trips := by rw [trips_eq]; omega
    rw [pb_k0_t1_succ (F := Ideal) 𝒱 c bd i arg2 harg2 arg3 harg3 arg4 harg4 arg5 harg5 arg6 harg6 arg7 harg7 arg8 harg8 arg9 harg9 arg10 harg10 kb vb X4 X5 X6 X7 G8 G9 G10 ⟨n, hk⟩,
      trip_eq (h4 := h4) (h5 := h5) (h6 := h6) (h7 := h7)]
    dsimp only [List.cons_append, List.nil_append]
    rw [View.read_writes_full]
    refine (pay13 _ _ _ _ _ _).trans ?_
    rw [Fin.sum_univ_castSucc (n := n), ← add_assoc, ih (by omega)]
    refine congrArg₂ (· + ·) rfl (Finset.sum_congr rfl fun r _ => ?_)
    exact congrArg₂ (· * ·) (dw_at dO n (by omega) d r) (PT_eq q kb ls n (by omega) a r)

include h4 h5 h6 h7 in
theorem loop8 (n : ℕ) (hn : n ≤ 16) (k : Fin 16) (d : Fin 128) (r : Fin 1024) :
    arg8.view.read (Elt Ideal) (arg8.view.writes (Elt Ideal) G8 (PB n).1) (ix4 0 k d r)
      = if k.val < n then arg8.view.read (Elt Ideal) G8 (ix4 0 k d r) + INQ q kb vb dO ls de k d r
        else arg8.view.read (Elt Ideal) G8 (ix4 0 k d r) := by
  induction n with
  | zero => simp [pb_k0_t1]
  | succ n ih =>
    have hk : n < k0_t1_loop.trips := by rw [trips_eq]; omega
    rw [pb_k0_t1_succ (F := Ideal) 𝒱 c bd i arg2 harg2 arg3 harg3 arg4 harg4 arg5 harg5 arg6 harg6 arg7 harg7 arg8 harg8 arg9 harg9 arg10 harg10 kb vb X4 X5 X6 X7 G8 G9 G10 ⟨n, hk⟩,
      trip_eq (h4 := h4) (h5 := h5) (h6 := h6) (h7 := h7)]
    dsimp only [List.cons_append, List.nil_append]
    by_cases h : k.val = n
    · subst h
      rw [if_pos (by omega), View.read_writes_cons_hit_of_coords _ _ _ _ _ (ix4 0 0 d r) _ (fun a => by
        refine Eq.trans ?_ (congrArg (· + 1 * ((ix4 0 0 d r : S1x1x128x1024.Idx) a).val) (congrFun (off4 ⟨k.val, hk⟩) a).symm)
        fin_cases a <;> [rfl; rfl; exact (show d.val = 0 + 1 * d.val by omega); exact (show r.val = 0 + 1 * r.val by omega)])]
      refine (pay7 _ _ _ _).trans ?_
      refine congrArg₂ (· + ·) ?_ (Finset.sum_congr rfl fun a _ => congrArg (kb (ix2 a d) * ·) (DST_eq q kb vb dO ls de _ _ a r))
      rw [View.readAt_unit _ _ _ (off4 _) (inb4 _ _ k.val k.isLt)]
      have := ih (by omega)
      rw [if_neg (by omega)] at this
      rw [← this]
      exact congrArg (arg8.view.read (Elt Ideal) _) (funext fun a : Fin 4 => Fin.ext (by fin_cases a <;> [rfl; rfl; exact (show 0 + 1 * d.val = d.val by omega); exact (show 0 + 1 * r.val = r.val by omega)]))
    · rw [View.read_writes_cons_miss_of_axis _ _ _ _ _ 1 n 1 (congrFun (off4 ⟨n, hk⟩) 1) rfl rfl (by show k.val < n ∨ n + 1 ≤ k.val; omega), ih (by omega)]
      by_cases h' : k.val < n
      · rw [if_pos h', if_pos (by omega)]
      · rw [if_neg h', if_neg (by omega)]

end

end Cert.AttnIdeal.Val

end
-- ==== Proof.AttnValue.lean ====
module

public import proofs.«01_k».proof.Proof.AttnLoop

@[expose] public section

set_option maxRecDepth 16384

noncomputable section

open Idealize.ShloMosaic Idealize.ShloMosaic.TcCoe Idealize.SL.Sem

namespace Cert.AttnIdeal.Val

open Cert.AttnIdeal Cert.AttnIdeal.Gen

section
variable (c : Dev nD) (i : grid0.Coords)
  (arg2 : Memref sig .tc .vmem S1024x128 .bf16) (harg2 : arg2.IsWhole) (arg3 : Memref sig .tc .vmem S1x1x64x1024 .bf16) (harg3 : arg3.IsWhole)
  (arg4 : Memref sig .tc .vmem S16384x128 .bf16) (harg4 : arg4.IsWhole) (arg5 : Memref sig .tc .vmem S1x16x64x1024 .bf16) (harg5 : arg5.IsWhole)
  (arg6 : Memref sig .tc .vmem S1x16x8x1024 .f32) (harg6 : arg6.IsWhole) (arg7 : Memref sig .tc .vmem S1x16x8x1024 .f32) (harg7 : arg7.IsWhole)
  (arg8 : Memref sig .tc .vmem S1x16x128x1024 .f32) (harg8 : arg8.IsWhole) (arg9 : Memref sig .tc .vmem S1024x128 .f32) (harg9 : arg9.IsWhole)
  (arg10 : Memref sig .tc .vmem S1x1x64x1024 .f32) (harg10 : arg10.IsWhole)
  (x0 : Vec Ideal S1024x128 .bf16) (x1 : Vec Ideal S1x1x64x1024 .bf16) (x2 : Vec Ideal S16384x128 .bf16)
  (x3 : Vec Ideal S1x16x64x1024 .bf16) (x4 x5 : Vec Ideal S1x16x8x1024 .f32)
  (xo : Vec Ideal S1x16x128x1024 .f32)

theorem ld0 : arg2.view.readAt (Elt Ideal) (Rect.unit (s := S1024x128) ![0, 0] S1024x128.size inb_S1024x128_S1024x128_0_0).toLoadRect (harg2.unread x0) = x0 := by
  rw [View.readAt_full]; exact harg2.read_unread x0
theorem ld1 : arg3.view.readAt (Elt Ideal) (Rect.unit (s := S1x1x64x1024) ![0, 0, 0, 0] S1x1x64x1024.size inb_S1x1x64x1024_S1x1x64x1024_0_0_0_0).toLoadRect (harg3.unread x1) = x1 := by
  rw [View.readAt_full]; exact harg3.read_unread x1

theorem outA6 (hc0 : cond0_0 i) (k : Fin 16) (d : Fin 128) (r : Fin 1024) :
    out0_A_6 (F := Ideal) c i arg2 harg2 arg3 harg3 arg4 harg4 arg5 harg5 arg6 harg6 arg7 harg7 arg8 harg8 arg9 harg9 arg10 harg10 hc0 x0 x1 x2 x3 x4 x5 (ix4 0 k d r)
      = INQ x2 x0 x1 x3 x4 x5 k d r := by
  unfold out0_A_6
  rw [View.read_writes_of_cover _ _ arg8.view arg8.view.junk _
    (cover0_A_6 (F := Ideal) c i arg2 harg2 arg3 harg3 arg4 harg4 arg5 harg5 arg6 harg6 arg7 harg7 arg8 harg8 arg9 harg9 arg10 harg10 hc0 x0 x1 x2 x3 x4 x5)]
  unfold kernelRun0_A
  dsimp only
  rw [View.writes_append]
  refine (loop8 (h4 := harg4.read_unread _) (h5 := harg5.read_unread _) (h6 := harg6.read_unread _) (h7 := harg7.read_unread _) (hn := le_of_eq trips_eq) ..).trans ?_
  rw [if_pos (show k.val < k0_t1_loop.trips by rw [trips_eq]; exact k.isLt)]
  refine (congrArg₂ (· + ·) ((congrFun (View.read_writes_full ..) _).trans (pay5 _)) ?_).trans (zero_add _)
  exact congrArg₂ (fun a b => INQ x2 a b x3 x4 x5 k d r) (ld0 arg2 harg2 x0) (ld1 arg3 harg3 x1)

theorem outB6 (hc0 : ¬cond0_0 i) (k : Fin 16) (d : Fin 128) (r : Fin 1024) :
    out0_B_6 (F := Ideal) c i arg2 harg2 arg3 harg3 arg4 harg4 arg5 harg5 arg6 harg6 arg7 harg7 arg8 harg8 arg9 harg9 arg10 harg10 hc0 x0 x1 x2 x3 x4 x5 xo (ix4 0 k d r)
      = xo (ix4 0 k d r) + INQ x2 x0 x1 x3 x4 x5 k d r := by
  unfold out0_B_6
  rw [View.read_writes_of_cover _ _ arg8.view (harg8.unread xo) _
    (cover0_B_6 (F := Ideal) c i arg2 harg2 arg3 harg3 arg4 harg4 arg5 harg5 arg6 harg6 arg7 harg7 arg8 harg8 arg9 harg9 arg10 harg10 hc0 x0 x1 x2 x3 x4 x5 xo)]
  unfold kernelRun0_B
  dsimp only
  refine (loop8 (h4 := harg4.read_unread _) (h5 := harg5.read_unread _) (h6 := harg6.read_unread _) (h7 := harg7.read_unread _) (hn := le_of_eq trips_eq) ..).trans ?_
  rw [if_pos (show k.val < k0_t1_loop.trips by rw [trips_eq]; exact k.isLt)]
  exact congrArg₂ (· + ·) (congrFun (harg8.read_unread xo) _)
    (congrArg₂ (fun a b => INQ x2 a b x3 x4 x5 k d r) (ld0 arg2 harg2 x0) (ld1 arg3 harg3 x1))

theorem cov9 (G8 : BufTy.Contents (Elt Ideal) arg8.view.ty) (G10 : BufTy.Contents (Elt Ideal) arg10.view.ty) (a : Fin 1024) (d : Fin 128) :
    arg9.view.readCov (Val := Elt Ideal)
      ((pb_k0_t1 (F := Ideal) Variants.none c none i arg2 harg2 arg3 harg3 arg4 harg4 arg5 harg5 arg6 harg6 arg7 harg7 arg8 harg8 arg9 harg9 arg10 harg10
          (arg2.view.readAt (Elt Ideal) (Rect.unit (s := S1024x128) ![0, 0] S1024x128.size inb_S1024x128_S1024x128_0_0).toLoadRect (harg2.unread x0))
          (arg3.view.readAt (Elt Ideal) (Rect.unit (s := S1x1x64x1024) ![0, 0, 0, 0] S1x1x64x1024.size inb_S1x1x64x1024_S1x1x64x1024_0_0_0_0).toLoadRect (harg3.unread x1))
          (harg4.unread x2) (harg5.unread x3) (harg6.unread x4) (harg7.unread x5) G8
          (arg9.view.writes (Elt Ideal) arg9.view.junk [⟨Rect.unit (s := S1024x128) ![0, 0] S1024x128.size inb_S1024x128_S1024x128_0_0, k0_pay3 (F := Ideal)⟩])
          G10 k0_t1_loop.trips).2.1 ++ [⟨Rect.unit (s := S1024x128) ![0, 0] S1024x128.size inb_S1024x128_S1024x128_0_0, k0_pay3 (F := Ideal)⟩])
      (Rect.unit (s := S1024x128) ![0, 0] S1024x128.size inb_S1024x128_S1024x128_0_0).toLoadRect (ix2 a d)
      = ∑ k : Fin 16, INK x2 x0 x1 x3 x4 x5 k a d := by
  unfold View.readCov
  rw [View.readAt_full, View.writes_append]
  refine (loop9 (h4 := harg4.read_unread _) (h5 := harg5.read_unread _) (h6 := harg6.read_unread _) (h7 := harg7.read_unread _) (hn := le_of_eq trips_eq) ..).trans ?_
  refine (congrArg₂ (· + ·) ((congrFun (View.read_writes_full ..) _).trans (pay3 _)) ?_).trans (zero_add _)
  exact congrArg₂ (fun p b => ∑ k : Fin 16, INK x2 p b x3 x4 x5 k a d) (ld0 arg2 harg2 x0) (ld1 arg3 harg3 x1)

theorem outA7 (hc0 : cond0_0 i) (a : Fin 1024) (d : Fin 128) :
    out0_A_7 (F := Ideal) c i arg2 harg2 arg3 harg3 arg4 harg4 arg5 harg5 arg6 harg6 arg7 harg7 arg8 harg8 arg9 harg9 arg10 harg10 hc0 x0 x1 x2 x3 x4 x5 (ix2 a d)
      = (∑ k : Fin 16, INK x2 x0 x1 x3 x4 x5 k a d) * ((Real.log 2 : ℝ) : EReal) := by
  unfold out0_A_7 kernelRun0_A
  dsimp only
  rw [View.read_writes_full]
  exact (pay8 _ _).trans (congrArg (· * _) (cov9 ..))

theorem outB7 (hc0 : ¬cond0_0 i) (a : Fin 1024) (d : Fin 128) :
    out0_B_7 (F := Ideal) c i arg2 harg2 arg3 harg3 arg4 harg4 arg5 harg5 arg6 harg6 arg7 harg7 arg8 harg8 arg9 harg9 arg10 harg10 hc0 x0 x1 x2 x3 x4 x5 xo (ix2 a d)
      = (∑ k : Fin 16, INK x2 x0 x1 x3 x4 x5 k a d) * ((Real.log 2 : ℝ) : EReal) := by
  unfold out0_B_7 kernelRun0_B
  dsimp only
  rw [View.read_writes_full]
  exact (pay8 _ _).trans (congrArg (· * _) (cov9 ..))

theorem outA8 (hc0 : cond0_0 i) (d : Fin 64) (a : Fin 1024) :
    out0_A_8 (F := Ideal) c i arg2 harg2 arg3 harg3 arg4 harg4 arg5 harg5 arg6 harg6 arg7 harg7 arg8 harg8 arg9 harg9 arg10 harg10 hc0 x0 x1 x2 x3 x4 x5 (ix4 0 0 d a)
      = ∑ k : Fin 16, INV x2 x0 x3 x4 k d a := by
  unfold out0_A_8
  rw [View.read_writes_of_cover _ _ arg10.view arg10.view.junk _
    (cover0_A_8 (F := Ideal) c i arg2 harg2 arg3 harg3 arg4 harg4 arg5 harg5 arg6 harg6 arg7 harg7 arg8 harg8 arg9 harg9 arg10 harg10 hc0 x0 x1 x2 x3 x4 x5)]
  unfold kernelRun0_A
  dsimp only
  rw [View.writes_append]
  refine (loop10 (h4 := harg4.read_unread _) (h5 := harg5.read_unread _) (h6 := harg6.read_unread _) (h7 := harg7.read_unread _) (hn := le_of_eq trips_eq) ..).trans ?_
  refine (congrArg₂ (· + ·) ((congrFun (View.read_writes_full ..) _).trans (pay4 _)) ?_).trans (zero_add _)
  exact congrArg (fun b => ∑ k : Fin 16, INV x2 b x3 x4 k d a) (ld0 arg2 harg2 x0)

theorem outB8 (hc0 : ¬cond0_0 i) (d : Fin 64) (a : Fin 1024) :
    out0_B_8 (F := Ideal) c i arg2 harg2 arg3 harg3 arg4 harg4 arg5 harg5 arg6 harg6 arg7 harg7 arg8 harg8 arg9 harg9 arg10 harg10 hc0 x0 x1 x2 x3 x4 x5 xo (ix4 0 0 d a)
      = ∑ k : Fin 16, INV x2 x0 x3 x4 k d a := by
  unfold out0_B_8
  rw [View.read_writes_of_cover _ _ arg10.view arg10.view.junk _
    (cover0_B_8 (F := Ideal) c i arg2 harg2 arg3 harg3 arg4 harg4 arg5 harg5 arg6 harg6 arg7 harg7 arg8 harg8 arg9 harg9 arg10 harg10 hc0 x0 x1 x2 x3 x4 x5 xo)]
  unfold kernelRun0_B
  dsimp only
  rw [View.writes_append]
  refine (loop10 (h4 := harg4.read_unread _) (h5 := harg5.read_unread _) (h6 := harg6.read_unread _) (h7 := harg7.read_unread _) (hn := le_of_eq trips_eq) ..).trans ?_
  refine (congrArg₂ (· + ·) ((congrFun (View.read_writes_full ..) _).trans (pay4 _)) ?_).trans (zero_add _)
  exact congrArg (fun b => ∑ k : Fin 16, INV x2 b x3 x4 k d a) (ld0 arg2 harg2 x0)
end

open Idealize.ShloMosaic.Pipeline (Dat)

section
variable (m : (ℓ : Loc nD τ sig) → Buf (Elt Ideal) ℓ) (c : Dev nD)

theorem idx : ∀ t : Fin cfg0.N, win0_0.index t = ![t.val % 16, t.val / 16] ∧ win0_1.index t = ![t.val / 16, t.val % 16, 0, 0]
    ∧ win0_2.index t = ![0, t.val / 16] ∧ win0_3.index t = ![t.val / 16, 0, 0, 0] ∧ win0_4.index t = ![t.val / 16, 0, 0, 0]
    ∧ win0_5.index t = ![t.val / 16, 0, 0, 0] ∧ win0_6.index t = ![t.val / 16, 0, 0, 0] ∧ win0_7.index t = ![t.val % 16, t.val / 16]
    ∧ win0_8.index t = ![t.val / 16, t.val % 16, 0, 0] :=
  (by decide +kernel : ∀ t : Fin grid0.N, _)

theorem lt128 (t : Fin cfg0.N) : t.val < 128 := lt_of_lt_of_eq t.isLt N_0

variable (t : Fin cfg0.N)
theorem ib0 (a : Fin 1024) (d : Fin 128) : iblk m c 0 t (ix2 a d)
    = V m c main_v27 (ix2 ⟨t.val % 16 * 1024 + a, by omega⟩ ⟨t.val / 16 * 128 + d, by have := lt128 t; omega⟩) := by
  blk_point [iblk, idx t]
theorem ib1 (d : Fin 64) (a : Fin 1024) : iblk m c 1 t (ix4 0 0 d a)
    = V m c main_v31 (ix4 ⟨t.val / 16, by have := lt128 t; omega⟩ ⟨t.val % 16, by omega⟩ d a) := by
  blk_point [iblk, idx t]
theorem ib2 (a : Fin 16384) (d : Fin 128) : iblk m c 2 t (ix2 a d)
    = V m c main_v24 (ix2 a ⟨t.val / 16 * 128 + d, by have := lt128 t; omega⟩) := by
  blk_point [iblk, idx t]
theorem ib3 (n : Fin 16) (d : Fin 64) (r : Fin 1024) : iblk m c 3 t (ix4 0 n d r)
    = V m c main_v35 (ix4 ⟨t.val / 16, by have := lt128 t; omega⟩ n d r) := by
  blk_point [iblk, idx t]
theorem ib4 (n : Fin 16) (d : Fin 8) (r : Fin 1024) : iblk m c 4 t (ix4 0 n d r)
    = V m c main_v37 (ix4 ⟨t.val / 16, by have := lt128 t; omega⟩ n d r) := by
  blk_point [iblk, idx t]
set_option maxRecDepth 1000000 in
theorem ib5 (n : Fin 16) (d : Fin 8) (r : Fin 1024) : iblk m c 5 t (ix4 0 n d r)
    = V m c main_v40 (ix4 ⟨t.val / 16, by have := lt128 t; omega⟩ n d r) := by
  blk_ext [iblk, idx t]
end

end Cert.AttnIdeal.Val

end
-- ==== Proof.AttnFinal.lean ====
module

public import proofs.«01_k».proof.Proof.AttnValue

@[expose] public section

set_option maxRecDepth 16384

noncomputable section

open Idealize.ShloMosaic Idealize.ShloMosaic.TcCoe Idealize.SL.Sem

namespace Cert.AttnIdeal.Val

open Cert.AttnIdeal Cert.AttnIdeal.Gen
open Idealize.ShloMosaic.Pipeline (Dat)

/-! The three result arrays in terms of the six operand arrays of the call. -/

section
variable (QA KA : S16384x1024.Idx → EReal) (VA DA : S8x16x64x1024.Idx → EReal) (LA EA : S8x16x8x1024.Idx → EReal)

/-- The weight of key `j * 1024 + a` for query `n * 1024 + r` in head `h`. -/
def PTg (h j n : Fin 16) (hh : h.val < 8) (a r : Fin 1024) : EReal :=
  Ideal.exp2 ((∑ d : Fin 128, KA (ix2 ⟨j * 1024 + a, by omega⟩ ⟨h * 128 + d, by omega⟩)
    * QA (ix2 ⟨n * 1024 + r, by omega⟩ ⟨h * 128 + d, by omega⟩)) - LA (ix4 ⟨h, hh⟩ n 0 r))
/-- The gradient of its score. -/
def DSg (h j n : Fin 16) (hh : h.val < 8) (a r : Fin 1024) : EReal :=
  PTg QA KA LA h j n hh a r * ((∑ d : Fin 64, VA (ix4 ⟨h, hh⟩ j d a) * DA (ix4 ⟨h, hh⟩ n d r)) - EA (ix4 ⟨h, hh⟩ n 0 r))
/-- The gradient of key `j * 1024 + a` in head `h`. -/
def T7 (h j : Fin 16) (hh : h.val < 8) (a : Fin 1024) (d : Fin 128) : EReal :=
  (∑ n : Fin 16, ∑ r : Fin 1024, DSg QA KA VA DA LA EA h j n hh a r
    * QA (ix2 ⟨n * 1024 + r, by omega⟩ ⟨h * 128 + d, by omega⟩)) * ((Real.log 2 : ℝ) : EReal)
/-- The gradient of its value. -/
def T8 (h j : Fin 16) (hh : h.val < 8) (d : Fin 64) (a : Fin 1024) : EReal :=
  ∑ n : Fin 16, ∑ r : Fin 1024, DA (ix4 ⟨h, hh⟩ n d r) * PTg QA KA LA h j n hh a r
/-- What the keys `j * 1024 + a` add to the gradient of query `n * 1024 + r` in head `h`. -/
def P6 (h j n : Fin 16) (hh : h.val < 8) (d : Fin 128) (r : Fin 1024) : EReal :=
  ∑ a : Fin 1024, KA (ix2 ⟨j * 1024 + a, by omega⟩ ⟨h * 128 + d, by omega⟩) * DSg QA KA VA DA LA EA h j n hh a r
/-- The gradient of query `n * 1024 + r` in head `h`. -/
def T6 (h n : Fin 16) (hh : h.val < 8) (d : Fin 128) (r : Fin 1024) : EReal :=
  ∑ j : Fin 16, P6 QA KA VA DA LA EA h j n hh d r

end

section
variable (m : (ℓ : Loc nD τ sig) → Buf (Elt Ideal) ℓ) (c : Dev nD)

local notation "QA" => V m c main_v24
local notation "KA" => V m c main_v27
local notation "VA" => V m c main_v31
local notation "DA" => V m c main_v35
local notation "LA" => V m c main_v37
local notation "EA" => V m c main_v40

theorem PT_iblk (t : Fin cfg0.N) (n : Fin 16) (a r : Fin 1024) :
    PT (iblk m c 2 t) (iblk m c 0 t) (iblk m c 4 t) n a r
      = PTg QA KA LA ⟨t.val / 16, by have := lt128 t; omega⟩ ⟨t.val % 16, by omega⟩ n (by have := lt128 t; first | omega | (dsimp only; omega)) a r := by
  unfold PT PTg
  rw [ib4]
  simp only [ib0, ib2]

theorem DS_iblk (t : Fin cfg0.N) (n : Fin 16) (a r : Fin 1024) :
    DS (iblk m c 2 t) (iblk m c 0 t) (iblk m c 1 t) (iblk m c 3 t) (iblk m c 4 t) (iblk m c 5 t) n a r
      = DSg QA KA VA DA LA EA ⟨t.val / 16, by have := lt128 t; omega⟩ ⟨t.val % 16, by omega⟩ n (by have := lt128 t; first | omega | (dsimp only; omega)) a r := by
  unfold DS DSg
  rw [PT_iblk, ib5]
  simp only [ib1, ib3]

theorem T7_congr {h h' j j' : Fin 16} {a a' : Fin 1024} {d d' : Fin 128} (hh : h.val < 8) (hh' : h'.val < 8)
    (e1 : h.val = h'.val) (e2 : j.val = j'.val) (e3 : a.val = a'.val) (e4 : d.val = d'.val) :
    T7 QA KA VA DA LA EA h j hh a d = T7 QA KA VA DA LA EA h' j' hh' a' d' := by
  cases Fin.ext e1; cases Fin.ext e2; cases Fin.ext e3; cases Fin.ext e4; rfl
theorem T8_congr {h h' j j' : Fin 16} {a a' : Fin 1024} {d d' : Fin 64} (hh : h.val < 8) (hh' : h'.val < 8)
    (e1 : h.val = h'.val) (e2 : j.val = j'.val) (e3 : d.val = d'.val) (e4 : a.val = a'.val) :
    T8 QA KA DA LA h j hh d a = T8 QA KA DA LA h' j' hh' d' a' := by
  cases Fin.ext e1; cases Fin.ext e2; cases Fin.ext e3; cases Fin.ext e4; rfl
theorem T6_congr {h h' n n' : Fin 16} {d d' : Fin 128} {r r' : Fin 1024} (hh : h.val < 8) (hh' : h'.val < 8)
    (e1 : h.val = h'.val) (e2 : n.val = n'.val) (e3 : d.val = d'.val) (e4 : r.val = r'.val) :
    T6 QA KA VA DA LA EA h n hh d r = T6 QA KA VA DA LA EA h' n' hh' d' r' := by
  cases Fin.ext e1; cases Fin.ext e2; cases Fin.ext e3; cases Fin.ext e4; rfl

theorem out7 (t : Fin cfg0.N) (a : Fin 1024) (d : Fin 128) : (outsAt0 m c t.val t.isLt).2.1 (ix2 a d)
    = T7 QA KA VA DA LA EA ⟨t.val / 16, by have := lt128 t; omega⟩ ⟨t.val % 16, by omega⟩ (by have := lt128 t; first | omega | (dsimp only; omega)) a d := by
  have e : (∑ k : Fin 16, INK (iblk m c 2 t) (iblk m c 0 t) (iblk m c 1 t) (iblk m c 3 t) (iblk m c 4 t) (iblk m c 5 t) k a d) * ((Real.log 2 : ℝ) : EReal)
      = T7 QA KA VA DA LA EA ⟨t.val / 16, by have := lt128 t; omega⟩ ⟨t.val % 16, by omega⟩ (by have := lt128 t; first | omega | (dsimp only; omega)) a d := by
    unfold T7 INK
    simp only [DS_iblk, ib2]
  by_cases h : t.val % 16 = 0
  · rw [outsAt0_A m c t h]; dsimp only; rw [outA7]; exact e
  · rw [outsAt0_B m c t h]; dsimp only; rw [outB7]; exact e

theorem out8 (t : Fin cfg0.N) (d : Fin 64) (a : Fin 1024) : (outsAt0 m c t.val t.isLt).2.2 (ix4 0 0 d a)
    = T8 QA KA DA LA ⟨t.val / 16, by have := lt128 t; omega⟩ ⟨t.val % 16, by omega⟩ (by have := lt128 t; first | omega | (dsimp only; omega)) d a := by
  have e : (∑ k : Fin 16, INV (iblk m c 2 t) (iblk m c 0 t) (iblk m c 3 t) (iblk m c 4 t) k d a)
      = T8 QA KA DA LA ⟨t.val / 16, by have := lt128 t; omega⟩ ⟨t.val % 16, by omega⟩ (by have := lt128 t; first | omega | (dsimp only; omega)) d a := by
    unfold T8 INV
    simp only [PT_iblk, ib3]
  by_cases h : t.val % 16 = 0
  · rw [outsAt0_A m c t h]; dsimp only; rw [outA8]; exact e
  · rw [outsAt0_B m c t h]; dsimp only; rw [outB8]; exact e

/-- What point `t` adds to the gradients of the queries. -/
theorem part6 (t : Fin cfg0.N) (n : Fin 16) (d : Fin 128) (r : Fin 1024) :
    INQ (iblk m c 2 t) (iblk m c 0 t) (iblk m c 1 t) (iblk m c 3 t) (iblk m c 4 t) (iblk m c 5 t) n d r
      = P6 QA KA VA DA LA EA ⟨t.val / 16, by have := lt128 t; omega⟩ ⟨t.val % 16, by omega⟩ n (by have := lt128 t; first | omega | (dsimp only; omega)) d r := by
  unfold INQ P6
  simp only [DS_iblk, ib0]

theorem out6 (t : Fin cfg0.N) (hf : t.val % 16 = 15) (n : Fin 16) (d : Fin 128) (r : Fin 1024) :
    (outsAt0 m c t.val t.isLt).1 (ix4 0 n d r)
      = T6 QA KA VA DA LA EA ⟨t.val / 16, by have := lt128 t; omega⟩ n (by have := lt128 t; first | omega | (dsimp only; omega)) d r := by
  have key := Pipeline.eq_sum_fin_of_reset_step_apply_of_flush (N := cfg0.N)
    (fun k h (y : Fin 16 × Fin 128 × Fin 1024) => (outsAt0 m c k h).1 (ix4 0 y.1 y.2.1 y.2.2)) 16 (fun _ => 0)
    (fun t y => INQ (iblk m c 2 t) (iblk m c 0 t) (iblk m c 1 t) (iblk m c 3 t) (iblk m c 4 t) (iblk m c 5 t) y.1 y.2.1 y.2.2)
    (fun t h y => by rw [outsAt0_A m c t h, zero_add]; dsimp only; rw [outA6])
    (fun t h y => by rw [outsAt0_B m c t h]; dsimp only; rw [outB6]) t hf (n, d, r)
  refine key.trans ?_
  rw [zero_add]
  unfold T6
  refine Finset.sum_congr rfl fun j _ => ?_
  dsimp only
  rw [part6]
  have e1 : (16 * (t.val / 16) + j.val) / 16 = t.val / 16 := by omega
  have e2 : (16 * (t.val / 16) + j.val) % 16 = j.val := by omega
  simp only [e1, e2, Fin.eta]

theorem final7 (j h : Fin 16) (hh : h.val < 8) (a : Fin 1024) (d : Fin 128) :
    (dats m 0 c).arrAt 7 cfg0.N (ix2 ⟨j * 1024 + a, by omega⟩ ⟨h * 128 + d, by omega⟩) = T7 QA KA VA DA LA EA h j hh a d := by
  have key := (dats m 0 c).arrAt_eq_of_covers 7 (fun y =>
      T7 QA KA VA DA LA EA ⟨(y 1).val / 128, by have := (y 1).isLt; change _ < 1024 at this; omega⟩
        ⟨(y 0).val / 1024, by have := (y 0).isLt; change _ < 16384 at this; omega⟩
        (by have := (y 1).isLt; change _ < 1024 at this; dsimp only; omega)
        ⟨(y 0).val % 1024, by omega⟩ ⟨(y 1).val % 128, by omega⟩) (by decide +kernel) fun t _ y => ?_
  · refine (congrFun key _).trans (T7_congr m c _ _ ?_ ?_ ?_ ?_)
    · show (h.val * 128 + d.val) / 128 = _; omega
    · show (j.val * 1024 + a.val) / 1024 = _; omega
    · show (j.val * 1024 + a.val) % 1024 = _; omega
    · show (h.val * 128 + d.val) % 128 = _; omega
  · have e := eq_ix2 y
    rw [after0_7]
    generalize y 0 = a at e
    generalize y 1 = d at e
    subst e
    have ha : a.val < 1024 := a.isLt
    have hd : d.val < 128 := d.isLt
    blk_simp
    refine (out7 m c t a d).trans (T7_congr m c _ _ ?_ ?_ ?_ ?_) <;> blk_simp [idx t] <;> dsimp only <;> omega

theorem final8 (h j : Fin 16) (hh : h.val < 8) (d : Fin 64) (a : Fin 1024) :
    (dats m 0 c).arrAt 8 cfg0.N (ix4 ⟨h, hh⟩ j d a) = T8 QA KA DA LA h j hh d a := by
  have key := (dats m 0 c).arrAt_eq_of_covers 8 (fun y =>
      T8 QA KA DA LA ⟨(y 0).val, by have := (y 0).isLt; change _ < 8 at this; omega⟩ (y 1) (y 0).isLt (y 2) (y 3)) (by decide +kernel) fun t _ y => ?_
  · exact congrFun key _
  · have e := eq_ix4 y
    rw [after0_8]
    generalize y 0 = z0 at e
    generalize y 1 = z1 at e
    generalize y 2 = d at e
    generalize y 3 = a at e
    subst e
    have h0 : z0.val < 1 := z0.isLt
    have h1 : z1.val < 1 := z1.isLt
    have hd : d.val < 64 := d.isLt
    have ha : a.val < 1024 := a.isLt
    obtain rfl : z0 = (0 : Fin 1) := Fin.ext (by show z0.val = 0; omega)
    obtain rfl : z1 = (0 : Fin 1) := Fin.ext (by show z1.val = 0; omega)
    blk_simp
    refine (out8 m c t d a).trans (T8_congr m c _ _ ?_ ?_ ?_ ?_) <;> blk_simp [idx t] <;> (try dsimp only) <;> (try omega) <;> trace_state

theorem final6 (h n : Fin 16) (hh : h.val < 8) (d : Fin 128) (r : Fin 1024) :
    (dats m 0 c).arrAt 6 cfg0.N (ix4 ⟨h, hh⟩ n d r) = T6 QA KA VA DA LA EA h n hh d r := by
  have key := (dats m 0 c).arrAt_eq_of_covers 6 (fun y =>
      T6 QA KA VA DA LA EA ⟨(y 0).val, by have := (y 0).isLt; change _ < 8 at this; omega⟩ (y 1) (y 0).isLt (y 2) (y 3)) (by decide +kernel) fun t hf y => ?_
  · exact congrFun key _
  · have e := eq_ix4 y
    rw [after0_6]
    generalize y 0 = z0 at e
    generalize y 1 = n at e
    generalize y 2 = d at e
    generalize y 3 = r at e
    subst e
    have h0 : z0.val < 1 := z0.isLt
    have h1 : n.val < 16 := n.isLt
    have hd : d.val < 128 := d.isLt
    have ha : r.val < 1024 := r.isLt
    obtain rfl : z0 = (0 : Fin 1) := Fin.ext (by show z0.val = 0; omega)
    blk_simp
    refine (out6 m c t ((flush0_6 t).mp hf) n d r).trans (T6_congr m c _ _ ?_ ?_ ?_ ?_) <;> blk_simp [idx t] <;> (try dsimp only) <;> (try omega) <;> trace_state
end

end Cert.AttnIdeal.Val

end
-- ==== Proof.AttnReal.lean ====
module

public import Idealize.ShloMosaic.Lib.Pointwise
public import Idealize.ShloMosaic.PureOps.Ideal

@[expose] public section

noncomputable section

open Idealize.ShloMosaic

/-! Attention with softmax, and its gradient, over the real numbers: what both programs compute of finite arguments.
    `Q K : token → head → lane → ℝ`, `V O` likewise (`O` the cotangent of the output). -/

namespace Cert.AttnReal

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A sum of products of finite numbers. -/
theorem coe_dot {ι : Type} (s : Finset ι) (f g : ι → ℝ) :
    (∑ i ∈ s, (f i : EReal) * (g i : EReal)) = ((∑ i ∈ s, f i * g i : ℝ) : EReal) := by
  rw [← coe_sum]; exact Finset.sum_congr rfl fun i _ => (EReal.coe_mul ..).symm

theorem div_coe_coe {y : ℝ} (h : y ≠ 0) (x : ℝ) : Ideal.div (x : EReal) (y : EReal) = ((x / y : ℝ) : EReal) := by
  rw [Ideal.div_coe h, ← EReal.coe_mul]; congr 1; ring

/-- The maximum of finitely many finite numbers, at least one, is finite. -/
theorem fold_max_coe {n : ℕ} (hn : 0 < n) (f : Fin n → ℝ) :
    Finset.fold max (⊥ : EReal) (fun j => (f j : EReal)) Finset.univ
      = ((Finset.fold max (⊥ : EReal) (fun j => (f j : EReal)) Finset.univ).toReal : EReal) := by
  refine (EReal.coe_toReal (ne_of_lt ?_) (ne_of_gt ?_)).symm
  · rw [Finset.fold_max_lt]
    exact ⟨bot_lt_top, fun x _ => EReal.coe_lt_top _⟩
  · rw [Finset.lt_fold_max]
    exact .inr ⟨⟨0, hn⟩, Finset.mem_univ _, EReal.bot_lt_coe _⟩

theorem lit_ninf : Ideal.ofBits .f32 0xFF800000#32 = ⊥ := by
  simp [Ideal.ofBits, Ideal.ieee]
theorem lit_two : Ideal.ofBits .f32 0x40000000#32 = ((2 : ℝ) : EReal) := by
  simp [Ideal.ofBits, Ideal.ieee, -EReal.coe_mul]; norm_num
theorem log_two : Ideal.log ((2 : ℝ) : EReal) = ((Real.log 2 : ℝ) : EReal) := by
  rw [Ideal.log_coe, if_neg (by norm_num)]
theorem log2_pos : 0 < Real.log 2 := Real.log_pos (by norm_num)

section
variable {N H E D : ℕ} (Q K : Fin N → Fin H → Fin E → ℝ) (V O : Fin N → Fin H → Fin D → ℝ)

/-- The score of key `j` for query `i` in head `h`. -/
def sR (h : Fin H) (i j : Fin N) : ℝ := ∑ e, Q i h e * K j h e
/-- The largest score of a query. -/
def mR (h : Fin H) (i : Fin N) : ℝ := (Finset.fold max (⊥ : EReal) (fun j => (sR Q K h i j : EReal)) Finset.univ).toReal
def eR (h : Fin H) (i j : Fin N) : ℝ := Real.exp (sR Q K h i j - mR Q K h i)
def lR (h : Fin H) (i : Fin N) : ℝ := ∑ j, eR Q K h i j
/-- The softmax weight. -/
def pR (h : Fin H) (i j : Fin N) : ℝ := eR Q K h i j / lR Q K h i
/-- The gradient of the softmax weight. -/
def gR (h : Fin H) (i j : Fin N) : ℝ := ∑ d, O i h d * V j h d
def deR (h : Fin H) (i : Fin N) : ℝ := ∑ j, gR V O h i j * pR Q K h i j
/-- The gradient of the score. -/
def dsR (h : Fin H) (i j : Fin N) : ℝ := pR Q K h i j * (gR V O h i j - deR Q K V O h i)

theorem eR_pos (h : Fin H) (i j : Fin N) : 0 < eR Q K h i j := Real.exp_pos _
theorem lR_pos (h : Fin H) (i : Fin N) : 0 < lR Q K h i :=
  Finset.sum_pos (fun j _ => eR_pos Q K h i j) ⟨i, Finset.mem_univ i⟩
theorem lR_ne (h : Fin H) (i : Fin N) : lR Q K h i ≠ 0 := (lR_pos Q K h i).ne'

theorem mR_coe (h : Fin H) (i : Fin N) :
    Finset.fold max (⊥ : EReal) (fun j => (sR Q K h i j : EReal)) Finset.univ = (mR Q K h i : EReal) :=
  fold_max_coe (Nat.lt_of_le_of_lt (Nat.zero_le _) i.isLt) _

/-- The weight by powers of two, from the scores and the row log-sum each divided by `log 2`. -/
theorem exp2_eq (h : Fin H) (i j : Fin N) :
    Real.rpow 2 (sR Q K h i j / Real.log 2 - (mR Q K h i + Real.log (lR Q K h i)) / Real.log 2) = pR Q K h i j := by
  have h2 := log2_pos
  show ((2 : ℝ) ^ (_ : ℝ) : ℝ) = _
  rw [Real.rpow_def_of_pos (by norm_num), ← sub_div, mul_div_cancel₀ _ h2.ne', ← sub_sub, Real.exp_sub, Real.exp_log (lR_pos ..)]
  rfl

/-- The row sum of cotangent times output. -/
theorem delta_eq (h : Fin H) (i : Fin N) :
    (∑ d, O i h d * ∑ j, V j h d * pR Q K h i j) = deR Q K V O h i := by
  unfold deR gR
  simp only [Finset.mul_sum, Finset.sum_mul]
  rw [Finset.sum_comm]
  exact Finset.sum_congr rfl fun j _ => Finset.sum_congr rfl fun d _ => by ring

/-- The gradient of the score as differentiation of the quotient states it. -/
theorem ds_eq (h : Fin H) (i j : Fin N) :
    (gR V O h i j / lR Q K h i + -∑ k, gR V O h i k * (1 / (lR Q K h i * lR Q K h i)) * eR Q K h i k) * eR Q K h i j
      = dsR Q K V O h i j := by
  unfold dsR deR pR
  have hl := lR_ne Q K h i
  have e : (∑ k, gR V O h i k * (1 / (lR Q K h i * lR Q K h i)) * eR Q K h i k)
      = (∑ k, gR V O h i k * (eR Q K h i k / lR Q K h i)) / lR Q K h i := by
    rw [Finset.sum_div]
    exact Finset.sum_congr rfl fun k _ => by field_simp
  rw [e]
  field_simp
  ring
end

end Cert.AttnReal

end
-- ==== Proof.AttnHost.lean ====
module

public import proofs.«01_k».proof.Proof.AttnFinal
public import proofs.«01_k».proof.Proof.AttnReal

@[expose] public section

set_option maxRecDepth 16384

noncomputable section

open Idealize.ShloMosaic Idealize.ShloMosaic.TcCoe Idealize.SL.Sem

namespace Cert.AttnIdeal.Val

open Cert.AttnIdeal Cert.AttnIdeal.Gen Cert.AttnReal

/-! The arrays the host hands to the call, as functions of the four arguments. -/

section
variable (q k : FVec Ideal S16384x8x96 .f32) (v o : FVec Ideal S16384x8x64 .f32)

def SC : FVec Ideal S8x16384x16384 .f32 := Host.dotGeneral dot_S16384x8x96_S16384x8x96_S8x16384x16384_2_2_0_0_1_1 none q k
def MX : FVec Ideal S8x16384 .f32 :=
  Host.reduce FloatOps.maximumf (SC q k) (constant S_ .f32 0xFF800000#32) reducesTo_S8x16384x16384_S8x16384_d2 h_S_
def EX : FVec Ideal S8x16384x16384 .f32 :=
  Host.exp (subf (SC q k) (broadcastInDim S8x16384x16384 ![0, 1, 2] bcast_S8x16384x1_S8x16384x16384_0_1_2
    (broadcastInDim S8x16384x1 ![0, 1] bcast_S8x16384_S8x16384x1_0_1 (MX q k))))
def LS : FVec Ideal S8x16384 .f32 :=
  Host.reduceAdd (EX q k) (constant S_ .f32 0x00000000#32) reducesTo_S8x16384x16384_S8x16384_d2 h_S_
def PR : FVec Ideal S8x16384x16384 .f32 :=
  Host.divf (EX q k) (broadcastInDim S8x16384x16384 ![0, 1, 2] bcast_S8x16384x1_S8x16384x16384_0_1_2
    (broadcastInDim S8x16384x1 ![0, 1] bcast_S8x16384_S8x16384x1_0_1 (LS q k)))
def LSE : FVec Ideal S8x16384x1 .f32 :=
  Host.divf (addf (broadcastInDim S8x16384x1 ![0, 1] bcast_S8x16384_S8x16384x1_0_1 (MX q k))
    (Host.log (broadcastInDim S8x16384x1 ![0, 1] bcast_S8x16384_S8x16384x1_0_1 (LS q k))))
    (broadcastInDim S8x16384x1 ![] bcast_S_S8x16384x1 (Host.log (constant S_ .f32 0x40000000#32)))
def OUT : FVec Ideal S8x64x16384 .f32 := Host.dotGeneral dot_S16384x8x64_S8x16384x16384_S8x64x16384_0_2_2_1_1_0 none v (PR q k)
def DEL : FVec Ideal S16384x8 .f32 :=
  Host.reduceAdd (mulf o (transpose S16384x8x64 [2, 0, 1] (OUT q k v) transposes_S8x64x16384_S16384x8x64_2_0_1))
    (constant S_ .f32 0x00000000#32) reducesTo_S16384x8x64_S16384x8_d2 h_S_

variable (Q K : Fin 16384 → Fin 8 → Fin 96 → ℝ) (V O : Fin 16384 → Fin 8 → Fin 64 → ℝ)
  (hq : ∀ i h e, q (ix3 i h e) = (Q i h e : EReal)) (hk : ∀ i h e, k (ix3 i h e) = (K i h e : EReal))
  (hv : ∀ i h e, v (ix3 i h e) = (V i h e : EReal)) (ho : ∀ i h e, o (ix3 i h e) = (O i h e : EReal))

include hq hk in
theorem SC_at (h : Fin 8) (i j : Fin 16384) : SC q k (ix3 h i j) = (sR Q K h i j : EReal) := by
  pointwise [SC]
  simp only [hq, hk]
  exact coe_dot ..

include hq hk in
theorem MX_at (h : Fin 8) (i : Fin 16384) : MX q k (ix2 h i) = (mR Q K h i : EReal) := by
  pointwise [MX]
  simp only [SC_at q k Q K hq hk, lit_ninf]
  exact mR_coe ..

include hq hk in
theorem EX_at (h : Fin 8) (i j : Fin 16384) : EX q k (ix3 h i j) = (eR Q K h i j : EReal) := by
  pointwise [EX]
  rw [SC_at q k Q K hq hk, MX_at q k Q K hq hk, ← EReal.coe_sub]
  rfl

include hq hk in
theorem LS_at (h : Fin 8) (i : Fin 16384) : LS q k (ix2 h i) = (lR Q K h i : EReal) := by
  pointwise [LS]
  simp only [EX_at q k Q K hq hk]
  exact coe_sum ..

include hq hk in
theorem PR_at (h : Fin 8) (i j : Fin 16384) : PR q k (ix3 h i j) = (pR Q K h i j : EReal) := by
  pointwise [PR]
  rw [EX_at q k Q K hq hk, LS_at q k Q K hq hk]
  exact div_coe_coe (lR_ne Q K h i) _

theorem lse_at (a b : FVec Ideal S8x16384 .f32) (h : Fin 8) (i : Fin 16384) :
    (Host.divf (addf (broadcastInDim S8x16384x1 ![0, 1] bcast_S8x16384_S8x16384x1_0_1 a)
      (Host.log (broadcastInDim S8x16384x1 ![0, 1] bcast_S8x16384_S8x16384x1_0_1 b)))
      (broadcastInDim S8x16384x1 ![] bcast_S_S8x16384x1 (Host.log (constant S_ .f32 0x40000000#32)))) (ix3 h i 0)
      = Ideal.div (a (ix2 h i) + Ideal.log (b (ix2 h i))) (Ideal.log (Ideal.ofBits .f32 0x40000000#32)) := by
  pointwise

include hq hk in
theorem LSE_at (h : Fin 8) (i : Fin 16384) :
    LSE q k (ix3 h i 0) = (((mR Q K h i + Real.log (lR Q K h i)) / Real.log 2 : ℝ) : EReal) := by
  refine (lse_at (MX q k) (LS q k) h i).trans ?_
  rw [MX_at q k Q K hq hk, LS_at q k Q K hq hk, lit_two, log_two, Ideal.log_coe, if_neg (not_le.mpr (lR_pos ..)), ← EReal.coe_add]
  exact div_coe_coe log2_pos.ne' _

include hq hk hv in
theorem OUT_at (h : Fin 8) (d : Fin 64) (i : Fin 16384) :
    OUT q k v (ix3 h d i) = ((∑ j, V j h d * pR Q K h i j : ℝ) : EReal) := by
  pointwise [OUT]
  simp only [hv, PR_at q k Q K hq hk]
  exact coe_dot ..

include hq hk hv ho in
theorem DEL_at (i : Fin 16384) (h : Fin 8) : DEL q k v o (ix2 i h) = (deR Q K V O h i : EReal) := by
  pointwise [DEL]
  simp only [ho, OUT_at q k v Q K V hq hk hv]
  exact (coe_dot ..).trans (congrArg _ (delta_eq ..))
end

section
variable (m : (ℓ : Loc nD τ sig) → Buf (Elt Ideal) ℓ) (c : Dev nD)

theorem v24_eq : V m c main_v24 = (shapeCast S16384x1024 (pad S16384x8x128 ![0, 0, 0] ![0, 0, 32] ![0, 0, 0]
    (truncf .bf16 (Host.divf (m (c.tc.loc main_arg0) : FVec Ideal S16384x8x96 .f32) (broadcastInDim S16384x8x96 ![] bcast_S_S16384x8x96 (Host.log (constant S_ .f32 0x40000000#32)))) bitsLt_bf16_f32)
    (sitofp .bf16 (constantI S_ 32 0#32)) pads_S16384x8x96_S16384x8x128_000_000_0320 h_S_) shapeCasts_S16384x8x128_S16384x1024 : FVec Ideal S16384x1024 .bf16) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  rfl
theorem v37_eq : V m c main_v37 = broadcastInDim S8x16x8x1024 ![0, 1, 2, 3] bcast_S8x16x1x1024_S8x16x8x1024_0_1_2_3
    (shapeCast S8x16x1x1024 (shapeCast S8x16384 (LSE (m (c.tc.loc main_arg0)) (m (c.tc.loc main_arg1)))
      shapeCasts_S8x16384x1_S8x16384) shapeCasts_S8x16384_S8x16x1x1024) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  rfl
theorem v40_eq : V m c main_v40 = broadcastInDim S8x16x8x1024 ![0, 1, 2, 3] bcast_S8x16x1x1024_S8x16x8x1024_0_1_2_3
    (shapeCast S8x16x1x1024 (transpose S8x16384 [1, 0] (DEL (m (c.tc.loc main_arg0)) (m (c.tc.loc main_arg1)) (m (c.tc.loc main_arg2)) (m (c.tc.loc main_arg3)))
      transposes_S16384x8_S8x16384_1_0) shapeCasts_S8x16384_S8x16x1x1024) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  rfl
end

end Cert.AttnIdeal.Val

end
-- ==== Proof.AttnKer.lean ====
module

public import proofs.«01_k».proof.Proof.AttnHost

@[expose] public section

set_option maxRecDepth 16384

noncomputable section

open Idealize.ShloMosaic Idealize.ShloMosaic.TcCoe Idealize.SL.Sem

namespace Cert.AttnReal

/-- The lanes past the head's own 96, up to 128, hold zero. -/
def ext {N H : ℕ} (f : Fin N → Fin H → Fin 96 → ℝ) (i : Fin N) (h : Fin H) (d : Fin 128) : ℝ :=
  if hd : d.val < 96 then f i h ⟨d, hd⟩ else 0

theorem sum_ext {N H : ℕ} (f g : Fin N → Fin H → Fin 96 → ℝ) (i j : Fin N) (h : Fin H) (c : ℝ) :
    (∑ d : Fin 128, ext g j h d * (ext f i h d / c)) = (∑ e, f i h e * g j h e) / c := by
  have := Fin.sum_univ_add (a := 96) (b := 32) (fun d : Fin (96 + 32) => ext g j h d * (ext f i h d / c))
  refine this.trans ?_
  rw [Finset.sum_eq_zero (s := (Finset.univ : Finset (Fin 32))), add_zero, Finset.sum_div]
  · refine Finset.sum_congr rfl fun e _ => ?_
    have he : (Fin.castAdd 32 e).val < 96 := e.isLt
    simp only [ext, dif_pos he]
    simp only [Fin.val_castAdd, Fin.eta]
    ring
  · intro e _
    have he : ¬ (Fin.natAdd 96 e).val < 96 := by simp
    simp only [ext, dif_neg he, zero_div, mul_zero]

end Cert.AttnReal

namespace Cert.AttnIdeal.Val

open Cert.AttnIdeal Cert.AttnIdeal.Gen Cert.AttnReal

/-- The token `n * 1024 + r`. -/
def tok (n : Fin 16) (r : Fin 1024) : Fin 16384 := ⟨n * 1024 + r, by omega⟩
/-- Lane `d` of head `h` in a row of the packed arrays. -/
def lane (h : Fin 16) (hh : h.val < 8) (d : Fin 128) : Fin 1024 := ⟨h * 128 + d, by omega⟩

theorem sum_tok (f : Fin 16384 → ℝ) : (∑ n : Fin 16, ∑ r : Fin 1024, f (tok n r)) = ∑ i, f i :=
  (Fin.sum_univ_tiles 16 1024 rfl f).symm

theorem sitofp_zero : FloatOps.sitofp (F := Ideal) FTy.bf16 (0#32) = (0 : EReal) := by
  show (((0#32 : BitVec 32).toInt : ℝ) : EReal) = 0
  simp

section
variable (QA KA : S16384x1024.Idx → EReal) (VA DA : S8x16x64x1024.Idx → EReal) (LA EA : S8x16x8x1024.Idx → EReal)
  (Q K : Fin 16384 → Fin 8 → Fin 96 → ℝ) (V' O : Fin 16384 → Fin 8 → Fin 64 → ℝ)
  (hQ : ∀ i h hh d, QA (ix2 i (lane h hh d)) = ((ext Q i ⟨h, hh⟩ d / Real.log 2 : ℝ) : EReal))
  (hK : ∀ i h hh d, KA (ix2 i (lane h hh d)) = ((ext K i ⟨h, hh⟩ d : ℝ) : EReal))
  (hV : ∀ h n d r, VA (ix4 h n d r) = ((V' (tok n r) h d : ℝ) : EReal))
  (hO : ∀ h n d r, DA (ix4 h n d r) = ((O (tok n r) h d : ℝ) : EReal))
  (hL : ∀ h n s r, LA (ix4 h n s r)
    = (((mR Q K h (tok n r) + Real.log (lR Q K h (tok n r))) / Real.log 2 : ℝ) : EReal))
  (hE : ∀ h n s r, EA (ix4 h n s r) = ((deR Q K V' O h (tok n r) : ℝ) : EReal))

include hQ hK hL in
theorem PTg_at (h j n : Fin 16) (hh : h.val < 8) (a r : Fin 1024) :
    PTg QA KA LA h j n hh a r = ((pR Q K ⟨h, hh⟩ (tok n r) (tok j a) : ℝ) : EReal) := by
  unfold PTg
  rw [hL]
  have e : ∀ d : Fin 128, KA (ix2 ⟨j * 1024 + a, by omega⟩ ⟨h * 128 + d, by omega⟩) * QA (ix2 ⟨n * 1024 + r, by omega⟩ ⟨h * 128 + d, by omega⟩)
      = ((ext K (tok j a) ⟨h, hh⟩ d * (ext Q (tok n r) ⟨h, hh⟩ d / Real.log 2) : ℝ) : EReal) := fun d =>
    (congrArg₂ (· * ·) (hK (tok j a) h hh d) (hQ (tok n r) h hh d)).trans (EReal.coe_mul ..).symm
  rw [Finset.sum_congr rfl fun d _ => e d, coe_sum, sum_ext, ← EReal.coe_sub, Ideal.exp2_coe]
  exact congrArg _ (exp2_eq ..)

include hQ hK hV hO hL hE in
theorem DSg_at (h j n : Fin 16) (hh : h.val < 8) (a r : Fin 1024) :
    DSg QA KA VA DA LA EA h j n hh a r = ((dsR Q K V' O ⟨h, hh⟩ (tok n r) (tok j a) : ℝ) : EReal) := by
  unfold DSg
  rw [PTg_at QA KA LA Q K hQ hK hL, hE]
  simp only [hV, hO]
  simp only [← EReal.coe_mul, coe_sum]
  rw [← EReal.coe_sub, ← EReal.coe_mul]
  unfold dsR gR
  simp only [mul_comm (O _ _ _)]

include hQ hK hV hO hL hE in
theorem key_at (h j : Fin 16) (hh : h.val < 8) (a : Fin 1024) (d : Fin 128) :
    T7 QA KA VA DA LA EA h j hh a d
      = ((∑ i, dsR Q K V' O ⟨h, hh⟩ i (tok j a) * ext Q i ⟨h, hh⟩ d : ℝ) : EReal) := by
  unfold T7
  have e : ∀ n r : Fin _, DSg QA KA VA DA LA EA h j n hh a r * QA (ix2 ⟨n * 1024 + r, by omega⟩ ⟨h * 128 + d, by omega⟩)
      = ((dsR Q K V' O ⟨h, hh⟩ (tok n r) (tok j a) * (ext Q (tok n r) ⟨h, hh⟩ d / Real.log 2) : ℝ) : EReal) := fun n r =>
    (congrArg₂ (· * ·) (DSg_at QA KA VA DA LA EA Q K V' O hQ hK hV hO hL hE h j n hh a r) (hQ (tok n r) h hh d)).trans (EReal.coe_mul ..).symm
  simp only [e, coe_sum]
  rw [← EReal.coe_mul, sum_tok fun i => dsR Q K V' O ⟨h, hh⟩ i (tok j a) * (ext Q i ⟨h, hh⟩ d / Real.log 2), Finset.sum_mul]
  refine congrArg _ (Finset.sum_congr rfl fun i _ => ?_)
  have := log2_pos.ne'
  field_simp

include hQ hK hO hL in
theorem val_at (h j : Fin 16) (hh : h.val < 8) (d : Fin 64) (a : Fin 1024) :
    T8 QA KA DA LA h j hh d a = ((∑ i, O i ⟨h, hh⟩ d * pR Q K ⟨h, hh⟩ i (tok j a) : ℝ) : EReal) := by
  unfold T8
  simp only [hO, PTg_at QA KA LA Q K hQ hK hL, ← EReal.coe_mul, coe_sum]
  rw [sum_tok fun i => O i ⟨h, hh⟩ d * pR Q K ⟨h, hh⟩ i (tok j a)]

include hQ hK hV hO hL hE in
theorem query_at (h n : Fin 16) (hh : h.val < 8) (d : Fin 128) (r : Fin 1024) :
    T6 QA KA VA DA LA EA h n hh d r
      = ((∑ j, ext K j ⟨h, hh⟩ d * dsR Q K V' O ⟨h, hh⟩ (tok n r) j : ℝ) : EReal) := by
  unfold T6 P6
  have e : ∀ (j : Fin 16) (a : Fin 1024), KA (ix2 ⟨j * 1024 + a, by omega⟩ ⟨h * 128 + d, by omega⟩) * DSg QA KA VA DA LA EA h j n hh a r
      = ((ext K (tok j a) ⟨h, hh⟩ d * dsR Q K V' O ⟨h, hh⟩ (tok n r) (tok j a) : ℝ) : EReal) := fun j a =>
    (congrArg₂ (· * ·) (hK (tok j a) h hh d) (DSg_at QA KA VA DA LA EA Q K V' O hQ hK hV hO hL hE h j n hh a r)).trans (EReal.coe_mul ..).symm
  simp only [e, coe_sum]
  rw [sum_tok fun j => ext K j ⟨h, hh⟩ d * dsR Q K V' O ⟨h, hh⟩ (tok n r) j]
end

section
variable (m : (ℓ : Loc nD τ sig) → Buf (Elt Ideal) ℓ) (c : Dev nD)

variable (Q K : Fin 16384 → Fin 8 → Fin 96 → ℝ) (V' O : Fin 16384 → Fin 8 → Fin 64 → ℝ)
  (hq : ∀ i h e, (m (c.tc.loc main_arg0) : FVec Ideal S16384x8x96 .f32) (ix3 i h e) = (Q i h e : EReal))
  (hk : ∀ i h e, (m (c.tc.loc main_arg1) : FVec Ideal S16384x8x96 .f32) (ix3 i h e) = (K i h e : EReal))
  (hv : ∀ i h e, (m (c.tc.loc main_arg2) : FVec Ideal S16384x8x64 .f32) (ix3 i h e) = (V' i h e : EReal))
  (ho : ∀ i h e, (m (c.tc.loc main_arg3) : FVec Ideal S16384x8x64 .f32) (ix3 i h e) = (O i h e : EReal))

/-- A packed row: the head's 96 lanes, then zeros. -/
theorem pack_at (x : FVec Ideal S16384x8x96 .bf16) (i : Fin 16384) (h : Fin 16) (hh : h.val < 8) (d : Fin 128) :
    (shapeCast S16384x1024 (pad S16384x8x128 ![0, 0, 0] ![0, 0, 32] ![0, 0, 0] x
      (sitofp .bf16 (constantI S_ 32 0#32)) pads_S16384x8x96_S16384x8x128_000_000_0320 h_S_) shapeCasts_S16384x8x128_S16384x1024 :
        FVec Ideal S16384x1024 .bf16) (ix2 i (lane h hh d))
      = if hd : d.val < 96 then x (ix3 i ⟨h, hh⟩ ⟨d, hd⟩) else 0 := by
  rw [show lane h hh d = ⟨(⟨h, hh⟩ : Fin 8) * 128 + d, by dsimp only; omega⟩ from rfl]
  pointwise
  by_cases hd : d.val < 96
  · simp only [hd, and_true, dif_pos, show (h.val * 128 + d.val) / 128 = h.val by omega, hh]
  · simp [hd, sitofp_zero]

theorem v27_eq : V m c main_v27 = (shapeCast S16384x1024 (pad S16384x8x128 ![0, 0, 0] ![0, 0, 32] ![0, 0, 0]
    (truncf .bf16 (m (c.tc.loc main_arg1) : FVec Ideal S16384x8x96 .f32) bitsLt_bf16_f32)
    (sitofp .bf16 (constantI S_ 32 0#32)) pads_S16384x8x96_S16384x8x128_000_000_0320 h_S_) shapeCasts_S16384x8x128_S16384x1024 : FVec Ideal S16384x1024 .bf16) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  rfl

theorem scale_at (x : FVec Ideal S16384x8x96 .f32) (i : Fin 16384) (h : Fin 8) (d : Fin 96) :
    (truncf .bf16 (Host.divf x (broadcastInDim S16384x8x96 ![] bcast_S_S16384x8x96 (Host.log (constant S_ .f32 0x40000000#32)))) bitsLt_bf16_f32 : FVec Ideal S16384x8x96 .bf16) (ix3 i h d)
      = Ideal.div (x (ix3 i h d)) (Real.log 2 : ℝ) := by
  pointwise
  rw [lit_two, log_two]

include hq in
theorem QA_at (i : Fin 16384) (h : Fin 16) (hh : h.val < 8) (d : Fin 128) :
    V m c main_v24 (ix2 i (lane h hh d)) = ((ext Q i ⟨h, hh⟩ d / Real.log 2 : ℝ) : EReal) := by
  rw [v24_eq]
  refine (pack_at _ i h hh d).trans ?_
  unfold ext
  split
  · rw [scale_at]
    exact (congrArg (Ideal.div · _) (hq ..)).trans (div_coe_coe log2_pos.ne' _)
  · simp
include hk in
theorem KA_at (i : Fin 16384) (h : Fin 16) (hh : h.val < 8) (d : Fin 128) :
    V m c main_v27 (ix2 i (lane h hh d)) = ((ext K i ⟨h, hh⟩ d : ℝ) : EReal) := by
  rw [v27_eq]
  refine (pack_at _ i h hh d).trans ?_
  unfold ext
  split
  · exact hk ..
  · simp
include hv in
theorem VA_at (h : Fin 8) (n : Fin 16) (d : Fin 64) (r : Fin 1024) :
    V m c main_v31 (ix4 h n d r) = ((V' (tok n r) h d : ℝ) : EReal) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  exact hv ..
include ho in
theorem DA_at (h : Fin 8) (n : Fin 16) (d : Fin 64) (r : Fin 1024) :
    V m c main_v35 (ix4 h n d r) = ((O (tok n r) h d : ℝ) : EReal) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  exact ho ..
include hq hk in
theorem LA_at (h : Fin 8) (n : Fin 16) (s : Fin 8) (r : Fin 1024) :
    V m c main_v37 (ix4 h n s r)
      = (((mR Q K h (tok n r) + Real.log (lR Q K h (tok n r))) / Real.log 2 : ℝ) : EReal) := by
  rw [v37_eq]
  generalize hx : LSE _ _ = x
  pointwise
  subst hx
  exact LSE_at _ _ Q K hq hk h (tok n r)
include hq hk hv ho in
theorem EA_at (h : Fin 8) (n : Fin 16) (s : Fin 8) (r : Fin 1024) :
    V m c main_v40 (ix4 h n s r) = (deR Q K V' O h (tok n r) : EReal) := by
  rw [v40_eq]
  generalize hx : DEL _ _ _ _ = x
  pointwise
  subst hx
  exact DEL_at _ _ _ _ Q K V' O hq hk hv ho (tok n r) h

end

end Cert.AttnIdeal.Val

end
-- ==== Proof.AttnRef.lean ====
module

public import proofs.«01_k».proof.Proof.AttnReal
public import proofs.«01_k».proof.Proof.Gen.AttnRefIdeal.Run

@[expose] public section

set_option maxRecDepth 16384

noncomputable section

open Idealize.ShloMosaic Idealize.ShloMosaic.TcCoe Idealize.SL.Sem

namespace Cert.AttnRefIdeal.Val

open Cert.AttnRefIdeal Cert.AttnRefIdeal.Gen Cert.AttnReal

/-! The reference's arrays, one definition per stage of its mathematics. -/

section
variable (q k : FVec Ideal S16384x8x96 .f32) (v o : FVec Ideal S16384x8x64 .f32)

/-- One number per row, repeated along the row. -/
def rows (x : FVec Ideal S8x16384 .f32) : FVec Ideal S8x16384x16384 .f32 :=
  broadcastInDim S8x16384x16384 ![0, 1, 2] bcast_S8x16384x1_S8x16384x16384_0_1_2
    (broadcastInDim S8x16384x1 ![0, 1] bcast_S8x16384_S8x16384x1_0_1 x)
def SC : FVec Ideal S8x16384x16384 .f32 := Host.dotGeneral dot_S16384x8x96_S16384x8x96_S8x16384x16384_2_2_0_0_1_1 none q k
def M0 : FVec Ideal S8x16384 .f32 :=
  Host.reduce FloatOps.maximumf (SC q k) (constant S_ .f32 0xFF800000#32) reducesTo_S8x16384x16384_S8x16384_d2 h_S_
def MX : FVec Ideal S8x16384 .f32 :=
  maximumf (broadcastInDim S8x16384 ![] bcast_S_S8x16384 (constant S_ .f32 0xFF800000#32)) (M0 q k)
def EX : FVec Ideal S8x16384x16384 .f32 := Host.exp (subf (SC q k) (rows (MX q k)))
def LS : FVec Ideal S8x16384 .f32 :=
  Host.reduceAdd (EX q k) (constant S_ .f32 0x00000000#32) reducesTo_S8x16384x16384_S8x16384_d2 h_S_
def DP : FVec Ideal S8x16384x16384 .f32 :=
  Host.dotGeneral dot_S8x64x16384_S16384x8x64_S8x16384x16384_1_2_2_0_0_1 none
    (transpose S8x64x16384 [1, 2, 0] o transposes_S16384x8x64_S8x64x16384_1_2_0) v
/-- The part of the softmax's gradient that comes through the row sum. -/
def thruSum (dp ex : FVec Ideal S8x16384x16384 .f32) (ls : FVec Ideal S8x16384 .f32) : FVec Ideal S8x16384 .f32 :=
  Host.reduceAdd (mulf (mulf dp (broadcastInDim S8x16384x16384 ![0, 1, 2] bcast_S8x16384x1_S8x16384x16384_0_1_2
    (Host.divf (broadcastInDim S8x16384x1 ![] bcast_S_S8x16384x1 (constant S_ .f32 0x3F800000#32))
      (mulf (broadcastInDim S8x16384x1 ![0, 1] bcast_S8x16384_S8x16384x1_0_1 ls)
        (broadcastInDim S8x16384x1 ![0, 1] bcast_S8x16384_S8x16384x1_0_1 ls))))) ex)
    (constant S_ .f32 0x00000000#32) reducesTo_S8x16384x16384_S8x16384_d2 h_S_
def negRow (x : FVec Ideal S8x16384 .f32) : FVec Ideal S8x16384 .f32 :=
  Host.reduceAdd (Host.negf (shapeCast S8x16384x1 x shapeCasts_S8x16384_S8x16384x1))
    (constant S_ .f32 0x00000000#32) reducesTo_S8x16384x1_S8x16384_d2 h_S_
def softGrad (dp ex : FVec Ideal S8x16384x16384 .f32) (ls g : FVec Ideal S8x16384 .f32) : FVec Ideal S8x16384x16384 .f32 :=
  mulf (addf (Host.divf dp (rows ls)) (broadcastInDim S8x16384x16384 ![0, 1] bcast_S8x16384_S8x16384x16384_0_1 g)) ex
def DS : FVec Ideal S8x16384x16384 .f32 :=
  softGrad (DP v o) (EX q k) (LS q k) (negRow (thruSum (DP v o) (EX q k) (LS q k)))

variable (Q K : Fin 16384 → Fin 8 → Fin 96 → ℝ) (V O : Fin 16384 → Fin 8 → Fin 64 → ℝ)
  (hq : ∀ i h e, q (ix3 i h e) = (Q i h e : EReal)) (hk : ∀ i h e, k (ix3 i h e) = (K i h e : EReal))
  (hv : ∀ i h e, v (ix3 i h e) = (V i h e : EReal)) (ho : ∀ i h e, o (ix3 i h e) = (O i h e : EReal))

theorem rows_at (x : FVec Ideal S8x16384 .f32) (h : Fin 8) (i j : Fin 16384) : rows x (ix3 h i j) = x (ix2 h i) := by
  unfold rows
  pointwise

include hq hk in
theorem SC_at (h : Fin 8) (i j : Fin 16384) : SC q k (ix3 h i j) = (sR Q K h i j : EReal) := by
  pointwise [SC]
  simp only [hq, hk]
  exact coe_dot ..

include hq hk in
theorem M0_at (h : Fin 8) (i : Fin 16384) : M0 q k (ix2 h i) = (mR Q K h i : EReal) := by
  pointwise [M0]
  simp only [SC_at q k Q K hq hk, lit_ninf]
  exact mR_coe ..

theorem floor_at (x : FVec Ideal S8x16384 .f32) (h : Fin 8) (i : Fin 16384) :
    (maximumf (broadcastInDim S8x16384 ![] bcast_S_S8x16384 (constant S_ .f32 0xFF800000#32)) x : FVec Ideal S8x16384 .f32) (ix2 h i)
      = max (Ideal.ofBits .f32 0xFF800000#32) (x (ix2 h i)) := by
  pointwise

include hq hk in
theorem MX_at (h : Fin 8) (i : Fin 16384) : MX q k (ix2 h i) = (mR Q K h i : EReal) := by
  refine (floor_at (M0 q k) h i).trans ?_
  rw [M0_at q k Q K hq hk, lit_ninf]
  simp

include hq hk in
theorem EX_at (h : Fin 8) (i j : Fin 16384) : EX q k (ix3 h i j) = (eR Q K h i j : EReal) := by
  pointwise [EX]
  rw [SC_at q k Q K hq hk, rows_at, MX_at q k Q K hq hk, ← EReal.coe_sub]
  rfl

include hq hk in
theorem LS_at (h : Fin 8) (i : Fin 16384) : LS q k (ix2 h i) = (lR Q K h i : EReal) := by
  pointwise [LS]
  simp only [EX_at q k Q K hq hk]
  exact coe_sum ..

include hv ho in
theorem DP_at (h : Fin 8) (i j : Fin 16384) : DP v o (ix3 h i j) = (gR V O h i j : EReal) := by
  pointwise [DP]
  simp only [hv, ho]
  exact coe_dot ..

theorem thruSum_at (dp ex : FVec Ideal S8x16384x16384 .f32) (ls : FVec Ideal S8x16384 .f32) (h : Fin 8) (i : Fin 16384) :
    thruSum dp ex ls (ix2 h i)
      = ∑ j, dp (ix3 h i j) * Ideal.div (Ideal.ofBits .f32 0x3F800000#32) (ls (ix2 h i) * ls (ix2 h i)) * ex (ix3 h i j) := by
  pointwise [thruSum]

theorem negRow_at (x : FVec Ideal S8x16384 .f32) (h : Fin 8) (i : Fin 16384) : negRow x (ix2 h i) = - x (ix2 h i) := by
  pointwise [negRow]
  exact Fin.sum_univ_one _

theorem softGrad_at (dp ex : FVec Ideal S8x16384x16384 .f32) (ls g : FVec Ideal S8x16384 .f32) (h : Fin 8) (i j : Fin 16384) :
    softGrad dp ex ls g (ix3 h i j) = (Ideal.div (dp (ix3 h i j)) (ls (ix2 h i)) + g (ix2 h i)) * ex (ix3 h i j) := by
  pointwise [softGrad]
  rw [rows_at]

theorem lit_one : Ideal.ofBits .f32 0x3F800000#32 = ((1 : ℝ) : EReal) := by
  simp [Ideal.ofBits, Ideal.ieee, -EReal.coe_mul]
  norm_num

include hq hk hv ho in
theorem DS_at (h : Fin 8) (i j : Fin 16384) : DS q k v o (ix3 h i j) = (dsR Q K V O h i j : EReal) := by
  refine (softGrad_at ..).trans ?_
  rw [negRow_at, thruSum_at]
  simp only [LS_at q k Q K hq hk, EX_at q k Q K hq hk, DP_at v o V O hv ho, lit_one, ← EReal.coe_mul]
  rw [div_coe_coe (lR_ne Q K h i) _, div_coe_coe (mul_ne_zero (lR_ne Q K h i) (lR_ne Q K h i)) _]
  simp only [← EReal.coe_mul, coe_sum]
  rw [← EReal.coe_neg, ← EReal.coe_add, ← EReal.coe_mul]
  refine congrArg _ (Eq.trans ?_ (ds_eq Q K V O h i j))
  simp only [Finset.sum_neg_distrib]
end

end Cert.AttnRefIdeal.Val

end
-- ==== Proof.AttnPair.lean ====
module

public import proofs.«01_k».proof.Defs
public import proofs.«01_k».proof.Proof.Finite
public import proofs.«01_k».proof.Proof.AttnKer
public import proofs.«01_k».proof.Proof.AttnRef
public import proofs.«01_k».proof.Proof.Gen.Pre_attn_finite
public import Idealize.ShloMosaic.Lib.Claim

@[expose] public section

set_option maxRecDepth 16384

noncomputable section

open Idealize.ShloMosaic Idealize.ShloMosaic.TcCoe Idealize.SL.Sem

namespace Cert.AttnRefIdeal.Val

open Cert.AttnRefIdeal Cert.AttnRefIdeal.Gen Cert.AttnReal
open Cert.AttnIdeal.Val (tok lane)

theorem sitofp_zero : FloatOps.sitofp (F := Ideal) FTy.f32 (0#32) = (0 : EReal) := by
  show (((0#32 : BitVec 32).toInt : ℝ) : EReal) = 0
  simp

section
variable (q k : FVec Ideal S16384x8x96 .f32) (v o : FVec Ideal S16384x8x64 .f32) (ds : FVec Ideal S8x16384x16384 .f32)

/-- The key gradient per head. -/
def GK : FVec Ideal S16384x8x96 .f32 :=
  transpose S16384x8x96 [1, 0, 2] (Host.dotGeneral dot_S8x16384x16384_S16384x8x96_S8x16384x96_1_0_2_2_0_1 none ds q) transposes_S8x16384x96_S16384x8x96_1_0_2
/-- The query gradient per head. -/
def GQ : FVec Ideal S16384x8x96 .f32 :=
  transpose S16384x8x96 [1, 0, 2] (Host.dotGeneral dot_S8x16384x16384_S16384x8x96_S8x16384x96_2_0_1_2_0_1 none ds k) transposes_S8x16384x96_S16384x8x96_1_0_2
/-- The value gradient per head. -/
def GV (e : FVec Ideal S8x16384x16384 .f32) (l : FVec Ideal S8x16384 .f32) : FVec Ideal S16384x8x64 .f32 :=
  transpose S16384x8x64 [2, 0, 1] (Host.dotGeneral dot_S8x64x16384_S8x16384x16384_S8x64x16384_2_1_1_2_0_0 none
    (transpose S8x64x16384 [1, 2, 0] o transposes_S16384x8x64_S8x64x16384_1_2_0) (Host.divf e (rows l))) transposes_S8x64x16384_S16384x8x64_2_0_1

def padded (x : FVec Ideal S16384x8x96 .f32) : FVec Ideal S16384x8x128 .f32 :=
  pad S16384x8x128 ![0, 0, 0] ![0, 0, 32] ![0, 0, 0] x (sitofp .f32 (constantI S_ 32 0#32)) pads_S16384x8x96_S16384x8x128_000_000_0320 h_S_

def keyOut (x : FVec Ideal S16384x8x96 .f32) : FVec Ideal S16384x1024 .f32 :=
  shapeCast S16384x1024 (padded x) shapeCasts_S16384x8x128_S16384x1024
def queryOut (x : FVec Ideal S16384x8x96 .f32) : FVec Ideal S8x16x128x1024 .f32 :=
  transpose S8x16x128x1024 [0, 2, 1, 3] (shapeCast S8x128x16x1024 (transpose S8x128x16384 [1, 2, 0] (padded x)
    transposes_S16384x8x128_S8x128x16384_1_2_0) shapeCasts_S8x128x16384_S8x128x16x1024) transposes_S8x128x16x1024_S8x16x128x1024_0_2_1_3
def valOut (x : FVec Ideal S16384x8x64 .f32) : FVec Ideal S8x16x64x1024 .f32 :=
  transpose S8x16x64x1024 [0, 2, 1, 3] (shapeCast S8x64x16x1024 (transpose S8x64x16384 [1, 2, 0] x
    transposes_S16384x8x64_S8x64x16384_1_2_0) shapeCasts_S8x64x16384_S8x64x16x1024) transposes_S8x64x16x1024_S8x16x64x1024_0_2_1_3

theorem padded_at (x : FVec Ideal S16384x8x96 .f32) (i : Fin 16384) (h : Fin 8) (d : Fin 128) :
    padded x (ix3 i h d) = if hd : d.val < 96 then x (ix3 i h ⟨d, hd⟩) else 0 := by
  pointwise [padded]
  rw [sitofp_zero]
theorem keyOut_at (x : FVec Ideal S16384x8x96 .f32) (i : Fin 16384) (h : Fin 16) (hh : h.val < 8) (d : Fin 128) :
    keyOut x (ix2 i (lane h hh d)) = padded x (ix3 i ⟨h, hh⟩ d) := by
  unfold keyOut
  generalize padded x = y
  rw [show lane h hh d = ⟨(⟨h, hh⟩ : Fin 8) * 128 + d, by dsimp only; omega⟩ from rfl]
  pointwise
  simp only [show (h.val * 128 + d.val) / 128 = h.val by omega]
theorem queryOut_at (x : FVec Ideal S16384x8x96 .f32) (h : Fin 8) (n : Fin 16) (d : Fin 128) (r : Fin 1024) :
    queryOut x (ix4 h n d r) = padded x (ix3 (tok n r) h d) := by
  unfold queryOut
  generalize padded x = y
  pointwise
  rfl
theorem valOut_at (x : FVec Ideal S16384x8x64 .f32) (h : Fin 8) (n : Fin 16) (d : Fin 64) (r : Fin 1024) :
    valOut x (ix4 h n d r) = x (ix3 (tok n r) h d) := by
  unfold valOut
  pointwise
  rfl

theorem GK_at (j : Fin 16384) (h : Fin 8) (d : Fin 96) : GK q ds (ix3 j h d) = ∑ i, ds (ix3 h i j) * q (ix3 i h d) := by
  pointwise [GK]
theorem GQ_at (i : Fin 16384) (h : Fin 8) (d : Fin 96) : GQ k ds (ix3 i h d) = ∑ j, ds (ix3 h i j) * k (ix3 j h d) := by
  pointwise [GQ]
theorem GV_at (e : FVec Ideal S8x16384x16384 .f32) (l : FVec Ideal S8x16384 .f32) (j : Fin 16384) (h : Fin 8) (d : Fin 64) :
    GV o e l (ix3 j h d) = ∑ i, o (ix3 i h d) * Ideal.div (e (ix3 h i j)) (rows l (ix3 h i j)) := by
  pointwise [GV]
end

section
variable (m : (ℓ : Loc nD τ sig) → Buf (Elt Ideal) ℓ) (c : Dev nD)

theorem out1_eq : Value.res_main_v56 m c = keyOut (GK (m (c.tc.loc main_arg0))
    (DS (m (c.tc.loc main_arg0)) (m (c.tc.loc main_arg1)) (m (c.tc.loc main_arg2)) (m (c.tc.loc main_arg3)))) := rfl
theorem out0_eq : Value.res_main_v54 m c = queryOut (GQ (m (c.tc.loc main_arg1))
    (DS (m (c.tc.loc main_arg0)) (m (c.tc.loc main_arg1)) (m (c.tc.loc main_arg2)) (m (c.tc.loc main_arg3)))) := rfl
end

end Cert.AttnRefIdeal.Val

namespace Cert.Proof

open Cert.AttnReal
open Cert.AttnIdeal.Val (tok lane)

section
variable (m : (ℓ : Loc Cert.AttnIdeal.nD Cert.AttnIdeal.τ Cert.AttnIdeal.sig) → Buf (Elt Ideal) ℓ) (c : Dev Cert.AttnIdeal.nD)
variable (Q K : Fin 16384 → Fin 8 → Fin 96 → ℝ) (V O : Fin 16384 → Fin 8 → Fin 64 → ℝ)
  (hq : ∀ i h e, (m (c.tc.loc Cert.AttnIdeal.main_arg0) : FVec Ideal Cert.AttnIdeal.S16384x8x96 .f32) (ix3 i h e) = (Q i h e : EReal))
  (hk : ∀ i h e, (m (c.tc.loc Cert.AttnIdeal.main_arg1) : FVec Ideal Cert.AttnIdeal.S16384x8x96 .f32) (ix3 i h e) = (K i h e : EReal))
  (hv : ∀ i h e, (m (c.tc.loc Cert.AttnIdeal.main_arg2) : FVec Ideal Cert.AttnIdeal.S16384x8x64 .f32) (ix3 i h e) = (V i h e : EReal))
  (ho : ∀ i h e, (m (c.tc.loc Cert.AttnIdeal.main_arg3) : FVec Ideal Cert.AttnIdeal.S16384x8x64 .f32) (ix3 i h e) = (O i h e : EReal))

open Cert.AttnIdeal.Gen in
open Cert.AttnIdeal.Val in
include hq hk hv ho in
theorem key_kernel (j h : Fin 16) (hh : h.val < 8) (a : Fin 1024) (d : Fin 128) :
    (dats m 0 c).arrAt 7 Cert.AttnIdeal.cfg0.N (ix2 (tok j a) (lane h hh d))
      = ((∑ i, dsR Q K V O ⟨h, hh⟩ i (tok j a) * ext Q i ⟨h, hh⟩ d : ℝ) : EReal) :=
  (final7 m c j h hh a d).trans (key_at _ _ _ _ _ _ Q K V O (QA_at m c Q hq) (KA_at m c K hk) (VA_at m c V hv)
    (DA_at m c O ho) (LA_at m c Q K hq hk) (EA_at m c Q K V O hq hk hv ho) h j hh a d)

open Cert.AttnIdeal.Gen in
open Cert.AttnIdeal.Val in
include hq hk hv ho in
theorem query_kernel (h : Fin 8) (n : Fin 16) (d : Fin 128) (r : Fin 1024) :
    (dats m 0 c).arrAt 6 Cert.AttnIdeal.cfg0.N (ix4 h n d r)
      = ((∑ j, ext K j h d * dsR Q K V O h (tok n r) j : ℝ) : EReal) :=
  (final6 m c ⟨h, by omega⟩ n h.isLt d r).trans (query_at _ _ _ _ _ _ Q K V O (QA_at m c Q hq) (KA_at m c K hk) (VA_at m c V hv)
    (DA_at m c O ho) (LA_at m c Q K hq hk) (EA_at m c Q K V O hq hk hv ho) ⟨h, by omega⟩ n h.isLt d r)

open Cert.AttnIdeal.Gen in
open Cert.AttnIdeal.Val in
include hq hk hv ho in
theorem val_kernel (h : Fin 8) (j : Fin 16) (d : Fin 64) (a : Fin 1024) :
    (dats m 0 c).arrAt 8 Cert.AttnIdeal.cfg0.N (ix4 h j d a) = ((∑ i, O i h d * pR Q K h i (tok j a) : ℝ) : EReal) :=
  (final8 m c ⟨h, by omega⟩ j h.isLt d a).trans (val_at _ _ _ _ Q K O (QA_at m c Q hq) (KA_at m c K hk)
    (DA_at m c O ho) (LA_at m c Q K hq hk) ⟨h, by omega⟩ j h.isLt d a)
end

section
open Cert.AttnRefIdeal Cert.AttnRefIdeal.Val
variable (q k : FVec Ideal S16384x8x96 .f32) (v o : FVec Ideal S16384x8x64 .f32)
  (Q K : Fin 16384 → Fin 8 → Fin 96 → ℝ) (V O : Fin 16384 → Fin 8 → Fin 64 → ℝ)
  (hq : ∀ i h e, q (ix3 i h e) = (Q i h e : EReal)) (hk : ∀ i h e, k (ix3 i h e) = (K i h e : EReal))
  (hv : ∀ i h e, v (ix3 i h e) = (V i h e : EReal)) (ho : ∀ i h e, o (ix3 i h e) = (O i h e : EReal))

include hq hk hv ho in
theorem key_ref (j : Fin 16384) (h : Fin 16) (hh : h.val < 8) (d : Fin 128) :
    keyOut (GK q (DS q k v o)) (ix2 j (lane h hh d)) = ((∑ i, dsR Q K V O ⟨h, hh⟩ i j * ext Q i ⟨h, hh⟩ d : ℝ) : EReal) := by
  rw [keyOut_at, padded_at]
  unfold ext
  split
  · rw [GK_at]
    simp only [DS_at q k v o Q K V O hq hk hv ho, hq, ← EReal.coe_mul, coe_sum]
  · simp

include hq hk hv ho in
theorem query_ref (h : Fin 8) (n : Fin 16) (d : Fin 128) (r : Fin 1024) :
    queryOut (GQ k (DS q k v o)) (ix4 h n d r) = ((∑ j, ext K j h d * dsR Q K V O h (tok n r) j : ℝ) : EReal) := by
  rw [queryOut_at, padded_at]
  unfold ext
  split
  · rw [GQ_at]
    simp only [DS_at q k v o Q K V O hq hk hv ho, hk, ← EReal.coe_mul, coe_sum]
    simp only [mul_comm]
  · simp

include hq hk ho in
theorem val_ref (h : Fin 8) (n : Fin 16) (d : Fin 64) (r : Fin 1024) :
    valOut (GV o (EX q k) (LS q k)) (ix4 h n d r) = ((∑ i, O i h d * pR Q K h i (tok n r) : ℝ) : EReal) := by
  rw [valOut_at, GV_at]
  simp only [rows_at, EX_at q k Q K hq hk, LS_at q k Q K hq hk, ho]
  simp only [fun i => div_coe_coe (lR_ne Q K h i), ← EReal.coe_mul, coe_sum]
  rfl
end

/-- A row index is `16` tiles of `1024`; a column index is `8` heads of `128` lanes. -/
theorem ix2_tiles (y : Cert.AttnRefIdeal.S16384x1024.Idx) :
    ∃ (j h : Fin 16) (hh : h.val < 8) (a : Fin 1024) (d : Fin 128), y = ix2 (tok j a) (lane h hh d) := by
  have e := eq_ix2 y
  generalize y 0 = y0 at e
  generalize y 1 = y1 at e
  subst e
  have h0 : y0.val < 16384 := y0.isLt
  have h1 : y1.val < 1024 := y1.isLt
  refine ⟨⟨y0.val / 1024, by omega⟩, ⟨y1.val / 128, by omega⟩, by dsimp only; omega, ⟨y0.val % 1024, by omega⟩,
    ⟨y1.val % 128, by omega⟩, ?_⟩
  congr 1
  · exact Fin.ext (by simp only [tok]; omega)
  · exact Fin.ext (by simp only [lane]; omega)

theorem attn_algebraic : Cert.algebraic_AttnIdeal_AttnRefIdeal_pre_attn_finite := by
  intro m g m' g' hpre hagree
  refine ⟨fun c => (Cert.AttnIdeal.Gen.dats m 0 c).arrAt 6 Cert.AttnIdeal.cfg0.N, fun c => (Cert.AttnIdeal.Gen.dats m 0 c).arrAt 7 Cert.AttnIdeal.cfg0.N,
    fun c => (Cert.AttnIdeal.Gen.dats m 0 c).arrAt 8 Cert.AttnIdeal.cfg0.N, ?_, ?_⟩
  · refine (θ_run _ _ _).mono (fun r hr c => ?_) (θ_run_and (Cert.AttnIdeal.Gen.run_main m g) (Cert.AttnIdeal.Gen.unchanged m g))
    obtain ⟨hF, hU⟩ := hr
    exact ⟨(hF c).1 6, (hF c).1 7, (hF c).1 8, hU c⟩
  · refine (θ_run _ _ _).mono (fun r hr c => ?_) (Cert.AttnRefIdeal.Value.run m' g')
    obtain ⟨e0, e1, e2, ea⟩ := hr c
    obtain ⟨f0, f1, f2, f3⟩ := hpre c
    obtain ⟨g0, g1, g2, g3⟩ := hagree c
    have hq := fun (i : Fin 16384) (h : Fin 8) (e : Fin 96) => real_of_finite _ _ f0 (ix3 i h e)
    have hk := fun (i : Fin 16384) (h : Fin 8) (e : Fin 96) => real_of_finite _ _ f1 (ix3 i h e)
    have hv := fun (i : Fin 16384) (h : Fin 8) (e : Fin 64) => real_of_finite _ _ f2 (ix3 i h e)
    have ho := fun (i : Fin 16384) (h : Fin 8) (e : Fin 64) => real_of_finite _ _ f3 (ix3 i h e)
    have hq' := fun (i : Fin 16384) (h : Fin 8) (e : Fin 96) => (congrFun g0 (ix3 i h e)).trans (hq i h e)
    have hk' := fun (i : Fin 16384) (h : Fin 8) (e : Fin 96) => (congrFun g1 (ix3 i h e)).trans (hk i h e)
    have hv' := fun (i : Fin 16384) (h : Fin 8) (e : Fin 64) => (congrFun g2 (ix3 i h e)).trans (hv i h e)
    have ho' := fun (i : Fin 16384) (h : Fin 8) (e : Fin 64) => (congrFun g3 (ix3 i h e)).trans (ho i h e)
    clear hr
    refine ⟨e0.trans ?_, e1.trans ?_, e2.trans ?_, ea⟩
    · rw [Cert.AttnRefIdeal.Val.out0_eq]
      refine funext fun y => ?_
      rw [eq_ix4 y]
      exact (query_ref _ _ _ _ _ _ _ _ hq' hk' hv' ho' ..).trans (query_kernel m c _ _ _ _ hq hk hv ho ..).symm
    · rw [Cert.AttnRefIdeal.Val.out1_eq]
      refine funext fun y => ?_
      obtain ⟨j, h, hh, a, d, rfl⟩ := ix2_tiles y
      exact (key_ref _ _ _ _ _ _ _ _ hq' hk' hv' ho' ..).trans (key_kernel m c _ _ _ _ hq hk hv ho ..).symm
    · refine funext fun y => ?_
      rw [eq_ix4 y]
      exact (val_ref _ _ _ _ _ _ hq' hk' ho' ..).trans (val_kernel m c _ _ _ _ hq hk hv ho ..).symm

end Cert.Proof

end
-- ==== Proof.AttnFwdReal.lean ====
module

public import proofs.«01_k».proof.Proof.AttnReal

@[expose] public section

noncomputable section

open Idealize.ShloMosaic

/-! Softmax by blocks, one column at a time: the running maximum, the running sum and the running weighted values, each
    rescaled when the maximum grows. The weighted values lag one block behind. Scores are in powers of two. -/

namespace Cert.AttnReal

theorem exp2_bot_sub (x : ℝ) : Ideal.exp2 ((⊥ : EReal) - (x : EReal)) = ((0 : ℝ) : EReal) := by
  rw [EReal.bot_sub]
  exact Ideal.exp2_bot

section
variable {n : ℕ} (s v : ℕ → Fin n → ℝ)

/-- The weights of the first `k` blocks relative to the level `M`, summed; and summed with the values. -/
def lSum (k : ℕ) (M : ℝ) : ℝ := ∑ b ∈ Finset.range k, ∑ a, (2 : ℝ) ^ (s b a - M)
def vSum (k : ℕ) (M : ℝ) : ℝ := ∑ b ∈ Finset.range k, ∑ a, v b a * (2 : ℝ) ^ (s b a - M)

theorem rescale (M M' x : ℝ) : (2 : ℝ) ^ (M - M') * (2 : ℝ) ^ (x - M) = (2 : ℝ) ^ (x - M') := by
  rw [← Real.rpow_add (by norm_num)]
  congr 1
  ring

theorem lSum_rescale (k : ℕ) (M M' : ℝ) : (2 : ℝ) ^ (M - M') * lSum s k M = lSum s k M' := by
  simp only [lSum, Finset.mul_sum, rescale]

theorem vSum_rescale (k : ℕ) (M M' : ℝ) : (2 : ℝ) ^ (M - M') * vSum s v k M = vSum s v k M' := by
  simp only [vSum, Finset.mul_sum]
  refine Finset.sum_congr rfl fun b _ => Finset.sum_congr rfl fun a _ => ?_
  rw [mul_left_comm, rescale]

/-- The state of one column after `k` blocks. -/
def Col (k : ℕ) (mx sm ac : EReal) (p : Fin n → EReal) : Prop :=
  ∃ M : ℝ, (mx = (M : EReal) ∨ k = 0 ∧ mx = ⊥) ∧ sm = (lSum s k M : EReal) ∧ ac = (vSum s v (k - 1) M : EReal)
    ∧ ∀ a, p a = ((if k = 0 then 0 else (2 : ℝ) ^ (s (k - 1) a - M) : ℝ) : EReal)

theorem col_zero (mx sm ac : EReal) (p : Fin n → EReal) (h1 : mx = ⊥) (h2 : sm = 0) (h3 : ac = 0) (h4 : ∀ a, p a = 0) :
    Col s v 0 mx sm ac p :=
  ⟨0, .inr ⟨rfl, h1⟩, by rw [h2]; simp [lSum], by rw [h3]; simp [vSum], fun a => by rw [h4]; simp⟩

/-- The values of the block before, added: no lag any more. -/
theorem catch_up (k : ℕ) (M : ℝ) (ac : EReal) (p w : Fin n → EReal) (h3 : ac = (vSum s v (k - 1) M : EReal))
    (h4 : ∀ a, p a = ((if k = 0 then 0 else (2 : ℝ) ^ (s (k - 1) a - M) : ℝ) : EReal)) (hw : ∀ a, w a = (v (k - 1) a : EReal)) :
    ac + ∑ a, w a * p a = (vSum s v k M : EReal) := by
  simp only [h3, h4, hw, ← EReal.coe_mul, coe_sum]
  rw [← EReal.coe_add]
  congr 1
  cases k with
  | zero => simp [vSum]
  | succ k => simp [vSum, Finset.sum_range_succ]

theorem max_coe (x y : ℝ) : max (x : EReal) (y : EReal) = ((max x y : ℝ) : EReal) :=
  (EReal.coe_strictMono.monotone.map_max).symm

theorem exp2_real (x : ℝ) : Ideal.exp2 (x : EReal) = (((2 : ℝ) ^ x : ℝ) : EReal) := Ideal.exp2_coe x

/-- One block more. -/
theorem col_step (hn : 0 < n) (k : ℕ) (mx sm ac mx' : EReal) (p w t : Fin n → EReal) (h : Col s v k mx sm ac p)
    (ht : ∀ a, t a = (s k a : EReal)) (hw : ∀ a, w a = (v (k - 1) a : EReal))
    (hm : mx' = max mx (Finset.fold max ⊥ t Finset.univ)) :
    Col s v (k + 1) mx' (Ideal.exp2 (mx - mx') * sm + ∑ a, Ideal.exp2 (t a - mx'))
      (Ideal.exp2 (mx - mx') * (ac + ∑ a, w a * p a)) (fun a => Ideal.exp2 (t a - mx')) := by
  obtain ⟨M, h1, h2, h3, h4⟩ := h
  rw [catch_up s v k M ac p w h3 h4 hw, h2]
  obtain rfl : t = fun a => (s k a : EReal) := funext ht
  rw [fold_max_coe hn] at hm
  generalize (Finset.fold max (⊥ : EReal) (fun j => (s k j : EReal)) Finset.univ).toReal = B at hm
  have key : ∃ M' : ℝ, mx' = (M' : EReal) ∧ Ideal.exp2 (mx - mx') * (lSum s k M : EReal) = (lSum s k M' : EReal)
      ∧ Ideal.exp2 (mx - mx') * (vSum s v k M : EReal) = (vSum s v k M' : EReal) := by
    rcases h1 with rfl | ⟨rfl, rfl⟩
    · refine ⟨max M B, by rw [hm, max_coe], ?_, ?_⟩
      all_goals rw [hm, max_coe, ← EReal.coe_sub, exp2_real, ← EReal.coe_mul]
      · rw [lSum_rescale]
      · rw [vSum_rescale]
    · refine ⟨B, by rw [hm]; exact max_eq_right bot_le, ?_, ?_⟩
      · simp [lSum]
      · simp [vSum]
  obtain ⟨M', rfl, e1, e2⟩ := key
  rw [e1, e2]
  refine ⟨M', .inl rfl, ?_, rfl, fun a => ?_⟩
  · simp only [← EReal.coe_sub, exp2_real, coe_sum]
    rw [← EReal.coe_add]
    simp [lSum, Finset.sum_range_succ]
  · dsimp only
    rw [← EReal.coe_sub, exp2_real]
    simp
end

end Cert.AttnReal

end
-- ==== Proof.AttnFwdPay.lean ====
module

public import proofs.«01_k».proof.Proof.AttnFwdFrame
public import proofs.«01_k».proof.Proof.AttnFwdReal
public import Idealize.ShloMosaic.Lib.VecWindow

@[expose] public section

set_option maxRecDepth 16384

noncomputable section

open Idealize.ShloMosaic Idealize.ShloMosaic.TcCoe Idealize.SL.Sem

namespace Cert.AttnFwdIdeal.Val

open Cert.AttnFwdIdeal Cert.AttnFwdIdeal.Gen Cert.AttnReal

/-! What the body's blocks of operations compute, element by element. -/

section
variable (q kb : FVec Ideal S1024x128 .bf16) (s : FVec Ideal S1024x1024 .f32) (m l : FVec Ideal S1x1024 .f32)
  (ac : FVec Ideal S64x1024 .f32) (w : FVec Ideal S1x1x64x1024 .bf16) (p : FVec Ideal S1024x1024 .bf16) (a r : Fin 1024) (d : Fin 64)

/-- The largest of a column of scores and the running maximum. -/
def newMax : EReal := max (m (ix2 0 r)) (Finset.fold max ⊥ (fun a : Fin 1024 => s (ix2 a r)) Finset.univ)

theorem pay23 : k0_pay23 (F := Ideal) q = q := by
  funext y
  pointwise [k0_pay23]
theorem pay3 : k0_pay3 (F := Ideal) (k0_pay23 q) kb (ix2 a r) = ∑ e : Fin 128, kb (ix2 a e) * q (ix2 r e) := by
  rw [pay23]
  pointwise [k0_pay3]
theorem pay13 : k0_pay13 (F := Ideal) (k0_pay23 q) kb (ix2 a r) = ∑ e : Fin 128, kb (ix2 a e) * q (ix2 r e) := by
  rw [pay23]
  pointwise [k0_pay13]
theorem pay24 : k0_pay24 (F := Ideal) q kb (ix2 a r) = ∑ e : Fin 128, kb (ix2 a e) * q (ix2 r e) := by
  pointwise [k0_pay24, k0_pay23]
theorem pay5 : k0_pay5 (F := Ideal) s m (ix2 0 r) = newMax s m r := by
  pointwise [k0_pay5]
  rw [lit_ninf]
  rfl
theorem pay12 : k0_pay12 (F := Ideal) m = m := by
  funext y
  pointwise [k0_pay12]
theorem pay6 : k0_pay6 (F := Ideal) s m (ix2 0 r) = Ideal.exp2 (m (ix2 0 r) - newMax s m r) := by
  rw [← pay5]
  unfold k0_pay6
  generalize k0_pay5 (F := Ideal) s m = x
  pointwise
  rfl
theorem pay7 : k0_pay7 (F := Ideal) s m (ix2 a r) = Ideal.exp2 (s (ix2 a r) - newMax s m r) := by
  rw [← pay5]
  unfold k0_pay7
  generalize k0_pay5 (F := Ideal) s m = x
  pointwise
  rfl
theorem pay8 : k0_pay9 (F := Ideal) (k0_pay8 s m) (ix2 a r) = Ideal.exp2 (s (ix2 a r) - newMax s m r) := by
  rw [← pay7]
  unfold k0_pay9 k0_pay8
  generalize k0_pay7 (F := Ideal) s m = x
  pointwise
theorem pay10 : k0_pay10 (F := Ideal) (k0_pay6 s m) (k0_pay7 s m) l (ix2 0 r)
    = Ideal.exp2 (m (ix2 0 r) - newMax s m r) * l (ix2 0 r) + ∑ a : Fin 1024, Ideal.exp2 (s (ix2 a r) - newMax s m r) := by
  simp only [← pay7, ← pay6]
  unfold k0_pay10
  generalize k0_pay7 (F := Ideal) s m = x
  generalize k0_pay6 (F := Ideal) s m = y
  pointwise
theorem pay4 : k0_pay4 (F := Ideal) ac w p (ix2 d r) = ac (ix2 d r) + ∑ a : Fin 1024, w (ix4 0 0 d a) * p (ix2 a r) := by
  pointwise [k0_pay4]
theorem pay11 : k0_pay11 (F := Ideal) (k0_pay4 ac w p) (k0_pay6 s m) (ix2 d r)
    = Ideal.exp2 (m (ix2 0 r) - newMax s m r) * (ac (ix2 d r) + ∑ a : Fin 1024, w (ix4 0 0 d a) * p (ix2 a r)) := by
  rw [← pay4, ← pay6]
  unfold k0_pay11
  generalize k0_pay4 (F := Ideal) ac w p = x
  generalize k0_pay6 (F := Ideal) s m = y
  pointwise
theorem pay14 : k0_pay26 (F := Ideal) (k0_pay14 s m) (ix2 0 r) = newMax s m r := by
  rw [← pay5]
  pointwise [k0_pay26, k0_pay14, k0_pay5]
theorem pay15 : k0_pay15 (F := Ideal) s m = k0_pay6 s m := rfl
theorem pay16 : k0_pay16 (F := Ideal) s m = k0_pay7 s m := rfl
theorem pay17 : k0_pay17 (F := Ideal) s m = k0_pay9 (k0_pay8 s m) := rfl
theorem pay18 : k0_pay18 (F := Ideal) s m l = k0_pay10 (k0_pay6 s m) (k0_pay7 s m) l := rfl
theorem pay19 : k0_pay19 (F := Ideal) ac w p s m = k0_pay11 (k0_pay4 ac w p) (k0_pay6 s m) := rfl
theorem pay20 : k0_pay20 (F := Ideal) (ix2 0 r) = ⊥ := by
  pointwise [k0_pay20]
  exact lit_ninf
theorem pay21 : k0_pay21 (F := Ideal) (ix2 0 r) = 0 := by
  pointwise [k0_pay21]
theorem pay22 : k0_pay22 (F := Ideal) (ix2 d r) = 0 := by
  pointwise [k0_pay22]
theorem pay25 : k0_pay25 (F := Ideal) (ix2 a r) = 0 := by
  pointwise [k0_pay25]
theorem pay1 : k0_pay1 (F := Ideal) ac w p l (ix4 0 0 d r)
    = Ideal.div (ac (ix2 d r) + ∑ a : Fin 1024, w (ix4 0 0 d a) * p (ix2 a r)) (l (ix2 0 r)) := by
  pointwise [k0_pay1]
theorem pay2 (e : Fin 8) : k0_pay2 (F := Ideal) m l (ix4 0 0 e r)
    = m (ix2 0 r) + Ideal.log (l (ix2 0 r)) * (((Real.log 2)⁻¹ : ℝ) : EReal) := by
  pointwise [k0_pay2]
  rfl
end

theorem off1 : ∀ t : Fin k0_t1_loop.trips, k0_off1 t = ![min (2 * t.val + 1) 15 * 1024, 0] := by decide +kernel
theorem off3 : ∀ t : Fin k0_t1_loop.trips, k0_off3 t = ![min (2 * t.val + 2) 15 * 1024, 0] := by decide +kernel
theorem off2 : ∀ t : Fin k0_t1_loop.trips, k0_off2 t = ![0, 2 * t.val - 1, 0, 0] := by decide +kernel
theorem off4 : ∀ t : Fin k0_t1_loop.trips, k0_off4 t = ![0, 2 * t.val, 0, 0] := by decide +kernel
theorem trips_eq : k0_t1_loop.trips = 8 := by decide +kernel

section
variable (k : FVec Ideal S16384x128 .bf16) (v : FVec Ideal S1x16x64x1024 .bf16)

theorem kblk_at (n : ℕ) (hn : n < 16) (off : Fin 2 → ℕ) (e : off = ![n * 1024, 0]) (h) (a : Fin 1024) (x : Fin 128) :
    kblk (F := Ideal) k off h (ix2 a x) = k (ix2 ⟨n * 1024 + a, by omega⟩ x) := by
  subst e
  exact congrArg k (funext fun b => Fin.ext (by fin_cases b <;> [exact (show n * 1024 + 1 * a.val = n * 1024 + a.val by omega); exact (show 0 + 1 * x.val = x.val by omega)]))

theorem vblk_at (n : ℕ) (hn : n < 16) (off : Fin 4 → ℕ) (e : off = ![0, n, 0, 0]) (h) (d : Fin 64) (a : Fin 1024) :
    vblk (F := Ideal) v off h (ix4 0 0 d a) = v (ix4 0 ⟨n, hn⟩ d a) := by
  subst e
  exact congrArg v (funext fun b => Fin.ext (by fin_cases b <;> [rfl; exact (show n + 1 * 0 = n by omega); exact (show 0 + 1 * d.val = d.val by omega); exact (show 0 + 1 * a.val = a.val by omega)]))
end

end Cert.AttnFwdIdeal.Val

end
-- ==== Proof.AttnFwdValue.lean ====
module

public import proofs.«01_k».proof.Proof.AttnFwdPay

@[expose] public section

set_option maxRecDepth 16384

noncomputable section

open Idealize.ShloMosaic Idealize.ShloMosaic.TcCoe Idealize.SL.Sem

namespace Cert.AttnFwdIdeal.Val

open Cert.AttnFwdIdeal Cert.AttnFwdIdeal.Gen Cert.AttnReal

/-! The loop keeps, column by column, the state of a softmax by blocks. -/

theorem row_lt {b : ℕ} (hb : b < 16) (a : Fin 1024) : b * 1024 + a.val < 16384 := by omega

section
variable (q : FVec Ideal S1024x128 .bf16) (k : FVec Ideal S16384x128 .bf16) (v : FVec Ideal S1x16x64x1024 .bf16)
  (r : Fin 1024) (d : Fin 64) (s w : ℕ → Fin 1024 → ℝ)
  (hs : ∀ (b : ℕ) (hb : b < 16) (a : Fin 1024), (∑ e : Fin 128, k (ix2 ⟨b * 1024 + a, row_lt hb a⟩ e) * q (ix2 r e)) = (s b a : EReal))
  (hw : ∀ (b : ℕ) (hb : b < 16) (a : Fin 1024), v (ix4 0 ⟨b, hb⟩ d a) = (w b a : EReal))

/-- The column `r` of a state after `n` blocks, in row `d` of the weighted values. -/
def Good (n : ℕ) (x : St Ideal) (p : FVec Ideal S1024x1024 .bf16) : Prop :=
  Col s w n (x.mx (ix2 0 r)) (x.sm (ix2 0 r)) (x.ac (ix2 d r)) (fun a => p (ix2 a r))

include hs in
theorem score_at (n : ℕ) (hn : n < 16) (off : Fin 2 → ℕ) (e : off = ![n * 1024, 0]) (h) (a : Fin 1024) :
    (∑ x : Fin 128, kblk (F := Ideal) k off h (ix2 a x) * q (ix2 r x)) = (s n a : EReal) := by
  simp only [kblk_at k n hn off e h]
  exact hs n hn a

include hw in
theorem half1_good (t : Fin k0_t1_loop.trips) (x : St Ideal) (hg : Good r d s w (2 * t.val) x x.p1)
    (h0 : ∀ a, x.s0 (ix2 a r) = (s (2 * t.val) a : EReal)) :
    Good r d s w (2 * t.val + 1) (half1 q k v t x) (half1 q k v t x).p0 := by
  have ht : t.val < 8 := trips_eq ▸ t.isLt
  have key := col_step s w (by norm_num) (2 * t.val) _ _ _ (newMax x.s0 x.mx r) _
    (fun a => vblk (F := Ideal) v (k0_off2 t) (k0_off2_inb t) (ix4 0 0 d a)) (fun a => x.s0 (ix2 a r)) hg h0
    (fun a => (vblk_at v _ (by omega) _ (off2 t) _ d a).trans (hw _ (by omega) a)) rfl
  unfold Good half1
  dsimp only
  rw [pay12, pay5, pay10, pay11]
  simp only [pay8]
  exact key

include hw in
theorem half2_good (t : Fin k0_t1_loop.trips) (x : St Ideal) (hg : Good r d s w (2 * t.val + 1) x x.p0)
    (h1 : ∀ a, x.s1 (ix2 a r) = (s (2 * t.val + 1) a : EReal)) :
    Good r d s w (2 * t.val + 2) (half2 q k v t x) (half2 q k v t x).p1 := by
  have ht : t.val < 8 := trips_eq ▸ t.isLt
  have key := col_step s w (by norm_num) (2 * t.val + 1) _ _ _ (newMax x.s1 x.mx r) _
    (fun a => vblk (F := Ideal) v (k0_off4 t) (k0_off4_inb t) (ix4 0 0 d a)) (fun a => x.s1 (ix2 a r)) hg h1
    (fun a => (vblk_at v _ (by omega) _ (off4 t) _ d a).trans (hw _ (by omega) a)) rfl
  unfold Good half2
  dsimp only
  rw [pay14, pay18, pay19, pay10, pay11]
  simp only [pay17, pay8]
  exact key

include hs in
theorem half1_s1 (t : Fin k0_t1_loop.trips) (x : St Ideal) (a : Fin 1024) :
    (half1 q k v t x).s1 (ix2 a r) = (s (2 * t.val + 1) a : EReal) := by
  have ht : t.val < 8 := trips_eq ▸ t.isLt
  unfold half1
  dsimp only
  rw [pay3]
  refine score_at q k r s hs _ (by omega) _ ((off1 t).trans ?_) _ a
  rw [show min (2 * t.val + 1) 15 = 2 * t.val + 1 by omega]

include hs in
theorem half2_s0 (t : Fin k0_t1_loop.trips) (x : St Ideal) (a : Fin 1024) :
    (half2 q k v t x).s0 (ix2 a r) = (s (min (2 * t.val + 2) 15) a : EReal) := by
  have ht : t.val < 8 := trips_eq ▸ t.isLt
  unfold half2
  dsimp only
  rw [pay13]
  exact score_at q k r s hs _ (by omega) _ (off3 t) _ a

include hs hw in
theorem iter_good (x : FVec Ideal S1024x1024 .f32) (y : FVec Ideal S1024x1024 .bf16) : ∀ n : ℕ, n ≤ 8 →
    Good r d s w (2 * n) (iter (F := Ideal) q k v (start q k x y) n) (iter (F := Ideal) q k v (start q k x y) n).p1
      ∧ ∀ a, (iter (F := Ideal) q k v (start q k x y) n).s0 (ix2 a r) = (s (min (2 * n) 15) a : EReal)
  | 0, _ => by
    refine ⟨col_zero s w _ _ _ _ (pay20 r) (pay21 r) (pay22 r d) fun a => pay25 a r, fun a => (pay24 q _ a r).trans ?_⟩
    exact score_at q k r s hs 0 (by omega) _ (by rfl) _ a
  | n + 1, hn => by
    obtain ⟨hg, h0⟩ := iter_good x y n (by omega)
    have e := iter_succ (F := Ideal) q k v (start q k x y) ⟨n, by rw [trips_eq]; omega⟩
    rw [e]
    generalize iter (F := Ideal) q k v (start q k x y) n = st at hg h0
    unfold trip
    refine ⟨half2_good q k v r d s w hw ⟨n, by rw [trips_eq]; omega⟩ _ ?_ (half1_s1 q k v r s hs _ _), half2_s0 q k v r s hs _ _⟩
    refine half1_good q k v r d s w hw ⟨n, by rw [trips_eq]; omega⟩ _ hg fun a => ?_
    rw [h0, show min (2 * n) 15 = 2 * n by omega]

include hs hw in
theorem final_good : Good r d s w 16 (final (F := Ideal) q k v) (final (F := Ideal) q k v).p1 := by
  have := (iter_good q k v r d s w hs hw (k0_pay24 q (kblk k ![0, 0] inb_S16384x128_S1024x128_0_0)) k0_pay25 8 le_rfl).1
  unfold final
  rw [trips_eq]
  exact this

include hs hw in
/-- Both results at one place, relative to any level. -/
theorem out_good : ∃ M : ℝ, outO (F := Ideal) q k v (ix4 0 0 d r) = Ideal.div (vSum s w 16 M : EReal) (lSum s 16 M : EReal)
    ∧ ∀ e : Fin 8, outL (F := Ideal) q k v (ix4 0 0 e r)
      = (M : EReal) + Ideal.log (lSum s 16 M : EReal) * (((Real.log 2)⁻¹ : ℝ) : EReal) := by
  obtain ⟨M, h1, h2, h3, h4⟩ := final_good q k v r d s w hs hw
  have h1' := h1.resolve_right fun h => absurd h.1 (by norm_num)
  refine ⟨M, ?_, fun e => ?_⟩
  · unfold outO
    rw [pay1, h2, catch_up s w 16 M _ _ (fun a => vblk (F := Ideal) v ![0, 15, 0, 0] inb_S1x16x64x1024_S1x1x64x1024_0_15_0_0 (ix4 0 0 d a)) h3 h4]
    exact fun a => (vblk_at v 15 (by omega) _ rfl _ d a).trans (hw 15 (by omega) a)
  · unfold outL
    rw [pay2, h2, h1']
end

end Cert.AttnFwdIdeal.Val

end
-- ==== Proof.AttnFwdKer.lean ====
module

public import proofs.«01_k».proof.Proof.AttnFwdValue
public import proofs.«01_k».proof.Proof.AttnKer

@[expose] public section

set_option maxRecDepth 16384

noncomputable section

open Idealize.ShloMosaic Idealize.ShloMosaic.TcCoe Idealize.SL.Sem

namespace Cert.AttnReal

open Cert.AttnIdeal.Val (tok sum_tok)

/-! Softmax by blocks of 1024 keys is softmax. -/

section
variable (Q K : Fin 16384 → Fin 8 → Fin 96 → ℝ) (V : Fin 16384 → Fin 8 → Fin 64 → ℝ) (h : Fin 8) (i : Fin 16384) (d : Fin 64)

/-- Block `b` of the scores of query `i`, in powers of two; block `b` of lane `d` of the values. -/
def sB (b : ℕ) (a : Fin 1024) : ℝ := if hb : b < 16 then sR Q K h i (tok ⟨b, hb⟩ a) / Real.log 2 else 0
def vB (b : ℕ) (a : Fin 1024) : ℝ := if hb : b < 16 then V (tok ⟨b, hb⟩ a) h d else 0

theorem pow_eq (M : ℝ) (j : Fin 16384) :
    (2 : ℝ) ^ (sR Q K h i j / Real.log 2 - M) = eR Q K h i j * Real.exp (mR Q K h i - M * Real.log 2) := by
  have h2 := log2_pos.ne'
  rw [Real.rpow_def_of_pos (by norm_num), eR, ← Real.exp_add]
  congr 1
  field_simp
  ring

theorem lSum_eq (M : ℝ) : lSum (sB Q K h i) 16 M = lR Q K h i * Real.exp (mR Q K h i - M * Real.log 2) := by
  rw [lSum, Finset.sum_range]
  have e : ∀ (b : Fin 16) (a : Fin 1024), (2 : ℝ) ^ (sB Q K h i b a - M)
      = eR Q K h i (tok b a) * Real.exp (mR Q K h i - M * Real.log 2) := fun b a => by
    rw [sB, dif_pos b.isLt]
    exact pow_eq ..
  simp only [e]
  rw [sum_tok fun j => eR Q K h i j * Real.exp (mR Q K h i - M * Real.log 2), ← Finset.sum_mul]
  rfl

theorem vSum_eq (M : ℝ) : vSum (sB Q K h i) (vB V h d) 16 M
    = (∑ j, V j h d * eR Q K h i j) * Real.exp (mR Q K h i - M * Real.log 2) := by
  rw [vSum, Finset.sum_range]
  have e : ∀ (b : Fin 16) (a : Fin 1024), vB V h d b a * (2 : ℝ) ^ (sB Q K h i b a - M)
      = V (tok b a) h d * eR Q K h i (tok b a) * Real.exp (mR Q K h i - M * Real.log 2) := fun b a => by
    rw [sB, vB, dif_pos b.isLt, dif_pos b.isLt, mul_assoc]
    congr 1
    exact pow_eq ..
  simp only [e]
  rw [sum_tok fun j => V j h d * eR Q K h i j * Real.exp (mR Q K h i - M * Real.log 2), ← Finset.sum_mul]

/-- The output and the row's log-sum do not depend on the level the weights are kept at. -/
theorem ratio_eq (M : ℝ) : Ideal.div (vSum (sB Q K h i) (vB V h d) 16 M : EReal) (lSum (sB Q K h i) 16 M : EReal)
    = ((∑ j, V j h d * pR Q K h i j : ℝ) : EReal) := by
  have hc := Real.exp_pos (mR Q K h i - M * Real.log 2)
  rw [lSum_eq, vSum_eq, div_coe_coe (mul_ne_zero (lR_ne Q K h i) hc.ne'), mul_div_mul_right _ _ hc.ne', Finset.sum_div]
  simp only [pR, mul_div_assoc]

theorem level_eq (M : ℝ) : (M : EReal) + Ideal.log (lSum (sB Q K h i) 16 M : EReal) * (((Real.log 2)⁻¹ : ℝ) : EReal)
    = (((mR Q K h i + Real.log (lR Q K h i)) / Real.log 2 : ℝ) : EReal) := by
  have hc := Real.exp_pos (mR Q K h i - M * Real.log 2)
  have h2 := log2_pos.ne'
  rw [lSum_eq, Ideal.log_coe, if_neg (not_le.mpr (mul_pos (lR_pos Q K h i) hc)), ← EReal.coe_mul, ← EReal.coe_add,
    Real.log_mul (lR_ne Q K h i) hc.ne', Real.log_exp]
  congr 1
  field_simp
  ring
end

end Cert.AttnReal

namespace Cert.AttnFwdIdeal.Val

open Cert.AttnFwdIdeal Cert.AttnFwdIdeal.Gen Cert.AttnReal
open Idealize.ShloMosaic.Pipeline (Dat)
open Cert.AttnIdeal.Val (tok lane)

section
variable (m : (ℓ : Loc nD τ sig) → Buf (Elt Ideal) ℓ) (c : Dev nD)

theorem idx : ∀ t : Fin cfg0.N, win0_0.index t = ![t.val % 16, t.val / 16] ∧ win0_1.index t = ![0, t.val / 16]
    ∧ win0_2.index t = ![t.val / 16, 0, 0, 0] ∧ win0_3.index t = ![t.val / 16, t.val % 16, 0, 0]
    ∧ win0_4.index t = ![t.val / 16, t.val % 16, 0, 0] :=
  (by decide +kernel : ∀ t : Fin grid0.N, _)

theorem lt128 (t : Fin cfg0.N) : t.val < 128 := lt_of_lt_of_eq t.isLt N_0

section
variable (t : Fin cfg0.N)
theorem ib0 (a : Fin 1024) (d : Fin 128) : iblk m c 0 t (ix2 a d)
    = V m c main_v5 (ix2 ⟨t.val % 16 * 1024 + a, by omega⟩ ⟨t.val / 16 * 128 + d, by have := lt128 t; omega⟩) := by
  blk_point [iblk, idx t]
theorem ib1 (a : Fin 16384) (d : Fin 128) : iblk m c 1 t (ix2 a d)
    = V m c main_v8 (ix2 a ⟨t.val / 16 * 128 + d, by have := lt128 t; omega⟩) := by
  blk_point [iblk, idx t]
theorem ib2 (n : Fin 16) (d : Fin 64) (r : Fin 1024) : iblk m c 2 t (ix4 0 n d r)
    = V m c main_v12 (ix4 ⟨t.val / 16, by have := lt128 t; omega⟩ n d r) := by
  blk_point [iblk, idx t]
end

theorem v5_eq : V m c main_v5 = (shapeCast S16384x1024 (pad S16384x8x128 ![0, 0, 0] ![0, 0, 32] ![0, 0, 0]
    (truncf .bf16 (Host.divf (m (c.tc.loc main_arg0) : FVec Ideal S16384x8x96 .f32) (broadcastInDim S16384x8x96 ![] bcast_S_S16384x8x96 (Host.log (constant S_ .f32 0x40000000#32)))) bitsLt_bf16_f32)
    (sitofp .bf16 (constantI S_ 32 0#32)) pads_S16384x8x96_S16384x8x128_000_000_0320 h_S_) shapeCasts_S16384x8x128_S16384x1024 : FVec Ideal S16384x1024 .bf16) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  rfl
theorem v8_eq : V m c main_v8 = (shapeCast S16384x1024 (pad S16384x8x128 ![0, 0, 0] ![0, 0, 32] ![0, 0, 0]
    (truncf .bf16 (m (c.tc.loc main_arg1) : FVec Ideal S16384x8x96 .f32) bitsLt_bf16_f32)
    (sitofp .bf16 (constantI S_ 32 0#32)) pads_S16384x8x96_S16384x8x128_000_000_0320 h_S_) shapeCasts_S16384x8x128_S16384x1024 : FVec Ideal S16384x1024 .bf16) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  rfl

variable (Q K : Fin 16384 → Fin 8 → Fin 96 → ℝ) (V' : Fin 16384 → Fin 8 → Fin 64 → ℝ)
  (hq : ∀ i h e, (m (c.tc.loc main_arg0) : FVec Ideal S16384x8x96 .f32) (ix3 i h e) = (Q i h e : EReal))
  (hk : ∀ i h e, (m (c.tc.loc main_arg1) : FVec Ideal S16384x8x96 .f32) (ix3 i h e) = (K i h e : EReal))
  (hv : ∀ i h e, (m (c.tc.loc main_arg2) : FVec Ideal S16384x8x64 .f32) (ix3 i h e) = (V' i h e : EReal))

include hq in
theorem QA_at (i : Fin 16384) (h : Fin 16) (hh : h.val < 8) (d : Fin 128) :
    V m c main_v5 (ix2 i (lane h hh d)) = ((ext Q i ⟨h, hh⟩ d / Real.log 2 : ℝ) : EReal) := by
  rw [v5_eq]
  refine (Cert.AttnIdeal.Val.pack_at _ i h hh d).trans ?_
  unfold ext
  split
  · refine (Cert.AttnIdeal.Val.scale_at _ _ _ _).trans ?_
    exact (congrArg (Ideal.div · _) (hq ..)).trans (div_coe_coe log2_pos.ne' _)
  · simp
include hk in
theorem KA_at (i : Fin 16384) (h : Fin 16) (hh : h.val < 8) (d : Fin 128) :
    V m c main_v8 (ix2 i (lane h hh d)) = ((ext K i ⟨h, hh⟩ d : ℝ) : EReal) := by
  rw [v8_eq]
  refine (Cert.AttnIdeal.Val.pack_at _ i h hh d).trans ?_
  unfold ext
  split
  · exact hk ..
  · simp
include hv in
theorem VA_at (h : Fin 8) (n : Fin 16) (d : Fin 64) (r : Fin 1024) :
    V m c main_v12 (ix4 h n d r) = ((V' (tok n r) h d : ℝ) : EReal) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  exact hv ..

/-- The head and the query block of a grid point. -/
def hd (t : Fin cfg0.N) : Fin 8 := ⟨t.val / 16, by have := lt128 t; omega⟩
def qb (t : Fin cfg0.N) : Fin 16 := ⟨t.val % 16, by omega⟩

include hq hk in
theorem score_blk (t : Fin cfg0.N) (r : Fin 1024) (b : ℕ) (hb : b < 16) (a : Fin 1024) :
    (∑ e : Fin 128, @HMul.hMul EReal EReal EReal _ (iblk m c 1 t (ix2 ⟨b * 1024 + a, row_lt hb a⟩ e)) (iblk m c 0 t (ix2 r e)))
      = ((sB Q K (hd t) (tok (qb t) r) b a : ℝ) : EReal) := by
  have e : ∀ e : Fin 128, @HMul.hMul EReal EReal EReal _ (iblk m c 1 t (ix2 ⟨b * 1024 + a, row_lt hb a⟩ e)) (iblk m c 0 t (ix2 r e))
      = ((ext K (tok ⟨b, hb⟩ a) (hd t) e * (ext Q (tok (qb t) r) (hd t) e / Real.log 2) : ℝ) : EReal) := fun e => by
    have hh := lt128 t
    refine (congrArg₂ (fun x y : EReal => x * y) ((ib1 ..).trans (KA_at m c K hk (tok ⟨b, hb⟩ a) ⟨t.val / 16, by omega⟩ (by dsimp only; omega) e))
      ((ib0 ..).trans (QA_at m c Q hq (tok (qb t) r) ⟨t.val / 16, by omega⟩ (by dsimp only; omega) e))).trans (EReal.coe_mul ..).symm
  rw [Finset.sum_congr rfl fun x _ => e x, coe_sum, sum_ext, sB, dif_pos hb]
  rfl

include hv in
theorem value_blk (t : Fin cfg0.N) (d : Fin 64) (b : ℕ) (hb : b < 16) (a : Fin 1024) :
    iblk m c 2 t (ix4 0 ⟨b, hb⟩ d a) = ((vB V' (hd t) d b a : ℝ) : EReal) := by
  rw [vB, dif_pos hb]
  exact (ib2 ..).trans (VA_at m c V' hv (hd t) ⟨b, hb⟩ d a)

include hq hk hv in
theorem out_at (t : Fin cfg0.N) (d : Fin 64) (r : Fin 1024) :
    outO (F := Ideal) (iblk m c 0 t) (iblk m c 1 t) (iblk m c 2 t) (ix4 0 0 d r)
        = ((∑ j, V' j (hd t) d * pR Q K (hd t) (tok (qb t) r) j : ℝ) : EReal)
      ∧ ∀ e : Fin 8, outL (F := Ideal) (iblk m c 0 t) (iblk m c 1 t) (iblk m c 2 t) (ix4 0 0 e r)
        = (((mR Q K (hd t) (tok (qb t) r) + Real.log (lR Q K (hd t) (tok (qb t) r))) / Real.log 2 : ℝ) : EReal) := by
  obtain ⟨M, h1, h2⟩ := out_good (iblk m c 0 t) (iblk m c 1 t) (iblk m c 2 t) r d _ _
    (score_blk m c Q K hq hk t r) (value_blk m c V' hv t d)
  exact ⟨h1.trans (ratio_eq ..), fun e => (h2 e).trans (level_eq ..)⟩

theorem val_congr {h h' : Fin 8} {n n' : Fin 16} {d d' : Fin 64} {r r' : Fin 1024}
    (e1 : h.val = h'.val) (e2 : n.val = n'.val) (e3 : d.val = d'.val) (e4 : r.val = r'.val) :
    ((∑ j, V' j h d * pR Q K h (tok n r) j : ℝ) : EReal) = ((∑ j, V' j h' d' * pR Q K h' (tok n' r') j : ℝ) : EReal) := by
  cases Fin.ext e1; cases Fin.ext e2; cases Fin.ext e3; cases Fin.ext e4; rfl
theorem lse_congr {h h' : Fin 8} {n n' : Fin 16} {r r' : Fin 1024}
    (e1 : h.val = h'.val) (e2 : n.val = n'.val) (e4 : r.val = r'.val) :
    (((mR Q K h (tok n r) + Real.log (lR Q K h (tok n r))) / Real.log 2 : ℝ) : EReal)
      = (((mR Q K h' (tok n' r') + Real.log (lR Q K h' (tok n' r'))) / Real.log 2 : ℝ) : EReal) := by
  cases Fin.ext e1; cases Fin.ext e2; cases Fin.ext e4; rfl

include hq hk hv in
theorem final3 (h : Fin 8) (n : Fin 16) (d : Fin 64) (r : Fin 1024) :
    (dats (F := Ideal) m 0 c).arrAt 3 cfg0.N (ix4 h n d r) = ((∑ j, V' j h d * pR Q K h (tok n r) j : ℝ) : EReal) := by
  have key := (dats (F := Ideal) m 0 c).arrAt_eq_of_covers 3 (fun y : S8x16x64x1024.Idx =>
      ((∑ j, V' j (y 0) (y 2) * pR Q K (y 0) (tok (y 1) (y 3)) j : ℝ) : EReal)) (by decide +kernel) fun t hf y => ?_
  · exact congrFun key _
  · have e := eq_ix4 y
    rw [after_3]
    generalize y 0 = z0 at e
    generalize y 1 = n at e
    generalize y 2 = d at e
    generalize y 3 = r at e
    subst e
    have h0 : z0.val < 1 := z0.isLt
    have h1 : n.val < 1 := n.isLt
    have hd' : d.val < 64 := d.isLt
    have ha : r.val < 1024 := r.isLt
    obtain rfl : z0 = (0 : Fin 1) := Fin.ext (by show z0.val = 0; omega)
    obtain rfl : n = (0 : Fin 1) := Fin.ext (by show n.val = 0; omega)
    blk_simp
    refine ((out_at m c Q K V' hq hk hv t d r).1).trans (val_congr Q K V' ?_ ?_ ?_ ?_) <;> blk_simp [idx t, hd, qb] <;> (try dsimp only) <;> (try omega)

include hq hk hv in
theorem final4 (h : Fin 8) (n : Fin 16) (e : Fin 8) (r : Fin 1024) :
    (dats (F := Ideal) m 0 c).arrAt 4 cfg0.N (ix4 h n e r)
      = (((mR Q K h (tok n r) + Real.log (lR Q K h (tok n r))) / Real.log 2 : ℝ) : EReal) := by
  have key := (dats (F := Ideal) m 0 c).arrAt_eq_of_covers 4 (fun y : S8x16x8x1024.Idx =>
      (((mR Q K (y 0) (tok (y 1) (y 3)) + Real.log (lR Q K (y 0) (tok (y 1) (y 3)))) / Real.log 2 : ℝ) : EReal)) (by decide +kernel) fun t hf y => ?_
  · exact congrFun key _
  · have e := eq_ix4 y
    rw [after_4]
    generalize y 0 = z0 at e
    generalize y 1 = n at e
    generalize y 2 = d at e
    generalize y 3 = r at e
    subst e
    have h0 : z0.val < 1 := z0.isLt
    have h1 : n.val < 1 := n.isLt
    have hd' : d.val < 8 := d.isLt
    have ha : r.val < 1024 := r.isLt
    obtain rfl : z0 = (0 : Fin 1) := Fin.ext (by show z0.val = 0; omega)
    obtain rfl : n = (0 : Fin 1) := Fin.ext (by show n.val = 0; omega)
    blk_simp
    refine ((out_at m c Q K V' hq hk hv t 0 r).2 d).trans (lse_congr Q K ?_ ?_ ?_) <;> blk_simp [idx t, hd, qb] <;> (try dsimp only) <;> (try omega)
end

end Cert.AttnFwdIdeal.Val

end
-- ==== Proof.AttnFwdPair.lean ====
module

public import proofs.«01_k».proof.Defs
public import proofs.«01_k».proof.Proof.Finite
public import proofs.«01_k».proof.Proof.AttnFwdKer
public import proofs.«01_k».proof.Proof.AttnRef
public import proofs.«01_k».proof.Proof.Gen.AttnFwdRefIdeal.Run
public import proofs.«01_k».proof.Proof.Gen.Pre_attnfwd_finite
public import Idealize.ShloMosaic.Lib.Claim

@[expose] public section

set_option maxRecDepth 16384

noncomputable section

open Idealize.ShloMosaic Idealize.ShloMosaic.TcCoe Idealize.SL.Sem

namespace Cert.AttnFwdRefIdeal.Val

open Cert.AttnFwdRefIdeal Cert.AttnFwdRefIdeal.Gen Cert.AttnReal
open Cert.AttnIdeal.Val (tok)
open Cert.AttnRefIdeal.Val (rows SC M0 MX EX LS rows_at SC_at M0_at MX_at EX_at LS_at)

section
variable (q k : FVec Ideal S16384x8x96 .f32) (v : FVec Ideal S16384x8x64 .f32)

/-- The output by head, from the weights. -/
def OUT (p : FVec Ideal S8x16384x16384 .f32) : FVec Ideal S16384x8x64 .f32 :=
  transpose S16384x8x64 [2, 0, 1] (Host.dotGeneral dot_S16384x8x64_S8x16384x16384_S8x64x16384_0_2_2_1_1_0 none v p) transposes_S8x64x16384_S16384x8x64_2_0_1
def outRows (x : FVec Ideal S16384x8x64 .f32) : FVec Ideal S8x16x64x1024 .bf16 :=
  truncf .bf16 (transpose S8x16x64x1024 [0, 2, 1, 3] (shapeCast S8x64x16x1024 (transpose S8x64x16384 [1, 2, 0] x
    transposes_S16384x8x64_S8x64x16384_1_2_0) shapeCasts_S8x64x16384_S8x64x16x1024) transposes_S8x64x16x1024_S8x16x64x1024_0_2_1_3) bitsLt_bf16_f32
/-- The row's log-sum in base two, from the row maximum and the row sum. -/
def LSE (a b : FVec Ideal S8x16384 .f32) : FVec Ideal S8x16384 .f32 :=
  Host.divf (addf a (Host.log b)) (broadcastInDim S8x16384 ![] bcast_S_S8x16384 (Host.log (constant S_ .f32 0x40000000#32)))
def lseRows (x : FVec Ideal S8x16384 .f32) : FVec Ideal S8x16x8x1024 .f32 :=
  broadcastInDim S8x16x8x1024 ![0, 1, 2, 3] bcast_S8x16x1x1024_S8x16x8x1024_0_1_2_3 (shapeCast S8x16x1x1024 x shapeCasts_S8x16384_S8x16x1x1024)
/-- The exponentials and their row sums with the maximum taken directly. -/
def EX0 : FVec Ideal S8x16384x16384 .f32 := Host.exp (subf (SC q k) (rows (M0 q k)))
def LS0 : FVec Ideal S8x16384 .f32 :=
  Host.reduceAdd (EX0 q k) (constant S_ .f32 0x00000000#32) reducesTo_S8x16384x16384_S8x16384_d2 h_S_

theorem divf_at (a b : FVec Ideal S8x16384x16384 .f32) (i : Shape.Idx S8x16384x16384) :
    Host.divf a b i = Ideal.div (a i) (b i) := rfl
theorem OUT_at (p : FVec Ideal S8x16384x16384 .f32) (i : Fin 16384) (h : Fin 8) (d : Fin 64) :
    OUT v p (ix3 i h d) = ∑ j, v (ix3 j h d) * p (ix3 h i j) := by
  pointwise [OUT]
theorem outRows_at (x : FVec Ideal S16384x8x64 .f32) (h : Fin 8) (n : Fin 16) (d : Fin 64) (r : Fin 1024) :
    outRows x (ix4 h n d r) = x (ix3 (tok n r) h d) := by
  pointwise [outRows]
  rfl
theorem LSE_at (a b : FVec Ideal S8x16384 .f32) (h : Fin 8) (i : Fin 16384) :
    LSE a b (ix2 h i) = Ideal.div (a (ix2 h i) + Ideal.log (b (ix2 h i))) (Ideal.log (Ideal.ofBits .f32 0x40000000#32)) := by
  pointwise [LSE]
theorem lseRows_at (x : FVec Ideal S8x16384 .f32) (h : Fin 8) (n : Fin 16) (e : Fin 8) (r : Fin 1024) :
    lseRows x (ix4 h n e r) = x (ix2 h (tok n r)) := by
  pointwise [lseRows]
  rfl

variable (Q K : Fin 16384 → Fin 8 → Fin 96 → ℝ) (V : Fin 16384 → Fin 8 → Fin 64 → ℝ)
  (hq : ∀ i h e, q (ix3 i h e) = (Q i h e : EReal)) (hk : ∀ i h e, k (ix3 i h e) = (K i h e : EReal))
  (hv : ∀ i h e, v (ix3 i h e) = (V i h e : EReal))

include hq hk in
theorem EX0_at (h : Fin 8) (i j : Fin 16384) : EX0 q k (ix3 h i j) = (eR Q K h i j : EReal) := by
  pointwise [EX0]
  rw [SC_at q k Q K hq hk, rows_at, M0_at q k Q K hq hk, ← EReal.coe_sub]
  rfl

include hq hk in
theorem LS0_at (h : Fin 8) (i : Fin 16384) : LS0 q k (ix2 h i) = (lR Q K h i : EReal) := by
  pointwise [LS0]
  simp only [EX0_at q k Q K hq hk]
  exact coe_sum ..

include hq hk hv in
theorem out_ref (h : Fin 8) (n : Fin 16) (d : Fin 64) (r : Fin 1024) :
    outRows (OUT v (Host.divf (EX q k) (rows (LS q k)))) (ix4 h n d r) = ((∑ j, V j h d * pR Q K h (tok n r) j : ℝ) : EReal) := by
  rw [outRows_at, OUT_at]
  have e : ∀ j, v (ix3 j h d) * Host.divf (EX q k) (rows (LS q k)) (ix3 h (tok n r) j)
      = ((V j h d * pR Q K h (tok n r) j : ℝ) : EReal) := fun j => by
    rw [hv, EReal.coe_mul]
    refine congrArg (fun x : EReal => (V j h d : EReal) * x) ?_
    rw [divf_at, rows_at, EX_at q k Q K hq hk, LS_at q k Q K hq hk]
    exact div_coe_coe (lR_ne Q K h (tok n r)) _
  rw [Finset.sum_congr rfl fun j _ => e j, coe_sum]

include hq hk in
theorem lse_ref (h : Fin 8) (n : Fin 16) (e : Fin 8) (r : Fin 1024) :
    lseRows (LSE (M0 q k) (LS0 q k)) (ix4 h n e r)
      = (((mR Q K h (tok n r) + Real.log (lR Q K h (tok n r))) / Real.log 2 : ℝ) : EReal) := by
  rw [lseRows_at, LSE_at, M0_at q k Q K hq hk, LS0_at q k Q K hq hk, lit_two, log_two, Ideal.log_coe, if_neg (not_le.mpr (lR_pos Q K h (tok n r))), ← EReal.coe_add]
  exact div_coe_coe log2_pos.ne' _
end

end Cert.AttnFwdRefIdeal.Val

namespace Cert.Proof

open Cert.AttnReal

theorem attnFwd_algebraic : Cert.algebraic_AttnFwdIdeal_AttnFwdRefIdeal_pre_attnfwd_finite := by
  intro m g m' g' hpre hagree
  refine ⟨fun c => (Cert.AttnFwdIdeal.Val.dats (F := Ideal) m 0 c).arrAt 3 Cert.AttnFwdIdeal.cfg0.N,
    fun c => (Cert.AttnFwdIdeal.Val.dats (F := Ideal) m 0 c).arrAt 4 Cert.AttnFwdIdeal.cfg0.N, ?_, ?_⟩
  · refine (θ_run _ _ _).mono (fun r hr c => ?_) (θ_run_and (Cert.AttnFwdIdeal.Val.run_main m g) (Cert.AttnFwdIdeal.Val.unchanged m g))
    obtain ⟨hF, hU⟩ := hr
    exact ⟨(hF c).1 3, (hF c).1 4, hU c⟩
  · refine (θ_run _ _ _).mono (fun r hr c => ?_) (Cert.AttnFwdRefIdeal.Value.run m' g')
    obtain ⟨e0, e1, ea⟩ := hr c
    obtain ⟨f0, f1, f2⟩ := hpre c
    obtain ⟨g0, g1, g2⟩ := hagree c
    have hq := fun (i : Fin 16384) (h : Fin 8) (e : Fin 96) => real_of_finite _ _ f0 (ix3 i h e)
    have hk := fun (i : Fin 16384) (h : Fin 8) (e : Fin 96) => real_of_finite _ _ f1 (ix3 i h e)
    have hv := fun (i : Fin 16384) (h : Fin 8) (e : Fin 64) => real_of_finite _ _ f2 (ix3 i h e)
    have hq' := fun (i : Fin 16384) (h : Fin 8) (e : Fin 96) => (congrFun g0 (ix3 i h e)).trans (hq i h e)
    have hk' := fun (i : Fin 16384) (h : Fin 8) (e : Fin 96) => (congrFun g1 (ix3 i h e)).trans (hk i h e)
    have hv' := fun (i : Fin 16384) (h : Fin 8) (e : Fin 64) => (congrFun g2 (ix3 i h e)).trans (hv i h e)
    clear hr
    refine ⟨e0.trans ?_, e1.trans ?_, ea⟩
    · show Cert.AttnFwdRefIdeal.Val.outRows (Cert.AttnFwdRefIdeal.Val.OUT (m' (c.tc.loc Cert.AttnFwdRefIdeal.main_arg2))
        (Host.divf (Cert.AttnRefIdeal.Val.EX (m' (c.tc.loc Cert.AttnFwdRefIdeal.main_arg0)) (m' (c.tc.loc Cert.AttnFwdRefIdeal.main_arg1))) (Cert.AttnRefIdeal.Val.rows (Cert.AttnRefIdeal.Val.LS (m' (c.tc.loc Cert.AttnFwdRefIdeal.main_arg0)) (m' (c.tc.loc Cert.AttnFwdRefIdeal.main_arg1)))))) = _
      refine funext fun y => ?_
      rw [eq_ix4 y]
      exact (Cert.AttnFwdRefIdeal.Val.out_ref _ _ _ _ _ _ hq' hk' hv' ..).trans (Cert.AttnFwdIdeal.Val.final3 m c _ _ _ hq hk hv ..).symm
    · show Cert.AttnFwdRefIdeal.Val.lseRows (Cert.AttnFwdRefIdeal.Val.LSE (Cert.AttnRefIdeal.Val.M0 (m' (c.tc.loc Cert.AttnFwdRefIdeal.main_arg0)) (m' (c.tc.loc Cert.AttnFwdRefIdeal.main_arg1)))
        (Cert.AttnFwdRefIdeal.Val.LS0 (m' (c.tc.loc Cert.AttnFwdRefIdeal.main_arg0)) (m' (c.tc.loc Cert.AttnFwdRefIdeal.main_arg1)))) = _
      refine funext fun y => ?_
      rw [eq_ix4 y]
      exact (Cert.AttnFwdRefIdeal.Val.lse_ref _ _ _ _ hq' hk' ..).trans (Cert.AttnFwdIdeal.Val.final4 m c _ _ _ hq hk hv ..).symm

end Cert.Proof

end
-- ==== Proof.FfnActValue.lean ====
module

public import proofs.«01_k».proof.Proof.FfnActFrame
public import proofs.«01_k».proof.Proof.NormReal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnActIdeal.Val

open Cert.FfnActIdeal Cert.FfnActIdeal.Gen Cert.NormReal

/-! The call's four results as functions of the five arrays it is handed. -/

/-- The logistic function. -/
def sg (s : EReal) : EReal :=
  Ideal.div 1 (1 + Ideal.exp (-s))
/-- The gateSlope of `s · sg s`. -/
def gateSlope (s : EReal) : EReal :=
  sg s * (1 + s * (1 - sg s))
/-- A row of one matrix with a column of another. -/
def dot {n k : ℕ} (h : Fin n → Fin 1024 → EReal) (w : Fin 1024 → Fin k → EReal) (i : Fin n) (j : Fin k) : EReal := ∑ e, h i e * w e j

section
variable (x z : FVec Ideal S512x1024 .f32) (g : FVec Ideal S1x1024 .f32) (h dy : FVec Ideal S512x1024 .bf16) (wg wu wd : FVec Ideal S1024x1408 .bf16)

theorem pay2 (i : Fin 512) (l : Fin 1024) : k0_pay2 (F := Ideal) x g (ix2 i l) = x (ix2 i l) * RS (fun i k => x (ix2 i k)) i * g (ix2 0 l) := by
  pointwise [k0_pay2]
  rfl
theorem pay3 (i : Fin 512) (l : Fin 1024) : k0_pay3 (F := Ideal) z (ix2 i l) = Ideal.ofBits .f32 0x3F000000#32 * z (ix2 i l) := by
  pointwise [k0_pay3]
theorem pay5 (i : Fin 512) (j : Fin 1408) : k0_pay5 (F := Ideal) h wg (ix2 i j) = dot (fun i e => h (ix2 i e)) (fun e j => wg (ix2 e j)) i j := by
  pointwise [k0_pay5, k0_pay4]
  rfl
theorem pay6 (i : Fin 512) (j : Fin 1408) : k0_pay6 (F := Ideal) h wu (ix2 i j) = dot (fun i e => h (ix2 i e)) (fun e j => wu (ix2 e j)) i j := by
  pointwise [k0_pay6, k0_pay4]
  rfl
theorem pay10 (i : Fin 512) (j : Fin 1408) : k0_pay10 (F := Ideal) dy wd (ix2 i j) = dot (fun i e => dy (ix2 i e)) (fun e j => wd (ix2 e j)) i j := by
  pointwise [k0_pay10]
  rfl
theorem pay7 (i : Fin 512) (j : Fin 1408) : k0_pay7 (F := Ideal) h wg (ix2 i j) = sg (dot (fun i e => h (ix2 i e)) (fun e j => wg (ix2 e j)) i j) := by
  pointwise [k0_pay7]
  rw [pay5, zero_sub]
  rfl
theorem act_at (i : Fin 512) (j : Fin 1408) : actO (F := Ideal) h wg wu (ix2 i j)
    = dot (fun i e => h (ix2 i e)) (fun e j => wg (ix2 e j)) i j * sg (dot (fun i e => h (ix2 i e)) (fun e j => wg (ix2 e j)) i j)
      * dot (fun i e => h (ix2 i e)) (fun e j => wu (ix2 e j)) i j := by
  pointwise [actO, k0_pay9, k0_pay8]
  rw [pay5, pay6, pay7]
theorem du_at (i : Fin 512) (j : Fin 1408) : duO (F := Ideal) h dy wg wd (ix2 i j)
    = dot (fun i e => dy (ix2 i e)) (fun e j => wd (ix2 e j)) i j
      * (dot (fun i e => h (ix2 i e)) (fun e j => wg (ix2 e j)) i j * sg (dot (fun i e => h (ix2 i e)) (fun e j => wg (ix2 e j)) i j)) := by
  pointwise [duO, k0_pay11, k0_pay8]
  rw [pay5, pay10, pay7]
theorem dg_at (i : Fin 512) (j : Fin 1408) : dgO (F := Ideal) h dy wg wu wd (ix2 i j)
    = dot (fun i e => dy (ix2 i e)) (fun e j => wd (ix2 e j)) i j * dot (fun i e => h (ix2 i e)) (fun e j => wu (ix2 e j)) i j
      * gateSlope (dot (fun i e => h (ix2 i e)) (fun e j => wg (ix2 e j)) i j) := by
  pointwise [dgO, k0_pay1, k0_pay12, k0_pay13]
  rw [pay5, pay6, pay10, pay7]
  rfl
end

variable (m : (ℓ : Loc nD τ sig) → Buf (Elt Ideal) ℓ) (c : Dev nD)

theorem idx : ∀ t : Fin cfg0.N, win0_0.index t = ![t.val / 2, 0] ∧ win0_1.index t = ![0, 0] ∧ win0_2.index t = ![0, t.val % 2] ∧ win0_3.index t = ![0, 2 + t.val % 2]
    ∧ win0_4.index t = ![0, t.val % 2] ∧ win0_5.index t = ![t.val / 2, 0] ∧ win0_6.index t = ![t.val / 2, 0] ∧ win0_7.index t = ![t.val / 2, t.val % 2]
    ∧ win0_8.index t = ![t.val / 2, t.val % 2] ∧ win0_9.index t = ![t.val / 2, t.val % 2] :=
  (by decide +kernel : ∀ t : Fin grid0.N, _)

/-- The arrays the windows read, as functions of their two coordinates. -/
def xA (i : Fin 16384) (l : Fin 1024) : EReal := (V m c main_arg0 : FVec Ideal S16384x1024 .f32) (ix2 i l)
def gA (l : Fin 1024) : EReal := (V m c main_v2 : FVec Ideal S1x1024 .f32) (ix2 0 l)
def wA (l : Fin 1024) (j : Fin 5632) : EReal := (V m c main_v0 : FVec Ideal S1024x5632 .bf16) (ix2 l j)
def dA (l : Fin 1024) (j : Fin 2816) : EReal := (V m c main_v3 : FVec Ideal S1024x2816 .bf16) (ix2 l j)
def zA (i : Fin 16384) (l : Fin 1024) : EReal := (V m c main_arg4 : FVec Ideal S16384x1024 .f32) (ix2 i l)

/-- The normalised rows, the two halves of the hidden rows, and the cotangent of the gate's result. -/
def hA (i : Fin 16384) (l : Fin 1024) : EReal := xA m c i l * RS (xA m c) i * gA m c l
def yA (i : Fin 16384) (l : Fin 1024) : EReal := Ideal.ofBits .f32 0x3F000000#32 * zA m c i l
def sA (i : Fin 16384) (j : Fin 2816) : EReal := dot (hA m c) (fun l (j : Fin 2816) => wA m c l ⟨j.val, by omega⟩) i j
def uA (i : Fin 16384) (j : Fin 2816) : EReal := dot (hA m c) (fun l (j : Fin 2816) => wA m c l ⟨2816 + j.val, by omega⟩) i j
def eA (i : Fin 16384) (j : Fin 2816) : EReal := dot (yA m c) (dA m c) i j

theorem lt64 (t : Fin cfg0.N) : t.val < 64 := lt_of_lt_of_eq t.isLt N_0
/-- Row `i` and column `j` of tile `t`. -/
def row (t : Fin cfg0.N) (i : Fin 512) : Fin 16384 := ⟨t.val / 2 * 512 + i, by have := lt64 t; omega⟩
def col (t : Fin cfg0.N) (j : Fin 1408) : Fin 2816 := ⟨t.val % 2 * 1408 + j, by omega⟩

theorem ib0 (t : Fin cfg0.N) (i : Fin 512) (l : Fin 1024) : iblk m c 0 t (ix2 i l) = xA m c (row t i) l := by
  unfold xA row
  blk_point [iblk, idx t]
theorem ib1 (t : Fin cfg0.N) (l : Fin 1024) : iblk m c 1 t (ix2 0 l) = gA m c l := by
  unfold gA
  blk_point [iblk, idx t]
theorem ib2 (t : Fin cfg0.N) (l : Fin 1024) (j : Fin 1408) : iblk m c 2 t (ix2 l j) = wA m c l ⟨(col t j).val, by omega⟩ := by
  unfold wA col
  blk_point [iblk, idx t]
theorem ib3 (t : Fin cfg0.N) (l : Fin 1024) (j : Fin 1408) : iblk m c 3 t (ix2 l j) = wA m c l ⟨2816 + (col t j).val, by omega⟩ := by
  unfold wA col
  blk_point [iblk, idx t]
  try omega
theorem ib4 (t : Fin cfg0.N) (l : Fin 1024) (j : Fin 1408) : iblk m c 4 t (ix2 l j) = dA m c l (col t j) := by
  unfold dA col
  blk_point [iblk, idx t]
theorem ib5 (t : Fin cfg0.N) (i : Fin 512) (l : Fin 1024) : iblk m c 5 t (ix2 i l) = zA m c (row t i) l := by
  unfold zA row
  blk_point [iblk, idx t]

theorem H_at (t : Fin cfg0.N) (i : Fin 512) (l : Fin 1024) : H m c t (ix2 i l) = hA m c (row t i) l := by
  refine (pay2 ..).trans ?_
  unfold hA RS
  simp only [ib0, ib1]
theorem DY_at (t : Fin cfg0.N) (i : Fin 512) (l : Fin 1024) : DY m c t (ix2 i l) = yA m c (row t i) l := by
  refine (pay3 ..).trans ?_
  unfold yA
  rw [ib5]
theorem s_at (t : Fin cfg0.N) (i : Fin 512) (j : Fin 1408) :
    dot (fun i e => H m c t (ix2 i e)) (fun e j => iblk m c 2 t (ix2 e j)) i j = sA m c (row t i) (col t j) := by
  unfold sA dot
  simp only [H_at, ib2]
theorem u_at (t : Fin cfg0.N) (i : Fin 512) (j : Fin 1408) :
    dot (fun i e => H m c t (ix2 i e)) (fun e j => iblk m c 3 t (ix2 e j)) i j = uA m c (row t i) (col t j) := by
  unfold uA dot
  simp only [H_at, ib3]
theorem e_at (t : Fin cfg0.N) (i : Fin 512) (j : Fin 1408) :
    dot (fun i e => DY m c t (ix2 i e)) (fun e j => iblk m c 4 t (ix2 e j)) i j = eA m c (row t i) (col t j) := by
  unfold eA dot
  simp only [DY_at, ib4]

theorem two_congr {n k : ℕ} (f : Fin n → Fin k → EReal) {i i' : Fin n} {j j' : Fin k} (e : i.val = i'.val) (e' : j.val = j'.val) : f i j = f i' j' := by
  cases Fin.ext e; cases Fin.ext e'; rfl

theorem final6 (i : Fin 16384) (l : Fin 1024) : (dats m 0 c).arrAt 6 cfg0.N (ix2 i l) = hA m c i l := by
  have key := (dats m 0 c).arrAt_eq_of_covers 6 (fun y => hA m c (y 0) (y 1)) (by decide +kernel) fun t _ y => ?_
  · exact congrFun key _
  · have e := eq_ix2 y
    rw [after_6]
    generalize y 0 = i at e
    generalize y 1 = l at e
    subst e
    have hi : i.val < 512 := i.isLt
    have hl : l.val < 1024 := l.isLt
    blk_simp
    refine (H_at m c t i l).trans ?_
    refine two_congr (hA m c) ?_ ?_ <;> blk_simp [idx t, row] <;> dsimp only <;> omega

/-- The gate's result and the two cotangents, entry by entry. -/
def actA (i : Fin 16384) (j : Fin 2816) : EReal := sA m c i j * sg (sA m c i j) * uA m c i j
def dgA (i : Fin 16384) (j : Fin 2816) : EReal := eA m c i j * uA m c i j * gateSlope (sA m c i j)
def duA (i : Fin 16384) (j : Fin 2816) : EReal := eA m c i j * (sA m c i j * sg (sA m c i j))

theorem act_blk (t : Fin cfg0.N) (i : Fin 512) (j : Fin 1408) :
    actO (H m c t) (iblk m c 2 t) (iblk m c 3 t) (ix2 i j) = actA m c (row t i) (col t j) := by
  rw [act_at, s_at, u_at]; rfl
theorem dg_blk (t : Fin cfg0.N) (i : Fin 512) (j : Fin 1408) :
    dgO (H m c t) (DY m c t) (iblk m c 2 t) (iblk m c 3 t) (iblk m c 4 t) (ix2 i j) = dgA m c (row t i) (col t j) := by
  rw [dg_at, s_at, u_at, e_at]; rfl
theorem du_blk (t : Fin cfg0.N) (i : Fin 512) (j : Fin 1408) :
    duO (H m c t) (DY m c t) (iblk m c 2 t) (iblk m c 4 t) (ix2 i j) = duA m c (row t i) (col t j) := by
  rw [du_at, s_at, e_at]; rfl

theorem final7 (i : Fin 16384) (j : Fin 2816) : (dats m 0 c).arrAt 7 cfg0.N (ix2 i j) = actA m c i j := by
  have key := (dats m 0 c).arrAt_eq_of_covers 7 (fun y => actA m c (y 0) (y 1)) (by decide +kernel) fun t _ y => ?_
  · exact congrFun key _
  · have e := eq_ix2 y
    rw [after_7]
    generalize y 0 = i at e
    generalize y 1 = l at e
    subst e
    have hi : i.val < 512 := i.isLt
    have hl : l.val < 1408 := l.isLt
    blk_simp
    refine (act_blk m c t i l).trans ?_
    refine two_congr (actA m c) ?_ ?_ <;> blk_simp [idx t, row, col] <;> dsimp only <;> omega

theorem final8 (i : Fin 16384) (j : Fin 2816) : (dats m 0 c).arrAt 8 cfg0.N (ix2 i j) = dgA m c i j := by
  have key := (dats m 0 c).arrAt_eq_of_covers 8 (fun y => dgA m c (y 0) (y 1)) (by decide +kernel) fun t _ y => ?_
  · exact congrFun key _
  · have e := eq_ix2 y
    rw [after_8]
    generalize y 0 = i at e
    generalize y 1 = l at e
    subst e
    have hi : i.val < 512 := i.isLt
    have hl : l.val < 1408 := l.isLt
    blk_simp
    refine (dg_blk m c t i l).trans ?_
    refine two_congr (dgA m c) ?_ ?_ <;> blk_simp [idx t, row, col] <;> dsimp only <;> omega

theorem final9 (i : Fin 16384) (j : Fin 2816) : (dats m 0 c).arrAt 9 cfg0.N (ix2 i j) = duA m c i j := by
  have key := (dats m 0 c).arrAt_eq_of_covers 9 (fun y => duA m c (y 0) (y 1)) (by decide +kernel) fun t _ y => ?_
  · exact congrFun key _
  · have e := eq_ix2 y
    rw [after_9]
    generalize y 0 = i at e
    generalize y 1 = l at e
    subst e
    have hi : i.val < 512 := i.isLt
    have hl : l.val < 1408 := l.isLt
    blk_simp
    refine (du_blk m c t i l).trans ?_
    refine two_congr (duA m c) ?_ ?_ <;> blk_simp [idx t, row, col] <;> dsimp only <;> omega

theorem gA_at (l : Fin 1024) : gA m c l = (m ((c : Thread nD τ).loc main_arg1) : FVec Ideal S1024 .f32) (ix1 l) := by
  unfold gA
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
theorem wA_at (l : Fin 1024) (j : Fin 5632) : wA m c l j = (m ((c : Thread nD τ).loc main_arg2) : FVec Ideal S1024x5632 .f32) (ix2 l j) := by
  unfold wA
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
theorem dA_at (l : Fin 1024) (j : Fin 2816) : dA m c l j = (m ((c : Thread nD τ).loc main_arg3) : FVec Ideal S2816x1024 .f32) (ix2 j l) := by
  unfold dA
  simp only [V, hostOps0, List.flatten_cons, List.flatten_nil, List.append_nil, List.cons_append, List.nil_append,
    StableHlo.TRef.binary, StableHlo.TRef.unary, StableHlo.TRef.toBuf, StableHlo.TRef.ofBuf, cast_eq]
  after_results_simp
  pointwise

end Cert.FfnActIdeal.Val

end
-- ==== Proof.FfnActPair.lean ====
module

public import proofs.«01_k».proof.Defs
public import proofs.«01_k».proof.Proof.Finite
public import proofs.«01_k».proof.Proof.FfnActValue
public import proofs.«01_k».proof.Proof.Gen.FfnActRefIdeal.Run
public import proofs.«01_k».proof.Proof.Gen.Pre_ffnact_finite
public import Idealize.ShloMosaic.Lib.Claim

@[expose] public section

set_option maxRecDepth 16384

noncomputable section

open Idealize.ShloMosaic Idealize.ShloMosaic.TcCoe Idealize.SL.Sem

namespace Cert.FfnActRefIdeal.Val

open Cert.FfnActRefIdeal Cert.FfnActRefIdeal.Gen Cert.NormReal
open Cert.FfnActIdeal.Val (sg gateSlope dot)

/-! The reference's arrays, one definition per stage of its mathematics. -/

section
variable (x z : FVec Ideal S16384x1024 .f32) (g : FVec Ideal S1024 .f32) (w : FVec Ideal S1024x5632 .f32) (d : FVec Ideal S2816x1024 .f32)

/-- The normalised rows. -/
def HH : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
/-- The hidden rows and their two halves. -/
def GU (h : FVec Ideal S16384x1024 .f32) : FVec Ideal S16384x5632 .f32 :=
  Host.dotGeneral dot_S16384x1024_S1024x5632_S16384x5632_1_0_0_1_n_n none h w
def LO (y : FVec Ideal S16384x5632 .f32) : FVec Ideal S16384x2816 .f32 := extractStridedSlice S16384x2816 ![0, 0] y slices_S16384x5632_S16384x2816_0_0
def HI (y : FVec Ideal S16384x5632 .f32) : FVec Ideal S16384x2816 .f32 := extractStridedSlice S16384x2816 ![0, 2816] y slices_S16384x5632_S16384x2816_0_2816
def ONE : FVec Ideal S16384x2816 .f32 := broadcastInDim S16384x2816 ![] bcast_S_S16384x2816 (constant S_ .f32 0x3F800000#32)
/-- The logistic function, entry by entry. -/
def SIG (s : FVec Ideal S16384x2816 .f32) : FVec Ideal S16384x2816 .f32 := Host.divf ONE (addf ONE (Host.exp (Host.negf s)))
/-- The cotangent of the gate's result. -/
def DA : FVec Ideal S16384x2816 .f32 :=
  Host.dotGeneral dot_S16384x1024_S2816x1024_S16384x2816_1_1_0_0_n_n none (mulf (broadcastInDim S16384x1024 ![] bcast_S_S16384x1024 (constant S_ .f32 0x3F000000#32)) z) d
/-- The cotangent of the first half, from the cotangent of the gate's first factor. -/
def DS (s b : FVec Ideal S16384x2816 .f32) : FVec Ideal S16384x2816 .f32 :=
  addf (mulf b (SIG s)) (mulf (mulf s b) (mulf (SIG s) (subf ONE (SIG s))))
/-- The two cotangents side by side. -/
def SIDE (a b : FVec Ideal S16384x2816 .f32) : FVec Ideal S16384x5632 .f32 :=
  addf (pad S16384x5632 ![0, 2816] ![0, 0] ![0, 0] a (constant S_ .f32 0x00000000#32) pads_S16384x2816_S16384x5632_000_281600 h_S_)
    (pad S16384x5632 ![0, 0] ![0, 2816] ![0, 0] b (constant S_ .f32 0x00000000#32) pads_S16384x2816_S16384x5632_000_028160 h_S_)

theorem HH_at (i : Fin 16384) (l : Fin 1024) : HH x g (ix2 i l) = x (ix2 i l) * RS (fun i k => x (ix2 i k)) i * g (ix1 l) := by
  pointwise [HH]
  rfl
theorem GU_at (h : FVec Ideal S16384x1024 .f32) (i : Fin 16384) (j : Fin 5632) : GU w h (ix2 i j) = ∑ e, h (ix2 i e) * w (ix2 e j) := by
  pointwise [GU]
theorem LO_at (y : FVec Ideal S16384x5632 .f32) (i : Fin 16384) (j : Fin 2816) : LO y (ix2 i j) = y (ix2 i (⟨j.val, by omega⟩ : Fin 5632)) := by
  pointwise [LO]
theorem HI_at (y : FVec Ideal S16384x5632 .f32) (i : Fin 16384) (j : Fin 2816) : HI y (ix2 i j) = y (ix2 i (⟨2816 + j.val, by omega⟩ : Fin 5632)) := by
  pointwise [HI]
theorem SIG_at (s : FVec Ideal S16384x2816 .f32) (i : Fin 16384) (j : Fin 2816) : SIG s (ix2 i j) = sg (s (ix2 i j)) := by
  pointwise [SIG, ONE]
  rfl
theorem DA_at (i : Fin 16384) (j : Fin 2816) : DA z d (ix2 i j) = ∑ e, Ideal.ofBits .f32 0x3F000000#32 * z (ix2 i e) * d (ix2 j e) := by
  pointwise [DA]
theorem DS_at (s b : FVec Ideal S16384x2816 .f32) (i : Fin 16384) (j : Fin 2816) :
    DS s b (ix2 i j) = b (ix2 i j) * sg (s (ix2 i j)) + s (ix2 i j) * b (ix2 i j) * (sg (s (ix2 i j)) * (1 - sg (s (ix2 i j)))) := by
  pointwise [DS, ONE]
  rw [SIG_at]
theorem SIDE_lo (a b : FVec Ideal S16384x2816 .f32) (i : Fin 16384) (j : Fin 2816) : LO (SIDE a b) (ix2 i j) = b (ix2 i j) := by
  rw [LO_at]
  pointwise [SIDE]
  simp
theorem SIDE_hi (a b : FVec Ideal S16384x2816 .f32) (i : Fin 16384) (j : Fin 2816) : HI (SIDE a b) (ix2 i j) = a (ix2 i j) := by
  rw [HI_at]
  pointwise [SIDE]
end

variable (m : (ℓ : Loc nD τ sig) → Buf (Elt Ideal) ℓ) (c : Dev nD)

theorem out2_eq : Value.res_main_v37 m c = truncf .bf16 (LO (SIDE
    (mulf (mulf (LO (GU (m (c.tc.loc main_arg2)) (HH (m (c.tc.loc main_arg0)) (m (c.tc.loc main_arg1)))))
      (SIG (LO (GU (m (c.tc.loc main_arg2)) (HH (m (c.tc.loc main_arg0)) (m (c.tc.loc main_arg1))))))) (DA (m (c.tc.loc main_arg4)) (m (c.tc.loc main_arg3))))
    (DS (LO (GU (m (c.tc.loc main_arg2)) (HH (m (c.tc.loc main_arg0)) (m (c.tc.loc main_arg1)))))
      (mulf (DA (m (c.tc.loc main_arg4)) (m (c.tc.loc main_arg3))) (HI (GU (m (c.tc.loc main_arg2)) (HH (m (c.tc.loc main_arg0)) (m (c.tc.loc main_arg1))))))))) bitsLt_bf16_f32 := rfl
theorem out3_eq : Value.res_main_v39 m c = truncf .bf16 (HI (SIDE
    (mulf (mulf (LO (GU (m (c.tc.loc main_arg2)) (HH (m (c.tc.loc main_arg0)) (m (c.tc.loc main_arg1)))))
      (SIG (LO (GU (m (c.tc.loc main_arg2)) (HH (m (c.tc.loc main_arg0)) (m (c.tc.loc main_arg1))))))) (DA (m (c.tc.loc main_arg4)) (m (c.tc.loc main_arg3))))
    (DS (LO (GU (m (c.tc.loc main_arg2)) (HH (m (c.tc.loc main_arg0)) (m (c.tc.loc main_arg1)))))
      (mulf (DA (m (c.tc.loc main_arg4)) (m (c.tc.loc main_arg3))) (HI (GU (m (c.tc.loc main_arg2)) (HH (m (c.tc.loc main_arg0)) (m (c.tc.loc main_arg1))))))))) bitsLt_bf16_f32 := rfl

end Cert.FfnActRefIdeal.Val

namespace Cert.Proof.FfnAct

open Cert.FfnActIdeal.Val Cert.NormReal
open Cert.FfnActRefIdeal.Val (HH GU LO HI SIG DA DS SIDE HH_at GU_at LO_at HI_at SIG_at DA_at DS_at SIDE_lo SIDE_hi)

theorem lit_half : Ideal.ofBits .f32 0x3F000000#32 = ((1 / 2 : ℝ) : EReal) := by
  simp [Ideal.ofBits, Ideal.ieee, -EReal.coe_mul]; norm_num
/-- The logistic function over the real numbers. -/
def sgR (s : ℝ) : ℝ := 1 / (1 + Real.exp (-s))
theorem sg_coe (s : ℝ) : sg (s : EReal) = (sgR s : EReal) := by
  unfold sg sgR
  rw [← EReal.coe_neg, Ideal.exp_coe, ← EReal.coe_one, ← EReal.coe_add]
  exact div_real (by positivity) _
/-- The two forms of the first half's cotangent. -/
theorem slope_two (a u s : ℝ) :
    (a : EReal) * u * gateSlope (s : EReal) = (a : EReal) * u * sg (s : EReal) + (s : EReal) * ((a : EReal) * u) * (sg (s : EReal) * (1 - sg (s : EReal))) := by
  unfold gateSlope
  rw [sg_coe, ← EReal.coe_one]
  simp only [← EReal.coe_sub, ← EReal.coe_mul, ← EReal.coe_add]
  congr 1
  ring

section
variable (m : (ℓ : Loc Cert.FfnActIdeal.nD Cert.FfnActIdeal.τ Cert.FfnActIdeal.sig) → Buf (Elt Ideal) ℓ) (c : Dev Cert.FfnActIdeal.nD)
  (x z : FVec Ideal Cert.FfnActRefIdeal.S16384x1024 .f32) (g : FVec Ideal Cert.FfnActRefIdeal.S1024 .f32)
  (w : FVec Ideal Cert.FfnActRefIdeal.S1024x5632 .f32) (d : FVec Ideal Cert.FfnActRefIdeal.S2816x1024 .f32)
  (hx : x = m (c.tc.loc Cert.FfnActIdeal.main_arg0)) (hg : g = m (c.tc.loc Cert.FfnActIdeal.main_arg1))
  (hw : w = m (c.tc.loc Cert.FfnActIdeal.main_arg2)) (hd : d = m (c.tc.loc Cert.FfnActIdeal.main_arg3))
  (hz : z = m (c.tc.loc Cert.FfnActIdeal.main_arg4))

include hx in
theorem x_at (i : Fin 16384) (l : Fin 1024) : xA m c i l = x (ix2 i l) := by rw [hx]; rfl
include hz in
theorem z_at (i : Fin 16384) (l : Fin 1024) : zA m c i l = z (ix2 i l) := by rw [hz]; rfl
include hg in
theorem g_at (l : Fin 1024) : gA m c l = g (ix1 l) := by rw [hg]; exact Cert.FfnActIdeal.Val.gA_at m c l
include hw in
theorem w_at (l : Fin 1024) (j : Fin 5632) : wA m c l j = w (ix2 l j) := by rw [hw]; exact Cert.FfnActIdeal.Val.wA_at m c l j
include hd in
theorem d_at (l : Fin 1024) (j : Fin 2816) : dA m c l j = d (ix2 j l) := by rw [hd]; exact Cert.FfnActIdeal.Val.dA_at m c l j

include hx hg in
theorem h_at (i : Fin 16384) (l : Fin 1024) : hA m c i l = HH x g (ix2 i l) := by
  rw [HH_at]
  unfold hA RS
  simp only [x_at m c x hx, g_at m c g hg]
include hx hg hw in
theorem s_at (i : Fin 16384) (j : Fin 2816) : sA m c i j = LO (GU w (HH x g)) (ix2 i j) := by
  rw [LO_at, GU_at]
  unfold sA dot
  simp only [h_at m c x g hx hg, w_at m c w hw]
include hx hg hw in
theorem u_at (i : Fin 16384) (j : Fin 2816) : uA m c i j = HI (GU w (HH x g)) (ix2 i j) := by
  rw [HI_at, GU_at]
  unfold uA dot
  simp only [h_at m c x g hx hg, w_at m c w hw]
include hz hd in
theorem e_at (i : Fin 16384) (j : Fin 2816) : eA m c i j = DA z d (ix2 i j) := by
  rw [DA_at]
  unfold eA yA dot
  simp only [z_at m c z hz, d_at m c d hd]

variable (X Z : Fin 16384 → Fin 1024 → ℝ) (G : Fin 1024 → ℝ) (W : Fin 1024 → Fin 5632 → ℝ) (D : Fin 2816 → Fin 1024 → ℝ)
  (fx : ∀ i l, x (ix2 i l) = (X i l : EReal)) (fg : ∀ l, g (ix1 l) = (G l : EReal)) (fw : ∀ l j, w (ix2 l j) = (W l j : EReal))
  (fd : ∀ j l, d (ix2 j l) = (D j l : EReal)) (fz : ∀ i l, z (ix2 i l) = (Z i l : EReal))

include fx fg in
theorem h_real (i : Fin 16384) (l : Fin 1024) : HH x g (ix2 i l) = ((X i l * rR (X i) * G l : ℝ) : EReal) := by
  rw [HH_at, fx, fg, show RS (fun i k => x (ix2 i k)) i = (rR (X i) : EReal) from scale_at _ (fx i), ← EReal.coe_mul, ← EReal.coe_mul]
include fx fg fw in
theorem gu_real (i : Fin 16384) (j : Fin 5632) : ∃ r : ℝ, GU w (HH x g) (ix2 i j) = (r : EReal) := by
  refine ⟨∑ e, X i e * rR (X i) * G e * W e j, ?_⟩
  rw [GU_at]
  simp only [h_real x g X G fx fg, fw, ← EReal.coe_mul, coe_sum]
include fd fz in
theorem da_real (i : Fin 16384) (j : Fin 2816) : ∃ r : ℝ, DA z d (ix2 i j) = (r : EReal) := by
  refine ⟨∑ e, 1 / 2 * Z i e * D j e, ?_⟩
  rw [DA_at, lit_half]
  simp only [fz, fd, ← EReal.coe_mul, coe_sum]

include hx hg hw hd hz fx fg fw fd fz in
theorem dg_eq (i : Fin 16384) (j : Fin 2816) : dgA m c i j
    = LO (SIDE (mulf (mulf (LO (GU w (HH x g))) (SIG (LO (GU w (HH x g))))) (DA z d))
        (DS (LO (GU w (HH x g))) (mulf (DA z d) (HI (GU w (HH x g)))))) (ix2 i j) := by
  rw [SIDE_lo, DS_at]
  unfold dgA
  rw [s_at m c x g w hx hg hw, u_at m c x g w hx hg hw, e_at m c z d hd hz]
  obtain ⟨s, hs⟩ := gu_real x g w X G W fx fg fw i (⟨j.val, by omega⟩ : Fin 5632)
  obtain ⟨u, hu⟩ := gu_real x g w X G W fx fg fw i (⟨2816 + j.val, by omega⟩ : Fin 5632)
  obtain ⟨a, ha⟩ := da_real z d Z D fd fz i j
  rw [show mulf (DA z d) (HI (GU w (HH x g))) (ix2 i j) = DA z d (ix2 i j) * HI (GU w (HH x g)) (ix2 i j) from rfl]
  rw [LO_at, HI_at, hs, hu, ha]
  exact slope_two a u s

include hx hg hw hd hz in
theorem du_eq (i : Fin 16384) (j : Fin 2816) : duA m c i j
    = HI (SIDE (mulf (mulf (LO (GU w (HH x g))) (SIG (LO (GU w (HH x g))))) (DA z d))
        (DS (LO (GU w (HH x g))) (mulf (DA z d) (HI (GU w (HH x g)))))) (ix2 i j) := by
  rw [SIDE_hi]
  unfold duA
  rw [s_at m c x g w hx hg hw, e_at m c z d hd hz, ← SIG_at]
  exact mul_comm _ _

include hx hg hw in
theorem act_eq (i : Fin 16384) (j : Fin 2816) : actA m c i j
    = mulf (mulf (LO (GU w (HH x g))) (SIG (LO (GU w (HH x g))))) (HI (GU w (HH x g))) (ix2 i j) := by
  unfold actA
  rw [s_at m c x g w hx hg hw, u_at m c x g w hx hg hw, ← SIG_at]
  rfl
end

end Cert.Proof.FfnAct

namespace Cert.Proof

theorem ffnAct_algebraic : Cert.algebraic_FfnActIdeal_FfnActRefIdeal_pre_ffnact_finite := by
  intro m g m' g' hpre hagree
  refine ⟨fun c => (Cert.FfnActIdeal.Val.dats (F := Ideal) m 0 c).arrAt 6 Cert.FfnActIdeal.cfg0.N,
    fun c => (Cert.FfnActIdeal.Val.dats (F := Ideal) m 0 c).arrAt 7 Cert.FfnActIdeal.cfg0.N,
    fun c => (Cert.FfnActIdeal.Val.dats (F := Ideal) m 0 c).arrAt 8 Cert.FfnActIdeal.cfg0.N,
    fun c => (Cert.FfnActIdeal.Val.dats (F := Ideal) m 0 c).arrAt 9 Cert.FfnActIdeal.cfg0.N, ?_, ?_⟩
  · refine (θ_run _ _ _).mono (fun r hr c => ?_) (θ_run_and (Cert.FfnActIdeal.Val.run_main m g) (Cert.FfnActIdeal.Val.unchanged m g))
    obtain ⟨hF, hU⟩ := hr
    exact ⟨(hF c).1 6, (hF c).1 7, (hF c).1 8, (hF c).1 9, hU c⟩
  · refine (θ_run _ _ _).mono (fun r hr c => ?_) (Cert.FfnActRefIdeal.Value.run m' g')
    obtain ⟨e0, e1, e2, e3, ea⟩ := hr c
    obtain ⟨f0, f1, f2, f3, f4⟩ := hpre c
    obtain ⟨g0, g1, g2, g3, g4⟩ := hagree c
    have hx := fun (i : Fin 16384) (l : Fin 1024) => (congrFun g0 (ix2 i l)).trans (real_of_finite _ _ f0 (ix2 i l))
    have hg := fun (l : Fin 1024) => (congrFun g1 (ix1 l)).trans (real_of_finite _ _ f1 (ix1 l))
    have hw := fun (l : Fin 1024) (j : Fin 5632) => (congrFun g2 (ix2 l j)).trans (real_of_finite _ _ f2 (ix2 l j))
    have hd := fun (j : Fin 2816) (l : Fin 1024) => (congrFun g3 (ix2 j l)).trans (real_of_finite _ _ f3 (ix2 j l))
    have hz := fun (i : Fin 16384) (l : Fin 1024) => (congrFun g4 (ix2 i l)).trans (real_of_finite _ _ f4 (ix2 i l))
    clear hr
    refine ⟨e0.trans ?_, e1.trans ?_, e2.trans ?_, e3.trans ?_, ea⟩
    · refine funext fun y => ?_
      rw [eq_ix2 y]
      exact (FfnAct.h_at m c _ _ g0 g1 ..).symm.trans (Cert.FfnActIdeal.Val.final6 m c ..).symm
    · refine funext fun y => ?_
      rw [eq_ix2 y]
      exact (FfnAct.act_eq m c _ _ _ g0 g1 g2 ..).symm.trans (Cert.FfnActIdeal.Val.final7 m c ..).symm
    · rw [Cert.FfnActRefIdeal.Val.out2_eq]
      refine funext fun y => ?_
      rw [eq_ix2 y]
      exact (FfnAct.dg_eq m c _ _ _ _ _ g0 g1 g2 g3 g4 _ _ _ _ _ hx hg hw hd hz ..).symm.trans (Cert.FfnActIdeal.Val.final8 m c ..).symm
    · rw [Cert.FfnActRefIdeal.Val.out3_eq]
      refine funext fun y => ?_
      rw [eq_ix2 y]
      exact (FfnAct.du_eq m c _ _ _ _ _ g0 g1 g2 g3 g4 ..).symm.trans (Cert.FfnActIdeal.Val.final9 m c ..).symm

end Cert.Proof

end
-- ==== Proof.MlaInSpec.lean ====
module

public import Idealize.ShloMosaic.Lib.Pointwise
public import Idealize.ShloMosaic.PureOps.Ideal

@[expose] public section

noncomputable section

open Idealize.ShloMosaic

/-! The latent that the keys and values are projected from, and the gradient of the values' projection. -/

namespace Cert.MlaSpec

/-- The factor a row is scaled by. -/
def scl {n : ℕ} (len : EReal) (x : Fin n → EReal) : EReal :=
  Ideal.rsqrt (Ideal.div (∑ k, x k * x k) len + Ideal.ofBits .f32 0x358637BD#32)

section
variable (x : Fin 16384 → Fin 1024 → EReal) (g : Fin 1024 → EReal) (w : Fin 1024 → Fin 256 → EReal) (gk : Fin 256 → EReal)
  (dv : Fin 16384 → Fin 8 → Fin 64 → EReal)

/-- A token's latent before its norm. -/
def lat (s : Fin 16384) (k : Fin 256) : EReal := ∑ l, x s l * scl (Ideal.ofBits .f32 0x44800000#32) (x s) * g l * w l k
/-- A token's latent. -/
def latN (s : Fin 16384) (k : Fin 256) : EReal :=
  lat x g w s k * scl (Ideal.ofBits .f32 0x43800000#32) (lat x g w s) * gk k
/-- The gradient of the values' projection. -/
def dWuv (i : Fin 256) (j : Fin 512) : EReal :=
  ∑ s, latN x g w gk s i * dv s ⟨j.val / 64, by omega⟩ ⟨j.val % 64, by omega⟩
end

end Cert.MlaSpec

end
-- ==== Proof.MlaInPay.lean ====
module

public import proofs.«01_k».proof.Proof.MlaInSpec
public import proofs.«01_k».proof.Proof.Gen.MlaInIdeal.Skeleton

@[expose] public section

set_option maxRecDepth 16384

noncomputable section

open Idealize.ShloMosaic Idealize.ShloMosaic.TcCoe Idealize.SL.Sem

namespace Cert.MlaInIdeal.Val

open Cert.MlaInIdeal Cert.MlaInIdeal.Gen Cert.MlaSpec

/-! The values the body computes on its way to the gradient of the values' projection, entry by entry. -/

section
variable (x : FVec Ideal S256x1024 .f32) (g : FVec Ideal S1x1024 .f32) (w : FVec Ideal S1024x1280 .bf16) (gk : FVec Ideal S1x256 .f32)
  (dv : FVec Ideal S8x1x64x256 .f32) (o : FVec Ideal S256x512 .f32)

theorem pay11 (r k : Fin 256) : k0_pay11 (F := Ideal) x g w (ix2 r k)
    = ∑ l : Fin 1024, x (ix2 r l) * scl (Ideal.ofBits .f32 0x44800000#32) (fun l : Fin 1024 => x (ix2 r l)) * g (ix2 0 l)
        * w (ix2 l ⟨384 + k.val, by omega⟩) := by
  unfold scl
  pointwise [k0_pay11, k0_pay9]

theorem pay19 (z : FVec Ideal S256x256 .f32) (v : FVec Ideal S256x1 .f32) (r k : Fin 256) :
    k0_pay19 (F := Ideal) z v gk (ix2 r k) = z (ix2 r k) * Ideal.rsqrt (v (ix2 r 0)) * gk (ix2 0 k) := by
  pointwise [k0_pay19, k0_pay17, k0_pay15]

theorem pay14 (r : Fin 256) : k0_pay14 (F := Ideal) x g w (ix2 r 0)
    = Ideal.div (∑ k : Fin 256, k0_pay11 (F := Ideal) x g w (ix2 r k) * k0_pay11 (F := Ideal) x g w (ix2 r k)) (Ideal.ofBits .f32 0x43800000#32)
        + Ideal.ofBits .f32 0x358637BD#32 := by
  pointwise [k0_pay14]

theorem pay154 (r : Fin 256) (j : Fin 512) : k0_pay154 (F := Ideal) dv (ix2 r j) = dv (ix4 ⟨j.val / 64, by omega⟩ 0 ⟨j.val % 64, by omega⟩ r) := by
  pointwise [k0_pay154]

theorem pay157 (a : FVec Ideal S256x256 .bf16) (i : Fin 256) (j : Fin 512) : k0_pay157 (F := Ideal) a dv o (ix2 i j)
    = o (ix2 i j) + ∑ r : Fin 256, a (ix2 r i) * dv (ix4 ⟨j.val / 64, by omega⟩ 0 ⟨j.val % 64, by omega⟩ r) := by
  pointwise [k0_pay157]
  simp only [pay154]

/-- What a tile adds to the gradient. -/
theorem tile (i : Fin 256) (j : Fin 512) : k0_pay157 (F := Ideal) (k0_pay19 (k0_pay11 x g w) (k0_pay14 x g w) gk) dv o (ix2 i j)
    = o (ix2 i j) + ∑ r : Fin 256, (k0_pay11 (F := Ideal) x g w (ix2 r i)
        * scl (Ideal.ofBits .f32 0x43800000#32) (fun k : Fin 256 => k0_pay11 (F := Ideal) x g w (ix2 r k)) * gk (ix2 0 i))
        * dv (ix4 ⟨j.val / 64, by omega⟩ 0 ⟨j.val % 64, by omega⟩ r) := by
  rw [pay157]
  unfold scl
  simp only [pay19, pay14]
end

theorem pay4 (i : Fin 256) (j : Fin 512) : k0_pay4 (F := Ideal) (ix2 i j) = 0 := by pointwise [k0_pay4]

end Cert.MlaInIdeal.Val

end
-- ==== Proof.MlaInHost.lean ====
module

public import proofs.«01_k».proof.Proof.MlaInPay
public import proofs.«01_k».proof.Proof.Gen.MlaInIdeal.Frame.Runs
public import Idealize.ShloMosaic.Lib.Pipeline.ValueKit

@[expose] public section

set_option maxRecDepth 16384

noncomputable section

open Idealize.ShloMosaic Idealize.ShloMosaic.TcCoe Idealize.SL.Sem

namespace Cert.MlaInIdeal.Val

open Cert.MlaInIdeal Cert.MlaInIdeal.Gen Cert.MlaSpec

/-! The blocks the call reads, as entries of the arguments. -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_4.index t = ![0, 0]
    ∧ win0_15.index t = ![0, t.val / 4, 0, t.val % 4] ∧ win0_22.index t = ![0, 0] :=
  (by decide +kernel : ∀ t : Fin grid0.N, _)

theorem lt64 (t : Fin cfg0.N) : t.val < 64 := lt_of_lt_of_eq t.isLt N_0
/-- Row `i` of tile `t`. -/
def row (t : Fin cfg0.N) (i : Fin 256) : Fin 16384 := ⟨t.val * 256 + i, by have := lt64 t; omega⟩

/-- The arguments as functions of their coordinates. -/
def xA (s : Fin 16384) (l : Fin 1024) : EReal := (m ((c : Thread nD τ).loc main_arg0) : FVec Ideal S16384x1024 .f32) (ix2 s l)
def gA (l : Fin 1024) : EReal := (m ((c : Thread nD τ).loc main_arg1) : FVec Ideal S1024 .f32) (ix1 l)
def wA (l : Fin 1024) (k : Fin 256) : EReal := (m ((c : Thread nD τ).loc main_arg2) : FVec Ideal S1024x1184 .f32) (ix2 l ⟨384 + k.val, by omega⟩)
def kA (k : Fin 256) : EReal := (m ((c : Thread nD τ).loc main_arg4) : FVec Ideal S256 .f32) (ix1 k)
def dA (s : Fin 16384) (h : Fin 8) (v : Fin 64) : EReal := (m ((c : Thread nD τ).loc main_arg12) : FVec Ideal S16384x8x64 .f32) (ix3 s h v)

/-- The projection's columns, with zero columns put between. -/
def packW (w : FVec Ideal S1024x1184 .f32) : FVec Ideal S1024x1280 .bf16 :=
  concatenate S1024x1280 1 [
    ⟨S1024x640, extractStridedSlice S1024x640 ![0, 0] (truncf .bf16 w bitsLt_bf16_f32 : FVec Ideal S1024x1184 .bf16) slices_S1024x1184_S1024x640_0_0⟩,
    ⟨S1024x64, extractStridedSlice S1024x64 ![0, 0] (broadcastInDim S1024x128 ![] bcast_S_S1024x128 (constant S_ .bf16 0x0000#16) : FVec Ideal S1024x128 .bf16) slices_S1024x128_S1024x64_0_0⟩,
    ⟨S1024x32, extractStridedSlice S1024x32 ![0, 640] (truncf .bf16 w bitsLt_bf16_f32 : FVec Ideal S1024x1184 .bf16) slices_S1024x1184_S1024x32_0_640⟩,
    ⟨S1024x32, extractStridedSlice S1024x32 ![0, 0] (broadcastInDim S1024x128 ![] bcast_S_S1024x128 (constant S_ .bf16 0x0000#16) : FVec Ideal S1024x128 .bf16) slices_S1024x128_S1024x32_0_0⟩,
    ⟨S1024x512, extractStridedSlice S1024x512 ![0, 672] (truncf .bf16 w bitsLt_bf16_f32 : FVec Ideal S1024x1184 .bf16) slices_S1024x1184_S1024x512_0_672⟩]
    concatenates_S1024x640_S1024x64_S1024x32_S1024x32_S1024x512_S1024x1280_d1

theorem packW_low (w : FVec Ideal S1024x1184 .f32) (l : Fin 1024) (k : Fin 256) :
    packW w (ix2 l ⟨384 + k.val, by omega⟩) = w (ix2 l ⟨384 + k.val, by omega⟩) := by
  have hk := k.isLt
  pointwise [packW]
  split_ifs <;> first | rfl | (exfalso; omega) | exact congrArg (fun k => w (ix2 l k)) (Fin.ext (by dsimp only; omega))

theorem V_arg0 : (V m c main_arg0 : FVec Ideal S16384x1024 .f32) = m ((c : Thread nD τ).loc main_arg0) := by
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
theorem V_gain (l : Fin 1024) : (V m c main_v54 : FVec Ideal S1x1024 .f32) (ix2 0 l) = gA m c l := by
  unfold gA
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  pointwise
theorem V_gainK (k : Fin 256) : (V m c main_v56 : FVec Ideal S1x256 .f32) (ix2 0 k) = kA m c k := by
  unfold kA
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  pointwise
theorem V_w (l : Fin 1024) (k : Fin 256) : (V m c main_v7 : FVec Ideal S1024x1280 .bf16) (ix2 l ⟨384 + k.val, by omega⟩) = wA m c l k := by
  refine Eq.trans ?_ (packW_low (m ((c : Thread nD τ).loc main_arg2)) l k)
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  rfl
theorem V_dv (h : Fin 8) (b : Fin 16) (v : Fin 64) (r : Fin 1024) :
    (V m c main_v66 : FVec Ideal S8x16x64x1024 .f32) (ix4 h b v r) = dA m c ⟨b.val * 1024 + r.val, by omega⟩ h v := by
  unfold dA
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  pointwise

theorem ib0 (t : Fin cfg0.N) (i : Fin 256) (l : Fin 1024) : iblk m c 0 t (ix2 i l) = xA m c (row t i) l := by
  unfold xA row
  rw [← V_arg0 m c]
  blk_point [iblk, idx t]
theorem ib1 (t : Fin cfg0.N) (l : Fin 1024) : iblk m c 1 t (ix2 0 l) = gA m c l := by
  rw [← V_gain m c]
  blk_point [iblk, idx t]
theorem ib2 (t : Fin cfg0.N) (l : Fin 1024) (k : Fin 256) : iblk m c 2 t (ix2 l ⟨384 + k.val, by omega⟩) = wA m c l k := by
  rw [← V_w m c]
  blk_point [iblk, idx t]
theorem ib4 (t : Fin cfg0.N) (k : Fin 256) : iblk m c 4 t (ix2 0 k) = kA m c k := by
  rw [← V_gainK m c]
  blk_point [iblk, idx t]
theorem ib15 (t : Fin cfg0.N) (h : Fin 8) (v : Fin 64) (r : Fin 256) : iblk m c 15 t (ix4 h 0 v r) = dA m c (row t r) h v := by
  have ht := lt64 t
  have e : row t r = (⟨(t.val / 4) * 1024 + (t.val % 4 * 256 + r.val), by omega⟩ : Fin 16384) := Fin.ext (by show t.val * 256 + r.val = _; dsimp only; omega)
  rw [e]
  refine Eq.trans ?_ (V_dv m c h ⟨t.val / 4, by omega⟩ v ⟨t.val % 4 * 256 + r.val, by omega⟩)
  blk_point [iblk, idx t]

/-- The latent of the token that is row `r` of tile `t`. -/
theorem lat_blk (t : Fin cfg0.N) (r k : Fin 256) :
    k0_pay11 (F := Ideal) (iblk m c 0 t) (iblk m c 1 t) (iblk m c 2 t) (ix2 r k) = lat (xA m c) (gA m c) (wA m c) (row t r) k := by
  refine (pay11 ..).trans ?_
  unfold lat
  exact Finset.sum_congr rfl fun l _ => congrArg₂ (· * ·) (congrArg₂ (· * ·) (congrArg₂ (· * ·) (ib0 ..)
    (congrArg (scl _) (funext fun l => ib0 ..))) (ib1 ..)) (ib2 ..)

/-- What tile `t` adds to the gradient of the values' projection. -/
def part (t : Fin cfg0.N) (i : Fin 256) (j : Fin 512) : EReal :=
  ∑ r : Fin 256, latN (xA m c) (gA m c) (wA m c) (kA m c) (row t r) i * dA m c (row t r) ⟨j.val / 64, by omega⟩ ⟨j.val % 64, by omega⟩

theorem tile_blk (t : Fin cfg0.N) (o : FVec Ideal S256x512 .f32) (i : Fin 256) (j : Fin 512) (z : EReal) (hz : o (ix2 i j) = z) :
    k0_pay157 (F := Ideal) (k0_pay19 (k0_pay11 (iblk m c 0 t) (iblk m c 1 t) (iblk m c 2 t)) (k0_pay14 (iblk m c 0 t) (iblk m c 1 t) (iblk m c 2 t))
      (iblk m c 4 t)) (iblk m c 15 t) o (ix2 i j) = z + part m c t i j := by
  refine (tile ..).trans (congrArg₂ (· + ·) hz ?_)
  unfold part latN
  exact Finset.sum_congr rfl fun r _ => congrArg₂ (· * ·) (congrArg₂ (· * ·) (congrArg₂ (· * ·) (lat_blk ..)
    (congrArg (scl _) (funext fun k => lat_blk ..))) (ib4 ..)) (ib15 ..)

/-- A sum over the tiles and their rows is one over the tokens. -/
theorem all_rows (t : Fin cfg0.N) (f : Fin 16384 → EReal) (h : ∀ a : Fin 64, 64 * (t.val / 64) + a.val < cfg0.N) :
    (∑ a : Fin 64, ∑ r, f (row ⟨64 * (t.val / 64) + a.val, h a⟩ r)) = ∑ s, f s := by
  have ht := lt64 t
  refine (Finset.sum_congr rfl fun a _ => ?_).trans (Fin.sum_univ_tiles 64 256 rfl f).symm
  refine Finset.sum_congr rfl fun b _ => congrArg f (Fin.ext ?_)
  show (64 * (t.val / 64) + a.val) * 256 + b.val = _
  have h0 : t.val / 64 = 0 := by omega
  simp [h0]

end Cert.MlaInIdeal.Val

end
-- ==== Proof.MlaInOut.lean ====
module

public import proofs.«01_k».proof.Proof.MlaInHost
public import proofs.«01_k».proof.Proof.MlaInRun

@[expose] public section

set_option maxRecDepth 16384

noncomputable section

open Idealize.ShloMosaic Idealize.ShloMosaic.TcCoe Idealize.SL.Sem
open Idealize.ShloMosaic.Pipeline (Dat)

namespace Cert.MlaInIdeal.Val

open Cert.MlaInIdeal Cert.MlaInIdeal.Gen Cert.MlaSpec

/-! What the two runs of the body leave of the gradient of the values' projection. -/

theorem first22_run (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1280 .bf16) (harg3 : arg3.IsWhole) (arg4 : Memref sig .tc .vmem S1x384 .f32) (harg4 : arg4.IsWhole) (arg5 : Memref sig .tc .vmem S1x256 .f32) (harg5 : arg5.IsWhole) (arg6 : Memref sig .tc .vmem S384x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S8x1x128x256 .f32) (harg14 : arg14.IsWhole) (arg15 : Memref sig .tc .vmem S256x1024 .f32) (harg15 : arg15.IsWhole) (arg16 : Memref sig .tc .vmem S8x1x64x256 .f32) (harg16 : arg16.IsWhole) (arg17 : Memref sig .tc .vmem S64x512 .f32) (harg17 : arg17.IsWhole) (arg18 : Memref sig .tc .vmem S256x512 .f32) (harg18 : arg18.IsWhole) (arg19 : Memref sig .tc .vmem S64x512 .f32) (harg19 : arg19.IsWhole) (arg20 : Memref sig .tc .vmem S256x1280 .bf16) (harg20 : arg20.IsWhole) (arg21 : Memref sig .tc .vmem S384x1024 .f32) (harg21 : arg21.IsWhole) (arg22 : Memref sig .tc .vmem S256x1024 .f32) (harg22 : arg22.IsWhole) (arg23 : Memref sig .tc .vmem S256x512 .f32) (harg23 : arg23.IsWhole) (arg24 : Memref sig .tc .vmem S1x384 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x128 .f32) (harg27 : arg27.IsWhole)
    (hc : cond0_0 i) (x0 : Vec Ideal S256x1024 .f32) (x1 : Vec Ideal S1x1024 .f32) (x2 : Vec Ideal S1024x1280 .bf16) (x3 : Vec Ideal S1x384 .f32) (x4 : Vec Ideal S1x256 .f32) (x5 : Vec Ideal S384x1024 .bf16) (x6 : Vec Ideal S256x1024 .bf16) (x7 : Vec Ideal S256x512 .bf16) (x8 : Vec Ideal S1x128 .f32) (x9 : Vec Ideal S1x128 .f32) (x10 : Vec Ideal S256x128 .f32) (x11 : Vec Ideal S256x128 .f32) (x12 : Vec Ideal S256x128 .f32) (x13 : Vec Ideal S8x1x128x256 .f32) (x14 : Vec Ideal S256x1024 .f32) (x15 : Vec Ideal S8x1x64x256 .f32) (x16 : Vec Ideal S64x512 .f32) (x17 : Vec Ideal S256x512 .f32) (x18 : Vec Ideal S64x512 .f32) : (firstRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 x14 x15 x16 x17 x18).2.2.2.1
    = k0_pay157 (F := Ideal) (k0_pay19 (k0_pay11 x0 x1 x2) (k0_pay14 x0 x1 x2) x4) x15 (k0_pay4 (F := Ideal)) := by
  delta firstRun
  dsimp only
  delta firstRun.sl.r_9 firstRun.sl.r_97 firstRun.sl.v733
  clear hc
  dsimp only
  delta firstRun.sl.r_1 firstRun.sl.r_4 firstRun.sl.H22_1
  dsimp only
  repeat (first | rw [View.readCov_full] | rw [View.readAt_full] | rw [harg1.read_unread] | rw [harg2.read_unread] | rw [harg3.read_unread] | rw [harg5.read_unread] | rw [harg16.read_unread] | rw [harg23.read_unread])
theorem next22_run (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1280 .bf16) (harg3 : arg3.IsWhole) (arg4 : Memref sig .tc .vmem S1x384 .f32) (harg4 : arg4.IsWhole) (arg5 : Memref sig .tc .vmem S1x256 .f32) (harg5 : arg5.IsWhole) (arg6 : Memref sig .tc .vmem S384x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S8x1x128x256 .f32) (harg14 : arg14.IsWhole) (arg15 : Memref sig .tc .vmem S256x1024 .f32) (harg15 : arg15.IsWhole) (arg16 : Memref sig .tc .vmem S8x1x64x256 .f32) (harg16 : arg16.IsWhole) (arg17 : Memref sig .tc .vmem S64x512 .f32) (harg17 : arg17.IsWhole) (arg18 : Memref sig .tc .vmem S256x512 .f32) (harg18 : arg18.IsWhole) (arg19 : Memref sig .tc .vmem S64x512 .f32) (harg19 : arg19.IsWhole) (arg20 : Memref sig .tc .vmem S256x1280 .bf16) (harg20 : arg20.IsWhole) (arg21 : Memref sig .tc .vmem S384x1024 .f32) (harg21 : arg21.IsWhole) (arg22 : Memref sig .tc .vmem S256x1024 .f32) (harg22 : arg22.IsWhole) (arg23 : Memref sig .tc .vmem S256x512 .f32) (harg23 : arg23.IsWhole) (arg24 : Memref sig .tc .vmem S1x384 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x128 .f32) (harg27 : arg27.IsWhole)
    (hc : ¬ cond0_0 i) (x0 : Vec Ideal S256x1024 .f32) (x1 : Vec Ideal S1x1024 .f32) (x2 : Vec Ideal S1024x1280 .bf16) (x3 : Vec Ideal S1x384 .f32) (x4 : Vec Ideal S1x256 .f32) (x5 : Vec Ideal S384x1024 .bf16) (x6 : Vec Ideal S256x1024 .bf16) (x7 : Vec Ideal S256x512 .bf16) (x8 : Vec Ideal S1x128 .f32) (x9 : Vec Ideal S1x128 .f32) (x10 : Vec Ideal S256x128 .f32) (x11 : Vec Ideal S256x128 .f32) (x12 : Vec Ideal S256x128 .f32) (x13 : Vec Ideal S8x1x128x256 .f32) (x14 : Vec Ideal S256x1024 .f32) (x15 : Vec Ideal S8x1x64x256 .f32) (x16 : Vec Ideal S64x512 .f32) (x17 : Vec Ideal S256x512 .f32) (x18 : Vec Ideal S64x512 .f32) (y20 : Vec Ideal S384x1024 .f32) (y21 : Vec Ideal S256x1024 .f32) (y22 : Vec Ideal S256x512 .f32) (y23 : Vec Ideal S1x384 .f32) (y24 : Vec Ideal S1x256 .f32) (y25 : Vec Ideal S1x128 .f32) (y26 : Vec Ideal S1x128 .f32) : (nextRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 x14 x15 x16 x17 x18 y20 y21 y22 y23 y24 y25 y26).2.2.2.1
    = k0_pay157 (F := Ideal) (k0_pay19 (k0_pay11 x0 x1 x2) (k0_pay14 x0 x1 x2) x4) x15 y22 := by
  delta nextRun
  dsimp only
  delta nextRun.sl.r_9 nextRun.sl.r_97
  clear hc
  dsimp only
  delta nextRun.sl.r_1 nextRun.sl.r_4
  dsimp only
  repeat (first | rw [View.readCov_full] | rw [View.readAt_full] | rw [harg1.read_unread] | rw [harg2.read_unread] | rw [harg3.read_unread] | rw [harg5.read_unread] | rw [harg16.read_unread] | rw [harg23.read_unread])

end Cert.MlaInIdeal.Val
end
-- ==== Proof.MlaInValue.lean ====
module

public import proofs.«01_k».proof.Proof.MlaInOut
public import proofs.«01_k».proof.Proof.MlaInFrame

@[expose] public section

set_option maxRecDepth 16384

noncomputable section

open Idealize.ShloMosaic Idealize.ShloMosaic.TcCoe Idealize.SL.Sem
open Idealize.ShloMosaic.Pipeline (Dat)

namespace Cert.MlaInIdeal.Val

open Cert.MlaInIdeal Cert.MlaInIdeal.Gen Cert.MlaSpec

/-! The gradient of the values' projection as the call leaves it. -/

variable (m : (ℓ : Loc nD τ sig) → Buf (Elt Ideal) ℓ) (c : Dev nD)

theorem first22 (t : Fin cfg0.N) (hc : cond0_0 (grid0.coords t)) (i : Fin 256) (j : Fin 512) :
    (outsFirst m c t hc).2.2.2.1 (ix2 i j) = 0 + part m c t i j := by
  refine Eq.trans (congrFun ?_ _) (tile_blk m c t (k0_pay4 (F := Ideal)) i j 0 (pay4 i j))
  delta outsFirst
  dsimp only
  rw [first22_run]

theorem next22 (t : Fin cfg0.N) (hc : ¬ cond0_0 (grid0.coords t)) (p : Outs Ideal) (i : Fin 256) (j : Fin 512) :
    (outsNext m c t hc p).2.2.2.1 (ix2 i j) = p.2.2.2.1 (ix2 i j) + part m c t i j := by
  refine Eq.trans (congrFun ?_ _) (tile_blk m c t p.2.2.2.1 i j _ rfl)
  delta outsNext
  dsimp only
  rw [next22_run]

theorem out22 (t : Fin cfg0.N) (hf : t.val % 64 = 63) (i : Fin 256) (j : Fin 512) :
    (outsAt m c t.val t.isLt).2.2.2.1 (ix2 i j) = dWuv (xA m c) (gA m c) (wA m c) (kA m c) (dA m c) i j := by
  have key := Pipeline.eq_sum_fin_of_reset_step_apply_of_flush (N := cfg0.N)
    (fun n h (y : Fin 256 × Fin 512) => (outsAt m c n h).2.2.2.1 (ix2 y.1 y.2)) 64 (fun _ => 0)
    (fun t y => part m c t y.1 y.2)
    (fun t h y => by
      have hc := (hcond0_0 t).mpr h
      rw [outsAt_first m c t hc]
      exact first22 ..)
    (fun t h y => by
      have hc : ¬ cond0_0 (grid0.coords t) := fun hc => h ((hcond0_0 t).mp hc)
      rw [outsAt_next m c t hc]
      exact next22 ..) t hf (i, j)
  refine key.trans ?_
  rw [zero_add]
  exact all_rows t (fun s => latN (xA m c) (gA m c) (wA m c) (kA m c) s i * dA m c s ⟨j.val / 64, by omega⟩ ⟨j.val % 64, by omega⟩) _

theorem final22 (i : Fin 256) (j : Fin 512) :
    (dats m 0 c).arrAt 22 cfg0.N (ix2 i j) = dWuv (xA m c) (gA m c) (wA m c) (kA m c) (dA m c) i j := by
  have key := (dats m 0 c).arrAt_eq_of_after_last 22 ⟨63, lt_of_lt_of_eq (by decide) N_0.symm⟩ (by decide +kernel)
    (fun y => (dWuv (xA m c) (gA m c) (wA m c) (kA m c) (dA m c) (y 0) (y 1) : EReal)) fun y => ?_
  · exact congrFun key _
  · have e := eq_ix2 y
    rw [after_22]
    have q := out22 m c ⟨63, lt_of_lt_of_eq (by decide) N_0.symm⟩ rfl
    generalize outsAt m c (⟨63, lt_of_lt_of_eq (by decide) N_0.symm⟩ : Fin cfg0.N).val _ = O at q ⊢
    generalize y 0 = i at e
    generalize y 1 = j at e
    subst e
    have hi : i.val < 256 := i.isLt
    have hj : j.val < 512 := j.isLt
    blk_simp
    exact q i j

end Cert.MlaInIdeal.Val

end
-- ==== Proof.MlaInRef.lean ====
module

public import proofs.«01_k».proof.Proof.MlaInSpec
public import proofs.«01_k».proof.Proof.Gen.MlaInRefIdeal.Run

@[expose] public section

set_option maxRecDepth 16384

noncomputable section

open Idealize.ShloMosaic Idealize.ShloMosaic.TcCoe Idealize.SL.Sem

namespace Cert.MlaInRefIdeal.Val

open Cert.MlaInRefIdeal Cert.MlaInRefIdeal.Gen Cert.MlaSpec

/-! The reference's arrays, one definition per stage of its mathematics. -/

variable (x : FVec Ideal S16384x1024 .f32) (g : FVec Ideal S1024 .f32) (w : FVec Ideal S1024x1184 .f32) (z : FVec Ideal S16384x256 .f32)
  (gk : FVec Ideal S256 .f32) (q : FVec Ideal S16384x256 .f32) (dv : FVec Ideal S16384x8x64 .f32)

def HN : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
def LAT : FVec Ideal S16384x256 .f32 :=
  extractStridedSlice S16384x256 ![0, 384] (Host.dotGeneral dot_S16384x1024_S1024x1184_S16384x1184_1_0_0_1_n_n none (HN x g) w : FVec Ideal S16384x1184 .f32) slices_S16384x1184_S16384x256_0_384
def LN : FVec Ideal S16384x256 .f32 :=
  mulf (mulf z (broadcastInDim S16384x256 ![0, 1] bcast_S16384x1_S16384x256_0_1 (Host.rsqrt (addf (Host.divf (broadcastInDim S16384x1 ![0] bcast_S16384_S16384x1_0
    (Host.reduceAdd (mulf z z) (constant S_ .f32 0x00000000#32) reducesTo_S16384x256_S16384_d1 h_S_))
    (broadcastInDim S16384x1 ![] bcast_S_S16384x1 (constant S_ .f32 0x43800000#32)))
    (broadcastInDim S16384x1 ![] bcast_S_S16384x1 (constant S_ .f32 0x358637BD#32))))))
    (broadcastInDim S16384x256 ![0, 1] bcast_S1x256_S16384x256_0_1 (broadcastInDim S1x256 ![1] bcast_S256_S1x256_1 gk))
def GV : FVec Ideal S256x512 .f32 :=
  transpose S256x512 [1, 0] (Host.dotGeneral dot_S16384x512_S16384x256_S512x256_0_0_1_1_n_n none
    (shapeCast _ dv shapeCasts_S16384x8x64_S16384x512 : FVec Ideal S16384x512 .f32) q) transposes_S512x256_S256x512_1_0

theorem HN_at (s : Fin 16384) (l : Fin 1024) : HN x g (ix2 s l)
    = x (ix2 s l) * scl (Ideal.ofBits .f32 0x44800000#32) (fun k : Fin 1024 => x (ix2 s k)) * g (ix1 l) := by
  unfold scl
  pointwise [HN]
theorem LAT_at (s : Fin 16384) (k : Fin 256) : LAT x g w (ix2 s k)
    = lat (fun s l => x (ix2 s l)) (fun l => g (ix1 l)) (fun l k => w (ix2 l ⟨384 + k.val, by omega⟩)) s k := by
  unfold lat
  pointwise [LAT]
  simp only [HN_at]
theorem LN_at (s : Fin 16384) (k : Fin 256) : LN z gk (ix2 s k)
    = z (ix2 s k) * scl (Ideal.ofBits .f32 0x43800000#32) (fun k : Fin 256 => z (ix2 s k)) * gk (ix1 k) := by
  unfold scl
  pointwise [LN]
theorem GV_at (i : Fin 256) (j : Fin 512) : GV q dv (ix2 i j)
    = ∑ s, q (ix2 s i) * dv (ix3 s ⟨j.val / 64, by omega⟩ ⟨j.val % 64, by omega⟩) := by
  pointwise [GV]
  exact Finset.sum_congr rfl fun s _ => mul_comm _ _

theorem res_at (i : Fin 256) (j : Fin 512) : GV (LN (LAT x g w) gk) dv (ix2 i j)
    = dWuv (fun s l => x (ix2 s l)) (fun l => g (ix1 l)) (fun l k => w (ix2 l ⟨384 + k.val, by omega⟩)) (fun k => gk (ix1 k))
        (fun s h v => dv (ix3 s h v)) i j := by
  rw [GV_at]
  unfold dWuv latN
  simp only [LN_at, LAT_at]

section
variable (m : (ℓ : Loc nD τ sig) → Buf (Elt Ideal) ℓ) (ρ : Dev nD → PrngReg)

set_option maxRecDepth 65536 in
/-- What the run of the reference leaves in its result. -/
theorem run : θ_run defs (onTc (τ := τ) (main (F := Ideal))) ⟨m, fun _ => 0, ρ⟩ fun r => ∀ c : Dev nD,
      r.2.mem ((c.tc : Thread nD τ).loc main_v32)
        = GV (LN (LAT (m ((c.tc : Thread nD τ).loc main_arg0)) (m ((c.tc : Thread nD τ).loc main_arg1)) (m ((c.tc : Thread nD τ).loc main_arg2)))
            (m ((c.tc : Thread nD τ).loc main_arg4))) (m ((c.tc : Thread nD τ).loc main_arg12)) :=
  (θ_run defs _ _).mono (fun _ h c => (h c).1) (Value.run m ρ)
end

end Cert.MlaInRefIdeal.Val

end
-- ==== Proof.MlaInPair.lean ====
module

public import proofs.«01_k».proof.Defs
public import proofs.«01_k».proof.Proof.MlaInValue
public import proofs.«01_k».proof.Proof.MlaInRef
public import Idealize.ShloMosaic.Lib.Claim

@[expose] public section

set_option maxRecDepth 16384

noncomputable section

open Idealize.ShloMosaic Idealize.ShloMosaic.TcCoe Idealize.SL.Sem Idealize.ShloMosaic.StableHlo

/-! The backward call of the latent attention's input and the plain gradient give equal gradients of the values' projection. -/

namespace Cert.Proof

open Cert.MlaInRefIdeal.Val (GV LN LAT res_at)

theorem mlaIn_algebraic : Cert.algebraic_MlaInIdeal_MlaInRefIdeal := by
  intro m g m' g' _ hagree
  refine ⟨fun c => (Cert.MlaInIdeal.Val.dats m 0 c).arrAt 22 Cert.MlaInIdeal.cfg0.N, ?_, ?_⟩
  · refine (θ_run _ _ _).mono (fun r hr c => ?_) (θ_run_and (Cert.MlaInIdeal.Val.run_main m g) (Cert.MlaInIdeal.Val.unchanged m g))
    obtain ⟨hF, hU⟩ := hr
    exact ⟨(hF c).1 22, hU c⟩
  · refine (θ_run _ _ _).mono (fun r hr c => ?_) (Cert.MlaInRefIdeal.Value.run m' g')
    obtain ⟨e0, ea⟩ := hr c
    obtain ⟨g0, g1, g2, g3, g4, g5, g6, g7, g8, g9, g10, g11, g12, g13⟩ := hagree c
    have e0' : r.2.mem ((c.tc : Thread Cert.MlaInRefIdeal.nD Cert.MlaInRefIdeal.τ).loc Cert.MlaInRefIdeal.main_v32)
        = GV (LN (LAT (m' (c.tc.loc Cert.MlaInRefIdeal.main_arg0)) (m' (c.tc.loc Cert.MlaInRefIdeal.main_arg1)) (m' (c.tc.loc Cert.MlaInRefIdeal.main_arg2)))
            (m' (c.tc.loc Cert.MlaInRefIdeal.main_arg4))) (m' (c.tc.loc Cert.MlaInRefIdeal.main_arg12)) := e0
    clear hr e0
    refine ⟨e0'.trans ?_, ea⟩
    refine funext fun y => ?_
    rw [eq_ix2 y]
    refine (res_at _ _ _ _ _ (y 0) (y 1)).trans ?_
    rw [g0, g1, g2, g4, g12]
    exact (Cert.MlaInIdeal.Val.final22 m c (y 0) (y 1)).symm

end Cert.Proof

end
-- ==== Proof.FfnFwdValue.lean ====
module

public import proofs.«01_k».proof.Proof.Gen.FfnFwdIdeal.Frame
public import proofs.«01_k».proof.Proof.NormReal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnFwdIdeal.Val

open Cert.FfnFwdIdeal Cert.FfnFwdIdeal.Gen Cert.NormReal

/-! The call's result as a function of the four arrays it is handed. -/

/-- The gate: `s` times its logistic function, times `u`. -/
def gated (s u : EReal) : EReal :=
  s * Ideal.div 1 (1 + Ideal.exp (-s)) * u

section
variable (x acc : FVec Ideal S512x1024 .f32) (g : FVec Ideal S1x1024 .f32) (h : FVec Ideal S512x1024 .bf16) (wg wu : FVec Ideal S1024x1408 .bf16)
  (wd : FVec Ideal S1408x1024 .bf16)

theorem norm_at (i : Fin 512) (l : Fin 1024) : k0_pay1 (F := Ideal) x g (ix2 i l) = x (ix2 i l) * RS (fun i k => x (ix2 i k)) i * g (ix2 0 l) := by
  pointwise [k0_pay1]
  rfl
theorem zero_at (i : Fin 512) (l : Fin 1024) : k0_pay2 (F := Ideal) (ix2 i l) = 0 := by
  pointwise [k0_pay2]
theorem add_at (i : Fin 512) (l : Fin 1024) : k0_pay3 (F := Ideal) h wg wu acc wd (ix2 i l)
    = acc (ix2 i l) + ∑ j : Fin 1408, gated (∑ e, h (ix2 i e) * wg (ix2 e j)) (∑ e, h (ix2 i e) * wu (ix2 e j)) * wd (ix2 j l) := by
  pointwise [k0_pay3]
  simp only [zero_sub]
  rfl
theorem half_at (i : Fin 512) (l : Fin 1024) : k0_pay4 (F := Ideal) x acc (ix2 i l) = x (ix2 i l) + Ideal.ofBits .f32 0x3F000000#32 * acc (ix2 i l) := by
  pointwise [k0_pay4]
end

variable (m : (ℓ : Loc nD τ sig) → Buf (Elt Ideal) ℓ) (c : Dev nD)

theorem idx : ∀ t : Fin cfg0.N, win0_0.index t = ![t.val / 2, 0] ∧ win0_1.index t = ![0, 0] ∧ win0_2.index t = ![0, t.val % 2] ∧ win0_3.index t = ![0, 2 + t.val % 2]
    ∧ win0_4.index t = ![t.val % 2, 0] ∧ win0_5.index t = ![t.val / 2, 0] :=
  (by decide +kernel : ∀ t : Fin grid0.N, _)

/-- The arguments as functions of their coordinates. -/
def xA (i : Fin 16384) (l : Fin 1024) : EReal := (m ((c : Thread nD τ).loc main_arg0) : FVec Ideal S16384x1024 .f32) (ix2 i l)
def gA (l : Fin 1024) : EReal := (m ((c : Thread nD τ).loc main_arg1) : FVec Ideal S1024 .f32) (ix1 l)
def wA (l : Fin 1024) (j : Fin 5632) : EReal := (m ((c : Thread nD τ).loc main_arg2) : FVec Ideal S1024x5632 .f32) (ix2 l j)
def dA (j : Fin 2816) (l : Fin 1024) : EReal := (m ((c : Thread nD τ).loc main_arg3) : FVec Ideal S2816x1024 .f32) (ix2 j l)

/-- The normalised rows, the gate's result, and the rows the call returns. -/
def hA (i : Fin 16384) (l : Fin 1024) : EReal := xA m c i l * RS (xA m c) i * gA m c l
def aA (i : Fin 16384) (j : Fin 2816) : EReal :=
  gated (∑ e, hA m c i e * wA m c e ⟨j.val, by omega⟩) (∑ e, hA m c i e * wA m c e ⟨2816 + j.val, by omega⟩)
def oA (i : Fin 16384) (l : Fin 1024) : EReal := xA m c i l + Ideal.ofBits .f32 0x3F000000#32 * ∑ j, aA m c i j * dA m c j l

theorem lt64 (t : Fin cfg0.N) : t.val < 64 := lt_of_lt_of_eq t.isLt N_0
/-- Row `i` and hidden column `j` of tile `t`. -/
def row (t : Fin cfg0.N) (i : Fin 512) : Fin 16384 := ⟨t.val / 2 * 512 + i, by have := lt64 t; omega⟩
def col (t : Fin cfg0.N) (j : Fin 1408) : Fin 2816 := ⟨t.val % 2 * 1408 + j, by omega⟩

theorem ib0 (t : Fin cfg0.N) (i : Fin 512) (l : Fin 1024) : iblk m c 0 t (ix2 i l) = xA m c (row t i) l := by
  unfold xA row
  blk_point [iblk, V, idx t]
theorem ib1 (t : Fin cfg0.N) (l : Fin 1024) : iblk m c 1 t (ix2 0 l) = gA m c l := by
  unfold gA
  blk_point [iblk, V, idx t]
theorem ib2 (t : Fin cfg0.N) (l : Fin 1024) (j : Fin 1408) : iblk m c 2 t (ix2 l j) = wA m c l ⟨(col t j).val, by omega⟩ := by
  unfold wA col
  blk_point [iblk, V, idx t]
theorem ib3 (t : Fin cfg0.N) (l : Fin 1024) (j : Fin 1408) : iblk m c 3 t (ix2 l j) = wA m c l ⟨2816 + (col t j).val, by omega⟩ := by
  unfold wA col
  blk_point [iblk, V, idx t]
theorem ib4 (t : Fin cfg0.N) (j : Fin 1408) (l : Fin 1024) : iblk m c 4 t (ix2 j l) = dA m c (col t j) l := by
  unfold dA col
  blk_point [iblk, V, idx t]

/-- The rows' normalised tile, and what one tile of hidden columns adds. -/
theorem h_blk (t : Fin cfg0.N) (i : Fin 512) (l : Fin 1024) : k0_pay1 (F := Ideal) (iblk m c 0 t) (iblk m c 1 t) (ix2 i l) = hA m c (row t i) l := by
  refine (norm_at ..).trans ?_
  unfold hA RS
  simp only [ib0, ib1]
theorem add_blk (t : Fin cfg0.N) (h : FVec Ideal S512x1024 .bf16) (acc : FVec Ideal S512x1024 .f32)
    (hh : ∀ i l, h (ix2 i l) = hA m c (row t i) l) (i : Fin 512) (l : Fin 1024) :
    k0_pay3 (F := Ideal) h (iblk m c 2 t) (iblk m c 3 t) acc (iblk m c 4 t) (ix2 i l)
      = acc (ix2 i l) + ∑ j : Fin 1408, aA m c (row t i) (col t j) * dA m c (col t j) l := by
  refine (add_at ..).trans ?_
  unfold aA
  simp only [hh, ib2, ib3, ib4]

/-- The state after the first tile of hidden columns. -/
theorem first_h (t : Fin cfg0.N) (h0 : t.val % 2 = 0) (i : Fin 512) (l : Fin 1024) :
    (outsAt0 m c t.val t.isLt).2.1 (ix2 i l) = hA m c (row t i) l := by
  rw [outsAt0_A m c t h0 (by omega)]
  frame_out
  exact h_blk m c t i l
theorem first_acc (t : Fin cfg0.N) (h0 : t.val % 2 = 0) (i : Fin 512) (l : Fin 1024) :
    (outsAt0 m c t.val t.isLt).2.2 (ix2 i l) = ∑ j : Fin 1408, aA m c (row t i) (col t j) * dA m c (col t j) l := by
  rw [outsAt0_A m c t h0 (by omega)]
  frame_out
  rw [add_blk m c t _ _ (h_blk m c t), zero_at, zero_add]

/-- The two tiles of hidden columns are all of them. -/
theorem two_tiles (t : Fin cfg0.N) (h1 : t.val % 2 = 1) (hb : t.val - 1 < cfg0.N) (f : Fin 2816 → EReal) :
    (∑ j : Fin 1408, f (col ⟨t.val - 1, hb⟩ j)) + ∑ j : Fin 1408, f (col t j) = ∑ j, f j := by
  have e0 : ∀ j : Fin 1408, col ⟨t.val - 1, hb⟩ j = ⟨j, by omega⟩ := fun j => Fin.ext (by unfold col; dsimp only; omega)
  have e1 : ∀ j : Fin 1408, col t j = ⟨1408 + j, by omega⟩ := fun j => Fin.ext (by unfold col; dsimp only; omega)
  simp only [e0, e1]
  exact (Fin.sum_univ_add (a := 1408) (b := 1408) f).symm

theorem out_blk (t : Fin cfg0.N) (h1 : t.val % 2 = 1) (i : Fin 512) (l : Fin 1024) :
    (outsAt0 m c t.val t.isLt).1 (ix2 i l) = oA m c (row t i) l := by
  have hb : t.val - 1 < cfg0.N := Nat.lt_of_le_of_lt (Nat.sub_le _ _) t.isLt
  have e1 := first_h m c ⟨t.val - 1, hb⟩ (by dsimp only; omega)
  have e2 := first_acc m c ⟨t.val - 1, hb⟩ (by dsimp only; omega)
  rw [show row ⟨t.val - 1, hb⟩ = row t from funext fun i => Fin.ext (by unfold row; dsimp only; omega)] at e1 e2
  rw [outsAt0_B m c t (by omega) h1]
  frame_out
  rw [half_at, show View.read (Elt Ideal) (View.whole cc0_scratch0) ((Memref.isWhole_whole cc0_scratch0).unread (outsAt0 m c (t.val - 1) hb).2.1)
      = (outsAt0 m c (t.val - 1) hb).2.1 from (Memref.isWhole_whole cc0_scratch0).read_unread _,
    show View.read (Elt Ideal) (View.whole cc0_scratch1) ((Memref.isWhole_whole cc0_scratch1).unread (outsAt0 m c (t.val - 1) hb).2.2)
      = (outsAt0 m c (t.val - 1) hb).2.2 from (Memref.isWhole_whole cc0_scratch1).read_unread _,
    add_blk m c t _ _ e1, e2, ib0]
  exact congrArg (fun s => xA m c (row t i) l + Ideal.ofBits .f32 0x3F000000#32 * s)
    (two_tiles t h1 hb fun j => aA m c (row t i) j * dA m c j l)

theorem two_congr {n k : ℕ} (f : Fin n → Fin k → EReal) {i i' : Fin n} {j j' : Fin k} (e : i.val = i'.val) (e' : j.val = j'.val) : f i j = f i' j' := by
  cases Fin.ext e; cases Fin.ext e'; rfl

theorem final5 (i : Fin 16384) (l : Fin 1024) : (dats m 0 c).arrAt 5 cfg0.N (ix2 i l) = oA m c i l := by
  have key := (dats m 0 c).arrAt_eq_of_covers 5 (fun y => oA m c (y 0) (y 1)) (by decide +kernel) fun t ht y => ?_
  · exact congrFun key _
  · have h1 := (flush0_5 t).mp ht
    have e := eq_ix2 y
    rw [after0_5]
    generalize y 0 = i at e
    generalize y 1 = l at e
    subst e
    have hi : i.val < 512 := i.isLt
    have hl : l.val < 1024 := l.isLt
    blk_simp
    refine (out_blk m c t h1 i l).trans ?_
    refine two_congr (oA m c) ?_ ?_ <;> blk_simp [idx t, row] <;> dsimp only <;> omega

end Cert.FfnFwdIdeal.Val

end
-- ==== Proof.FfnFwdPair.lean ====
module

public import proofs.«01_k».proof.Defs
public import proofs.«01_k».proof.Proof.FfnFwdValue
public import proofs.«01_k».proof.Proof.Gen.FfnFwdRefIdeal.Run
public import Idealize.ShloMosaic.Lib.Claim

@[expose] public section

set_option maxRecDepth 16384

noncomputable section

open Idealize.ShloMosaic Idealize.ShloMosaic.TcCoe Idealize.SL.Sem

namespace Cert.FfnFwdRefIdeal.Val

open Cert.FfnFwdRefIdeal Cert.FfnFwdRefIdeal.Gen Cert.NormReal
open Cert.FfnFwdIdeal.Val (gated)

/-! The reference's arrays, one definition per stage: the normalised rows, the hidden rows, the gate, the result. -/

section
variable (x : FVec Ideal S16384x1024 .f32) (g : FVec Ideal S1024 .f32) (w : FVec Ideal S1024x5632 .f32) (d : FVec Ideal S2816x1024 .f32)

def NORM : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
def HID (h : FVec Ideal S16384x1024 .f32) : FVec Ideal S16384x5632 .f32 :=
  Host.dotGeneral dot_S16384x1024_S1024x5632_S16384x5632_1_0_0_1_n_n none h w
def GATE (y : FVec Ideal S16384x5632 .f32) : FVec Ideal S16384x2816 .f32 :=
  mulf (mulf (extractStridedSlice S16384x2816 ![0, 0] y slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] y slices_S16384x5632_S16384x2816_0_0))))))
    (extractStridedSlice S16384x2816 ![0, 2816] y slices_S16384x5632_S16384x2816_0_2816)
def OUT (a : FVec Ideal S16384x2816 .f32) : FVec Ideal S16384x1024 .f32 :=
  addf x (mulf (broadcastInDim S16384x1024 ![] bcast_S_S16384x1024 (constant S_ .f32 0x3F000000#32))
    (Host.dotGeneral dot_S16384x2816_S2816x1024_S16384x1024_1_0_0_1_n_n none a d))

theorem NORM_at (i : Fin 16384) (l : Fin 1024) : NORM x g (ix2 i l) = x (ix2 i l) * RS (fun i k => x (ix2 i k)) i * g (ix1 l) := by
  pointwise [NORM]
  rfl
theorem HID_at (h : FVec Ideal S16384x1024 .f32) (i : Fin 16384) (j : Fin 5632) : HID w h (ix2 i j) = ∑ e, h (ix2 i e) * w (ix2 e j) := by
  pointwise [HID]
theorem GATE_at (y : FVec Ideal S16384x5632 .f32) (i : Fin 16384) (j : Fin 2816) :
    GATE y (ix2 i j) = gated (y (ix2 i (⟨j.val, by omega⟩ : Fin 5632))) (y (ix2 i (⟨2816 + j.val, by omega⟩ : Fin 5632))) := by
  pointwise [GATE]
  rfl
theorem OUT_at (a : FVec Ideal S16384x2816 .f32) (i : Fin 16384) (l : Fin 1024) :
    OUT x d a (ix2 i l) = x (ix2 i l) + Ideal.ofBits .f32 0x3F000000#32 * ∑ j, a (ix2 i j) * d (ix2 j l) := by
  pointwise [OUT]
end

end Cert.FfnFwdRefIdeal.Val

namespace Cert.Proof

open Cert.FfnFwdIdeal.Val in
open Cert.FfnFwdRefIdeal.Val in
theorem ffnFwd_eq (m : (ℓ : Loc Cert.FfnFwdIdeal.nD Cert.FfnFwdIdeal.τ Cert.FfnFwdIdeal.sig) → Buf (Elt Ideal) ℓ) (c : Dev Cert.FfnFwdIdeal.nD)
    (x : FVec Ideal Cert.FfnFwdRefIdeal.S16384x1024 .f32) (g : FVec Ideal Cert.FfnFwdRefIdeal.S1024 .f32)
    (w : FVec Ideal Cert.FfnFwdRefIdeal.S1024x5632 .f32) (d : FVec Ideal Cert.FfnFwdRefIdeal.S2816x1024 .f32)
    (hx : x = m (c.tc.loc Cert.FfnFwdIdeal.main_arg0)) (hg : g = m (c.tc.loc Cert.FfnFwdIdeal.main_arg1))
    (hw : w = m (c.tc.loc Cert.FfnFwdIdeal.main_arg2)) (hd : d = m (c.tc.loc Cert.FfnFwdIdeal.main_arg3)) (i : Fin 16384) (l : Fin 1024) :
    OUT x d (GATE (HID w (NORM x g))) (ix2 i l) = oA m c i l := by
  have ex : ∀ i l, x (ix2 i l) = xA m c i l := fun i l => by rw [hx]; rfl
  have eg : ∀ l, g (ix1 l) = gA m c l := fun l => by rw [hg]; rfl
  have ew : ∀ l j, w (ix2 l j) = wA m c l j := fun l j => by rw [hw]; rfl
  have ed : ∀ j l, d (ix2 j l) = dA m c j l := fun j l => by rw [hd]; rfl
  have eh : ∀ i l, NORM x g (ix2 i l) = hA m c i l := fun i l => by
    rw [NORM_at]
    unfold hA
    simp only [ex, eg]
  rw [OUT_at]
  unfold oA aA
  simp only [GATE_at, HID_at, eh, ex, ew, ed]

theorem ffnFwd_algebraic : Cert.algebraic_FfnFwdIdeal_FfnFwdRefIdeal := by
  intro m g m' g' _ hagree
  refine ⟨fun c => (Cert.FfnFwdIdeal.Gen.dats (F := Ideal) m 0 c).arrAt 5 Cert.FfnFwdIdeal.cfg0.N, ?_, ?_⟩
  · refine (θ_run _ _ _).mono (fun r hr c => ?_) (θ_run_and (Cert.FfnFwdIdeal.Gen.run_main m g) (Cert.FfnFwdIdeal.Gen.unchanged m g))
    obtain ⟨hF, hU⟩ := hr
    exact ⟨(hF c).1 5, hU c⟩
  · refine (θ_run _ _ _).mono (fun r hr c => ?_) (Cert.FfnFwdRefIdeal.Value.run m' g')
    obtain ⟨e0, ea⟩ := hr c
    obtain ⟨g0, g1, g2, g3⟩ := hagree c
    refine ⟨e0.trans (funext fun y => ?_), ea⟩
    rw [eq_ix2 y]
    exact (ffnFwd_eq m c _ _ _ _ g0 g1 g2 g3 ..).trans (Cert.FfnFwdIdeal.Val.final5 m c ..).symm

end Cert.Proof

end
-- ==== Proof.AdamwValue.lean ====
module

public import proofs.«01_k».proof.Proof.Gen.AdamwIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamwIdeal.Val

open Cert.AdamwIdeal Cert.AdamwIdeal.Gen

/-! One step of the optimiser on one entry: the new moments and the change of the weight, from the gradient `g`, the
weight `w` and the moments `p`, `q` before. -/

def newM (g p : EReal) : EReal := Ideal.ofBits .f32 0x3F666666#32 * p + Ideal.ofBits .f32 0x3DCCCCCD#32 * g
def newV (g q : EReal) : EReal := Ideal.ofBits .f32 0x3F7FBE77#32 * q + Ideal.ofBits .f32 0x3A83126F#32 * (g * g)
def delta (g w p q : EReal) : EReal :=
  Ideal.ofBits .f32 0xBA83126F#32 * (Ideal.div (Ideal.div (newM g p) (Ideal.ofBits .f32 0x3F26BD02#32))
    (Ideal.sqrt (Ideal.div (newV g q) (Ideal.ofBits .f32 0x3C231ACC#32)) + Ideal.ofBits .f32 0x322BCC77#32)
    + Ideal.ofBits .f32 0x3C23D70A#32 * w)

section
variable (x0 : FVec Ideal S8x128x704 .bf16) (x1 x2 x3 : FVec Ideal S128x704 .f32)

theorem g_at (i : Fin 128) (j : Fin 704) : k0_pay6 (F := Ideal) x0 x1 x2 x3 (ix2 i j) = ∑ s : Fin 8, x0 (ix3 s i j) := by
  unfold k0_pay6
  pointwise [k0_pay4]
  simp only [Fin.sum_univ_eight]
theorem p_at (x : FVec Ideal S128x704 .f32) (i : Fin 128) (j : Fin 704) : k0_pay5 (F := Ideal) x (ix2 i j) = x (ix2 i j) := by
  pointwise [k0_pay5]
theorem m_at (g p : FVec Ideal S128x704 .f32) (i : Fin 128) (j : Fin 704) : k0_pay1 (F := Ideal) g p (ix2 i j) = newM (g (ix2 i j)) (p (ix2 i j)) := by
  pointwise [k0_pay1, newM]
theorem v_at (g q : FVec Ideal S128x704 .f32) (i : Fin 128) (j : Fin 704) : k0_pay2 (F := Ideal) g q (ix2 i j) = newV (g (ix2 i j)) (q (ix2 i j)) := by
  pointwise [k0_pay2, newV]
theorem d_at (g p q w : FVec Ideal S128x704 .f32) (i : Fin 128) (j : Fin 704) :
    k0_pay3 (F := Ideal) g p q w (ix2 i j) = delta (g (ix2 i j)) (w (ix2 i j)) (p (ix2 i j)) (q (ix2 i j)) := by
  pointwise [k0_pay3]
  rw [m_at, v_at]
  rfl
end

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

/-- Layer `a`'s gradients of the eight devices. -/
def parts : Fin 4 → FVec Ideal S8x1024x704 .bf16 :=
  ![(m ((c : Thread nD τ).loc main_arg0) : FVec Ideal S8x1024x704 .bf16), (m ((c : Thread nD τ).loc main_arg1) : FVec Ideal S8x1024x704 .bf16),
    (m ((c : Thread nD τ).loc main_arg2) : FVec Ideal S8x1024x704 .bf16), (m ((c : Thread nD τ).loc main_arg3) : FVec Ideal S8x1024x704 .bf16)]
/-- Row `r` of layer `a` among all layers' rows. -/
def row (a : Fin 4) (r : Fin 1024) : Fin 4096 := ⟨a * 1024 + r, by omega⟩

theorem packed (s : Fin 8) (a : Fin 4) (r : Fin 1024) (j : Fin 704) :
    (V m c main_v5 : FVec Ideal S8x4096x704 .bf16) (ix3 s (row a r) j) = parts m c a (ix3 s r j) := by
  simp only [V, V0, hostOps0, List.flatten_cons, List.flatten_nil, List.append_nil, List.cons_append, List.nil_append]
  after_results_simp
  unfold row
  pointwise
  fin_cases a <;> simp +decide only [dite_true, dite_false] <;> after_results_simp <;> pointwise [parts] <;> rfl
theorem weight (a : Fin 4) (r : Fin 1024) (j : Fin 704) :
    (V m c main_v6 : FVec Ideal S4096x704 .f32) (ix2 (row a r) j) = (m ((c : Thread nD τ).loc main_arg4) : FVec Ideal S4x1024x704 .f32) (ix3 a r j) := by
  simp only [V, V0, hostOps0, List.flatten_cons, List.flatten_nil, List.append_nil, List.cons_append, List.nil_append]
  after_results_simp
  unfold row
  pointwise
theorem mom5 (a : Fin 4) (r : Fin 1024) (j : Fin 704) :
    (V m c main_v7 : FVec Ideal S4096x704 .f32) (ix2 (row a r) j) = (m ((c : Thread nD τ).loc main_arg5) : FVec Ideal S4x1024x704 .f32) (ix3 a r j) := by
  simp only [V, V0, hostOps0, List.flatten_cons, List.flatten_nil, List.append_nil, List.cons_append, List.nil_append]
  after_results_simp
  unfold row
  pointwise
theorem mom6 (a : Fin 4) (r : Fin 1024) (j : Fin 704) :
    (V m c main_v8 : FVec Ideal S4096x704 .f32) (ix2 (row a r) j) = (m ((c : Thread nD τ).loc main_arg6) : FVec Ideal S4x1024x704 .f32) (ix3 a r j) := by
  simp only [V, V0, hostOps0, List.flatten_cons, List.flatten_nil, List.append_nil, List.cons_append, List.nil_append]
  after_results_simp
  unfold row
  pointwise

/-- All layers' rows: the gradient summed over the devices, the weight and the moments before. -/
def gA (i : Fin 4096) (j : Fin 704) : EReal := ∑ s : Fin 8, (V m c main_v5 : FVec Ideal S8x4096x704 .bf16) (ix3 s i j)
def wA (i : Fin 4096) (j : Fin 704) : EReal := (V m c main_v6 : FVec Ideal S4096x704 .f32) (ix2 i j)
def pA (i : Fin 4096) (j : Fin 704) : EReal := (V m c main_v7 : FVec Ideal S4096x704 .f32) (ix2 i j)
def qA (i : Fin 4096) (j : Fin 704) : EReal := (V m c main_v8 : FVec Ideal S4096x704 .f32) (ix2 i j)

theorem lt32 (t : Fin cfg0.N) : t.val < 32 := lt_of_lt_of_eq t.isLt N_0
/-- Row `i` of tile `t`. -/
def tileRow (t : Fin cfg0.N) (i : Fin 128) : Fin 4096 := ⟨t.val * 128 + i, by have := lt32 t; omega⟩

theorem read0 (X : FVec Ideal S8x4096x704 .bf16) (t : Fin cfg0.N) (s : Fin 8) (i : Fin 128) (j : Fin 704) :
    View.read (Elt Ideal) ((cfg0.win 0).blk t).view X (ix3 s i j) = X (ix3 s (tileRow t i) j) := by
  unfold tileRow
  blk_point [idx t]
theorem ib0 (t : Fin cfg0.N) (s : Fin 8) (i : Fin 128) (j : Fin 704) :
    iblk m c 0 t (ix3 s i j) = (V m c main_v5 : FVec Ideal S8x4096x704 .bf16) (ix3 s (tileRow t i) j) := by
  unfold iblk
  exact read0 ..
theorem ib1 (t : Fin cfg0.N) (i : Fin 128) (j : Fin 704) : iblk m c 1 t (ix2 i j) = wA m c (tileRow t i) j := by
  unfold tileRow wA
  blk_point [iblk, idx t]
theorem ib2 (t : Fin cfg0.N) (i : Fin 128) (j : Fin 704) : iblk m c 2 t (ix2 i j) = pA m c (tileRow t i) j := by
  unfold tileRow pA
  blk_point [iblk, idx t]
theorem ib3 (t : Fin cfg0.N) (i : Fin 128) (j : Fin 704) : iblk m c 3 t (ix2 i j) = qA m c (tileRow t i) j := by
  unfold tileRow qA
  blk_point [iblk, idx t]

theorem g_blk (t : Fin cfg0.N) (i : Fin 128) (j : Fin 704) :
    k0_pay6 (F := Ideal) (iblk m c 0 t) (iblk m c 1 t) (iblk m c 2 t) (iblk m c 3 t) (ix2 i j) = gA m c (tileRow t i) j := by
  refine (g_at ..).trans ?_
  unfold gA
  simp only [ib0]
theorem out5 (t : Fin cfg0.N) (i : Fin 128) (j : Fin 704) : (dats m 0 c).after 5 t (ix2 i j)
    = delta (gA m c (tileRow t i) j) (wA m c (tileRow t i) j) (pA m c (tileRow t i) j) (qA m c (tileRow t i) j) := by
  rw [after0_5]
  unfold_out out0_5
  frame_out
  have e := g_blk m c t i j
  unfold k0_pay6 at e
  rw [d_at, e, p_at, ib1, ib2, ib3]
theorem out6 (t : Fin cfg0.N) (i : Fin 128) (j : Fin 704) : (dats m 0 c).after 6 t (ix2 i j)
    = newM (gA m c (tileRow t i) j) (pA m c (tileRow t i) j) := by
  rw [after0_6]
  unfold_out out0_6
  frame_out
  have e := g_blk m c t i j
  unfold k0_pay6 at e
  rw [m_at, e, p_at, ib2]
theorem out7 (t : Fin cfg0.N) (i : Fin 128) (j : Fin 704) : (dats m 0 c).after 7 t (ix2 i j)
    = newV (gA m c (tileRow t i) j) (qA m c (tileRow t i) j) := by
  rw [after0_7]
  unfold_out out0_7
  frame_out
  have e := g_blk m c t i j
  unfold k0_pay6 at e
  rw [v_at, e, ib3]

theorem two_congr {n k : ℕ} (f : Fin n → Fin k → EReal) {i i' : Fin n} {j j' : Fin k} (e : i.val = i'.val) (e' : j.val = j'.val) : f i j = f i' j' := by
  cases Fin.ext e; cases Fin.ext e'; rfl

def dF (i : Fin 4096) (j : Fin 704) : EReal := delta (gA m c i j) (wA m c i j) (pA m c i j) (qA m c i j)
def mF (i : Fin 4096) (j : Fin 704) : EReal := newM (gA m c i j) (pA m c i j)
def vF (i : Fin 4096) (j : Fin 704) : EReal := newV (gA m c i j) (qA m c i j)

theorem final5 (i : Fin 4096) (j : Fin 704) : (dats m 0 c).arrAt 5 cfg0.N (ix2 i j) = dF m c i j := by
  have key := (dats m 0 c).arrAt_eq_of_covers 5 (fun y => dF m c (y 0) (y 1)) (by decide +kernel) fun t ht y => ?_
  · exact congrFun key _
  · have e := eq_ix2 y
    generalize y 0 = i at e
    generalize y 1 = j at e
    subst e
    have hi : i.val < 128 := i.isLt
    have hj : j.val < 704 := j.isLt
    blk_simp
    refine (out5 m c t i j).trans ?_
    refine two_congr (dF m c) ?_ ?_ <;> blk_simp [idx t, tileRow] <;> dsimp only <;> omega

theorem final6 (i : Fin 4096) (j : Fin 704) : (dats m 0 c).arrAt 6 cfg0.N (ix2 i j) = mF m c i j := by
  have key := (dats m 0 c).arrAt_eq_of_covers 6 (fun y => mF m c (y 0) (y 1)) (by decide +kernel) fun t ht y => ?_
  · exact congrFun key _
  · have e := eq_ix2 y
    generalize y 0 = i at e
    generalize y 1 = j at e
    subst e
    have hi : i.val < 128 := i.isLt
    have hj : j.val < 704 := j.isLt
    blk_simp
    refine (out6 m c t i j).trans ?_
    refine two_congr (mF m c) ?_ ?_ <;> blk_simp [idx t, tileRow] <;> dsimp only <;> omega

theorem final7 (i : Fin 4096) (j : Fin 704) : (dats m 0 c).arrAt 7 cfg0.N (ix2 i j) = vF m c i j := by
  have key := (dats m 0 c).arrAt_eq_of_covers 7 (fun y => vF m c (y 0) (y 1)) (by decide +kernel) fun t ht y => ?_
  · exact congrFun key _
  · have e := eq_ix2 y
    generalize y 0 = i at e
    generalize y 1 = j at e
    subst e
    have hi : i.val < 128 := i.isLt
    have hj : j.val < 704 := j.isLt
    blk_simp
    refine (out7 m c t i j).trans ?_
    refine two_congr (vF m c) ?_ ?_ <;> blk_simp [idx t, tileRow] <;> dsimp only <;> omega

theorem tail10 : Pipeline.afterTail₀ cfgs (dats m) 0 (V0 m) [hostOps1] c main_v10
    = shapeCast S4x1024x704 ((dats m 0 c).arrAt 5 (cfgs 0).N : FVec Ideal S4096x704 .f32) shapeCasts_S4096x704_S4x1024x704 := by
  unfold Pipeline.afterTail₀
  rw [← Pipeline.withArrays_arr (cfgs 0).spec launch0.win.arr_inj c (V0 m c) (fun w => (dats m 0 c).arrAt w (cfgs 0).N) 5]
  simp only [List.flatten_cons, List.flatten_nil, List.append_nil]
  after_results
  rfl

theorem tail11 : Pipeline.afterTail₀ cfgs (dats m) 0 (V0 m) [hostOps1] c main_v11
    = shapeCast S4x1024x704 ((dats m 0 c).arrAt 6 (cfgs 0).N : FVec Ideal S4096x704 .f32) shapeCasts_S4096x704_S4x1024x704 := by
  unfold Pipeline.afterTail₀
  rw [← Pipeline.withArrays_arr (cfgs 0).spec launch0.win.arr_inj c (V0 m c) (fun w => (dats m 0 c).arrAt w (cfgs 0).N) 6]
  simp only [List.flatten_cons, List.flatten_nil, List.append_nil]
  after_results
  rfl

theorem tail12 : Pipeline.afterTail₀ cfgs (dats m) 0 (V0 m) [hostOps1] c main_v12
    = shapeCast S4x1024x704 ((dats m 0 c).arrAt 7 (cfgs 0).N : FVec Ideal S4096x704 .f32) shapeCasts_S4096x704_S4x1024x704 := by
  unfold Pipeline.afterTail₀
  rw [← Pipeline.withArrays_arr (cfgs 0).spec launch0.win.arr_inj c (V0 m c) (fun w => (dats m 0 c).arrAt w (cfgs 0).N) 7]
  simp only [List.flatten_cons, List.flatten_nil, List.append_nil]
  after_results
  rfl

theorem split (f : FVec Ideal S4096x704 .f32) (a : Fin 4) (r : Fin 1024) (j : Fin 704) :
    shapeCast S4x1024x704 f shapeCasts_S4096x704_S4x1024x704 (ix3 a r j) = f (ix2 (row a r) j) := by
  unfold row
  pointwise

end Cert.AdamwIdeal.Val

end
-- ==== Proof.AdamwPair.lean ====
module

public import proofs.«01_k».proof.Defs
public import proofs.«01_k».proof.Proof.AdamwValue
public import proofs.«01_k».proof.Proof.Gen.AdamwRefIdeal.Run
public import Idealize.ShloMosaic.Lib.Claim

@[expose] public section

set_option maxRecDepth 16384

noncomputable section

open Idealize.ShloMosaic Idealize.ShloMosaic.TcCoe Idealize.SL.Sem

namespace Cert.AdamwRefIdeal.Val

open Cert.AdamwRefIdeal Cert.AdamwRefIdeal.Gen
open Cert.AdamwIdeal.Val (newM newV delta)

/-- One layer's gradient, summed over the devices. -/
def SUM (x : FVec Ideal S8x1024x704 .bf16) : FVec Ideal S1x1024x704 .f32 :=
  broadcastInDim S1x1024x704 ![1, 2] bcast_S1024x704_S1x1024x704_1_2
    (Host.reduceAdd (extf .f32 x bitsLt_bf16_f32) (constant S_ .f32 0x00000000#32) reducesTo_S8x1024x704_S1024x704_d0 h_S_)
/-- The layers' gradients, stacked. -/
def GRAD (x0 x1 x2 x3 : FVec Ideal S8x1024x704 .bf16) : FVec Ideal S4x1024x704 .f32 :=
  concatenate S4x1024x704 0 [⟨S1x1024x704, SUM x0⟩, ⟨S1x1024x704, SUM x1⟩, ⟨S1x1024x704, SUM x2⟩, ⟨S1x1024x704, SUM x3⟩]
    concatenates_S1x1024x704_S1x1024x704_S1x1024x704_S1x1024x704_S4x1024x704_d0
def scaled (k : BitVec 32) (x : FVec Ideal S4x1024x704 .f32) : FVec Ideal S4x1024x704 .f32 :=
  mulf (broadcastInDim S4x1024x704 ![] bcast_S_S4x1024x704 (constant S_ .f32 k)) x
def MEAN (g p : FVec Ideal S4x1024x704 .f32) : FVec Ideal S4x1024x704 .f32 := addf (scaled 0x3F666666#32 p) (scaled 0x3DCCCCCD#32 g)
def VAR (g q : FVec Ideal S4x1024x704 .f32) : FVec Ideal S4x1024x704 .f32 := addf (scaled 0x3F7FBE77#32 q) (scaled 0x3A83126F#32 (mulf g g))
def STEP (w p q : FVec Ideal S4x1024x704 .f32) : FVec Ideal S4x1024x704 .f32 :=
  scaled 0xBA83126F#32 (addf (Host.divf (Host.divf p (broadcastInDim S4x1024x704 ![] bcast_S_S4x1024x704 (constant S_ .f32 0x3F26BD02#32)))
    (addf (Host.sqrt (Host.divf q (broadcastInDim S4x1024x704 ![] bcast_S_S4x1024x704 (constant S_ .f32 0x3C231ACC#32))))
      (broadcastInDim S4x1024x704 ![] bcast_S_S4x1024x704 (constant S_ .f32 0x322BCC77#32)))) (scaled 0x3C23D70A#32 w))

theorem SUM_at (x : FVec Ideal S8x1024x704 .bf16) (a : Fin 1) (r : Fin 1024) (j : Fin 704) : SUM x (ix3 a r j) = ∑ s : Fin 8, x (ix3 s r j) := by
  pointwise [SUM]
theorem GRAD_at (x : Fin 4 → FVec Ideal S8x1024x704 .bf16) (a : Fin 4) (r : Fin 1024) (j : Fin 704) :
    GRAD (x 0) (x 1) (x 2) (x 3) (ix3 a r j) = ∑ s : Fin 8, x a (ix3 s r j) := by
  pointwise [GRAD]
  fin_cases a <;> simp +decide only [dite_true, dite_false] <;> exact SUM_at ..
section
variable (g w p q : FVec Ideal S4x1024x704 .f32) (a : Fin 4) (r : Fin 1024) (j : Fin 704)
theorem MEAN_at : MEAN g p (ix3 a r j) = newM (g (ix3 a r j)) (p (ix3 a r j)) := by
  pointwise [MEAN, scaled, newM]
theorem VAR_at : VAR g q (ix3 a r j) = newV (g (ix3 a r j)) (q (ix3 a r j)) := by
  pointwise [VAR, scaled, newV]
theorem STEP_at : STEP w (MEAN g p) (VAR g q) (ix3 a r j) = delta (g (ix3 a r j)) (w (ix3 a r j)) (p (ix3 a r j)) (q (ix3 a r j)) := by
  unfold delta
  rw [← MEAN_at, ← VAR_at]
  pointwise [STEP, scaled]
end

end Cert.AdamwRefIdeal.Val

namespace Cert.Proof

theorem entries (u v : FVec Ideal Cert.AdamwRefIdeal.S4x1024x704 .f32)
    (h : ∀ (a : Fin 4) (r : Fin 1024) (j : Fin 704), u (ix3 a r j) = v (ix3 a r j)) : u = v := by
  funext y
  rw [eq_ix3 y]
  exact h ..

section
open Cert.AdamwIdeal.Val Cert.AdamwRefIdeal.Val
variable (m : (ℓ : Loc Cert.AdamwIdeal.nD Cert.AdamwIdeal.τ Cert.AdamwIdeal.sig) → Buf (Elt Ideal) ℓ) (c : Dev Cert.AdamwIdeal.nD)
  (x0 x1 x2 x3 : FVec Ideal Cert.AdamwRefIdeal.S8x1024x704 .bf16) (w p q : FVec Ideal Cert.AdamwRefIdeal.S4x1024x704 .f32)
  (h0 : x0 = m (c.tc.loc Cert.AdamwIdeal.main_arg0)) (h1 : x1 = m (c.tc.loc Cert.AdamwIdeal.main_arg1))
  (h2 : x2 = m (c.tc.loc Cert.AdamwIdeal.main_arg2)) (h3 : x3 = m (c.tc.loc Cert.AdamwIdeal.main_arg3))
  (hw : w = m (c.tc.loc Cert.AdamwIdeal.main_arg4)) (hp : p = m (c.tc.loc Cert.AdamwIdeal.main_arg5))
  (hq : q = m (c.tc.loc Cert.AdamwIdeal.main_arg6)) (a : Fin 4) (r : Fin 1024) (j : Fin 704)

include h0 h1 h2 h3 in
theorem adamw_grad : GRAD x0 x1 x2 x3 (ix3 a r j) = gA m c (row a r) j := by
  refine Eq.trans ?_ (Finset.sum_congr (M := EReal) rfl fun s _ => packed m c s a r j).symm
  subst h0 h1 h2 h3
  exact GRAD_at (parts m c) a r j
include hw in
theorem adamw_w : w (ix3 a r j) = wA m c (row a r) j := by
  rw [hw]; exact (weight m c a r j).symm
include hp in
theorem adamw_p : p (ix3 a r j) = pA m c (row a r) j := by
  rw [hp]; exact (mom5 m c a r j).symm
include hq in
theorem adamw_q : q (ix3 a r j) = qA m c (row a r) j := by
  rw [hq]; exact (mom6 m c a r j).symm

include h0 h1 h2 h3 hw hp hq in
theorem adamw_delta : STEP w (MEAN (GRAD x0 x1 x2 x3) p) (VAR (GRAD x0 x1 x2 x3) q)
    = Pipeline.afterTail₀ Cert.AdamwIdeal.cfgs (Cert.AdamwIdeal.Gen.dats m) 0 (Cert.AdamwIdeal.Gen.V0 m) [Cert.AdamwIdeal.Gen.hostOps1] c Cert.AdamwIdeal.main_v10 := by
  rw [tail10]
  refine entries _ _ fun a r j => Eq.trans ?_ ((split ..).trans (final5 m c ..)).symm
  rw [STEP_at, adamw_grad m c x0 x1 x2 x3 h0 h1 h2 h3, adamw_w m c w hw, adamw_p m c p hp, adamw_q m c q hq]
  rfl
include h0 h1 h2 h3 hp in
theorem adamw_mean : MEAN (GRAD x0 x1 x2 x3) p
    = Pipeline.afterTail₀ Cert.AdamwIdeal.cfgs (Cert.AdamwIdeal.Gen.dats m) 0 (Cert.AdamwIdeal.Gen.V0 m) [Cert.AdamwIdeal.Gen.hostOps1] c Cert.AdamwIdeal.main_v11 := by
  rw [tail11]
  refine entries _ _ fun a r j => Eq.trans ?_ ((split ..).trans (final6 m c ..)).symm
  rw [MEAN_at, adamw_grad m c x0 x1 x2 x3 h0 h1 h2 h3, adamw_p m c p hp]
  rfl
include h0 h1 h2 h3 hq in
theorem adamw_var : VAR (GRAD x0 x1 x2 x3) q
    = Pipeline.afterTail₀ Cert.AdamwIdeal.cfgs (Cert.AdamwIdeal.Gen.dats m) 0 (Cert.AdamwIdeal.Gen.V0 m) [Cert.AdamwIdeal.Gen.hostOps1] c Cert.AdamwIdeal.main_v12 := by
  rw [tail12]
  refine entries _ _ fun a r j => Eq.trans ?_ ((split ..).trans (final7 m c ..)).symm
  rw [VAR_at, adamw_grad m c x0 x1 x2 x3 h0 h1 h2 h3, adamw_q m c q hq]
  rfl
end

theorem adamw_algebraic : Cert.algebraic_AdamwIdeal_AdamwRefIdeal := by
  intro m g m' g' _ hagree
  refine ⟨fun c => Pipeline.afterTail₀ Cert.AdamwIdeal.cfgs (Cert.AdamwIdeal.Gen.dats m) 0 (Cert.AdamwIdeal.Gen.V0 m) [Cert.AdamwIdeal.Gen.hostOps1] c Cert.AdamwIdeal.main_v10,
    fun c => Pipeline.afterTail₀ Cert.AdamwIdeal.cfgs (Cert.AdamwIdeal.Gen.dats m) 0 (Cert.AdamwIdeal.Gen.V0 m) [Cert.AdamwIdeal.Gen.hostOps1] c Cert.AdamwIdeal.main_v11,
    fun c => Pipeline.afterTail₀ Cert.AdamwIdeal.cfgs (Cert.AdamwIdeal.Gen.dats m) 0 (Cert.AdamwIdeal.Gen.V0 m) [Cert.AdamwIdeal.Gen.hostOps1] c Cert.AdamwIdeal.main_v12, ?_, ?_⟩
  · refine (θ_run _ _ _).mono (fun r hr c => ?_) (θ_run_and (Cert.AdamwIdeal.Gen.run_main m g) (Cert.AdamwIdeal.Gen.unchanged m g))
    obtain ⟨hF, hU⟩ := hr
    exact ⟨(hF c).2 _ (by decide +kernel), (hF c).2 _ (by decide +kernel), (hF c).2 _ (by decide +kernel), hU c⟩
  · refine (θ_run _ _ _).mono (fun r hr c => ?_) (Cert.AdamwRefIdeal.Value.run m' g')
    obtain ⟨e0, e1, e2, ea⟩ := hr c
    obtain ⟨g0, g1, g2, g3, g4, g5, g6⟩ := hagree c
    refine ⟨e0.trans ?_, e1.trans ?_, e2.trans ?_, ea⟩
    · exact adamw_delta m c _ _ _ _ _ _ _ g0 g1 g2 g3 g4 g5 g6
    · exact adamw_mean m c _ _ _ _ _ g0 g1 g2 g3 g5
    · exact adamw_var m c _ _ _ _ _ g0 g1 g2 g3 g6

end Cert.Proof

end
-- ==== Proof.WgradPair.lean ====
module

public import proofs.«01_k».proof.Defs
public import proofs.«01_k».proof.Proof.Gen.WgradIdeal.Value
public import proofs.«01_k».proof.Proof.Gen.WgradRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.WgradIdeal.Val

open Cert.WgradIdeal Cert.WgradIdeal.Gen Cert.WgradIdeal.Value

/-! The gradient of the down projection's weights: eight row tiles are added up, each one scaled by the constant as it
is added; the sum over all the rows carries the constant on every row instead. -/

theorem half_ne_top : (0 : EReal) ≤ Ideal.ofBits .f32 0x3F000000#32 ∧ Ideal.ofBits .f32 0x3F000000#32 ≠ ⊤ := by
  have e : Ideal.ofBits .f32 0x3F000000#32 = ((1 / 2 : ℝ) : EReal) := by
    simp [Ideal.ofBits, Ideal.ieee, -EReal.coe_mul]; norm_num
  rw [e]
  exact ⟨EReal.coe_nonneg.mpr (by norm_num), EReal.coe_ne_top _⟩
/-- A finite constant that is not negative goes into any sum. -/
theorem const_mul_sum {ι : Type} {k : EReal} (hk : 0 ≤ k ∧ k ≠ ⊤) (s : Finset ι) (f : ι → EReal) : k * ∑ i ∈ s, f i = ∑ i ∈ s, k * f i := by
  classical
  induction s using Finset.induction_on with
  | empty => simp
  | insert a s h ih => rw [Finset.sum_insert h, Finset.sum_insert h, ← ih, EReal.left_distrib_of_nonneg_of_ne_top hk.1 hk.2]

theorem step_at (acc : FVec Ideal S1408x1024 .f32) (x : FVec Ideal S2048x1408 .bf16) (y : FVec Ideal S2048x1024 .f32) (i : Fin 1408) (l : Fin 1024) :
    k0_pay2 (F := Ideal) acc x y (ix2 i l) = acc (ix2 i l) + Ideal.ofBits .f32 0x3F000000#32 * ∑ s : Fin 2048, x (ix2 s i) * y (ix2 s l) := by
  pointwise [k0_pay2]
theorem zero_at (i : Fin 1408) (l : Fin 1024) : k0_pay1 (F := Ideal) (ix2 i l) = 0 := by
  pointwise [k0_pay1]

variable (m : (ℓ : Loc nD τ sig) → Buf (Elt Ideal) ℓ) (c : Dev nD)

theorem idx : ∀ t : Fin cfg0.N, win0_0.index t = ![t.val % 8, t.val / 8] ∧ win0_1.index t = ![t.val % 8, 0] :=
  (by decide +kernel : ∀ t : Fin grid0.N, _)

/-- The arguments as functions of their coordinates. -/
def aA (s : Fin 16384) (i : Fin 2816) : EReal := (m ((c : Thread nD τ).loc main_arg0) : FVec Ideal S16384x2816 .bf16) (ix2 s i)
def zA (s : Fin 16384) (l : Fin 1024) : EReal := (m ((c : Thread nD τ).loc main_arg1) : FVec Ideal S16384x1024 .f32) (ix2 s l)

/-- Row `s` and weight row `i` of the tile of point `n`. -/
def row (n : ℕ) (s : Fin 2048) : Fin 16384 := ⟨n % 8 * 2048 + s, by omega⟩
def col (n : ℕ) (i : Fin 1408) : Fin 2816 := ⟨n / 8 % 2 * 1408 + i, by omega⟩
/-- What point `n` adds. -/
def part (n : ℕ) (i : Fin 1408) (l : Fin 1024) : EReal :=
  Ideal.ofBits .f32 0x3F000000#32 * ∑ s : Fin 2048, aA m c (row n s) (col n i) * zA m c (row n s) l

theorem ib0 (t : Fin cfg0.N) (s : Fin 2048) (i : Fin 1408) : iblk m c 0 t (ix2 s i) = aA m c (row t s) (col t i) := by
  have h : t.val / 8 % 2 = t.val / 8 := Nat.mod_eq_of_lt (by have := lt_of_lt_of_eq t.isLt N_0; omega)
  unfold aA row col
  simp only [h]
  blk_point [iblk, V, idx t]
theorem ib1 (t : Fin cfg0.N) (s : Fin 2048) (l : Fin 1024) : iblk m c 1 t (ix2 s l) = zA m c (row t s) l := by
  unfold zA row
  blk_point [iblk, V, idx t]

theorem blk_sum (t : Fin cfg0.N) (i : Fin 1408) (l : Fin 1024) :
    Ideal.ofBits .f32 0x3F000000#32 * ∑ s : Fin 2048, @HMul.hMul EReal EReal EReal _ (iblk m c 0 t (ix2 s i)) (iblk m c 1 t (ix2 s l)) = part m c t i l :=
  congrArg (fun v : EReal => Ideal.ofBits .f32 0x3F000000#32 * v)
    (Finset.sum_congr rfl fun s _ => congrArg₂ (fun u v : EReal => u * v) (ib0 m c t s i) (ib1 m c t s l))
theorem reset_at (n : ℕ) (h : n < cfg0.N) (y : S1408x1024.Idx) : reset2 m c n h y = (0 : EReal) + part m c n (y 0) (y 1) := by
  have e := eq_ix2 y
  generalize y 0 = i at e
  generalize y 1 = l at e
  subst e
  unfold reset2
  exact (step_at ..).trans (congrArg₂ (fun u v : EReal => u + v) (zero_at i l) (blk_sum m c ⟨n, h⟩ i l))
theorem add_at (n : ℕ) (h : n < cfg0.N) (acc : S1408x1024.Idx → EReal) (y : S1408x1024.Idx) : step2 m c n h acc y = acc y + part m c n (y 0) (y 1) := by
  have e := eq_ix2 y
  generalize y 0 = i at e
  generalize y 1 = l at e
  subst e
  unfold step2
  exact (step_at ..).trans (congrArg (fun v : EReal => (acc (ix2 i l) : EReal) + v) (blk_sum m c ⟨n, h⟩ i l))

/-- The whole gradient, entry by entry: the constant stands on every row. -/
def wF (i : Fin 2816) (l : Fin 1024) : EReal := ∑ s : Fin 16384, Ideal.ofBits .f32 0x3F000000#32 * zA m c s l * aA m c s i

theorem parts (i : Fin 2816) (l : Fin 1024) (i' : Fin 1408) (hi : i'.val = i.val % 1408) :
    ∑ a ∈ Finset.range 8, part m c (8 * (i.val / 1408) + a) i' l = wF m c i l := by
  rw [Finset.sum_range]
  refine (Finset.sum_congr rfl fun a _ => ?_).trans (Fin.sum_univ_tiles 8 2048 rfl _).symm
  unfold part
  rw [const_mul_sum half_ne_top]
  refine Finset.sum_congr rfl fun s _ => ?_
  have hc : col (8 * (i.val / 1408) + a.val) i' = i := Fin.ext (by unfold col; dsimp only; omega)
  have hr : row (8 * (i.val / 1408) + a.val) s = ⟨a.val * 2048 + s.val, by omega⟩ := Fin.ext (by unfold row; dsimp only; omega)
  rw [hc, hr, mul_assoc, mul_comm (zA m c _ l)]

theorem final (i : Fin 2816) (l : Fin 1024) : G2 m c (ix2 i l) = wF m c i l := by
  have hr : run2Of (ix2 i l) = i.val / 1408 := by
    have hl : l.val / 1024 = 0 := Nat.div_eq_of_lt l.isLt
    show 1 * (i.val / 1408 - 0) + 1 * (l.val / 1024 - 0) = _
    omega
  have hN : 8 * run2Of (ix2 i l) + 7 < cfg0.N := by rw [hr, show cfg0.N = 16 from N_0]; omega
  unfold G2
  rw [dif_pos hN]
  refine (Pipeline.accAt_add_apply (reset2 m c) (step2 m c) (fun _ => (0 : EReal)) (fun n y => part m c n (y 0) (y 1)) _ 7
    (fun h y => reset_at m c _ h y) (fun n h acc y _ _ => add_at m c n h acc y) 7 (le_refl _) hN _).trans ?_
  rw [zero_add, hr]
  have hl : (loc2Of (ix2 i l) 1 : Fin 1024) = l := Fin.ext (Nat.mod_eq_of_lt l.isLt)
  refine Eq.trans ?_ (parts m c i l (loc2Of (ix2 i l) 0) rfl)
  refine Finset.sum_congr rfl fun a _ => ?_
  exact congrArg (part m c _ _) hl

end Cert.WgradIdeal.Val

namespace Cert.Proof

open Cert.WgradRefIdeal Cert.WgradRefIdeal.Gen in
theorem wgrad_ref_at (x : FVec Ideal S16384x2816 .bf16) (z : FVec Ideal S16384x1024 .f32) (i : Fin 2816) (l : Fin 1024) :
    transpose S2816x1024 [1, 0] (Host.dotGeneral dot_S16384x1024_S16384x2816_S1024x2816_0_0_1_1_n_n none
      (mulf (broadcastInDim S16384x1024 ![] bcast_S_S16384x1024 (constant S_ .f32 0x3F000000#32)) z) (extf .f32 x bitsLt_bf16_f32))
      transposes_S1024x2816_S2816x1024_1_0 (ix2 i l) = ∑ s : Fin 16384, Ideal.ofBits .f32 0x3F000000#32 * z (ix2 s l) * x (ix2 s i) := by
  pointwise

theorem wgrad_algebraic : Cert.algebraic_WgradIdeal_WgradRefIdeal := by
  intro m g m' g' _ hagree
  refine ⟨fun c => Cert.WgradIdeal.Value.G2 m c, Cert.WgradIdeal.Value.run m g, ?_⟩
  refine (θ_run _ _ _).mono (fun r hr c => ?_) (Cert.WgradRefIdeal.Value.run m' g')
  obtain ⟨e0, ea⟩ := hr c
  obtain ⟨g0, g1⟩ := hagree c
  refine ⟨e0.trans ?_, ea⟩
  rw [g0, g1]
  funext y
  have e := eq_ix2 y
  generalize y 0 = i at e
  generalize y 1 = l at e
  subst e
  exact (wgrad_ref_at ..).trans (Cert.WgradIdeal.Val.final m c i l).symm

end Cert.Proof

end
-- ==== Proof.lean ====
/- The proof of the claims of the statement. The frames of the kernels come from their generated frame modules, the
   frames of the references from their runs; each value claim is proved in its own module. -/
module

public import proofs.«01_k».proof.Defs
public import proofs.«01_k».proof.Proof.Gen.Loss.Frame
public import proofs.«01_k».proof.Proof.Gen.LossIdeal.Frame
public import proofs.«01_k».proof.Proof.Gen.LossRefIdeal.Run
public import proofs.«01_k».proof.Proof.Gen.RmsProj.Frame
public import proofs.«01_k».proof.Proof.Gen.RmsProjIdeal.Frame
public import proofs.«01_k».proof.Proof.Gen.RmsProjRefIdeal.Run
public import proofs.«01_k».proof.Proof.Gen.FfnIn.Frame
public import proofs.«01_k».proof.Proof.Gen.FfnInIdeal.Frame
public import proofs.«01_k».proof.Proof.Gen.FfnInRefIdeal.Run
public import proofs.«01_k».proof.Proof.Gen.Mixout.Frame
public import proofs.«01_k».proof.Proof.Gen.MixoutIdeal.Frame
public import proofs.«01_k».proof.Proof.Gen.MixoutRefIdeal.Run
public import proofs.«01_k».proof.Proof.Gen.Attn.Frame
public import proofs.«01_k».proof.Proof.Gen.AttnIdeal.Frame
public import proofs.«01_k».proof.Proof.Gen.AttnRefIdeal.Run
public import proofs.«01_k».proof.Proof.AttnFwdBits
public import proofs.«01_k».proof.Proof.AttnFwdFrame
public import proofs.«01_k».proof.Proof.Gen.AttnFwdRefIdeal.Run
public import proofs.«01_k».proof.Proof.FfnActBits
public import proofs.«01_k».proof.Proof.FfnActFrame
public import proofs.«01_k».proof.Proof.Gen.FfnActRefIdeal.Run
public import proofs.«01_k».proof.Proof.MlaInBits
public import proofs.«01_k».proof.Proof.MlaInFrame
public import proofs.«01_k».proof.Proof.Gen.MlaInRefIdeal.Run
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.Gen.Adamw.Frame
public import proofs.«01_k».proof.Proof.Gen.AdamwIdeal.Frame
public import proofs.«01_k».proof.Proof.Gen.AdamwRefIdeal.Run
public import proofs.«01_k».proof.Proof.Gen.Wgrad.Frame
public import proofs.«01_k».proof.Proof.Gen.WgradIdeal.Frame
public import proofs.«01_k».proof.Proof.Gen.WgradRefIdeal.Run
public import proofs.«01_k».proof.Proof.LossPair
public import proofs.«01_k».proof.Proof.RmsProjPair
public import proofs.«01_k».proof.Proof.FfnInPair
public import proofs.«01_k».proof.Proof.MixoutPair
public import proofs.«01_k».proof.Proof.AttnPair
public import proofs.«01_k».proof.Proof.AttnFwdPair
public import proofs.«01_k».proof.Proof.FfnActPair
public import proofs.«01_k».proof.Proof.MlaInPair
public import proofs.«01_k».proof.Proof.FfnFwdPair
public import proofs.«01_k».proof.Proof.AdamwPair
public import proofs.«01_k».proof.Proof.WgradPair
public import Idealize.ShloMosaic.Lib.Claim

@[expose] public section

noncomputable section

namespace Cert.Proof

open Idealize.ShloMosaic Idealize.SL.Sem

theorem lossRefIdeal_frame : Cert.quiescent_LossRefIdeal := by
  intro m g _
  hlo_run
  · intro _
    repeat' constructor
  · exact sem_eq_zero_of_no_sems (by decide) r.2

theorem rmsProjRefIdeal_frame : Cert.quiescent_RmsProjRefIdeal := by
  intro m g _
  hlo_run
  · intro _
    repeat' constructor
  · exact sem_eq_zero_of_no_sems (by decide) r.2

theorem ffnInRefIdeal_frame : Cert.quiescent_FfnInRefIdeal := by
  intro m g _
  hlo_run
  · intro _
    repeat' constructor
  · exact sem_eq_zero_of_no_sems (by decide) r.2

theorem mixoutRefIdeal_frame : Cert.quiescent_MixoutRefIdeal := by
  intro m g _
  hlo_run
  · intro _
    repeat' constructor
  · exact sem_eq_zero_of_no_sems (by decide) r.2

theorem attnRefIdeal_frame : Cert.quiescent_AttnRefIdeal := by
  intro m g _
  hlo_run
  · intro _
    repeat' constructor
  · exact sem_eq_zero_of_no_sems (by decide) r.2

theorem attnFwdRefIdeal_frame : Cert.quiescent_AttnFwdRefIdeal := by
  intro m g _
  hlo_run
  · intro _
    repeat' constructor
  · exact sem_eq_zero_of_no_sems (by decide) r.2

theorem ffnActRefIdeal_frame : Cert.quiescent_FfnActRefIdeal := by
  intro m g _
  hlo_run
  · intro _
    repeat' constructor
  · exact sem_eq_zero_of_no_sems (by decide) r.2

theorem mlaInRefIdeal_frame : Cert.quiescent_MlaInRefIdeal := by
  intro m g _
  hlo_run
  · intro _
    repeat' constructor
  · exact sem_eq_zero_of_no_sems (by decide) r.2

theorem ffnFwdRefIdeal_frame : Cert.quiescent_FfnFwdRefIdeal := by
  intro m g _
  hlo_run
  · intro _
    repeat' constructor
  · exact sem_eq_zero_of_no_sems (by decide) r.2

theorem adamwRefIdeal_frame : Cert.quiescent_AdamwRefIdeal := by
  intro m g _
  hlo_run
  · intro _
    repeat' constructor
  · exact sem_eq_zero_of_no_sems (by decide) r.2

theorem wgradRefIdeal_frame : Cert.quiescent_WgradRefIdeal := by
  intro m g _
  hlo_run
  · intro _
    repeat' constructor
  · exact sem_eq_zero_of_no_sems (by decide) r.2

theorem claim : Cert.Claim :=
  ⟨Cert.Loss.Gen.facts,
   Cert.LossIdeal.Gen.facts,
   Cert.LossRefIdeal.Gen.facts,
   Cert.RmsProj.Gen.facts,
   Cert.RmsProjIdeal.Gen.facts,
   Cert.RmsProjRefIdeal.Gen.facts,
   Cert.FfnIn.Gen.facts,
   Cert.FfnInIdeal.Gen.facts,
   Cert.FfnInRefIdeal.Gen.facts,
   Cert.Mixout.Gen.facts,
   Cert.MixoutIdeal.Gen.facts,
   Cert.MixoutRefIdeal.Gen.facts,
   Cert.Attn.Gen.facts,
   Cert.AttnIdeal.Gen.facts,
   Cert.AttnRefIdeal.Gen.facts,
   Cert.AttnFwd.Gen.facts,
   Cert.AttnFwdIdeal.Gen.facts,
   Cert.AttnFwdRefIdeal.Gen.facts,
   Cert.FfnAct.Gen.facts,
   Cert.FfnActIdeal.Gen.facts,
   Cert.FfnActRefIdeal.Gen.facts,
   Cert.MlaIn.Gen.facts,
   Cert.MlaInIdeal.Gen.facts,
   Cert.MlaInRefIdeal.Gen.facts,
   Cert.FfnFwd.Gen.facts,
   Cert.FfnFwdIdeal.Gen.facts,
   Cert.FfnFwdRefIdeal.Gen.facts,
   Cert.Adamw.Gen.facts,
   Cert.AdamwIdeal.Gen.facts,
   Cert.AdamwRefIdeal.Gen.facts,
   Cert.Wgrad.Gen.facts,
   Cert.WgradIdeal.Gen.facts,
   Cert.WgradRefIdeal.Gen.facts,
   Cert.Pre_rmsproj_finite.Gen.facts,
   Cert.Pre_ffnin_finite.Gen.facts,
   Cert.Pre_mixout_finite.Gen.facts,
   Cert.Pre_attn_finite.Gen.facts,
   Cert.Pre_attnfwd_finite.Gen.facts,
   Cert.Pre_ffnact_finite.Gen.facts,
   fun m ρ _ => Cert.Loss.Gen.frame m ρ,
   fun m ρ _ => Cert.LossIdeal.Gen.frame m ρ,
   lossRefIdeal_frame,
   fun m ρ _ => Cert.RmsProj.Gen.frame m ρ,
   fun m ρ _ => Cert.RmsProjIdeal.Gen.frame m ρ,
   fun m ρ _ => Cert.RmsProjIdeal.Gen.frame m ρ,
   rmsProjRefIdeal_frame,
   fun m g _ => rmsProjRefIdeal_frame m g trivial,
   fun m ρ _ => Cert.FfnIn.Gen.frame m ρ,
   fun m ρ _ => Cert.FfnInIdeal.Gen.frame m ρ,
   fun m ρ _ => Cert.FfnInIdeal.Gen.frame m ρ,
   ffnInRefIdeal_frame,
   fun m g _ => ffnInRefIdeal_frame m g trivial,
   fun m ρ _ => Cert.Mixout.Gen.frame m ρ,
   fun m ρ _ => Cert.MixoutIdeal.Gen.frame m ρ,
   fun m ρ _ => Cert.MixoutIdeal.Gen.frame m ρ,
   mixoutRefIdeal_frame,
   fun m g _ => mixoutRefIdeal_frame m g trivial,
   fun m ρ _ => Cert.Attn.Gen.frame m ρ,
   fun m ρ _ => Cert.AttnIdeal.Gen.frame m ρ,
   fun m ρ _ => Cert.AttnIdeal.Gen.frame m ρ,
   attnRefIdeal_frame,
   fun m g _ => attnRefIdeal_frame m g trivial,
   fun m ρ _ => Cert.AttnFwd.Val.frame m ρ,
   fun m ρ _ => Cert.AttnFwdIdeal.Val.frame m ρ,
   fun m ρ _ => Cert.AttnFwdIdeal.Val.frame m ρ,
   attnFwdRefIdeal_frame,
   fun m g _ => attnFwdRefIdeal_frame m g trivial,
   fun m ρ _ => Cert.FfnAct.Val.frame m ρ,
   fun m ρ _ => Cert.FfnActIdeal.Val.frame m ρ,
   fun m ρ _ => Cert.FfnActIdeal.Val.frame m ρ,
   ffnActRefIdeal_frame,
   fun m g _ => ffnActRefIdeal_frame m g trivial,
   fun m ρ _ => Cert.MlaIn.Val.frame m ρ,
   fun m ρ _ => Cert.MlaInIdeal.Val.frame m ρ,
   mlaInRefIdeal_frame,
   fun m ρ _ => Cert.FfnFwd.Gen.frame m ρ,
   fun m ρ _ => Cert.FfnFwdIdeal.Gen.frame m ρ,
   ffnFwdRefIdeal_frame,
   fun m ρ _ => Cert.Adamw.Gen.frame m ρ,
   fun m ρ _ => Cert.AdamwIdeal.Gen.frame m ρ,
   adamwRefIdeal_frame,
   fun m ρ _ => Cert.Wgrad.Gen.frame m ρ,
   fun m ρ _ => Cert.WgradIdeal.Gen.frame m ρ,
   wgradRefIdeal_frame,
   trivial,
   loss_algebraic,
   trivial,
   rmsProj_algebraic,
   trivial,
   ffnIn_algebraic,
   trivial,
   mixout_algebraic,
   IdealRules.named_const.statement Cert.AttnIdeal.κ "ln2" .f32 0x3F317218#32 ((Real.log 2 : ℝ) : EReal) rfl,
   attn_algebraic,
   IdealRules.named_const.statement Cert.AttnFwdIdeal.κ "log2e" .f32 0x3FB8AA3B#32 (((Real.log 2)⁻¹ : ℝ) : EReal) rfl,
   attnFwd_algebraic,
   trivial,
   ffnAct_algebraic,
   trivial,
   mlaIn_algebraic,
   trivial,
   ffnFwd_algebraic,
   trivial,
   adamw_algebraic,
   trivial,
   wgrad_algebraic⟩

end Cert.Proof

end
